-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x800x800 : Shape := ⟨4, ![2, 3, 800, 800]⟩
abbrev S2x256x50x50 : Shape := ⟨4, ![2, 256, 50, 50]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S4x2598x9 : Shape := ⟨3, ![4, 2598, 9]⟩
abbrev S2x50x50x256 : Shape := ⟨4, ![2, 50, 50, 256]⟩
abbrev S_ : Shape := ⟨0, ![]⟩
abbrev S2x52x52x256 : Shape := ⟨4, ![2, 52, 52, 256]⟩
abbrev S2x2704x256 : Shape := ⟨3, ![2, 2704, 256]⟩
abbrev S3x3x256x256 : Shape := ⟨4, ![3, 3, 256, 256]⟩
abbrev S9x256x256 : Shape := ⟨3, ![9, 256, 256]⟩
abbrev S9x256 : Shape := ⟨2, ![9, 256]⟩
abbrev S256x9 : Shape := ⟨2, ![256, 9]⟩
abbrev S36x256 : Shape := ⟨2, ![36, 256]⟩
abbrev S256x36 : Shape := ⟨2, ![256, 36]⟩
abbrev S1x256x9 : Shape := ⟨3, ![1, 256, 9]⟩
abbrev S4x256x9 : Shape := ⟨3, ![4, 256, 9]⟩
abbrev S1x9 : Shape := ⟨2, ![1, 9]⟩
abbrev S4x9 : Shape := ⟨2, ![4, 9]⟩
abbrev S4x1x9 : Shape := ⟨3, ![4, 1, 9]⟩
abbrev S1x256 : Shape := ⟨2, ![1, 256]⟩
abbrev S2x2598x9 : Shape := ⟨3, ![2, 2598, 9]⟩
abbrev S1x2704x256 : Shape := ⟨3, ![1, 2704, 256]⟩
abbrev S1x2598x9 : Shape := ⟨3, ![1, 2598, 9]⟩
abbrev S2598x256 : Shape := ⟨2, ![2598, 256]⟩
abbrev S1x2598x256 : Shape := ⟨3, ![1, 2598, 256]⟩
abbrev S1x256x256 : Shape := ⟨3, ![1, 256, 256]⟩
abbrev S256x256 : Shape := ⟨2, ![256, 256]⟩
abbrev S2598x9 : Shape := ⟨2, ![2598, 9]⟩
abbrev S1x1x9 : Shape := ⟨3, ![1, 1, 9]⟩
abbrev S2x2704x9 : Shape := ⟨3, ![2, 2704, 9]⟩
abbrev S2x52x52x9 : Shape := ⟨4, ![2, 52, 52, 9]⟩
abbrev S2x50x50x9 : Shape := ⟨4, ![2, 50, 50, 9]⟩
abbrev S2x22500 : Shape := ⟨2, ![2, 22500]⟩
abbrev S2x22500x1 : Shape := ⟨3, ![2, 22500, 1]⟩
abbrev S2x22500x4 : Shape := ⟨3, ![2, 22500, 4]⟩
abbrev S2x1000 : Shape := ⟨2, ![2, 1000]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S2x1024x4 : Shape := ⟨3, ![2, 1024, 4]⟩
abbrev S2x1024 : Shape := ⟨2, ![2, 1024]⟩
abbrev S2x4x1024 : Shape := ⟨3, ![2, 4, 1024]⟩
abbrev S2x1024x1 : Shape := ⟨3, ![2, 1024, 1]⟩
abbrev S2x1x1024 : Shape := ⟨3, ![2, 1, 1024]⟩
abbrev S2x304x4 : Shape := ⟨3, ![2, 304, 4]⟩
abbrev S2x304x1 : Shape := ⟨3, ![2, 304, 1]⟩
abbrev S1x1024x4 : Shape := ⟨3, ![1, 1024, 4]⟩
abbrev S1x4x1024 : Shape := ⟨3, ![1, 4, 1024]⟩
abbrev S1x1024x1 : Shape := ⟨3, ![1, 1024, 1]⟩
abbrev S1x1x1024 : Shape := ⟨3, ![1, 1, 1024]⟩
abbrev S1x304x4 : Shape := ⟨3, ![1, 304, 4]⟩
abbrev S1x304x1 : Shape := ⟨3, ![1, 304, 1]⟩
abbrev S1024x1024 : Shape := ⟨2, ![1024, 1024]⟩
abbrev S1024x4 : Shape := ⟨2, ![1024, 4]⟩
abbrev S4x1024 : Shape := ⟨2, ![4, 1024]⟩
abbrev S1024x1 : Shape := ⟨2, ![1024, 1]⟩
abbrev S1x1024 : Shape := ⟨2, ![1, 1024]⟩
abbrev S1x128 : Shape := ⟨2, ![1, 128]⟩
abbrev S1x1x128 : Shape := ⟨3, ![1, 1, 128]⟩
abbrev S128x1024 : Shape := ⟨2, ![128, 1024]⟩
abbrev S304x1024 : Shape := ⟨2, ![304, 1024]⟩
abbrev S304x4 : Shape := ⟨2, ![304, 4]⟩
abbrev S304x1 : Shape := ⟨2, ![304, 1]⟩
abbrev S2x300x4 : Shape := ⟨3, ![2, 300, 4]⟩
abbrev S2x300x1 : Shape := ⟨3, ![2, 300, 1]⟩
abbrev S2x300x5 : Shape := ⟨3, ![2, 300, 5]⟩

abbrev nBuf : Space → Nat
  | .hbm => 120
  | .vmem => 32
  | .smem => 0
  | _ => 0

abbrev bufTy : (tb : Table) → Fin (tcTables nBuf tb) → BufTy
  | .hbm, ⟨0, _⟩ => ⟨S2x3x800x800, .f32⟩
  | .hbm, ⟨1, _⟩ => ⟨S2x256x50x50, .f32⟩
  | .hbm, ⟨2, _⟩ => ⟨S256x256x3x3, .f32⟩
  | .hbm, ⟨3, _⟩ => ⟨S256, .f32⟩
  | .hbm, ⟨4, _⟩ => ⟨S9x256x1x1, .f32⟩
  | .hbm, ⟨5, _⟩ => ⟨S9, .f32⟩
  | .hbm, ⟨6, _⟩ => ⟨S36x256x1x1, .f32⟩
  | .hbm, ⟨7, _⟩ => ⟨S36, .f32⟩
  | .hbm, ⟨8, _⟩ => ⟨S4x2598x9, .f32⟩
  | .hbm, ⟨9, _⟩ => ⟨S2x50x50x256, .f32⟩
  | .hbm, ⟨10, _⟩ => ⟨S_, .i32⟩
  | .hbm, ⟨11, _⟩ => ⟨S_, .f32⟩
  | .hbm, ⟨12, _⟩ => ⟨S2x52x52x256, .f32⟩
  | .hbm, ⟨13, _⟩ => ⟨S2x2704x256, .f32⟩
  | .hbm, ⟨14, _⟩ => ⟨S3x3x256x256, .f32⟩
  | .hbm, ⟨15, _⟩ => ⟨S9x256x256, .f32⟩
  | .hbm, ⟨16, _⟩ => ⟨S9x256, .f32⟩
  | .hbm, ⟨17, _⟩ => ⟨S256x9, .f32⟩
  | .hbm, ⟨18, _⟩ => ⟨S36x256, .f32⟩
  | .hbm, ⟨19, _⟩ => ⟨S256x36, .f32⟩
  | .hbm, ⟨20, _⟩ => ⟨S256x9, .f32⟩
  | .hbm, ⟨21, _⟩ => ⟨S256x9, .f32⟩
  | .hbm, ⟨22, _⟩ => ⟨S256x9, .f32⟩
  | .hbm, ⟨23, _⟩ => ⟨S256x9, .f32⟩
  | .hbm, ⟨24, _⟩ => ⟨S1x256x9, .f32⟩
  | .hbm, ⟨25, _⟩ => ⟨S1x256x9, .f32⟩
  | .hbm, ⟨26, _⟩ => ⟨S1x256x9, .f32⟩
  | .hbm, ⟨27, _⟩ => ⟨S1x256x9, .f32⟩
  | .hbm, ⟨28, _⟩ => ⟨S4x256x9, .f32⟩
  | .hbm, ⟨29, _⟩ => ⟨S9, .f32⟩
  | .hbm, ⟨30, _⟩ => ⟨S9, .f32⟩
  | .hbm, ⟨31, _⟩ => ⟨S9, .f32⟩
  | .hbm, ⟨32, _⟩ => ⟨S9, .f32⟩
  | .hbm, ⟨33, _⟩ => ⟨S1x9, .f32⟩
  | .hbm, ⟨34, _⟩ => ⟨S1x9, .f32⟩
  | .hbm, ⟨35, _⟩ => ⟨S1x9, .f32⟩
  | .hbm, ⟨36, _⟩ => ⟨S1x9, .f32⟩
  | .hbm, ⟨37, _⟩ => ⟨S4x9, .f32⟩
  | .hbm, ⟨38, _⟩ => ⟨S4x1x9, .f32⟩
  | .hbm, ⟨39, _⟩ => ⟨S1x256, .f32⟩
  | .hbm, ⟨40, _⟩ => ⟨S1x9, .f32⟩
  | .hbm, ⟨41, _⟩ => ⟨S2x2598x9, .f32⟩
  | .hbm, ⟨42, _⟩ => ⟨S2x2598x9, .f32⟩
  | .hbm, ⟨43, _⟩ => ⟨S2x2598x9, .f32⟩
  | .hbm, ⟨44, _⟩ => ⟨S2x2598x9, .f32⟩
  | .hbm, ⟨45, _⟩ => ⟨S2x2598x9, .f32⟩
  | .hbm, ⟨46, _⟩ => ⟨S_, .i32⟩
  | .hbm, ⟨47, _⟩ => ⟨S_, .f32⟩
  | .hbm, ⟨48, _⟩ => ⟨S2x2704x9, .f32⟩
  | .hbm, ⟨49, _⟩ => ⟨S2x52x52x9, .f32⟩
  | .hbm, ⟨50, _⟩ => ⟨S2x50x50x9, .f32⟩
  | .hbm, ⟨51, _⟩ => ⟨S2x22500, .f32⟩
  | .hbm, ⟨52, _⟩ => ⟨S_, .i32⟩
  | .hbm, ⟨53, _⟩ => ⟨S_, .f32⟩
  | .hbm, ⟨54, _⟩ => ⟨S2x2704x9, .f32⟩
  | .hbm, ⟨55, _⟩ => ⟨S2x52x52x9, .f32⟩
  | .hbm, ⟨56, _⟩ => ⟨S2x50x50x9, .f32⟩
  | .hbm, ⟨57, _⟩ => ⟨S2x22500, .f32⟩
  | .hbm, ⟨58, _⟩ => ⟨S_, .i32⟩
  | .hbm, ⟨59, _⟩ => ⟨S_, .f32⟩
  | .hbm, ⟨60, _⟩ => ⟨S2x2704x9, .f32⟩
  | .hbm, ⟨61, _⟩ => ⟨S2x52x52x9, .f32⟩
  | .hbm, ⟨62, _⟩ => ⟨S2x50x50x9, .f32⟩
  | .hbm, ⟨63, _⟩ => ⟨S2x22500, .f32⟩
  | .hbm, ⟨64, _⟩ => ⟨S_, .i32⟩
  | .hbm, ⟨65, _⟩ => ⟨S_, .f32⟩
  | .hbm, ⟨66, _⟩ => ⟨S2x2704x9, .f32⟩
  | .hbm, ⟨67, _⟩ => ⟨S2x52x52x9, .f32⟩
  | .hbm, ⟨68, _⟩ => ⟨S2x50x50x9, .f32⟩
  | .hbm, ⟨69, _⟩ => ⟨S2x22500, .f32⟩
  | .hbm, ⟨70, _⟩ => ⟨S_, .i32⟩
  | .hbm, ⟨71, _⟩ => ⟨S_, .f32⟩
  | .hbm, ⟨72, _⟩ => ⟨S2x2704x9, .f32⟩
  | .hbm, ⟨73, _⟩ => ⟨S2x52x52x9, .f32⟩
  | .hbm, ⟨74, _⟩ => ⟨S2x50x50x9, .f32⟩
  | .hbm, ⟨75, _⟩ => ⟨S2x22500, .f32⟩
  | .hbm, ⟨76, _⟩ => ⟨S2x22500x1, .f32⟩
  | .hbm, ⟨77, _⟩ => ⟨S2x22500x1, .f32⟩
  | .hbm, ⟨78, _⟩ => ⟨S2x22500x1, .f32⟩
  | .hbm, ⟨79, _⟩ => ⟨S2x22500x1, .f32⟩
  | .hbm, ⟨80, _⟩ => ⟨S2x22500x4, .f32⟩
  | .hbm, ⟨81, _⟩ => ⟨S2x1000, .f32⟩
  | .hbm, ⟨82, _⟩ => ⟨S2x1000, .i32⟩
  | .hbm, ⟨83, _⟩ => ⟨S2x1000x1, .i32⟩
  | .hbm, ⟨84, _⟩ => ⟨S_, .i32⟩
  | .hbm, ⟨85, _⟩ => ⟨S2x1000x1, .i32⟩
  | .hbm, ⟨86, _⟩ => ⟨S2x1000x1, .i1⟩
  | .hbm, ⟨87, _⟩ => ⟨S_, .i32⟩
  | .hbm, ⟨88, _⟩ => ⟨S2x1000x1, .i32⟩
  | .hbm, ⟨89, _⟩ => ⟨S2x1000x1, .i32⟩
  | .hbm, ⟨90, _⟩ => ⟨S2x1000x1, .i32⟩
  | .hbm, ⟨91, _⟩ => ⟨S1, .i32⟩
  | .hbm, ⟨92, _⟩ => ⟨S_, .i32⟩
  | .hbm, ⟨93, _⟩ => ⟨S2x1000x1, .i32⟩
  | .hbm, ⟨94, _⟩ => ⟨S2x1000x1, .i1⟩
  | .hbm, ⟨95, _⟩ => ⟨S1x1x1, .i32⟩
  | .hbm, ⟨96, _⟩ => ⟨S2x1000x1, .i32⟩
  | .hbm, ⟨97, _⟩ => ⟨S2x1000x1, .i1⟩
  | .hbm, ⟨98, _⟩ => ⟨S2x1000x1, .i1⟩
  | .hbm, ⟨99, _⟩ => ⟨S_, .i1⟩
  | .hbm, ⟨100, _⟩ => ⟨S2x1000, .i1⟩
  | .hbm, ⟨101, _⟩ => ⟨S2x1000x4, .f32⟩
  | .hbm, ⟨102, _⟩ => ⟨S2x1000x4, .i1⟩
  | .hbm, ⟨103, _⟩ => ⟨S_, .f32⟩
  | .hbm, ⟨104, _⟩ => ⟨S2x1000x4, .f32⟩
  | .hbm, ⟨105, _⟩ => ⟨S2x1000x4, .f32⟩
  | .hbm, ⟨106, _⟩ => ⟨S_, .i32⟩
  | .hbm, ⟨107, _⟩ => ⟨S_, .f32⟩
  | .hbm, ⟨108, _⟩ => ⟨S2x1024x4, .f32⟩
  | .hbm, ⟨109, _⟩ => ⟨S_, .f32⟩
  | .hbm, ⟨110, _⟩ => ⟨S_, .f32⟩
  | .hbm, ⟨111, _⟩ => ⟨S2x1024, .f32⟩
  | .hbm, ⟨112, _⟩ => ⟨S2x4x1024, .f32⟩
  | .hbm, ⟨113, _⟩ => ⟨S2x1024x1, .f32⟩
  | .hbm, ⟨114, _⟩ => ⟨S2x1x1024, .f32⟩
  | .hbm, ⟨115, _⟩ => ⟨S2x304x4, .f32⟩
  | .hbm, ⟨116, _⟩ => ⟨S2x304x1, .f32⟩
  | .hbm, ⟨117, _⟩ => ⟨S2x300x4, .f32⟩
  | .hbm, ⟨118, _⟩ => ⟨S2x300x1, .f32⟩
  | .hbm, ⟨119, _⟩ => ⟨S2x300x5, .f32⟩
  | .local _ .vmem, ⟨0, _⟩ => ⟨S1x2704x256, .f32⟩
  | .local _ .vmem, ⟨1, _⟩ => ⟨S1x2704x256, .f32⟩
  | .local _ .vmem, ⟨2, _⟩ => ⟨S9x256x256, .f32⟩
  | .local _ .vmem, ⟨3, _⟩ => ⟨S1x256, .f32⟩
  | .local _ .vmem, ⟨4, _⟩ => ⟨S256x9, .f32⟩
  | .local _ .vmem, ⟨5, _⟩ => ⟨S1x9, .f32⟩
  | .local _ .vmem, ⟨6, _⟩ => ⟨S4x256x9, .f32⟩
  | .local _ .vmem, ⟨7, _⟩ => ⟨S4x1x9, .f32⟩
  | .local _ .vmem, ⟨8, _⟩ => ⟨S4x2598x9, .f32⟩
  | .local _ .vmem, ⟨9, _⟩ => ⟨S1x2598x9, .f32⟩
  | .local _ .vmem, ⟨10, _⟩ => ⟨S1x2598x9, .f32⟩
  | .local _ .vmem, ⟨11, _⟩ => ⟨S1x2598x9, .f32⟩
  | .local _ .vmem, ⟨12, _⟩ => ⟨S1x2598x9, .f32⟩
  | .local _ .vmem, ⟨13, _⟩ => ⟨S1x2598x9, .f32⟩
  | .local _ .vmem, ⟨14, _⟩ => ⟨S1x2598x9, .f32⟩
  | .local _ .vmem, ⟨15, _⟩ => ⟨S1x2598x9, .f32⟩
  | .local _ .vmem, ⟨16, _⟩ => ⟨S1x2598x9, .f32⟩
  | .local _ .vmem, ⟨17, _⟩ => ⟨S1x2598x9, .f32⟩
  | .local _ .vmem, ⟨18, _⟩ => ⟨S1x2598x9, .f32⟩
  | .local _ .vmem, ⟨19, _⟩ => ⟨S1x1024x4, .f32⟩
  | .local _ .vmem, ⟨20, _⟩ => ⟨S1x1024x4, .f32⟩
  | .local _ .vmem, ⟨21, _⟩ => ⟨S1x4x1024, .f32⟩
  | .local _ .vmem, ⟨22, _⟩ => ⟨S1x4x1024, .f32⟩
  | .local _ .vmem, ⟨23, _⟩ => ⟨S1x1024x1, .f32⟩
  | .local _ .vmem, ⟨24, _⟩ => ⟨S1x1024x1, .f32⟩
  | .local _ .vmem, ⟨25, _⟩ => ⟨S1x1x1024, .f32⟩
  | .local _ .vmem, ⟨26, _⟩ => ⟨S1x1x1024, .f32⟩
  | .local _ .vmem, ⟨27, _⟩ => ⟨S1x304x4, .f32⟩
  | .local _ .vmem, ⟨28, _⟩ => ⟨S1x304x4, .f32⟩
  | .local _ .vmem, ⟨29, _⟩ => ⟨S1x304x1, .f32⟩
  | .local _ .vmem, ⟨30, _⟩ => ⟨S1x304x1, .f32⟩
  | .local _ .vmem, ⟨31, _⟩ => ⟨S1024x1024, .f32⟩
  | _, _ => ⟨S2x3x800x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_v30_3 : Ref sig .tc := ⟨.hbm, 44, rfl⟩
abbrev main_v30_4 : Ref sig .tc := ⟨.hbm, 45, rfl⟩
abbrev main_c_0 : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_1 : Ref sig .tc := ⟨.hbm, 52, rfl⟩
abbrev main_call2_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_2 : Ref sig .tc := ⟨.hbm, 58, rfl⟩
abbrev main_call3_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_3 : Ref sig .tc := ⟨.hbm, 64, rfl⟩
abbrev main_call4_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_4 : Ref sig .tc := ⟨.hbm, 70, rfl⟩
abbrev main_call5_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_values : Ref sig .tc := ⟨.hbm, 81, rfl⟩
abbrev main_indices : Ref sig .tc := ⟨.hbm, 82, rfl⟩
abbrev main_v56 : Ref sig .tc := ⟨.hbm, 83, rfl⟩
abbrev main_call6_c : Ref sig .tc := ⟨.hbm, 84, rfl⟩
abbrev main_call6_v0 : Ref sig .tc := ⟨.hbm, 85, rfl⟩
abbrev main_call6_v1 : Ref sig .tc := ⟨.hbm, 86, rfl⟩
abbrev main_call6_c_0 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_c_1 : Ref sig .tc := ⟨.hbm, 91, rfl⟩
abbrev main_call6_c_2 : Ref sig .tc := ⟨.hbm, 92, rfl⟩
abbrev main_call6_v5 : Ref sig .tc := ⟨.hbm, 93, rfl⟩
abbrev main_call6_v6 : Ref sig .tc := ⟨.hbm, 94, rfl⟩
abbrev main_call6_v7 : Ref sig .tc := ⟨.hbm, 95, rfl⟩
abbrev main_call6_v8 : Ref sig .tc := ⟨.hbm, 96, rfl⟩
abbrev main_call6_v9 : Ref sig .tc := ⟨.hbm, 97, rfl⟩
abbrev main_call6_v10 : Ref sig .tc := ⟨.hbm, 98, rfl⟩
abbrev main_call6_c_3 : Ref sig .tc := ⟨.hbm, 99, rfl⟩
abbrev main_call6_v11 : Ref sig .tc := ⟨.hbm, 100, rfl⟩
abbrev main_call6_v12 : Ref sig .tc := ⟨.hbm, 101, rfl⟩
abbrev main_call6_v13 : Ref sig .tc := ⟨.hbm, 102, rfl⟩
abbrev main_call6_cst : Ref sig .tc := ⟨.hbm, 103, rfl⟩
abbrev main_call6_v14 : Ref sig .tc := ⟨.hbm, 104, rfl⟩
abbrev main_v57 : Ref sig .tc := ⟨.hbm, 105, rfl⟩
abbrev main_c_5 : Ref sig .tc := ⟨.hbm, 106, rfl⟩
abbrev main_call7_v0 : Ref sig .tc := ⟨.hbm, 107, rfl⟩
abbrev main_v58 : Ref sig .tc := ⟨.hbm, 108, rfl⟩
abbrev main_cst_6 : Ref sig .tc := ⟨.hbm, 109, rfl⟩
abbrev main_call8_v0 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63_0 : Ref sig .tc := ⟨.hbm, 115, rfl⟩
abbrev main_v63_1 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2704x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2598x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2598x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2598x9 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2598x9 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2598x9 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2598x9 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![2], ![false]⟩

@[reducible] def k1_t1_loop : Scf.Loop 32 :=
  let c0_i32 : BitVec 32 := 0#32
  let c128_i32 : BitVec 32 := 128#32
  let v59 : BitVec 32 := Scalar.addi c0_i32 c128_i32
  let c1_i32 : BitVec 32 := 1#32
  ⟨c0_i32, v59, c1_i32⟩
def k1_off1 (k1_t1 : Fin k1_t1_loop.trips) : Fin 2 → Nat :=
  let c0_i32_98 : BitVec 32 := 0#32
  let c0_i32 : BitVec 32 := 0#32
  let c1_i32 : BitVec 32 := 1#32
  let arg8 : BitVec 32 := Scf.iv c0_i32 c1_i32 k1_t1
  let v164 : BitVec 32 := Scalar.addi c0_i32_98 arg8
  let v165 : Index := Scalar.indexCast v164
  let c0_99 : Index := 0#32
  ![v165.toNat, 0]
@[reducible] def k1_t2_loop : Scf.Loop 32 :=
  let c0_i32_19 : BitVec 32 := 0#32
  let c128_i32_20 : BitVec 32 := 128#32
  let v68 : BitVec 32 := Scalar.addi c0_i32_19 c128_i32_20
  let c1_i32_21 : BitVec 32 := 1#32
  ⟨c0_i32_19, v68, c1_i32_21⟩
def k1_off2 (k1_t2 : Fin k1_t2_loop.trips) : Fin 2 → Nat :=
  let c128_i32_98 : BitVec 32 := 128#32
  let c0_i32_19 : BitVec 32 := 0#32
  let c1_i32_21 : BitVec 32 := 1#32
  let arg8 : BitVec 32 := Scf.iv c0_i32_19 c1_i32_21 k1_t2
  let v164 : BitVec 32 := Scalar.addi c128_i32_98 arg8
  let v165 : Index := Scalar.indexCast v164
  let c0_99 : Index := 0#32
  ![v165.toNat, 0]
@[reducible] def k1_t3_loop : Scf.Loop 32 :=
  let c0_i32_27 : BitVec 32 := 0#32
  let c128_i32_28 : BitVec 32 := 128#32
  let v77 : BitVec 32 := Scalar.addi c0_i32_27 c128_i32_28
  let c1_i32_29 : BitVec 32 := 1#32
  ⟨c0_i32_27, v77, c1_i32_29⟩
def k1_off3 (k1_t3 : Fin k1_t3_loop.trips) : Fin 2 → Nat :=
  let c256_i32 : BitVec 32 := 256#32
  let c0_i32_27 : BitVec 32 := 0#32
  let c1_i32_29 : BitVec 32 := 1#32
  let arg8 : BitVec 32 := Scf.iv c0_i32_27 c1_i32_29 k1_t3
  let v164 : BitVec 32 := Scalar.addi c256_i32 arg8
  let v165 : Index := Scalar.indexCast v164
  let c0_98 : Index := 0#32
  ![v165.toNat, 0]
@[reducible] def k1_t4_loop : Scf.Loop 32 :=
  let c0_i32_35 : BitVec 32 := 0#32
  let c128_i32_36 : BitVec 32 := 128#32
  let v86 : BitVec 32 := Scalar.addi c0_i32_35 c128_i32_36
  let c1_i32_37 : BitVec 32 := 1#32
  ⟨c0_i32_35, v86, c1_i32_37⟩
def k1_off4 (k1_t4 : Fin k1_t4_loop.trips) : Fin 2 → Nat :=
  let c384_i32 : BitVec 32 := 384#32
  let c0_i32_35 : BitVec 32 := 0#32
  let c1_i32_37 : BitVec 32 := 1#32
  let arg8 : BitVec 32 := Scf.iv c0_i32_35 c1_i32_37 k1_t4
  let v164 : BitVec 32 := Scalar.addi c384_i32 arg8
  let v165 : Index := Scalar.indexCast v164
  let c0_98 : Index := 0#32
  ![v165.toNat, 0]
@[reducible] def k1_t5_loop : Scf.Loop 32 :=
  let c0_i32_43 : BitVec 32 := 0#32
  let c128_i32_44 : BitVec 32 := 128#32
  let v95 : BitVec 32 := Scalar.addi c0_i32_43 c128_i32_44
  let c1_i32_45 : BitVec 32 := 1#32
  ⟨c0_i32_43, v95, c1_i32_45⟩
def k1_off5 (k1_t5 : Fin k1_t5_loop.trips) : Fin 2 → Nat :=
  let c512_i32 : BitVec 32 := 512#32
  let c0_i32_43 : BitVec 32 := 0#32
  let c1_i32_45 : BitVec 32 := 1#32
  let arg8 : BitVec 32 := Scf.iv c0_i32_43 c1_i32_45 k1_t5
  let v164 : BitVec 32 := Scalar.addi c512_i32 arg8
  let v165 : Index := Scalar.indexCast v164
  let c0_98 : Index := 0#32
  ![v165.toNat, 0]
@[reducible] def k1_t6_loop : Scf.Loop 32 :=
  let c0_i32_51 : BitVec 32 := 0#32
  let c128_i32_52 : BitVec 32 := 128#32
  let v104 : BitVec 32 := Scalar.addi c0_i32_51 c128_i32_52
  let c1_i32_53 : BitVec 32 := 1#32
  ⟨c0_i32_51, v104, c1_i32_53⟩
def k1_off6 (k1_t6 : Fin k1_t6_loop.trips) : Fin 2 → Nat :=
  let c640_i32 : BitVec 32 := 640#32
  let c0_i32_51 : BitVec 32 := 0#32
  let c1_i32_53 : BitVec 32 := 1#32
  let arg8 : BitVec 32 := Scf.iv c0_i32_51 c1_i32_53 k1_t6
  let v164 : BitVec 32 := Scalar.addi c640_i32 arg8
  let v165 : Index := Scalar.indexCast v164
  let c0_98 : Index := 0#32
  ![v165.toNat, 0]
@[reducible] def k1_t7_loop : Scf.Loop 32 :=
  let c0_i32_59 : BitVec 32 := 0#32
  let c128_i32_60 : BitVec 32 := 128#32
  let v113 : BitVec 32 := Scalar.addi c0_i32_59 c128_i32_60
  let c1_i32_61 : BitVec 32 := 1#32
  ⟨c0_i32_59, v113, c1_i32_61⟩
def k1_off7 (k1_t7 : Fin k1_t7_loop.trips) : Fin 2 → Nat :=
  let c768_i32 : BitVec 32 := 768#32
  let c0_i32_59 : BitVec 32 := 0#32
  let c1_i32_61 : BitVec 32 := 1#32
  let arg8 : BitVec 32 := Scf.iv c0_i32_59 c1_i32_61 k1_t7
  let v164 : BitVec 32 := Scalar.addi c768_i32 arg8
  let v165 : Index := Scalar.indexCast v164
  let c0_98 : Index := 0#32
  ![v165.toNat, 0]
@[reducible] def k1_t8_loop : Scf.Loop 32 :=
  let c0_i32_67 : BitVec 32 := 0#32
  let c128_i32_68 : BitVec 32 := 128#32
  let v122 : BitVec 32 := Scalar.addi c0_i32_67 c128_i32_68
  let c1_i32_69 : BitVec 32 := 1#32
  ⟨c0_i32_67, v122, c1_i32_69⟩
def k1_off8 (k1_t8 : Fin k1_t8_loop.trips) : Fin 2 → Nat :=
  let c896_i32 : BitVec 32 := 896#32
  let c0_i32_67 : BitVec 32 := 0#32
  let c1_i32_69 : BitVec 32 := 1#32
  let arg8 : BitVec 32 := Scf.iv c0_i32_67 c1_i32_69 k1_t8
  let v164 : BitVec 32 := Scalar.addi c896_i32 arg8
  let v165 : Index := Scalar.indexCast v164
  let c0_98 : Index := 0#32
  ![v165.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x304x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x304x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x3x800x800 : Shape := ⟨4, ![2, 3, 800, 800]⟩
abbrev S2x256x50x50 : Shape := ⟨4, ![2, 256, 50, 50]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S_ : Shape := ⟨0, ![]⟩
abbrev S2x256x52x52 : Shape := ⟨4, ![2, 256, 52, 52]⟩
abbrev S256x256x1x1 : Shape := ⟨4, ![256, 256, 1, 1]⟩
abbrev S256x256 : Shape := ⟨2, ![256, 256]⟩
abbrev S256x2x50x50 : Shape := ⟨4, ![256, 2, 50, 50]⟩
abbrev S1x256x1x1 : Shape := ⟨4, ![1, 256, 1, 1]⟩
abbrev S9x256 : Shape := ⟨2, ![9, 256]⟩
abbrev S9x2x50x50 : Shape := ⟨4, ![9, 2, 50, 50]⟩
abbrev S2x9x50x50 : Shape := ⟨4, ![2, 9, 50, 50]⟩
abbrev S1x9x1x1 : Shape := ⟨4, ![1, 9, 1, 1]⟩
abbrev S36x256 : Shape := ⟨2, ![36, 256]⟩
abbrev S36x2x50x50 : Shape := ⟨4, ![36, 2, 50, 50]⟩
abbrev S2x36x50x50 : Shape := ⟨4, ![2, 36, 50, 50]⟩
abbrev S1x36x1x1 : Shape := ⟨4, ![1, 36, 1, 1]⟩
abbrev S2x9x1x50x50 : Shape := ⟨5, ![2, 9, 1, 50, 50]⟩
abbrev S2x50x50x9x1 : Shape := ⟨5, ![2, 50, 50, 9, 1]⟩
abbrev S2x22500x1 : Shape := ⟨3, ![2, 22500, 1]⟩
abbrev S2x9x4x50x50 : Shape := ⟨5, ![2, 9, 4, 50, 50]⟩
abbrev S2x50x50x9x4 : Shape := ⟨5, ![2, 50, 50, 9, 4]⟩
abbrev S2x22500x4 : Shape := ⟨3, ![2, 22500, 4]⟩
abbrev S9x1 : Shape := ⟨2, ![9, 1]⟩
abbrev S9x4 : Shape := ⟨2, ![9, 4]⟩
abbrev S50x50 : Shape := ⟨2, ![50, 50]⟩
abbrev S50x50x1 : Shape := ⟨3, ![50, 50, 1]⟩
abbrev S50x50x4 : Shape := ⟨3, ![50, 50, 4]⟩
abbrev S2500x4 : Shape := ⟨2, ![2500, 4]⟩
abbrev S2500x1x4 : Shape := ⟨3, ![2500, 1, 4]⟩
abbrev S1x9x4 : Shape := ⟨3, ![1, 9, 4]⟩
abbrev S2500x9x4 : Shape := ⟨3, ![2500, 9, 4]⟩
abbrev S22500x4 : Shape := ⟨2, ![22500, 4]⟩
abbrev S2x22500 : Shape := ⟨2, ![2, 22500]⟩
abbrev S22500x1 : Shape := ⟨2, ![22500, 1]⟩
abbrev S22500 : Shape := ⟨1, ![22500]⟩
abbrev S1x22500 : Shape := ⟨2, ![1, 22500]⟩
abbrev S2x1000 : Shape := ⟨2, ![2, 1000]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S2x1000x2 : Shape := ⟨3, ![2, 1000, 2]⟩
abbrev S2x1000x1x2 : Shape := ⟨4, ![2, 1000, 1, 2]⟩
abbrev S2x1x1000x2 : Shape := ⟨4, ![2, 1, 1000, 2]⟩
abbrev S2x1000x1000x2 : Shape := ⟨4, ![2, 1000, 1000, 2]⟩
abbrev S2x1000x1000x1 : Shape := ⟨4, ![2, 1000, 1000, 1]⟩
abbrev S2x1000x1000 : Shape := ⟨3, ![2, 1000, 1000]⟩
abbrev S2x1x1000 : Shape := ⟨3, ![2, 1, 1000]⟩
abbrev S1000 : Shape := ⟨1, ![1000]⟩
abbrev S1x1x1000 : Shape := ⟨3, ![1, 1, 1000]⟩
abbrev S1x1000x1 : Shape := ⟨3, ![1, 1000, 1]⟩
abbrev S1x1000x1000 : Shape := ⟨3, ![1, 1000, 1000]⟩
abbrev S2x1 : Shape := ⟨2, ![2, 1]⟩
abbrev S2x300 : Shape := ⟨2, ![2, 300]⟩
abbrev S2x1000x5 : Shape := ⟨3, ![2, 1000, 5]⟩
abbrev S2x300x1 : Shape := ⟨3, ![2, 300, 1]⟩
abbrev S2x300x5 : Shape := ⟨3, ![2, 300, 5]⟩

abbrev nBuf : Space → Nat
  | .hbm => 437
  | .vmem => 0
  | .smem => 0
  | _ => 0

abbrev hbmTy0_0 (i : Nat) : BufTy := match i % 128 with
  | 0 => ⟨S2x3x800x800, .f32⟩
  | 1 => ⟨S2x256x50x50, .f32⟩
  | 2 => ⟨S256x256x3x3, .f32⟩
  | 3 => ⟨S256, .f32⟩
  | 4 => ⟨S9x256x1x1, .f32⟩
  | 5 => ⟨S9, .f32⟩
  | 6 => ⟨S36x256x1x1, .f32⟩
  | 7 => ⟨S36, .f32⟩
  | 8 => ⟨S9, .f32⟩
  | 9 => ⟨S9, .f32⟩
  | 10 => ⟨S_, .i32⟩
  | 11 => ⟨S_, .f32⟩
  | 12 => ⟨S2x256x52x52, .f32⟩
  | 13 => ⟨S_, .f32⟩
  | 14 => ⟨S2x256x50x50, .f32⟩
  | 15 => ⟨S2x256x50x50, .f32⟩
  | 16 => ⟨S256x256x1x1, .f32⟩
  | 17 => ⟨S256x256, .f32⟩
  | 18 => ⟨S256x2x50x50, .f32⟩
  | 19 => ⟨S2x256x50x50, .f32⟩
  | 20 => ⟨S2x256x50x50, .f32⟩
  | 21 => ⟨S2x256x50x50, .f32⟩
  | 22 => ⟨S256x256x1x1, .f32⟩
  | 23 => ⟨S256x256, .f32⟩
  | 24 => ⟨S256x2x50x50, .f32⟩
  | 25 => ⟨S2x256x50x50, .f32⟩
  | 26 => ⟨S2x256x50x50, .f32⟩
  | 27 => ⟨S2x256x50x50, .f32⟩
  | 28 => ⟨S256x256x1x1, .f32⟩
  | 29 => ⟨S256x256, .f32⟩
  | 30 => ⟨S256x2x50x50, .f32⟩
  | 31 => ⟨S2x256x50x50, .f32⟩
  | 32 => ⟨S2x256x50x50, .f32⟩
  | 33 => ⟨S2x256x50x50, .f32⟩
  | 34 => ⟨S256x256x1x1, .f32⟩
  | 35 => ⟨S256x256, .f32⟩
  | 36 => ⟨S256x2x50x50, .f32⟩
  | 37 => ⟨S2x256x50x50, .f32⟩
  | 38 => ⟨S2x256x50x50, .f32⟩
  | 39 => ⟨S2x256x50x50, .f32⟩
  | 40 => ⟨S256x256x1x1, .f32⟩
  | 41 => ⟨S256x256, .f32⟩
  | 42 => ⟨S256x2x50x50, .f32⟩
  | 43 => ⟨S2x256x50x50, .f32⟩
  | 44 => ⟨S2x256x50x50, .f32⟩
  | 45 => ⟨S2x256x50x50, .f32⟩
  | 46 => ⟨S256x256x1x1, .f32⟩
  | 47 => ⟨S256x256, .f32⟩
  | 48 => ⟨S256x2x50x50, .f32⟩
  | 49 => ⟨S2x256x50x50, .f32⟩
  | 50 => ⟨S2x256x50x50, .f32⟩
  | 51 => ⟨S2x256x50x50, .f32⟩
  | 52 => ⟨S256x256x1x1, .f32⟩
  | 53 => ⟨S256x256, .f32⟩
  | 54 => ⟨S256x2x50x50, .f32⟩
  | 55 => ⟨S2x256x50x50, .f32⟩
  | 56 => ⟨S2x256x50x50, .f32⟩
  | 57 => ⟨S2x256x50x50, .f32⟩
  | 58 => ⟨S256x256x1x1, .f32⟩
  | 59 => ⟨S256x256, .f32⟩
  | 60 => ⟨S256x2x50x50, .f32⟩
  | 61 => ⟨S2x256x50x50, .f32⟩
  | 62 => ⟨S2x256x50x50, .f32⟩
  | 63 => ⟨S2x256x50x50, .f32⟩
  | 64 => ⟨S256x256x1x1, .f32⟩
  | 65 => ⟨S256x256, .f32⟩
  | 66 => ⟨S256x2x50x50, .f32⟩
  | 67 => ⟨S2x256x50x50, .f32⟩
  | 68 => ⟨S2x256x50x50, .f32⟩
  | 69 => ⟨S1x256x1x1, .f32⟩
  | 70 => ⟨S2x256x50x50, .f32⟩
  | 71 => ⟨S2x256x50x50, .f32⟩
  | 72 => ⟨S_, .f32⟩
  | 73 => ⟨S2x256x50x50, .f32⟩
  | 74 => ⟨S2x256x50x50, .f32⟩
  | 75 => ⟨S9x256, .f32⟩
  | 76 => ⟨S9x2x50x50, .f32⟩
  | 77 => ⟨S2x9x50x50, .f32⟩
  | 78 => ⟨S1x9x1x1, .f32⟩
  | 79 => ⟨S2x9x50x50, .f32⟩
  | 80 => ⟨S2x9x50x50, .f32⟩
  | 81 => ⟨S36x256, .f32⟩
  | 82 => ⟨S36x2x50x50, .f32⟩
  | 83 => ⟨S2x36x50x50, .f32⟩
  | 84 => ⟨S1x36x1x1, .f32⟩
  | 85 => ⟨S2x36x50x50, .f32⟩
  | 86 => ⟨S2x36x50x50, .f32⟩
  | 87 => ⟨S2x9x1x50x50, .f32⟩
  | 88 => ⟨S2x50x50x9x1, .f32⟩
  | 89 => ⟨S2x22500x1, .f32⟩
  | 90 => ⟨S2x9x4x50x50, .f32⟩
  | 91 => ⟨S2x50x50x9x4, .f32⟩
  | 92 => ⟨S2x22500x4, .f32⟩
  | 93 => ⟨S9, .f32⟩
  | 94 => ⟨S_, .f32⟩
  | 95 => ⟨S9, .f32⟩
  | 96 => ⟨S9, .f32⟩
  | 97 => ⟨S9, .f32⟩
  | 98 => ⟨S_, .f32⟩
  | 99 => ⟨S9, .f32⟩
  | 100 => ⟨S9, .f32⟩
  | 101 => ⟨S_, .f32⟩
  | 102 => ⟨S9, .f32⟩
  | 103 => ⟨S9, .f32⟩
  | 104 => ⟨S_, .f32⟩
  | 105 => ⟨S9, .f32⟩
  | 106 => ⟨S9, .f32⟩
  | 107 => ⟨S9x1, .f32⟩
  | 108 => ⟨S9x1, .f32⟩
  | 109 => ⟨S9x1, .f32⟩
  | 110 => ⟨S9x1, .f32⟩
  | 111 => ⟨S9x4, .f32⟩
  | 112 => ⟨S50x50, .i32⟩
  | 113 => ⟨S50x50, .f32⟩
  | 114 => ⟨S_, .f32⟩
  | 115 => ⟨S50x50, .f32⟩
  | 116 => ⟨S50x50, .f32⟩
  | 117 => ⟨S_, .f32⟩
  | 118 => ⟨S50x50, .f32⟩
  | 119 => ⟨S50x50, .f32⟩
  | 120 => ⟨S50x50, .i32⟩
  | 121 => ⟨S50x50, .f32⟩
  | 122 => ⟨S_, .f32⟩
  | 123 => ⟨S50x50, .f32⟩
  | 124 => ⟨S50x50, .f32⟩
  | 125 => ⟨S_, .f32⟩
  | 126 => ⟨S50x50, .f32⟩
  | 127 => ⟨S50x50, .f32⟩
  | _ => ⟨S2x3x800x800, .f32⟩

abbrev hbmTy0_1 (i : Nat) : BufTy := match i % 128 with
  | 0 => ⟨S50x50x1, .f32⟩
  | 1 => ⟨S50x50x1, .f32⟩
  | 2 => ⟨S50x50x1, .f32⟩
  | 3 => ⟨S50x50x1, .f32⟩
  | 4 => ⟨S50x50x4, .f32⟩
  | 5 => ⟨S2500x4, .f32⟩
  | 6 => ⟨S2500x1x4, .f32⟩
  | 7 => ⟨S1x9x4, .f32⟩
  | 8 => ⟨S2500x9x4, .f32⟩
  | 9 => ⟨S2500x9x4, .f32⟩
  | 10 => ⟨S2500x9x4, .f32⟩
  | 11 => ⟨S22500x4, .f32⟩
  | 12 => ⟨S2x22500, .f32⟩
  | 13 => ⟨S2x22500, .f32⟩
  | 14 => ⟨S2x22500, .f32⟩
  | 15 => ⟨S_, .f32⟩
  | 16 => ⟨S2x22500, .f32⟩
  | 17 => ⟨S2x22500, .f32⟩
  | 18 => ⟨S_, .f32⟩
  | 19 => ⟨S2x22500, .f32⟩
  | 20 => ⟨S2x22500, .f32⟩
  | 21 => ⟨S22500x1, .f32⟩
  | 22 => ⟨S22500, .f32⟩
  | 23 => ⟨S22500x1, .f32⟩
  | 24 => ⟨S22500, .f32⟩
  | 25 => ⟨S22500, .f32⟩
  | 26 => ⟨S22500x1, .f32⟩
  | 27 => ⟨S22500, .f32⟩
  | 28 => ⟨S22500x1, .f32⟩
  | 29 => ⟨S22500, .f32⟩
  | 30 => ⟨S22500, .f32⟩
  | 31 => ⟨S22500x1, .f32⟩
  | 32 => ⟨S22500, .f32⟩
  | 33 => ⟨S_, .f32⟩
  | 34 => ⟨S22500, .f32⟩
  | 35 => ⟨S22500, .f32⟩
  | 36 => ⟨S22500, .f32⟩
  | 37 => ⟨S22500x1, .f32⟩
  | 38 => ⟨S22500, .f32⟩
  | 39 => ⟨S_, .f32⟩
  | 40 => ⟨S22500, .f32⟩
  | 41 => ⟨S22500, .f32⟩
  | 42 => ⟨S22500, .f32⟩
  | 43 => ⟨S2x22500x1, .f32⟩
  | 44 => ⟨S2x22500, .f32⟩
  | 45 => ⟨S2x22500x1, .f32⟩
  | 46 => ⟨S2x22500, .f32⟩
  | 47 => ⟨S2x22500x1, .f32⟩
  | 48 => ⟨S2x22500, .f32⟩
  | 49 => ⟨S2x22500x1, .f32⟩
  | 50 => ⟨S2x22500, .f32⟩
  | 51 => ⟨S_, .f32⟩
  | 52 => ⟨S2x22500, .f32⟩
  | 53 => ⟨S2x22500, .f32⟩
  | 54 => ⟨S_, .f32⟩
  | 55 => ⟨S2x22500, .f32⟩
  | 56 => ⟨S2x22500, .f32⟩
  | 57 => ⟨S1x22500, .f32⟩
  | 58 => ⟨S2x22500, .f32⟩
  | 59 => ⟨S2x22500, .f32⟩
  | 60 => ⟨S1x22500, .f32⟩
  | 61 => ⟨S2x22500, .f32⟩
  | 62 => ⟨S2x22500, .f32⟩
  | 63 => ⟨S1x22500, .f32⟩
  | 64 => ⟨S2x22500, .f32⟩
  | 65 => ⟨S2x22500, .f32⟩
  | 66 => ⟨S1x22500, .f32⟩
  | 67 => ⟨S2x22500, .f32⟩
  | 68 => ⟨S2x22500, .f32⟩
  | 69 => ⟨S2x22500, .f32⟩
  | 70 => ⟨S1x22500, .f32⟩
  | 71 => ⟨S2x22500, .f32⟩
  | 72 => ⟨S2x22500, .f32⟩
  | 73 => ⟨S2x22500, .f32⟩
  | 74 => ⟨S1x22500, .f32⟩
  | 75 => ⟨S2x22500, .f32⟩
  | 76 => ⟨S2x22500, .f32⟩
  | 77 => ⟨S_, .f32⟩
  | 78 => ⟨S2x22500, .f32⟩
  | 79 => ⟨S2x22500, .f32⟩
  | 80 => ⟨S2x22500, .f32⟩
  | 81 => ⟨S_, .f32⟩
  | 82 => ⟨S2x22500, .f32⟩
  | 83 => ⟨S2x22500, .f32⟩
  | 84 => ⟨S2x22500, .f32⟩
  | 85 => ⟨S_, .f32⟩
  | 86 => ⟨S2x22500, .f32⟩
  | 87 => ⟨S2x22500, .f32⟩
  | 88 => ⟨S2x22500, .f32⟩
  | 89 => ⟨S_, .f32⟩
  | 90 => ⟨S2x22500, .f32⟩
  | 91 => ⟨S2x22500, .f32⟩
  | 92 => ⟨S2x22500, .f32⟩
  | 93 => ⟨S_, .f32⟩
  | 94 => ⟨S_, .f32⟩
  | 95 => ⟨S_, .f32⟩
  | 96 => ⟨S2x22500, .f32⟩
  | 97 => ⟨S2x22500, .f32⟩
  | 98 => ⟨S_, .f32⟩
  | 99 => ⟨S2x22500, .f32⟩
  | 100 => ⟨S2x22500, .f32⟩
  | 101 => ⟨S_, .f32⟩
  | 102 => ⟨S_, .f32⟩
  | 103 => ⟨S_, .f32⟩
  | 104 => ⟨S2x22500, .f32⟩
  | 105 => ⟨S2x22500, .f32⟩
  | 106 => ⟨S_, .f32⟩
  | 107 => ⟨S2x22500, .f32⟩
  | 108 => ⟨S2x22500, .f32⟩
  | 109 => ⟨S_, .f32⟩
  | 110 => ⟨S_, .f32⟩
  | 111 => ⟨S_, .f32⟩
  | 112 => ⟨S2x22500, .f32⟩
  | 113 => ⟨S2x22500, .f32⟩
  | 114 => ⟨S_, .f32⟩
  | 115 => ⟨S2x22500, .f32⟩
  | 116 => ⟨S2x22500, .f32⟩
  | 117 => ⟨S_, .f32⟩
  | 118 => ⟨S_, .f32⟩
  | 119 => ⟨S_, .f32⟩
  | 120 => ⟨S2x22500, .f32⟩
  | 121 => ⟨S2x22500, .f32⟩
  | 122 => ⟨S_, .f32⟩
  | 123 => ⟨S2x22500, .f32⟩
  | 124 => ⟨S2x22500, .f32⟩
  | 125 => ⟨S2x22500, .f32⟩
  | 126 => ⟨S2x22500, .f32⟩
  | 127 => ⟨S2x22500x1, .f32⟩
  | _ => ⟨S2x3x800x800, .f32⟩

abbrev hbmTy0_2 (i : Nat) : BufTy := match i % 128 with
  | 0 => ⟨S2x22500x1, .f32⟩
  | 1 => ⟨S2x22500x1, .f32⟩
  | 2 => ⟨S2x22500x1, .f32⟩
  | 3 => ⟨S2x22500x4, .f32⟩
  | 4 => ⟨S_, .f32⟩
  | 5 => ⟨S2x22500, .f32⟩
  | 6 => ⟨S2x22500, .i1⟩
  | 7 => ⟨S_, .f32⟩
  | 8 => ⟨S2x22500, .f32⟩
  | 9 => ⟨S2x22500, .i1⟩
  | 10 => ⟨S2x22500, .i1⟩
  | 11 => ⟨S_, .f32⟩
  | 12 => ⟨S2x22500, .f32⟩
  | 13 => ⟨S2x22500, .i1⟩
  | 14 => ⟨S2x22500, .i1⟩
  | 15 => ⟨S_, .f32⟩
  | 16 => ⟨S_, .f32⟩
  | 17 => ⟨S2x22500, .f32⟩
  | 18 => ⟨S2x22500, .f32⟩
  | 19 => ⟨S2x1000, .f32⟩
  | 20 => ⟨S2x1000, .i32⟩
  | 21 => ⟨S2x1000x1, .i32⟩
  | 22 => ⟨S_, .i32⟩
  | 23 => ⟨S2x1000x1, .i32⟩
  | 24 => ⟨S2x1000x1, .i1⟩
  | 25 => ⟨S_, .i32⟩
  | 26 => ⟨S2x1000x1, .i32⟩
  | 27 => ⟨S2x1000x1, .i32⟩
  | 28 => ⟨S2x1000x1, .i32⟩
  | 29 => ⟨S1, .i32⟩
  | 30 => ⟨S_, .i32⟩
  | 31 => ⟨S2x1000x1, .i32⟩
  | 32 => ⟨S2x1000x1, .i1⟩
  | 33 => ⟨S1x1x1, .i32⟩
  | 34 => ⟨S2x1000x1, .i32⟩
  | 35 => ⟨S2x1000x1, .i1⟩
  | 36 => ⟨S2x1000x1, .i1⟩
  | 37 => ⟨S_, .i1⟩
  | 38 => ⟨S2x1000, .i1⟩
  | 39 => ⟨S2x1000x4, .f32⟩
  | 40 => ⟨S2x1000x4, .i1⟩
  | 41 => ⟨S_, .f32⟩
  | 42 => ⟨S2x1000x4, .f32⟩
  | 43 => ⟨S2x1000x4, .f32⟩
  | 44 => ⟨S2x1000x1, .f32⟩
  | 45 => ⟨S2x1000, .f32⟩
  | 46 => ⟨S2x1000x1, .f32⟩
  | 47 => ⟨S2x1000, .f32⟩
  | 48 => ⟨S2x1000, .f32⟩
  | 49 => ⟨S2x1000x1, .f32⟩
  | 50 => ⟨S2x1000, .f32⟩
  | 51 => ⟨S2x1000x1, .f32⟩
  | 52 => ⟨S2x1000, .f32⟩
  | 53 => ⟨S2x1000, .f32⟩
  | 54 => ⟨S2x1000, .f32⟩
  | 55 => ⟨S2x1000x1, .f32⟩
  | 56 => ⟨S2x1000, .f32⟩
  | 57 => ⟨S2x1000x1, .f32⟩
  | 58 => ⟨S2x1000, .f32⟩
  | 59 => ⟨S2x1000, .f32⟩
  | 60 => ⟨S2x1000x1, .f32⟩
  | 61 => ⟨S2x1000, .f32⟩
  | 62 => ⟨S2x1000x1, .f32⟩
  | 63 => ⟨S2x1000, .f32⟩
  | 64 => ⟨S2x1000, .f32⟩
  | 65 => ⟨S2x1000, .f32⟩
  | 66 => ⟨S2x1000x2, .f32⟩
  | 67 => ⟨S2x1000x1x2, .f32⟩
  | 68 => ⟨S2x1000x2, .f32⟩
  | 69 => ⟨S2x1x1000x2, .f32⟩
  | 70 => ⟨S2x1000x1000x2, .f32⟩
  | 71 => ⟨S2x1000x1000x2, .f32⟩
  | 72 => ⟨S2x1000x1000x2, .f32⟩
  | 73 => ⟨S2x1000x2, .f32⟩
  | 74 => ⟨S2x1000x1x2, .f32⟩
  | 75 => ⟨S2x1000x2, .f32⟩
  | 76 => ⟨S2x1x1000x2, .f32⟩
  | 77 => ⟨S2x1000x1000x2, .f32⟩
  | 78 => ⟨S2x1000x1000x2, .f32⟩
  | 79 => ⟨S2x1000x1000x2, .f32⟩
  | 80 => ⟨S2x1000x1000x2, .f32⟩
  | 81 => ⟨S_, .f32⟩
  | 82 => ⟨S2x1000x1000x2, .f32⟩
  | 83 => ⟨S2x1000x1000x2, .f32⟩
  | 84 => ⟨S2x1000x1000x1, .f32⟩
  | 85 => ⟨S2x1000x1000, .f32⟩
  | 86 => ⟨S2x1000x1000x1, .f32⟩
  | 87 => ⟨S2x1000x1000, .f32⟩
  | 88 => ⟨S2x1000x1000, .f32⟩
  | 89 => ⟨S2x1000x1, .f32⟩
  | 90 => ⟨S2x1x1000, .f32⟩
  | 91 => ⟨S2x1000x1000, .f32⟩
  | 92 => ⟨S2x1000x1000, .f32⟩
  | 93 => ⟨S2x1000x1000, .f32⟩
  | 94 => ⟨S2x1000x1000, .f32⟩
  | 95 => ⟨S_, .f32⟩
  | 96 => ⟨S2x1000x1000, .f32⟩
  | 97 => ⟨S2x1000x1000, .f32⟩
  | 98 => ⟨S2x1000x1000, .f32⟩
  | 99 => ⟨S1000, .i32⟩
  | 100 => ⟨S_, .f32⟩
  | 101 => ⟨S2x1000x1000, .f32⟩
  | 102 => ⟨S2x1000x1000, .i1⟩
  | 103 => ⟨S1x1x1000, .i32⟩
  | 104 => ⟨S1x1000x1, .i32⟩
  | 105 => ⟨S1x1000x1000, .i32⟩
  | 106 => ⟨S1x1000x1000, .i32⟩
  | 107 => ⟨S1x1000x1000, .i1⟩
  | 108 => ⟨S2x1000x1000, .i1⟩
  | 109 => ⟨S2x1000x1000, .i1⟩
  | 110 => ⟨S_, .i1⟩
  | 111 => ⟨S2x1000, .i1⟩
  | 112 => ⟨S_, .i32⟩
  | 113 => ⟨S_, .i32⟩
  | 114 => ⟨S2x1000x1000, .i1⟩
  | 115 => ⟨S_, .i32⟩
  | 116 => ⟨S_, .i32⟩
  | 117 => ⟨S2x1000, .i1⟩
  | 118 => ⟨S_, .i32⟩
  | 119 => ⟨S_, .i1⟩
  | 120 => ⟨S_, .i32⟩
  | 121 => ⟨S_, .i32⟩
  | 122 => ⟨S_, .i32⟩
  | 123 => ⟨S2x1, .i1⟩
  | 124 => ⟨S_, .i32⟩
  | 125 => ⟨S_, .i32⟩
  | 126 => ⟨S2x1x1000, .i1⟩
  | 127 => ⟨S2x1000, .i1⟩
  | _ => ⟨S2x3x800x800, .f32⟩

abbrev hbmTy0_3 (i : Nat) : BufTy := match i % 128 with
  | 0 => ⟨S_, .i1⟩
  | 1 => ⟨S2x1000, .i1⟩
  | 2 => ⟨S2x1000, .i1⟩
  | 3 => ⟨S2x1000, .i1⟩
  | 4 => ⟨S2x1000, .i1⟩
  | 5 => ⟨S2x1000, .i1⟩
  | 6 => ⟨S_, .i32⟩
  | 7 => ⟨S_, .i32⟩
  | 8 => ⟨S_, .f32⟩
  | 9 => ⟨S2x1000, .f32⟩
  | 10 => ⟨S2x1000, .i1⟩
  | 11 => ⟨S2x1000, .i1⟩
  | 12 => ⟨S_, .i32⟩
  | 13 => ⟨S_, .i32⟩
  | 14 => ⟨S2x1000, .i32⟩
  | 15 => ⟨S2x1000, .i32⟩
  | 16 => ⟨S2x1000, .i32⟩
  | 17 => ⟨S2x1000, .i32⟩
  | 18 => ⟨S2x1000, .i32⟩
  | 19 => ⟨S2x1000, .i32⟩
  | 20 => ⟨S2x1000, .i32⟩
  | 21 => ⟨S2x300, .i32⟩
  | 22 => ⟨S2x1000x1, .f32⟩
  | 23 => ⟨S2x1000x5, .f32⟩
  | 24 => ⟨S2x1000x1, .i1⟩
  | 25 => ⟨S_, .f32⟩
  | 26 => ⟨S_, .f32⟩
  | 27 => ⟨S2x1000x5, .i1⟩
  | 28 => ⟨S2x1000x5, .f32⟩
  | 29 => ⟨S2x1000x5, .f32⟩
  | 30 => ⟨S2x300x1, .i32⟩
  | 31 => ⟨S_, .i32⟩
  | 32 => ⟨S2x300x1, .i32⟩
  | 33 => ⟨S2x300x1, .i1⟩
  | 34 => ⟨S_, .i32⟩
  | 35 => ⟨S2x300x1, .i32⟩
  | 36 => ⟨S2x300x1, .i32⟩
  | 37 => ⟨S2x300x1, .i32⟩
  | 38 => ⟨S1, .i32⟩
  | 39 => ⟨S_, .i32⟩
  | 40 => ⟨S2x300x1, .i32⟩
  | 41 => ⟨S2x300x1, .i1⟩
  | 42 => ⟨S1x1x1, .i32⟩
  | 43 => ⟨S2x300x1, .i32⟩
  | 44 => ⟨S2x300x1, .i1⟩
  | 45 => ⟨S2x300x1, .i1⟩
  | 46 => ⟨S_, .i1⟩
  | 47 => ⟨S2x300, .i1⟩
  | 48 => ⟨S2x300x5, .f32⟩
  | 49 => ⟨S2x300x5, .i1⟩
  | 50 => ⟨S_, .f32⟩
  | 51 => ⟨S2x300x5, .f32⟩
  | 52 => ⟨S2x300x5, .f32⟩
  | _ => ⟨S2x3x800x800, .f32⟩

abbrev hbmTy (i : Nat) : BufTy := match i / 128 with
  | 0 => hbmTy0_0 i
  | 1 => hbmTy0_1 i
  | 2 => hbmTy0_2 i
  | 3 => hbmTy0_3 i
  | _ => ⟨S2x3x800x800, .f32⟩

abbrev bufTy : (tb : Table) → Fin (tcTables nBuf tb) → BufTy
  | .hbm, ⟨i, _⟩ => hbmTy i
  | _, _ => ⟨S2x3x800x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_cst : Ref sig .tc := ⟨.hbm, 72, rfl⟩
abbrev main_call1_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_2 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_3 : Ref sig .tc := ⟨.hbm, 98, rfl⟩
abbrev main_v82 : Ref sig .tc := ⟨.hbm, 99, rfl⟩
abbrev main_v83 : Ref sig .tc := ⟨.hbm, 100, rfl⟩
abbrev main_cst_4 : Ref sig .tc := ⟨.hbm, 101, rfl⟩
abbrev main_v84 : Ref sig .tc := ⟨.hbm, 102, rfl⟩
abbrev main_v85 : Ref sig .tc := ⟨.hbm, 103, rfl⟩
abbrev main_cst_5 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_6 : Ref sig .tc := ⟨.hbm, 114, rfl⟩
abbrev main_v95 : Ref sig .tc := ⟨.hbm, 115, rfl⟩
abbrev main_v96 : Ref sig .tc := ⟨.hbm, 116, rfl⟩
abbrev main_cst_7 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_8 : Ref sig .tc := ⟨.hbm, 122, rfl⟩
abbrev main_v101 : Ref sig .tc := ⟨.hbm, 123, rfl⟩
abbrev main_v102 : Ref sig .tc := ⟨.hbm, 124, rfl⟩
abbrev main_cst_9 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_cst_10 : Ref sig .tc := ⟨.hbm, 143, rfl⟩
abbrev main_v120 : Ref sig .tc := ⟨.hbm, 144, rfl⟩
abbrev main_v121 : Ref sig .tc := ⟨.hbm, 145, rfl⟩
abbrev main_cst_11 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_cst_12 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_13 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_cst_14 : Ref sig .tc := ⟨.hbm, 179, rfl⟩
abbrev main_v152 : Ref sig .tc := ⟨.hbm, 180, rfl⟩
abbrev main_v153 : Ref sig .tc := ⟨.hbm, 181, rfl⟩
abbrev main_cst_15 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_cst_16 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_cst_17 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_cst_18 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_cst_19 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_cst_20 : Ref sig .tc := ⟨.hbm, 221, rfl⟩
abbrev main_cst_21 : Ref sig .tc := ⟨.hbm, 222, rfl⟩
abbrev main_call2_v0 : Ref sig .tc := ⟨.hbm, 223, rfl⟩
abbrev main_call2_v1 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_v188 : Ref sig .tc := ⟨.hbm, 228, rfl⟩
abbrev main_cst_22 : Ref sig .tc := ⟨.hbm, 229, rfl⟩
abbrev main_cst_23 : Ref sig .tc := ⟨.hbm, 230, rfl⟩
abbrev main_call3_v0 : Ref sig .tc := ⟨.hbm, 231, rfl⟩
abbrev main_call3_v1 : Ref sig .tc := ⟨.hbm, 232, rfl⟩
abbrev main_call3_v2 : Ref sig .tc := ⟨.hbm, 233, rfl⟩
abbrev main_call3_v3 : Ref sig .tc := ⟨.hbm, 234, rfl⟩
abbrev main_call3_v4 : Ref sig .tc := ⟨.hbm, 235, rfl⟩
abbrev main_v189 : Ref sig .tc := ⟨.hbm, 236, rfl⟩
abbrev main_cst_24 : Ref sig .tc := ⟨.hbm, 237, rfl⟩
abbrev main_cst_25 : Ref sig .tc := ⟨.hbm, 238, rfl⟩
abbrev main_call4_v0 : Ref sig .tc := ⟨.hbm, 239, rfl⟩
abbrev main_call4_v1 : Ref sig .tc := ⟨.hbm, 240, rfl⟩
abbrev main_call4_v2 : Ref sig .tc := ⟨.hbm, 241, rfl⟩
abbrev main_call4_v3 : Ref sig .tc := ⟨.hbm, 242, rfl⟩
abbrev main_call4_v4 : Ref sig .tc := ⟨.hbm, 243, rfl⟩
abbrev main_v190 : Ref sig .tc := ⟨.hbm, 244, rfl⟩
abbrev main_cst_26 : Ref sig .tc := ⟨.hbm, 245, rfl⟩
abbrev main_cst_27 : Ref sig .tc := ⟨.hbm, 246, rfl⟩
abbrev main_call5_v0 : Ref sig .tc := ⟨.hbm, 247, rfl⟩
abbrev main_call5_v1 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_cst_28 : Ref sig .tc := ⟨.hbm, 260, rfl⟩
abbrev main_v199 : Ref sig .tc := ⟨.hbm, 261, rfl⟩
abbrev main_v200 : Ref sig .tc := ⟨.hbm, 262, rfl⟩
abbrev main_cst_29 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_30 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_cst_31 : Ref sig .tc := ⟨.hbm, 271, rfl⟩
abbrev main_call6_v0 : Ref sig .tc := ⟨.hbm, 272, rfl⟩
abbrev main_call6_v1 : Ref sig .tc := ⟨.hbm, 273, rfl⟩
abbrev main_v207 : Ref sig .tc := ⟨.hbm, 274, rfl⟩
abbrev main_values : Ref sig .tc := ⟨.hbm, 275, rfl⟩
abbrev main_indices : Ref sig .tc := ⟨.hbm, 276, rfl⟩
abbrev main_v208 : Ref sig .tc := ⟨.hbm, 277, rfl⟩
abbrev main_call7_c : Ref sig .tc := ⟨.hbm, 278, rfl⟩
abbrev main_call7_v0 : Ref sig .tc := ⟨.hbm, 279, rfl⟩
abbrev main_call7_v1 : Ref sig .tc := ⟨.hbm, 280, rfl⟩
abbrev main_call7_c_0 : Ref sig .tc := ⟨.hbm, 281, rfl⟩
abbrev main_call7_v2 : Ref sig .tc := ⟨.hbm, 282, rfl⟩
abbrev main_call7_v3 : Ref sig .tc := ⟨.hbm, 283, rfl⟩
abbrev main_call7_v4 : Ref sig .tc := ⟨.hbm, 284, rfl⟩
abbrev main_call7_c_1 : Ref sig .tc := ⟨.hbm, 285, rfl⟩
abbrev main_call7_c_2 : Ref sig .tc := ⟨.hbm, 286, rfl⟩
abbrev main_call7_v5 : Ref sig .tc := ⟨.hbm, 287, rfl⟩
abbrev main_call7_v6 : Ref sig .tc := ⟨.hbm, 288, rfl⟩
abbrev main_call7_v7 : Ref sig .tc := ⟨.hbm, 289, rfl⟩
abbrev main_call7_v8 : Ref sig .tc := ⟨.hbm, 290, rfl⟩
abbrev main_call7_v9 : Ref sig .tc := ⟨.hbm, 291, rfl⟩
abbrev main_call7_v10 : Ref sig .tc := ⟨.hbm, 292, rfl⟩
abbrev main_call7_c_3 : Ref sig .tc := ⟨.hbm, 293, rfl⟩
abbrev main_call7_v11 : Ref sig .tc := ⟨.hbm, 294, rfl⟩
abbrev main_call7_v12 : Ref sig .tc := ⟨.hbm, 295, rfl⟩
abbrev main_call7_v13 : Ref sig .tc := ⟨.hbm, 296, rfl⟩
abbrev main_call7_cst : Ref sig .tc := ⟨.hbm, 297, rfl⟩
abbrev main_call7_v14 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_cst_32 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_cst_33 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_cst_34 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_c_35 : Ref sig .tc := ⟨.hbm, 366, rfl⟩
abbrev main_v273 : Ref sig .tc := ⟨.hbm, 367, rfl⟩
abbrev main_c_36 : Ref sig .tc := ⟨.hbm, 368, rfl⟩
abbrev main_c_37 : Ref sig .tc := ⟨.hbm, 369, rfl⟩
abbrev main_v274_0 : Ref sig .tc := ⟨.hbm, 370, rfl⟩
abbrev main_v274_1 : Ref sig .tc := ⟨.hbm, 371, rfl⟩
abbrev main_v274_2 : Ref sig .tc := ⟨.hbm, 372, rfl⟩
abbrev main_v274_3 : Ref sig .tc := ⟨.hbm, 373, rfl⟩
abbrev main_while0c_c_45 : Ref sig .tc := ⟨.hbm, 374, rfl⟩
abbrev main_while0c_v288 : Ref sig .tc := ⟨.hbm, 375, rfl⟩
abbrev main_while0b_c_45 : Ref sig .tc := ⟨.hbm, 376, rfl⟩
abbrev main_while0b_v288 : Ref sig .tc := ⟨.hbm, 377, rfl⟩
abbrev main_while0b_c_46 : Ref sig .tc := ⟨.hbm, 378, rfl⟩
abbrev main_while0b_v289 : Ref sig .tc := ⟨.hbm, 379, rfl⟩
abbrev main_while0b_c_47 : Ref sig .tc := ⟨.hbm, 380, rfl⟩
abbrev main_while0b_c_48 : Ref sig .tc := ⟨.hbm, 381, rfl⟩
abbrev main_while0b_v290 : Ref sig .tc := ⟨.hbm, 382, rfl⟩
abbrev main_while0b_v291 : Ref sig .tc := ⟨.hbm, 383, rfl⟩
abbrev main_while0b_c_49 : Ref sig .tc := ⟨.hbm, 384, rfl⟩
abbrev main_while0b_v292 : Ref sig .tc := ⟨.hbm, 385, rfl⟩
abbrev main_while0b_call8_v0 : Ref sig .tc := ⟨.hbm, 386, rfl⟩
abbrev main_while0b_v293 : Ref sig .tc := ⟨.hbm, 387, rfl⟩
abbrev main_while0b_v294 : Ref sig .tc := ⟨.hbm, 388, rfl⟩
abbrev main_while0b_v295 : Ref sig .tc := ⟨.hbm, 389, rfl⟩
abbrev main_while0b_c_50 : Ref sig .tc := ⟨.hbm, 390, rfl⟩
abbrev main_while0b_v296 : Ref sig .tc := ⟨.hbm, 391, rfl⟩
abbrev main_cst_38 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_c_39 : Ref sig .tc := ⟨.hbm, 396, rfl⟩
abbrev main_c_40 : Ref sig .tc := ⟨.hbm, 397, rfl⟩
abbrev main_call9_v0 : Ref sig .tc := ⟨.hbm, 398, rfl⟩
abbrev main_call9_v1 : Ref sig .tc := ⟨.hbm, 399, rfl⟩
abbrev main_v278 : Ref sig .tc := ⟨.hbm, 400, rfl⟩
abbrev main_v279 : Ref sig .tc := ⟨.hbm, 401, rfl⟩
abbrev main_call10_v0 : Ref sig .tc := ⟨.hbm, 402, rfl⟩
abbrev main_call10_v1_0 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩
abbrev main_v283 : Ref sig .tc := ⟨.hbm, 407, rfl⟩
abbrev main_v284 : Ref sig .tc := ⟨.hbm, 408, rfl⟩
abbrev main_cst_41 : Ref sig .tc := ⟨.hbm, 409, rfl⟩
abbrev main_call11_v0 : Ref sig .tc := ⟨.hbm, 410, rfl⟩
abbrev main_call11_v1 : Ref sig .tc := ⟨.hbm, 411, rfl⟩
abbrev main_call11_v2 : Ref sig .tc := ⟨.hbm, 412, rfl⟩
abbrev main_v285 : Ref sig .tc := ⟨.hbm, 413, rfl⟩
abbrev main_v286 : Ref sig .tc := ⟨.hbm, 414, rfl⟩
abbrev main_call12_c : Ref sig .tc := ⟨.hbm, 415, rfl⟩
abbrev main_call12_v0 : Ref sig .tc := ⟨.hbm, 416, rfl⟩
abbrev main_call12_v1 : Ref sig .tc := ⟨.hbm, 417, rfl⟩
abbrev main_call12_c_0 : Ref sig .tc := ⟨.hbm, 418, rfl⟩
abbrev main_call12_v2 : Ref sig .tc := ⟨.hbm, 419, rfl⟩
abbrev main_call12_v3 : Ref sig .tc := ⟨.hbm, 420, rfl⟩
abbrev main_call12_v4 : Ref sig .tc := ⟨.hbm, 421, rfl⟩
abbrev main_call12_c_1 : Ref sig .tc := ⟨.hbm, 422, rfl⟩
abbrev main_call12_c_2 : Ref sig .tc := ⟨.hbm, 423, rfl⟩
abbrev main_call12_v5 : Ref sig .tc := ⟨.hbm, 424, rfl⟩
abbrev main_call12_v6 : Ref sig .tc := ⟨.hbm, 425, rfl⟩
abbrev main_call12_v7 : Ref sig .tc := ⟨.hbm, 426, rfl⟩
abbrev main_call12_v8 : Ref sig .tc := ⟨.hbm, 427, rfl⟩
abbrev main_call12_v9 : Ref sig .tc := ⟨.hbm, 428, rfl⟩
abbrev main_call12_v10 : Ref sig .tc := ⟨.hbm, 429, rfl⟩
abbrev main_call12_c_3 : Ref sig .tc := ⟨.hbm, 430, rfl⟩
abbrev main_call12_v11 : Ref sig .tc := ⟨.hbm, 431, rfl⟩
abbrev main_call12_v12 : Ref sig .tc := ⟨.hbm, 432, rfl⟩
abbrev main_call12_v13 : Ref sig .tc := ⟨.hbm, 433, rfl⟩
abbrev main_call12_cst : Ref sig .tc := ⟨.hbm, 434, rfl⟩
abbrev main_call12_v14 : Ref sig .tc := ⟨.hbm, 435, rfl⟩
abbrev main_v287 : Ref sig .tc := ⟨.hbm, 436, rfl⟩

abbrev nD : Nat := 1
abbrev τ : Topo := Topo.v7x

variable {F : FTy → Type} [FloatOps F]

abbrev main_while0_count : Scf.Loop 32 := ⟨0#32, 1000#32, 1#32⟩
-- ==== Proof.RRun.lean ====
/-
  The reference's run with its result. The buffer contents are named at every boundary: `U k` before stretch `k` for the
  stretches before the loop, `UL` after the loop's trips, `UC` after the condition's last run, and `U18` … `U25` after each
  stretch that follows. Every boundary leaves the references its stretch does not write.
-/
module

public import proofs.«01_k».proof.Proof.Gen.ReferenceIdeal.Run
public import Idealize.ShloMosaic.Init

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (c : Dev nD)

/-- The launch contents. -/
def U0 : Valuation τ sig (Elt F) := launchContents m c
/-- The contents after stretch 0. -/
def U1 : Valuation τ sig (Elt F) := after hostOps0 (U0 m c)
theorem U1_of (r : Ref sig .tc) (h : r ∉ hostOps0_W) : U1 m c (Proc.devRef .tc r) = U0 m c (Proc.devRef .tc r) :=
  after_of_writes_sub hostOps0 _ hostOps0_writes h
/-- The contents after stretch 1. -/
def U2 : Valuation τ sig (Elt F) := after hostOps0_1 (U1 m c)
theorem U2_of (r : Ref sig .tc) (h : r ∉ hostOps0_1_W) : U2 m c (Proc.devRef .tc r) = U1 m c (Proc.devRef .tc r) :=
  after_of_writes_sub hostOps0_1 _ hostOps0_1_writes h
/-- The contents after stretch 2. -/
def U3 : Valuation τ sig (Elt F) := after hostOps0_2 (U2 m c)
theorem U3_of (r : Ref sig .tc) (h : r ∉ hostOps0_2_W) : U3 m c (Proc.devRef .tc r) = U2 m c (Proc.devRef .tc r) :=
  after_of_writes_sub hostOps0_2 _ hostOps0_2_writes h
/-- The contents after stretch 3. -/
def U4 : Valuation τ sig (Elt F) := after hostOps0_3 (U3 m c)
theorem U4_of (r : Ref sig .tc) (h : r ∉ hostOps0_3_W) : U4 m c (Proc.devRef .tc r) = U3 m c (Proc.devRef .tc r) :=
  after_of_writes_sub hostOps0_3 _ hostOps0_3_writes h
/-- The contents after stretch 4. -/
def U5 : Valuation τ sig (Elt F) := after hostOps0_4 (U4 m c)
theorem U5_of (r : Ref sig .tc) (h : r ∉ hostOps0_4_W) : U5 m c (Proc.devRef .tc r) = U4 m c (Proc.devRef .tc r) :=
  after_of_writes_sub hostOps0_4 _ hostOps0_4_writes h
/-- The contents after stretch 5. -/
def U6 : Valuation τ sig (Elt F) := after hostOps0_5 (U5 m c)
theorem U6_of (r : Ref sig .tc) (h : r ∉ hostOps0_5_W) : U6 m c (Proc.devRef .tc r) = U5 m c (Proc.devRef .tc r) :=
  after_of_writes_sub hostOps0_5 _ hostOps0_5_writes h
/-- The contents after stretch 6. -/
def U7 : Valuation τ sig (Elt F) := after hostOps0_6 (U6 m c)
theorem U7_of (r : Ref sig .tc) (h : r ∉ hostOps0_6_W) : U7 m c (Proc.devRef .tc r) = U6 m c (Proc.devRef .tc r) :=
  after_of_writes_sub hostOps0_6 _ hostOps0_6_writes h
/-- The contents after stretch 7. -/
def U8 : Valuation τ sig (Elt F) := after hostOps0_7 (U7 m c)
theorem U8_of (r : Ref sig .tc) (h : r ∉ hostOps0_7_W) : U8 m c (Proc.devRef .tc r) = U7 m c (Proc.devRef .tc r) :=
  after_of_writes_sub hostOps0_7 _ hostOps0_7_writes h
/-- The contents after stretch 8. -/
def U9 : Valuation τ sig (Elt F) := after hostOps0_8 (U8 m c)
theorem U9_of (r : Ref sig .tc) (h : r ∉ hostOps0_8_W) : U9 m c (Proc.devRef .tc r) = U8 m c (Proc.devRef .tc r) :=
  after_of_writes_sub hostOps0_8 _ hostOps0_8_writes h
/-- The contents after stretch 9. -/
def U10 : Valuation τ sig (Elt F) := after hostOps0_9 (U9 m c)
theorem U10_of (r : Ref sig .tc) (h : r ∉ hostOps0_9_W) : U10 m c (Proc.devRef .tc r) = U9 m c (Proc.devRef .tc r) :=
  after_of_writes_sub hostOps0_9 _ hostOps0_9_writes h
/-- The contents after stretch 10. -/
def U11 : Valuation τ sig (Elt F) := after hostOps0_10 (U10 m c)
theorem U11_of (r : Ref sig .tc) (h : r ∉ hostOps0_10_W) : U11 m c (Proc.devRef .tc r) = U10 m c (Proc.devRef .tc r) :=
  after_of_writes_sub hostOps0_10 _ hostOps0_10_writes h
/-- The contents after stretch 11. -/
def U12 : Valuation τ sig (Elt F) := after hostOps0_11 (U11 m c)
theorem U12_of (r : Ref sig .tc) (h : r ∉ hostOps0_11_W) : U12 m c (Proc.devRef .tc r) = U11 m c (Proc.devRef .tc r) :=
  after_of_writes_sub hostOps0_11 _ hostOps0_11_writes h
/-- The contents after stretch 12. -/
def U13 : Valuation τ sig (Elt F) := after hostOps0_12 (U12 m c)
theorem U13_of (r : Ref sig .tc) (h : r ∉ hostOps0_12_W) : U13 m c (Proc.devRef .tc r) = U12 m c (Proc.devRef .tc r) :=
  after_of_writes_sub hostOps0_12 _ hostOps0_12_writes h
/-- The contents after stretch 13. -/
def U14 : Valuation τ sig (Elt F) := after hostOps0_13 (U13 m c)
theorem U14_of (r : Ref sig .tc) (h : r ∉ hostOps0_13_W) : U14 m c (Proc.devRef .tc r) = U13 m c (Proc.devRef .tc r) :=
  after_of_writes_sub hostOps0_13 _ hostOps0_13_writes h
/-- The contents after stretch 14. -/
def U15 : Valuation τ sig (Elt F) := after hostOps0_14 (U14 m c)
theorem U15_of (r : Ref sig .tc) (h : r ∉ hostOps0_14_W) : U15 m c (Proc.devRef .tc r) = U14 m c (Proc.devRef .tc r) :=
  after_of_writes_sub hostOps0_14 _ hostOps0_14_writes h
/-- The contents after stretch 15. -/
def U16 : Valuation τ sig (Elt F) := after hostOps0_15 (U15 m c)
theorem U16_of (r : Ref sig .tc) (h : r ∉ hostOps0_15_W) : U16 m c (Proc.devRef .tc r) = U15 m c (Proc.devRef .tc r) :=
  after_of_writes_sub hostOps0_15 _ hostOps0_15_writes h
/-- The contents after stretch 16. -/
def U17 : Valuation τ sig (Elt F) := after hostOps0_16 (U16 m c)
theorem U17_of (r : Ref sig .tc) (h : r ∉ hostOps0_16_W) : U17 m c (Proc.devRef .tc r) = U16 m c (Proc.devRef .tc r) :=
  after_of_writes_sub hostOps0_16 _ hostOps0_16_writes h
/-- The contents the loop enters with are those after the stretches before it. -/
theorem entry_eq : entryContents preI m c = U17 m c := rfl
/-- The contents after the loop's thousand trips. -/
def UL : Valuation τ sig (Elt F) := atK m 1000 c
/-- The contents after the condition's last run. -/
def UC : Valuation τ sig (Elt F) := after condOps (UL m c)
theorem UC_of (r : Ref sig .tc) (h : r ∉ condOps_W) : UC m c (Proc.devRef .tc r) = UL m c (Proc.devRef .tc r) :=
  after_of_writes_sub condOps _ condOps_writes h
/-- A reference that neither the condition nor the body writes keeps its entry contents through every trip. -/
theorem atK_of (r : Ref sig .tc) (h : r ∉ condOps_W ++ while0Ops0_W ++ while0Ops0_1_W ++ while0Ops0_2_W) :
    ∀ k, atK m k c (Proc.devRef .tc r) = U17 m c (Proc.devRef .tc r)
  | 0 => rfl
  | k + 1 => by
    simp only [List.mem_append, not_or] at h
    rw [show atK m (k + 1) c = after while0Ops0_2 (after while0Ops0_1 (after while0Ops0 (after condOps (atK m k c)))) from rfl,
      after_of_writes_sub while0Ops0_2 _ while0Ops0_2_writes h.2,
      after_of_writes_sub while0Ops0_1 _ while0Ops0_1_writes h.1.2,
      after_of_writes_sub while0Ops0 _ while0Ops0_writes h.1.1.2,
      after_of_writes_sub condOps _ condOps_writes h.1.1.1, atK_of r (by simp only [List.mem_append, not_or]; exact h) k]
theorem UL_of (r : Ref sig .tc) (h : r ∉ condOps_W ++ while0Ops0_W ++ while0Ops0_1_W ++ while0Ops0_2_W) :
    UL m c (Proc.devRef .tc r) = U17 m c (Proc.devRef .tc r) := atK_of m c r h 1000
/-- The references stretch 17 writes, in order. -/
abbrev hostOps0_17_W : List (Ref sig .tc) := [main_cst_38, main_v275, main_v276, main_v277, main_c_39, main_c_40]
theorem hostOps0_17_writes : (hostOps0_17 : List (HloOp τ sig (Elt F))).Forall fun op => op.writes ⊆ (hostOps0_17_W.map (Proc.devRef (τ := τ) .tc)).toFinset :=
  StableHlo.forall_writes_sub_of_map rfl
/-- The contents after stretch 17. -/
def U18 : Valuation τ sig (Elt F) := after hostOps0_17 (UC m c)
theorem U18_of (r : Ref sig .tc) (h : r ∉ hostOps0_17_W) : U18 m c (Proc.devRef .tc r) = UC m c (Proc.devRef .tc r) :=
  after_of_writes_sub hostOps0_17 _ hostOps0_17_writes h
/-- The references stretch 18 writes, in order. -/
abbrev hostOps0_18_W : List (Ref sig .tc) := [main_call9_v0, main_call9_v1, main_v278]
theorem hostOps0_18_writes : (hostOps0_18 : List (HloOp τ sig (Elt F))).Forall fun op => op.writes ⊆ (hostOps0_18_W.map (Proc.devRef (τ := τ) .tc)).toFinset :=
  StableHlo.forall_writes_sub_of_map rfl
/-- The contents after stretch 18. -/
def U19 : Valuation τ sig (Elt F) := after hostOps0_18 (U18 m c)
theorem U19_of (r : Ref sig .tc) (h : r ∉ hostOps0_18_W) : U19 m c (Proc.devRef .tc r) = U18 m c (Proc.devRef .tc r) :=
  after_of_writes_sub hostOps0_18 _ hostOps0_18_writes h
/-- The references stretch 19 writes, in order. -/
abbrev hostOps0_19_W : List (Ref sig .tc) := [main_v279]
theorem hostOps0_19_writes : (hostOps0_19 : List (HloOp τ sig (Elt F))).Forall fun op => op.writes ⊆ (hostOps0_19_W.map (Proc.devRef (τ := τ) .tc)).toFinset :=
  StableHlo.forall_writes_sub_of_map rfl
/-- The contents after stretch 19. -/
def U20 : Valuation τ sig (Elt F) := after hostOps0_19 (U19 m c)
theorem U20_of (r : Ref sig .tc) (h : r ∉ hostOps0_19_W) : U20 m c (Proc.devRef .tc r) = U19 m c (Proc.devRef .tc r) :=
  after_of_writes_sub hostOps0_19 _ hostOps0_19_writes h
/-- The references stretch 20 writes, in order. -/
abbrev hostOps0_20_W : List (Ref sig .tc) := [main_call10_v0, main_call10_v1_0, main_v280]
theorem hostOps0_20_writes : (hostOps0_20 : List (HloOp τ sig (Elt F))).Forall fun op => op.writes ⊆ (hostOps0_20_W.map (Proc.devRef (τ := τ) .tc)).toFinset :=
  StableHlo.forall_writes_sub_of_map rfl
/-- The contents after stretch 20. -/
def U21 : Valuation τ sig (Elt F) := after hostOps0_20 (U20 m c)
theorem U21_of (r : Ref sig .tc) (h : r ∉ hostOps0_20_W) : U21 m c (Proc.devRef .tc r) = U20 m c (Proc.devRef .tc r) :=
  after_of_writes_sub hostOps0_20 _ hostOps0_20_writes h
/-- The references stretch 21 writes, in order. -/
abbrev hostOps0_21_W : List (Ref sig .tc) := [main_v281, main_v282, main_v283, main_v284, main_cst_41]
theorem hostOps0_21_writes : (hostOps0_21 : List (HloOp τ sig (Elt F))).Forall fun op => op.writes ⊆ (hostOps0_21_W.map (Proc.devRef (τ := τ) .tc)).toFinset :=
  StableHlo.forall_writes_sub_of_map rfl
/-- The contents after stretch 21. -/
def U22 : Valuation τ sig (Elt F) := after hostOps0_21 (U21 m c)
theorem U22_of (r : Ref sig .tc) (h : r ∉ hostOps0_21_W) : U22 m c (Proc.devRef .tc r) = U21 m c (Proc.devRef .tc r) :=
  after_of_writes_sub hostOps0_21 _ hostOps0_21_writes h
/-- The references stretch 22 writes, in order. -/
abbrev hostOps0_22_W : List (Ref sig .tc) := [main_call11_v0, main_call11_v1, main_call11_v2, main_v285]
theorem hostOps0_22_writes : (hostOps0_22 : List (HloOp τ sig (Elt F))).Forall fun op => op.writes ⊆ (hostOps0_22_W.map (Proc.devRef (τ := τ) .tc)).toFinset :=
  StableHlo.forall_writes_sub_of_map rfl
/-- The contents after stretch 22. -/
def U23 : Valuation τ sig (Elt F) := after hostOps0_22 (U22 m c)
theorem U23_of (r : Ref sig .tc) (h : r ∉ hostOps0_22_W) : U23 m c (Proc.devRef .tc r) = U22 m c (Proc.devRef .tc r) :=
  after_of_writes_sub hostOps0_22 _ hostOps0_22_writes h
/-- The references stretch 23 writes, in order. -/
abbrev hostOps0_23_W : List (Ref sig .tc) := [main_v286]
theorem hostOps0_23_writes : (hostOps0_23 : List (HloOp τ sig (Elt F))).Forall fun op => op.writes ⊆ (hostOps0_23_W.map (Proc.devRef (τ := τ) .tc)).toFinset :=
  StableHlo.forall_writes_sub_of_map rfl
/-- The contents after stretch 23. -/
def U24 : Valuation τ sig (Elt F) := after hostOps0_23 (U23 m c)
theorem U24_of (r : Ref sig .tc) (h : r ∉ hostOps0_23_W) : U24 m c (Proc.devRef .tc r) = U23 m c (Proc.devRef .tc r) :=
  after_of_writes_sub hostOps0_23 _ hostOps0_23_writes h
/-- The references stretch 24 writes, in order. -/
abbrev hostOps0_24_W : List (Ref sig .tc) := [main_call12_c, main_call12_v0, main_call12_v1, main_call12_c_0, main_call12_v2, main_call12_v3, main_call12_v4, main_call12_c_1, main_call12_c_2, main_call12_v5, main_call12_v6, main_call12_v7, main_call12_v8, main_call12_v9, main_call12_v10, main_call12_c_3, main_call12_v11, main_call12_v12, main_call12_v13, main_call12_cst, main_call12_v14, main_v287]
theorem hostOps0_24_writes : (hostOps0_24 : List (HloOp τ sig (Elt F))).Forall fun op => op.writes ⊆ (hostOps0_24_W.map (Proc.devRef (τ := τ) .tc)).toFinset :=
  StableHlo.forall_writes_sub_of_map rfl
/-- The contents after stretch 24. -/
def U25 : Valuation τ sig (Elt F) := after hostOps0_24 (U24 m c)
theorem U25_of (r : Ref sig .tc) (h : r ∉ hostOps0_24_W) : U25 m c (Proc.devRef .tc r) = U24 m c (Proc.devRef .tc r) :=
  after_of_writes_sub hostOps0_24 _ hostOps0_24_writes h
/-- The final contents are those after the last stretch. -/
theorem final_eq : finalContents condOps preI bodyI postI 1000 m c = U25 m c := rfl

/-- A reference no operation of the program writes ends as launched. -/
theorem U25_arg (r : Ref sig .tc) (h : r ∈ [main_arg0, main_arg1, main_arg2, main_arg3, main_arg4, main_arg5, main_arg6, main_arg7]) :
    U25 m c (Proc.devRef .tc r) = m ((c.tc : Thread nD τ).loc r) := by
  simp only [List.mem_cons, List.not_mem_nil, or_false] at h
  rcases h with rfl | rfl | rfl | rfl | rfl | rfl | rfl | rfl <;>
    exact (U25_of m c _ (by decide)).trans <|
      (U24_of m c _ (by decide)).trans <|
      (U23_of m c _ (by decide)).trans <|
      (U22_of m c _ (by decide)).trans <|
      (U21_of m c _ (by decide)).trans <|
      (U20_of m c _ (by decide)).trans <|
      (U19_of m c _ (by decide)).trans <|
      (U18_of m c _ (by decide)).trans <|
      (UC_of m c _ (by decide)).trans <|
      (UL_of m c _ (by decide)).trans <|
      (U17_of m c _ (by decide)).trans <|
      (U16_of m c _ (by decide)).trans <|
      (U15_of m c _ (by decide)).trans <|
      (U14_of m c _ (by decide)).trans <|
      (U13_of m c _ (by decide)).trans <|
      (U12_of m c _ (by decide)).trans <|
      (U11_of m c _ (by decide)).trans <|
      (U10_of m c _ (by decide)).trans <|
      (U9_of m c _ (by decide)).trans <|
      (U8_of m c _ (by decide)).trans <|
      (U7_of m c _ (by decide)).trans <|
      (U6_of m c _ (by decide)).trans <|
      (U5_of m c _ (by decide)).trans <|
      (U4_of m c _ (by decide)).trans <|
      (U3_of m c _ (by decide)).trans <|
      (U2_of m c _ (by decide)).trans <|
      (U1_of m c _ (by decide))

variable (ρ : Dev nD → PrngReg)

/-- The run at the result and the arguments: the result ends at `U25`, every argument as launched. -/
theorem run : θ_run (defs (F := F)) (onTc (τ := τ) (main (F := F))) ⟨m, fun _ => 0, ρ⟩ (fun r => ∀ c : Dev nD,
      r.2.mem ((c.tc : Thread nD τ).loc main_v287) = U25 m c (Proc.devRef .tc main_v287)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (by decide),
      (h c _ (by decide)).trans (U25_arg m c main_arg0 (by decide)),
      (h c _ (by decide)).trans (U25_arg m c main_arg1 (by decide)),
      (h c _ (by decide)).trans (U25_arg m c main_arg2 (by decide)),
      (h c _ (by decide)).trans (U25_arg m c main_arg3 (by decide)),
      (h c _ (by decide)).trans (U25_arg m c main_arg4 (by decide)),
      (h c _ (by decide)).trans (U25_arg m c main_arg5 (by decide)),
      (h c _ (by decide)).trans (U25_arg m c main_arg6 (by decide)),
      (h c _ (by decide)).trans (U25_arg m c main_arg7 (by decide))⟩)
    (run_fold m ρ)

/-- The reference's frame: it ends with the arguments as launched, and it declares no semaphore. -/
theorem frame : θ_run (defs (F := F)) (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, Idealize.ShloMosaic.sem_eq_zero_of_no_sems (by decide) r.2⟩)
    (run m ρ)

end Cert.ReferenceIdeal.Whole

end
-- ==== Proof.KRun.lean ====
/-
  The idealized kernel's run with its result: every execution of the two-call program ends with the result array at the
  last boundary's contents (`Gen.W23`) and the arguments as launched. The launch is the generated frame's, over the same
  segments, with the final read widened from the arguments to the result.
-/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates with every unscoped TensorCore buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h _ => h)

/-- The run at the result and the arguments: the result array ends at the last boundary's contents of it, every argument
    as launched. -/
theorem run : θ_run defs (onTc (τ := τ) (main (F := F))) ⟨m, fun _ => 0, ρ⟩ (fun r => ∀ c : Dev nD,
      r.2.mem ((c.tc : Thread nD τ).loc main_v66) = W23 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v66 (by decide)),
      (h c _ (mem_uc main_arg0 (by decide))).trans (W23_main_arg0 m ρ c),
      (h c _ (mem_uc main_arg1 (by decide))).trans (W23_main_arg1 m ρ c),
      (h c _ (mem_uc main_arg2 (by decide))).trans (W23_main_arg2 m ρ c),
      (h c _ (mem_uc main_arg3 (by decide))).trans (W23_main_arg3 m ρ c),
      (h c _ (mem_uc main_arg4 (by decide))).trans (W23_main_arg4 m ρ c),
      (h c _ (mem_uc main_arg5 (by decide))).trans (W23_main_arg5 m ρ c),
      (h c _ (mem_uc main_arg6 (by decide))).trans (W23_main_arg6 m ρ c),
      (h c _ (mem_uc main_arg7 (by decide))).trans (W23_main_arg7 m ρ c)⟩)
    (run_all m ρ)

end Cert.KernelIdeal.Whole

end
-- ==== Proof.SSA.lean ====
/-
  A straight line of host operations read operation by operation: in a valuation that agrees with the line's result at
  every reference written no later, each operation's destination holds the operation's function of its sources.
-/
module

public import Idealize.ShloMosaic.Lib.StableHlo.Run
public import Idealize.ShloMosaic.Lib.StableHlo.RunRead

@[expose] public section

noncomputable section

namespace Cert.HostLine

open Idealize.ShloMosaic Idealize.ShloMosaic.TcCoe Idealize.ShloMosaic.StableHlo

variable {τ : Topo} {sig : RefSig} {Val : EltTy → Type}

/-- A line in two parts runs the second on what the first leaves. -/
theorem after_two (l k : List (HloOp τ sig Val)) (V : Valuation τ sig Val) : after (l ++ k) V = after k (after l V) := by
  induction l generalizing V with
  | nil => rfl
  | cons op l ih => exact ih _

/-- `r` is none of the references of `L`, told by their numbers. -/
def off (r : Ref sig .tc) (L : List (Ref sig .tc)) : Bool := L.all fun s => !Nat.beq s.idx.val r.idx.val

theorem off.not_mem {r : Ref sig .tc} {L : List (Ref sig .tc)} (h : off r L = true) : r ∉ L := fun hm => by
  have := List.all_eq_true.mp h r hm
  simp at this

/-- `X` holds what the line `ops` from `V` leaves, except at the references `L`; operation `i` writes `W[i]` alone. -/
structure Line (ops : List (HloOp τ sig Val)) (V X : Valuation τ sig Val) (W L : List (Ref sig .tc)) : Prop where
  writes : ops.map HloOp.writes = W.map fun w => {Proc.devRef (τ := τ) .tc w}
  reads : ∀ r, r ∉ L → X (Proc.devRef .tc r) = after ops V (Proc.devRef .tc r)

namespace Line

variable {ops : List (HloOp τ sig Val)} {V X : Valuation τ sig Val} {W L : List (Ref sig .tc)}

theorem writes_drop (h : Line ops V X W L) (i : ℕ) :
    (ops.drop i).map HloOp.writes = (W.drop i).map fun w => {Proc.devRef (τ := τ) .tc w} := by
  rw [List.map_drop, h.writes, List.map_drop]

/-- A reference not written from operation `i` on holds at the end what operation `i` found there. -/
theorem src (h : Line ops V X W L) (i : ℕ) {r : Ref sig .tc} (hr : r ∉ W.drop i ++ L) :
    upto ops V i (Proc.devRef .tc r) = X (Proc.devRef .tc r) := by
  rw [List.mem_append, not_or] at hr
  rw [h.reads r hr.2]
  have e := after_two (ops.take i) (ops.drop i) V
  rw [List.take_append_drop] at e
  rw [e, after_of_writes_sub (ops.drop i) _ (forall_writes_sub_of_map (h.writes_drop i)) hr.1]
  rfl

/-- A reference not written after operation `i` holds at the end what operation `i` left there. -/
theorem dst (h : Line ops V X W L) (i : ℕ) {op : HloOp τ sig Val} {rest : List (HloOp τ sig Val)} {r : Ref sig .tc}
    (hd : ops.drop i = op :: rest) (hr : r ∉ W.drop (i + 1) ++ L) :
    X (Proc.devRef .tc r) = op.result (upto ops V i) (Proc.devRef .tc r) := by
  rw [List.mem_append, not_or] at hr
  rw [h.reads r hr.2]
  have e : ops.drop (i + 1) = rest := by
    rw [← List.drop_drop, hd]; rfl
  exact after_last_write (W.drop (i + 1)) hd (e ▸ h.writes_drop (i + 1)) hr.1 V

variable {x y a b p : Ref sig .tc}

theorem nullary (h : Line ops V X W L) (i : ℕ) {rest : List (HloOp τ sig Val)} {v : y.ty.Contents Val} {hy}
    (hd : ops.drop i = StableHlo.nullary (τ := τ) y v hy :: rest) (hr : off y (W.drop (i + 1) ++ L) = true) :
    X (Proc.devRef .tc y) = v := by
  rw [h.dst i hd (off.not_mem hr), nullary_result]

theorem unary (h : Line ops V X W L) (i : ℕ) {rest : List (HloOp τ sig Val)} {f : x.ty.Contents Val → y.ty.Contents Val} {hx hy}
    (hd : ops.drop i = StableHlo.unary (τ := τ) x y f hx hy :: rest) (hr : off y (W.drop (i + 1) ++ L) = true)
    (hs : ([x].all fun r => off r (W.drop i ++ L)) = true) :
    X (Proc.devRef .tc y) = f (X (Proc.devRef .tc x)) := by
  rw [h.dst i hd (off.not_mem hr), unary_result, h.src i (off.not_mem (List.all_eq_true.mp hs x (by simp)))]

theorem binary (h : Line ops V X W L) (i : ℕ) {rest : List (HloOp τ sig Val)}
    {f : a.ty.Contents Val → b.ty.Contents Val → y.ty.Contents Val} {ha hb hy}
    (hd : ops.drop i = StableHlo.binary (τ := τ) a b y f ha hb hy :: rest) (hr : off y (W.drop (i + 1) ++ L) = true)
    (hs : ([a, b].all fun r => off r (W.drop i ++ L)) = true) :
    X (Proc.devRef .tc y) = f (X (Proc.devRef .tc a)) (X (Proc.devRef .tc b)) := by
  rw [h.dst i hd (off.not_mem hr), binary_result, h.src i (off.not_mem (List.all_eq_true.mp hs a (by simp))), h.src i (off.not_mem (List.all_eq_true.mp hs b (by simp)))]

theorem ternary (h : Line ops V X W L) (i : ℕ) {rest : List (HloOp τ sig Val)}
    {f : p.ty.Contents Val → a.ty.Contents Val → b.ty.Contents Val → y.ty.Contents Val} {hp ha hb hy}
    (hd : ops.drop i = StableHlo.ternary (τ := τ) p a b y f hp ha hb hy :: rest) (hr : off y (W.drop (i + 1) ++ L) = true)
    (hs : ([p, a, b].all fun r => off r (W.drop i ++ L)) = true) :
    X (Proc.devRef .tc y) = f (X (Proc.devRef .tc p)) (X (Proc.devRef .tc a)) (X (Proc.devRef .tc b)) := by
  rw [h.dst i hd (off.not_mem hr), ternary_result, h.src i (off.not_mem (List.all_eq_true.mp hs p (by simp))), h.src i (off.not_mem (List.all_eq_true.mp hs a (by simp))), h.src i (off.not_mem (List.all_eq_true.mp hs b (by simp)))]

theorem reshape (h : Line ops V X W L) (i : ℕ) {rest : List (HloOp τ sig Val)} {he hn hx hy}
    (hd : ops.drop i = StableHlo.reshape (τ := τ) (Val := Val) x y he hn hx hy :: rest) (hr : off y (W.drop (i + 1) ++ L) = true)
    (hs : ([x].all fun r => off r (W.drop i ++ L)) = true) :
    X (Proc.devRef .tc y) = fun j => he ▸ shapeCast y.ty.shape (X (Proc.devRef .tc x)) hn j := by
  rw [h.dst i hd (off.not_mem hr), reshape_result, h.src i (off.not_mem (List.all_eq_true.mp hs x (by simp)))]

theorem nary (h : Line ops V X W L) (i : ℕ) {rest : List (HloOp τ sig Val)} {n : Nat} {xs : Fin n → Ref sig .tc}
    {f : ((k : Fin n) → (xs k).ty.Contents Val) → y.ty.Contents Val} {hxs hy}
    (hd : ops.drop i = StableHlo.nary (τ := τ) xs y f hxs hy :: rest) (hr : off y (W.drop (i + 1) ++ L) = true)
    (hs : ((List.ofFn xs).all fun r => off r (W.drop i ++ L)) = true) :
    X (Proc.devRef .tc y) = f fun k => X (Proc.devRef .tc (xs k)) := by
  rw [h.dst i hd (off.not_mem hr), nary_result]
  congr 1; funext k; exact h.src i (off.not_mem (List.all_eq_true.mp hs (xs k) (List.mem_ofFn.mpr ⟨k, rfl⟩)))

variable {Tx Ty Ta Tb Tp : BufTy}

/-! The same operations written over typed references. -/

/-- A transported value is the value. -/
theorem ofBuf_of_heq {T : BufTy} (t : TRef sig T) {v : t.ref.ty.Contents Val} {w : T.Contents Val} (h : HEq v w) :
    t.ofBuf v = w := eq_of_heq ((cast_heq _ _).trans h)

theorem tnullary (h : Line ops V X W L) (i : ℕ) {rest : List (HloOp τ sig Val)}  (ty : TRef sig Ty)
    {v : Ty.Contents Val} {vy : Ty.Contents Val}
    (hd : ops.drop i = TRef.nullary (τ := τ) ty v :: rest) (hr : off ty.ref (W.drop (i + 1) ++ L) = true)
    (ey : HEq (X (Proc.devRef .tc ty.ref)) vy) :
    vy = v := by
  rw [← ofBuf_of_heq ty ey, h.nullary i hd hr, TRef.ofBuf_toBuf]

theorem tunary (h : Line ops V X W L) (i : ℕ) {rest : List (HloOp τ sig Val)} (tx : TRef sig Tx) (ty : TRef sig Ty)
    {f : Tx.Contents Val → Ty.Contents Val} {vx : Tx.Contents Val} {vy : Ty.Contents Val}
    (hd : ops.drop i = TRef.unary (τ := τ) tx ty f :: rest) (hr : off ty.ref (W.drop (i + 1) ++ L) = true) (hs : ([tx.ref].all fun r => off r (W.drop i ++ L)) = true)
    (ex : HEq (X (Proc.devRef .tc tx.ref)) vx) (ey : HEq (X (Proc.devRef .tc ty.ref)) vy) :
    vy = f vx := by
  rw [← ofBuf_of_heq ty ey, h.unary i hd hr hs, TRef.ofBuf_toBuf, ofBuf_of_heq tx ex]

theorem tbinary (h : Line ops V X W L) (i : ℕ) {rest : List (HloOp τ sig Val)} (ta : TRef sig Ta) (tb : TRef sig Tb) (ty : TRef sig Ty)
    {f : Ta.Contents Val → Tb.Contents Val → Ty.Contents Val} {va : Ta.Contents Val} {vb : Tb.Contents Val} {vy : Ty.Contents Val}
    (hd : ops.drop i = TRef.binary (τ := τ) ta tb ty f :: rest) (hr : off ty.ref (W.drop (i + 1) ++ L) = true) (hs : ([ta.ref, tb.ref].all fun r => off r (W.drop i ++ L)) = true)
    (ea : HEq (X (Proc.devRef .tc ta.ref)) va) (eb : HEq (X (Proc.devRef .tc tb.ref)) vb) (ey : HEq (X (Proc.devRef .tc ty.ref)) vy) :
    vy = f va vb := by
  rw [← ofBuf_of_heq ty ey, h.binary i hd hr hs, TRef.ofBuf_toBuf, ofBuf_of_heq ta ea, ofBuf_of_heq tb eb]

theorem tternary (h : Line ops V X W L) (i : ℕ) {rest : List (HloOp τ sig Val)} (tp : TRef sig Tp) (ta : TRef sig Ta) (tb : TRef sig Tb) (ty : TRef sig Ty)
    {f : Tp.Contents Val → Ta.Contents Val → Tb.Contents Val → Ty.Contents Val} {vp : Tp.Contents Val} {va : Ta.Contents Val} {vb : Tb.Contents Val} {vy : Ty.Contents Val}
    (hd : ops.drop i = TRef.ternary (τ := τ) tp ta tb ty f :: rest) (hr : off ty.ref (W.drop (i + 1) ++ L) = true) (hs : ([tp.ref, ta.ref, tb.ref].all fun r => off r (W.drop i ++ L)) = true)
    (ep : HEq (X (Proc.devRef .tc tp.ref)) vp) (ea : HEq (X (Proc.devRef .tc ta.ref)) va) (eb : HEq (X (Proc.devRef .tc tb.ref)) vb) (ey : HEq (X (Proc.devRef .tc ty.ref)) vy) :
    vy = f vp va vb := by
  rw [← ofBuf_of_heq ty ey, h.ternary i hd hr hs, TRef.ofBuf_toBuf, ofBuf_of_heq tp ep, ofBuf_of_heq ta ea, ofBuf_of_heq tb eb]

end Line

end Cert.HostLine

end
-- ==== Proof.KVal.lean ====
/-
  The final contents of every host value of the kernel, and the lines of operations they are written by.
-/
module

public import proofs.«01_k».proof.Proof.KRun
public import proofs.«01_k».proof.Proof.SSA
public import Idealize.ShloMosaic.Lib.Pointwise

@[expose] public section

set_option maxRecDepth 16384

noncomputable section

namespace Cert.KernelIdeal.Val

open Cert.KernelIdeal Cert.KernelIdeal.Gen Cert.KernelIdeal.Whole
open Idealize.ShloMosaic Idealize.ShloMosaic.TcCoe Idealize.ShloMosaic.StableHlo
open Idealize.SL.Sem Cert.HostLine

variable (m : (ℓ : Loc nD τ sig) → Buf (Elt Ideal) ℓ) (ρ : Dev nD → PrngReg) (c : Dev nD)

/-- The final contents of `main_cst`. -/
def cst : FVec Ideal S4x2598x9 .f32 := W23 m ρ c (Proc.devRef .tc main_cst)
/-- The final contents of `main_arg1`. -/
def arg1 : FVec Ideal S2x256x50x50 .f32 := W23 m ρ c (Proc.devRef .tc main_arg1)
/-- The final contents of `main_v0`. -/
def v0 : FVec Ideal S2x50x50x256 .f32 := W23 m ρ c (Proc.devRef .tc main_v0)
/-- The final contents of `main_c`. -/
def c0 : IVec S_ 32 := W23 m ρ c (Proc.devRef .tc main_c)
/-- The final contents of `main_call0_v0`. -/
def call0_v0 : FVec Ideal S_ .f32 := W23 m ρ c (Proc.devRef .tc main_call0_v0)
/-- The final contents of `main_v1`. -/
def v1 : FVec Ideal S2x52x52x256 .f32 := W23 m ρ c (Proc.devRef .tc main_v1)
/-- The final contents of `main_v2`. -/
def v2 : FVec Ideal S2x2704x256 .f32 := W23 m ρ c (Proc.devRef .tc main_v2)
/-- The final contents of `main_arg2`. -/
def arg2 : FVec Ideal S256x256x3x3 .f32 := W23 m ρ c (Proc.devRef .tc main_arg2)
/-- The final contents of `main_v3`. -/
def v3 : FVec Ideal S3x3x256x256 .f32 := W23 m ρ c (Proc.devRef .tc main_v3)
/-- The final contents of `main_v4`. -/
def v4 : FVec Ideal S9x256x256 .f32 := W23 m ρ c (Proc.devRef .tc main_v4)
/-- The final contents of `main_arg4`. -/
def arg4 : FVec Ideal S9x256x1x1 .f32 := W23 m ρ c (Proc.devRef .tc main_arg4)
/-- The final contents of `main_v5`. -/
def v5 : FVec Ideal S9x256 .f32 := W23 m ρ c (Proc.devRef .tc main_v5)
/-- The final contents of `main_v6`. -/
def v6 : FVec Ideal S256x9 .f32 := W23 m ρ c (Proc.devRef .tc main_v6)
/-- The final contents of `main_arg6`. -/
def arg6 : FVec Ideal S36x256x1x1 .f32 := W23 m ρ c (Proc.devRef .tc main_arg6)
/-- The final contents of `main_v7`. -/
def v7 : FVec Ideal S36x256 .f32 := W23 m ρ c (Proc.devRef .tc main_v7)
/-- The final contents of `main_v8`. -/
def v8 : FVec Ideal S256x36 .f32 := W23 m ρ c (Proc.devRef .tc main_v8)
/-- The final contents of `main_v9`. -/
def v9 : FVec Ideal S256x9 .f32 := W23 m ρ c (Proc.devRef .tc main_v9)
/-- The final contents of `main_v10`. -/
def v10 : FVec Ideal S256x9 .f32 := W23 m ρ c (Proc.devRef .tc main_v10)
/-- The final contents of `main_v11`. -/
def v11 : FVec Ideal S256x9 .f32 := W23 m ρ c (Proc.devRef .tc main_v11)
/-- The final contents of `main_v12`. -/
def v12 : FVec Ideal S256x9 .f32 := W23 m ρ c (Proc.devRef .tc main_v12)
/-- The final contents of `main_v13`. -/
def v13 : FVec Ideal S1x256x9 .f32 := W23 m ρ c (Proc.devRef .tc main_v13)
/-- The final contents of `main_v14`. -/
def v14 : FVec Ideal S1x256x9 .f32 := W23 m ρ c (Proc.devRef .tc main_v14)
/-- The final contents of `main_v15`. -/
def v15 : FVec Ideal S1x256x9 .f32 := W23 m ρ c (Proc.devRef .tc main_v15)
/-- The final contents of `main_v16`. -/
def v16 : FVec Ideal S1x256x9 .f32 := W23 m ρ c (Proc.devRef .tc main_v16)
/-- The final contents of `main_v17`. -/
def v17 : FVec Ideal S4x256x9 .f32 := W23 m ρ c (Proc.devRef .tc main_v17)
/-- The final contents of `main_arg7`. -/
def arg7 : FVec Ideal S36 .f32 := W23 m ρ c (Proc.devRef .tc main_arg7)
/-- The final contents of `main_v18`. -/
def v18 : FVec Ideal S9 .f32 := W23 m ρ c (Proc.devRef .tc main_v18)
/-- The final contents of `main_v19`. -/
def v19 : FVec Ideal S9 .f32 := W23 m ρ c (Proc.devRef .tc main_v19)
/-- The final contents of `main_v20`. -/
def v20 : FVec Ideal S9 .f32 := W23 m ρ c (Proc.devRef .tc main_v20)
/-- The final contents of `main_v21`. -/
def v21 : FVec Ideal S9 .f32 := W23 m ρ c (Proc.devRef .tc main_v21)
/-- The final contents of `main_v22`. -/
def v22 : FVec Ideal S1x9 .f32 := W23 m ρ c (Proc.devRef .tc main_v22)
/-- The final contents of `main_v23`. -/
def v23 : FVec Ideal S1x9 .f32 := W23 m ρ c (Proc.devRef .tc main_v23)
/-- The final contents of `main_v24`. -/
def v24 : FVec Ideal S1x9 .f32 := W23 m ρ c (Proc.devRef .tc main_v24)
/-- The final contents of `main_v25`. -/
def v25 : FVec Ideal S1x9 .f32 := W23 m ρ c (Proc.devRef .tc main_v25)
/-- The final contents of `main_v26`. -/
def v26 : FVec Ideal S4x9 .f32 := W23 m ρ c (Proc.devRef .tc main_v26)
/-- The final contents of `main_v27`. -/
def v27 : FVec Ideal S4x1x9 .f32 := W23 m ρ c (Proc.devRef .tc main_v27)
/-- The final contents of `main_arg3`. -/
def arg3 : FVec Ideal S256 .f32 := W23 m ρ c (Proc.devRef .tc main_arg3)
/-- The final contents of `main_v28`. -/
def v28 : FVec Ideal S1x256 .f32 := W23 m ρ c (Proc.devRef .tc main_v28)
/-- The final contents of `main_arg5`. -/
def arg5 : FVec Ideal S9 .f32 := W23 m ρ c (Proc.devRef .tc main_arg5)
/-- The final contents of `main_v29`. -/
def v29 : FVec Ideal S1x9 .f32 := W23 m ρ c (Proc.devRef .tc main_v29)
/-- The final contents of `main_c_0`. -/
def c_0 : IVec S_ 32 := W23 m ρ c (Proc.devRef .tc main_c_0)
/-- The final contents of `main_call1_v0`. -/
def call1_v0 : FVec Ideal S_ .f32 := W23 m ρ c (Proc.devRef .tc main_call1_v0)
/-- The final contents of `main_v30_0`. -/
def v30_0 : FVec Ideal S2x2598x9 .f32 := W23 m ρ c (Proc.devRef .tc main_v30_0)
/-- The final contents of `main_v31`. -/
def v31 : FVec Ideal S2x2704x9 .f32 := W23 m ρ c (Proc.devRef .tc main_v31)
/-- The final contents of `main_v32`. -/
def v32 : FVec Ideal S2x52x52x9 .f32 := W23 m ρ c (Proc.devRef .tc main_v32)
/-- The final contents of `main_v33`. -/
def v33 : FVec Ideal S2x50x50x9 .f32 := W23 m ρ c (Proc.devRef .tc main_v33)
/-- The final contents of `main_v34`. -/
def v34 : FVec Ideal S2x22500 .f32 := W23 m ρ c (Proc.devRef .tc main_v34)
/-- The final contents of `main_c_1`. -/
def c_1 : IVec S_ 32 := W23 m ρ c (Proc.devRef .tc main_c_1)
/-- The final contents of `main_call2_v0`. -/
def call2_v0 : FVec Ideal S_ .f32 := W23 m ρ c (Proc.devRef .tc main_call2_v0)
/-- The final contents of `main_v30_1`. -/
def v30_1 : FVec Ideal S2x2598x9 .f32 := W23 m ρ c (Proc.devRef .tc main_v30_1)
/-- The final contents of `main_v35`. -/
def v35 : FVec Ideal S2x2704x9 .f32 := W23 m ρ c (Proc.devRef .tc main_v35)
/-- The final contents of `main_v36`. -/
def v36 : FVec Ideal S2x52x52x9 .f32 := W23 m ρ c (Proc.devRef .tc main_v36)
/-- The final contents of `main_v37`. -/
def v37 : FVec Ideal S2x50x50x9 .f32 := W23 m ρ c (Proc.devRef .tc main_v37)
/-- The final contents of `main_v38`. -/
def v38 : FVec Ideal S2x22500 .f32 := W23 m ρ c (Proc.devRef .tc main_v38)
/-- The final contents of `main_c_2`. -/
def c_2 : IVec S_ 32 := W23 m ρ c (Proc.devRef .tc main_c_2)
/-- The final contents of `main_call3_v0`. -/
def call3_v0 : FVec Ideal S_ .f32 := W23 m ρ c (Proc.devRef .tc main_call3_v0)
/-- The final contents of `main_v30_2`. -/
def v30_2 : FVec Ideal S2x2598x9 .f32 := W23 m ρ c (Proc.devRef .tc main_v30_2)
/-- The final contents of `main_v39`. -/
def v39 : FVec Ideal S2x2704x9 .f32 := W23 m ρ c (Proc.devRef .tc main_v39)
/-- The final contents of `main_v40`. -/
def v40 : FVec Ideal S2x52x52x9 .f32 := W23 m ρ c (Proc.devRef .tc main_v40)
/-- The final contents of `main_v41`. -/
def v41 : FVec Ideal S2x50x50x9 .f32 := W23 m ρ c (Proc.devRef .tc main_v41)
/-- The final contents of `main_v42`. -/
def v42 : FVec Ideal S2x22500 .f32 := W23 m ρ c (Proc.devRef .tc main_v42)
/-- The final contents of `main_c_3`. -/
def c_3 : IVec S_ 32 := W23 m ρ c (Proc.devRef .tc main_c_3)
/-- The final contents of `main_call4_v0`. -/
def call4_v0 : FVec Ideal S_ .f32 := W23 m ρ c (Proc.devRef .tc main_call4_v0)
/-- The final contents of `main_v30_3`. -/
def v30_3 : FVec Ideal S2x2598x9 .f32 := W23 m ρ c (Proc.devRef .tc main_v30_3)
/-- The final contents of `main_v43`. -/
def v43 : FVec Ideal S2x2704x9 .f32 := W23 m ρ c (Proc.devRef .tc main_v43)
/-- The final contents of `main_v44`. -/
def v44 : FVec Ideal S2x52x52x9 .f32 := W23 m ρ c (Proc.devRef .tc main_v44)
/-- The final contents of `main_v45`. -/
def v45 : FVec Ideal S2x50x50x9 .f32 := W23 m ρ c (Proc.devRef .tc main_v45)
/-- The final contents of `main_v46`. -/
def v46 : FVec Ideal S2x22500 .f32 := W23 m ρ c (Proc.devRef .tc main_v46)
/-- The final contents of `main_c_4`. -/
def c_4 : IVec S_ 32 := W23 m ρ c (Proc.devRef .tc main_c_4)
/-- The final contents of `main_call5_v0`. -/
def call5_v0 : FVec Ideal S_ .f32 := W23 m ρ c (Proc.devRef .tc main_call5_v0)
/-- The final contents of `main_v30_4`. -/
def v30_4 : FVec Ideal S2x2598x9 .f32 := W23 m ρ c (Proc.devRef .tc main_v30_4)
/-- The final contents of `main_v47`. -/
def v47 : FVec Ideal S2x2704x9 .f32 := W23 m ρ c (Proc.devRef .tc main_v47)
/-- The final contents of `main_v48`. -/
def v48 : FVec Ideal S2x52x52x9 .f32 := W23 m ρ c (Proc.devRef .tc main_v48)
/-- The final contents of `main_v49`. -/
def v49 : FVec Ideal S2x50x50x9 .f32 := W23 m ρ c (Proc.devRef .tc main_v49)
/-- The final contents of `main_v50`. -/
def v50 : FVec Ideal S2x22500 .f32 := W23 m ρ c (Proc.devRef .tc main_v50)
/-- The final contents of `main_v51`. -/
def v51 : FVec Ideal S2x22500x1 .f32 := W23 m ρ c (Proc.devRef .tc main_v51)
/-- The final contents of `main_v52`. -/
def v52 : FVec Ideal S2x22500x1 .f32 := W23 m ρ c (Proc.devRef .tc main_v52)
/-- The final contents of `main_v53`. -/
def v53 : FVec Ideal S2x22500x1 .f32 := W23 m ρ c (Proc.devRef .tc main_v53)
/-- The final contents of `main_v54`. -/
def v54 : FVec Ideal S2x22500x1 .f32 := W23 m ρ c (Proc.devRef .tc main_v54)
/-- The final contents of `main_v55`. -/
def v55 : FVec Ideal S2x22500x4 .f32 := W23 m ρ c (Proc.devRef .tc main_v55)
/-- The final contents of `main_values`. -/
def values : FVec Ideal S2x1000 .f32 := W23 m ρ c (Proc.devRef .tc main_values)
/-- The final contents of `main_indices`. -/
def indices : IVec S2x1000 32 := W23 m ρ c (Proc.devRef .tc main_indices)
/-- The final contents of `main_v56`. -/
def v56 : IVec S2x1000x1 32 := W23 m ρ c (Proc.devRef .tc main_v56)
/-- The final contents of `main_call6_c`. -/
def call6_c : IVec S_ 32 := W23 m ρ c (Proc.devRef .tc main_call6_c)
/-- The final contents of `main_call6_v0`. -/
def call6_v0 : IVec S2x1000x1 32 := W23 m ρ c (Proc.devRef .tc main_call6_v0)
/-- The final contents of `main_call6_v1`. -/
def call6_v1 : IVec S2x1000x1 1 := W23 m ρ c (Proc.devRef .tc main_call6_v1)
/-- The final contents of `main_call6_c_0`. -/
def call6_c_0 : IVec S_ 32 := W23 m ρ c (Proc.devRef .tc main_call6_c_0)
/-- The final contents of `main_call6_v2`. -/
def call6_v2 : IVec S2x1000x1 32 := W23 m ρ c (Proc.devRef .tc main_call6_v2)
/-- The final contents of `main_call6_v3`. -/
def call6_v3 : IVec S2x1000x1 32 := W23 m ρ c (Proc.devRef .tc main_call6_v3)
/-- The final contents of `main_call6_v4`. -/
def call6_v4 : IVec S2x1000x1 32 := W23 m ρ c (Proc.devRef .tc main_call6_v4)
/-- The final contents of `main_call6_c_1`. -/
def call6_c_1 : IVec S1 32 := W23 m ρ c (Proc.devRef .tc main_call6_c_1)
/-- The final contents of `main_call6_c_2`. -/
def call6_c_2 : IVec S_ 32 := W23 m ρ c (Proc.devRef .tc main_call6_c_2)
/-- The final contents of `main_call6_v5`. -/
def call6_v5 : IVec S2x1000x1 32 := W23 m ρ c (Proc.devRef .tc main_call6_v5)
/-- The final contents of `main_call6_v6`. -/
def call6_v6 : IVec S2x1000x1 1 := W23 m ρ c (Proc.devRef .tc main_call6_v6)
/-- The final contents of `main_call6_v7`. -/
def call6_v7 : IVec S1x1x1 32 := W23 m ρ c (Proc.devRef .tc main_call6_v7)
/-- The final contents of `main_call6_v8`. -/
def call6_v8 : IVec S2x1000x1 32 := W23 m ρ c (Proc.devRef .tc main_call6_v8)
/-- The final contents of `main_call6_v9`. -/
def call6_v9 : IVec S2x1000x1 1 := W23 m ρ c (Proc.devRef .tc main_call6_v9)
/-- The final contents of `main_call6_v10`. -/
def call6_v10 : IVec S2x1000x1 1 := W23 m ρ c (Proc.devRef .tc main_call6_v10)
/-- The final contents of `main_call6_c_3`. -/
def call6_c_3 : IVec S_ 1 := W23 m ρ c (Proc.devRef .tc main_call6_c_3)
/-- The final contents of `main_call6_v11`. -/
def call6_v11 : IVec S2x1000 1 := W23 m ρ c (Proc.devRef .tc main_call6_v11)
/-- The final contents of `main_call6_v12`. -/
def call6_v12 : FVec Ideal S2x1000x4 .f32 := W23 m ρ c (Proc.devRef .tc main_call6_v12)
/-- The final contents of `main_call6_v13`. -/
def call6_v13 : IVec S2x1000x4 1 := W23 m ρ c (Proc.devRef .tc main_call6_v13)
/-- The final contents of `main_call6_cst`. -/
def call6_cst : FVec Ideal S_ .f32 := W23 m ρ c (Proc.devRef .tc main_call6_cst)
/-- The final contents of `main_call6_v14`. -/
def call6_v14 : FVec Ideal S2x1000x4 .f32 := W23 m ρ c (Proc.devRef .tc main_call6_v14)
/-- The final contents of `main_v57`. -/
def v57 : FVec Ideal S2x1000x4 .f32 := W23 m ρ c (Proc.devRef .tc main_v57)
/-- The final contents of `main_c_5`. -/
def c_5 : IVec S_ 32 := W23 m ρ c (Proc.devRef .tc main_c_5)
/-- The final contents of `main_call7_v0`. -/
def call7_v0 : FVec Ideal S_ .f32 := W23 m ρ c (Proc.devRef .tc main_call7_v0)
/-- The final contents of `main_v58`. -/
def v58 : FVec Ideal S2x1024x4 .f32 := W23 m ρ c (Proc.devRef .tc main_v58)
/-- The final contents of `main_cst_6`. -/
def cst_6 : FVec Ideal S_ .f32 := W23 m ρ c (Proc.devRef .tc main_cst_6)
/-- The final contents of `main_call8_v0`. -/
def call8_v0 : FVec Ideal S_ .f32 := W23 m ρ c (Proc.devRef .tc main_call8_v0)
/-- The final contents of `main_v59`. -/
def v59 : FVec Ideal S2x1024 .f32 := W23 m ρ c (Proc.devRef .tc main_v59)
/-- The final contents of `main_v60`. -/
def v60 : FVec Ideal S2x4x1024 .f32 := W23 m ρ c (Proc.devRef .tc main_v60)
/-- The final contents of `main_v61`. -/
def v61 : FVec Ideal S2x1024x1 .f32 := W23 m ρ c (Proc.devRef .tc main_v61)
/-- The final contents of `main_v62`. -/
def v62 : FVec Ideal S2x1x1024 .f32 := W23 m ρ c (Proc.devRef .tc main_v62)
/-- The final contents of `main_v63_0`. -/
def v63_0 : FVec Ideal S2x304x4 .f32 := W23 m ρ c (Proc.devRef .tc main_v63_0)
/-- The final contents of `main_v64`. -/
def v64 : FVec Ideal S2x300x4 .f32 := W23 m ρ c (Proc.devRef .tc main_v64)
/-- The final contents of `main_v63_1`. -/
def v63_1 : FVec Ideal S2x304x1 .f32 := W23 m ρ c (Proc.devRef .tc main_v63_1)
/-- The final contents of `main_v65`. -/
def v65 : FVec Ideal S2x300x1 .f32 := W23 m ρ c (Proc.devRef .tc main_v65)
/-- The final contents of `main_v66`. -/
def v66 : FVec Ideal S2x300x5 .f32 := W23 m ρ c (Proc.devRef .tc main_v66)

abbrev outs0_W : List (Ref sig .tc) := [main_v30_0, main_v30_1, main_v30_2, main_v30_3, main_v30_4]
abbrev outs1_W : List (Ref sig .tc) := [main_v63_0, main_v63_1]
theorem outs0_mem : ∀ w : Fin cfg0.W, (cfg0.win w).isOut = true → Pipeline.arrRef spec0 w ∈ outs0_W := by decide +kernel
/-- A reference that is none of call 0's results keeps its contents across it. -/
theorem W4_off (r : Ref sig .tc) (h : r ∉ outs0_W) : W4 m ρ c (Proc.devRef .tc r) = W3 m ρ c (Proc.devRef .tc r) :=
  W4_of m ρ c r fun w e => by
    by_contra hn
    rw [Bool.not_eq_false] at hn
    exact h (e ▸ outs0_mem w hn)
theorem outs1_mem : ∀ w : Fin cfg1.W, (cfg1.win w).isOut = true → Pipeline.arrRef spec1 w ∈ outs1_W := by decide +kernel
/-- A reference that is none of call 1's results keeps its contents across it. -/
theorem W22_off (r : Ref sig .tc) (h : r ∉ outs1_W) : W22 m ρ c (Proc.devRef .tc r) = W21 m ρ c (Proc.devRef .tc r) :=
  W22_of m ρ c r fun w e => by
    by_contra hn
    rw [Bool.not_eq_false] at hn
    exact h (e ▸ outs1_mem w hn)
abbrev late23 : List (Ref sig .tc) := []
theorem last23 (r : Ref sig .tc) (_ : r ∉ late23) : W23 m ρ c (Proc.devRef .tc r) = W23 m ρ c (Proc.devRef .tc r) := rfl
theorem line22 : Line hostOps2 (W22 m ρ c) (W23 m ρ c) hostOps2_W late23 := ⟨rfl, fun r h => last23 m ρ c r h⟩
abbrev late22 : List (Ref sig .tc) := hostOps2_W ++ late23
theorem last22 (r : Ref sig .tc) (h : r ∉ late22) : W23 m ρ c (Proc.devRef .tc r) = W22 m ρ c (Proc.devRef .tc r) := by
  rw [late22, List.mem_append, not_or] at h
  exact (last23 m ρ c r h.2).trans (W23_of m ρ c r h.1)
abbrev late21 : List (Ref sig .tc) := outs1_W ++ late22
theorem last21 (r : Ref sig .tc) (h : r ∉ late21) : W23 m ρ c (Proc.devRef .tc r) = W21 m ρ c (Proc.devRef .tc r) := by
  rw [late21, List.mem_append, not_or] at h
  exact (last22 m ρ c r h.2).trans (W22_off m ρ c r h.1)
theorem line20 : Line hostOps1_16 (W20 m ρ c) (W23 m ρ c) hostOps1_16_W late21 := ⟨rfl, fun r h => last21 m ρ c r h⟩
abbrev late20 : List (Ref sig .tc) := hostOps1_16_W ++ late21
theorem last20 (r : Ref sig .tc) (h : r ∉ late20) : W23 m ρ c (Proc.devRef .tc r) = W20 m ρ c (Proc.devRef .tc r) := by
  rw [late20, List.mem_append, not_or] at h
  exact (last21 m ρ c r h.2).trans (W21_of m ρ c r h.1)
theorem line19 : Line hostOps1_15 (W19 m ρ c) (W23 m ρ c) hostOps1_15_W late20 := ⟨rfl, fun r h => last20 m ρ c r h⟩
abbrev late19 : List (Ref sig .tc) := hostOps1_15_W ++ late20
theorem last19 (r : Ref sig .tc) (h : r ∉ late19) : W23 m ρ c (Proc.devRef .tc r) = W19 m ρ c (Proc.devRef .tc r) := by
  rw [late19, List.mem_append, not_or] at h
  exact (last20 m ρ c r h.2).trans (W20_of m ρ c r h.1)
theorem line18 : Line hostOps1_14 (W18 m ρ c) (W23 m ρ c) hostOps1_14_W late19 := ⟨rfl, fun r h => last19 m ρ c r h⟩
abbrev late18 : List (Ref sig .tc) := hostOps1_14_W ++ late19
theorem last18 (r : Ref sig .tc) (h : r ∉ late18) : W23 m ρ c (Proc.devRef .tc r) = W18 m ρ c (Proc.devRef .tc r) := by
  rw [late18, List.mem_append, not_or] at h
  exact (last19 m ρ c r h.2).trans (W19_of m ρ c r h.1)
theorem line17 : Line hostOps1_13 (W17 m ρ c) (W23 m ρ c) hostOps1_13_W late18 := ⟨rfl, fun r h => last18 m ρ c r h⟩
abbrev late17 : List (Ref sig .tc) := hostOps1_13_W ++ late18
theorem last17 (r : Ref sig .tc) (h : r ∉ late17) : W23 m ρ c (Proc.devRef .tc r) = W17 m ρ c (Proc.devRef .tc r) := by
  rw [late17, List.mem_append, not_or] at h
  exact (last18 m ρ c r h.2).trans (W18_of m ρ c r h.1)
theorem line16 : Line hostOps1_12 (W16 m ρ c) (W23 m ρ c) hostOps1_12_W late17 := ⟨rfl, fun r h => last17 m ρ c r h⟩
abbrev late16 : List (Ref sig .tc) := hostOps1_12_W ++ late17
theorem last16 (r : Ref sig .tc) (h : r ∉ late16) : W23 m ρ c (Proc.devRef .tc r) = W16 m ρ c (Proc.devRef .tc r) := by
  rw [late16, List.mem_append, not_or] at h
  exact (last17 m ρ c r h.2).trans (W17_of m ρ c r h.1)
theorem line15 : Line hostOps1_11 (W15 m ρ c) (W23 m ρ c) hostOps1_11_W late16 := ⟨rfl, fun r h => last16 m ρ c r h⟩
abbrev late15 : List (Ref sig .tc) := hostOps1_11_W ++ late16
theorem last15 (r : Ref sig .tc) (h : r ∉ late15) : W23 m ρ c (Proc.devRef .tc r) = W15 m ρ c (Proc.devRef .tc r) := by
  rw [late15, List.mem_append, not_or] at h
  exact (last16 m ρ c r h.2).trans (W16_of m ρ c r h.1)
theorem line14 : Line hostOps1_10 (W14 m ρ c) (W23 m ρ c) hostOps1_10_W late15 := ⟨rfl, fun r h => last15 m ρ c r h⟩
abbrev late14 : List (Ref sig .tc) := hostOps1_10_W ++ late15
theorem last14 (r : Ref sig .tc) (h : r ∉ late14) : W23 m ρ c (Proc.devRef .tc r) = W14 m ρ c (Proc.devRef .tc r) := by
  rw [late14, List.mem_append, not_or] at h
  exact (last15 m ρ c r h.2).trans (W15_of m ρ c r h.1)
theorem line13 : Line hostOps1_9 (W13 m ρ c) (W23 m ρ c) hostOps1_9_W late14 := ⟨rfl, fun r h => last14 m ρ c r h⟩
abbrev late13 : List (Ref sig .tc) := hostOps1_9_W ++ late14
theorem last13 (r : Ref sig .tc) (h : r ∉ late13) : W23 m ρ c (Proc.devRef .tc r) = W13 m ρ c (Proc.devRef .tc r) := by
  rw [late13, List.mem_append, not_or] at h
  exact (last14 m ρ c r h.2).trans (W14_of m ρ c r h.1)
theorem line12 : Line hostOps1_8 (W12 m ρ c) (W23 m ρ c) hostOps1_8_W late13 := ⟨rfl, fun r h => last13 m ρ c r h⟩
abbrev late12 : List (Ref sig .tc) := hostOps1_8_W ++ late13
theorem last12 (r : Ref sig .tc) (h : r ∉ late12) : W23 m ρ c (Proc.devRef .tc r) = W12 m ρ c (Proc.devRef .tc r) := by
  rw [late12, List.mem_append, not_or] at h
  exact (last13 m ρ c r h.2).trans (W13_of m ρ c r h.1)
theorem line11 : Line hostOps1_7 (W11 m ρ c) (W23 m ρ c) hostOps1_7_W late12 := ⟨rfl, fun r h => last12 m ρ c r h⟩
abbrev late11 : List (Ref sig .tc) := hostOps1_7_W ++ late12
theorem last11 (r : Ref sig .tc) (h : r ∉ late11) : W23 m ρ c (Proc.devRef .tc r) = W11 m ρ c (Proc.devRef .tc r) := by
  rw [late11, List.mem_append, not_or] at h
  exact (last12 m ρ c r h.2).trans (W12_of m ρ c r h.1)
theorem line10 : Line hostOps1_6 (W10 m ρ c) (W23 m ρ c) hostOps1_6_W late11 := ⟨rfl, fun r h => last11 m ρ c r h⟩
abbrev late10 : List (Ref sig .tc) := hostOps1_6_W ++ late11
theorem last10 (r : Ref sig .tc) (h : r ∉ late10) : W23 m ρ c (Proc.devRef .tc r) = W10 m ρ c (Proc.devRef .tc r) := by
  rw [late10, List.mem_append, not_or] at h
  exact (last11 m ρ c r h.2).trans (W11_of m ρ c r h.1)
theorem line9 : Line hostOps1_5 (W9 m ρ c) (W23 m ρ c) hostOps1_5_W late10 := ⟨rfl, fun r h => last10 m ρ c r h⟩
abbrev late9 : List (Ref sig .tc) := hostOps1_5_W ++ late10
theorem last9 (r : Ref sig .tc) (h : r ∉ late9) : W23 m ρ c (Proc.devRef .tc r) = W9 m ρ c (Proc.devRef .tc r) := by
  rw [late9, List.mem_append, not_or] at h
  exact (last10 m ρ c r h.2).trans (W10_of m ρ c r h.1)
theorem line8 : Line hostOps1_4 (W8 m ρ c) (W23 m ρ c) hostOps1_4_W late9 := ⟨rfl, fun r h => last9 m ρ c r h⟩
abbrev late8 : List (Ref sig .tc) := hostOps1_4_W ++ late9
theorem last8 (r : Ref sig .tc) (h : r ∉ late8) : W23 m ρ c (Proc.devRef .tc r) = W8 m ρ c (Proc.devRef .tc r) := by
  rw [late8, List.mem_append, not_or] at h
  exact (last9 m ρ c r h.2).trans (W9_of m ρ c r h.1)
theorem line7 : Line hostOps1_3 (W7 m ρ c) (W23 m ρ c) hostOps1_3_W late8 := ⟨rfl, fun r h => last8 m ρ c r h⟩
abbrev late7 : List (Ref sig .tc) := hostOps1_3_W ++ late8
theorem last7 (r : Ref sig .tc) (h : r ∉ late7) : W23 m ρ c (Proc.devRef .tc r) = W7 m ρ c (Proc.devRef .tc r) := by
  rw [late7, List.mem_append, not_or] at h
  exact (last8 m ρ c r h.2).trans (W8_of m ρ c r h.1)
theorem line6 : Line hostOps1_2 (W6 m ρ c) (W23 m ρ c) hostOps1_2_W late7 := ⟨rfl, fun r h => last7 m ρ c r h⟩
abbrev late6 : List (Ref sig .tc) := hostOps1_2_W ++ late7
theorem last6 (r : Ref sig .tc) (h : r ∉ late6) : W23 m ρ c (Proc.devRef .tc r) = W6 m ρ c (Proc.devRef .tc r) := by
  rw [late6, List.mem_append, not_or] at h
  exact (last7 m ρ c r h.2).trans (W7_of m ρ c r h.1)
theorem line5 : Line hostOps1_1 (W5 m ρ c) (W23 m ρ c) hostOps1_1_W late6 := ⟨rfl, fun r h => last6 m ρ c r h⟩
abbrev late5 : List (Ref sig .tc) := hostOps1_1_W ++ late6
theorem last5 (r : Ref sig .tc) (h : r ∉ late5) : W23 m ρ c (Proc.devRef .tc r) = W5 m ρ c (Proc.devRef .tc r) := by
  rw [late5, List.mem_append, not_or] at h
  exact (last6 m ρ c r h.2).trans (W6_of m ρ c r h.1)
theorem line4 : Line hostOps1 (W4 m ρ c) (W23 m ρ c) hostOps1_W late5 := ⟨rfl, fun r h => last5 m ρ c r h⟩
abbrev late4 : List (Ref sig .tc) := hostOps1_W ++ late5
theorem last4 (r : Ref sig .tc) (h : r ∉ late4) : W23 m ρ c (Proc.devRef .tc r) = W4 m ρ c (Proc.devRef .tc r) := by
  rw [late4, List.mem_append, not_or] at h
  exact (last5 m ρ c r h.2).trans (W5_of m ρ c r h.1)
abbrev late3 : List (Ref sig .tc) := outs0_W ++ late4
theorem last3 (r : Ref sig .tc) (h : r ∉ late3) : W23 m ρ c (Proc.devRef .tc r) = W3 m ρ c (Proc.devRef .tc r) := by
  rw [late3, List.mem_append, not_or] at h
  exact (last4 m ρ c r h.2).trans (W4_off m ρ c r h.1)
theorem line2 : Line hostOps0_2 (W2 m ρ c) (W23 m ρ c) hostOps0_2_W late3 := ⟨rfl, fun r h => last3 m ρ c r h⟩
abbrev late2 : List (Ref sig .tc) := hostOps0_2_W ++ late3
theorem last2 (r : Ref sig .tc) (h : r ∉ late2) : W23 m ρ c (Proc.devRef .tc r) = W2 m ρ c (Proc.devRef .tc r) := by
  rw [late2, List.mem_append, not_or] at h
  exact (last3 m ρ c r h.2).trans (W3_of m ρ c r h.1)
theorem line1 : Line hostOps0_1 (W1 m ρ c) (W23 m ρ c) hostOps0_1_W late2 := ⟨rfl, fun r h => last2 m ρ c r h⟩
abbrev late1 : List (Ref sig .tc) := hostOps0_1_W ++ late2
theorem last1 (r : Ref sig .tc) (h : r ∉ late1) : W23 m ρ c (Proc.devRef .tc r) = W1 m ρ c (Proc.devRef .tc r) := by
  rw [late1, List.mem_append, not_or] at h
  exact (last2 m ρ c r h.2).trans (W2_of m ρ c r h.1)
theorem line0 : Line hostOps0 (W0 m ρ c) (W23 m ρ c) hostOps0_W late1 := ⟨rfl, fun r h => last1 m ρ c r h⟩

end Cert.KernelIdeal.Val

end
-- ==== Proof.KEq.lean ====
/-
  The kernel's host operations one by one.
-/
module

public import proofs.«01_k».proof.Proof.KVal

@[expose] public section

set_option maxRecDepth 16384

noncomputable section

namespace Cert.KernelIdeal.Val

open Cert.KernelIdeal Cert.KernelIdeal.Gen Cert.KernelIdeal.Whole
open Idealize.ShloMosaic Idealize.ShloMosaic.TcCoe Idealize.ShloMosaic.StableHlo
open Idealize.SL.Sem Cert.HostLine

variable (m : (ℓ : Loc nD τ sig) → Buf (Elt Ideal) ℓ) (ρ : Dev nD → PrngReg) (c : Dev nD)

theorem cst_eq : cst m ρ c = (fun i => FloatOps.ofBits .f32 (lit0 (S4x2598x9.rowMajor i))) := by
  have h := (line0 m ρ c).nullary  (y := main_cst) 0 rfl (by decide +kernel)
  exact h
theorem v0_eq : v0 m ρ c = (transpose S2x50x50x256 [0, 2, 3, 1] · transposes_S2x256x50x50_S2x50x50x256_0_2_3_1) (arg1 m ρ c) := by
  have h := (line0 m ρ c).unary (x := main_arg1) (y := main_v0) 1 rfl (by decide +kernel) (by decide +kernel)
  exact h
theorem c0_eq : c0 m ρ c = (constantI S_ 32 0#32) := by
  have h := (line0 m ρ c).nullary  (y := main_c) 2 rfl (by decide +kernel)
  exact h
theorem call0_v0_eq : call0_v0 m ρ c = (sitofp .f32) (c0 m ρ c) := by
  have h := (line1 m ρ c).tunary 0 (.of main_c : TRef sig ⟨S_, .i32⟩) (.of main_call0_v0 : TRef sig ⟨S_, .f32⟩) rfl (by decide +kernel) (by decide +kernel) (HEq.rfl : HEq (W23 m ρ c (Proc.devRef .tc main_c)) (c0 m ρ c)) (HEq.rfl : HEq (W23 m ρ c (Proc.devRef .tc main_call0_v0)) (call0_v0 m ρ c))
  exact h
theorem v1_eq : v1 m ρ c = (fun x v => pad S2x52x52x256 ![0, 1, 1, 0] ![0, 1, 1, 0] ![0, 0, 0, 0] x v pads_S2x50x50x256_S2x52x52x256_000_110_110_000 h_S_) (v0 m ρ c) (call0_v0 m ρ c) := by
  have h := (line1 m ρ c).tbinary 1 (.of main_v0 : TRef sig ⟨S2x50x50x256, .f32⟩) (.of main_call0_v0 : TRef sig ⟨S_, .f32⟩) (.of main_v1 : TRef sig ⟨S2x52x52x256, .f32⟩) rfl (by decide +kernel) (by decide +kernel) (HEq.rfl : HEq (W23 m ρ c (Proc.devRef .tc main_v0)) (v0 m ρ c)) (HEq.rfl : HEq (W23 m ρ c (Proc.devRef .tc main_call0_v0)) (call0_v0 m ρ c)) (HEq.rfl : HEq (W23 m ρ c (Proc.devRef .tc main_v1)) (v1 m ρ c))
  exact h
theorem v2_eq : v2 m ρ c = shapeCast S2x2704x256 (v1 m ρ c) shapeCasts_S2x52x52x256_S2x2704x256 := by
  have h := (line2 m ρ c).reshape (x := main_v1) (y := main_v2) 0 rfl (by decide +kernel) (by decide +kernel)
  exact h
theorem v3_eq : v3 m ρ c = (transpose S3x3x256x256 [2, 3, 1, 0] · transposes_S256x256x3x3_S3x3x256x256_2_3_1_0) (arg2 m ρ c) := by
  have h := (line2 m ρ c).unary (x := main_arg2) (y := main_v3) 1 rfl (by decide +kernel) (by decide +kernel)
  exact h
theorem v4_eq : v4 m ρ c = shapeCast S9x256x256 (v3 m ρ c) shapeCasts_S3x3x256x256_S9x256x256 := by
  have h := (line2 m ρ c).reshape (x := main_v3) (y := main_v4) 2 rfl (by decide +kernel) (by decide +kernel)
  exact h
theorem v5_eq : v5 m ρ c = shapeCast S9x256 (arg4 m ρ c) shapeCasts_S9x256x1x1_S9x256 := by
  have h := (line2 m ρ c).reshape (x := main_arg4) (y := main_v5) 3 rfl (by decide +kernel) (by decide +kernel)
  exact h
theorem v6_eq : v6 m ρ c = (transpose S256x9 [1, 0] · transposes_S9x256_S256x9_1_0) (v5 m ρ c) := by
  have h := (line2 m ρ c).unary (x := main_v5) (y := main_v6) 4 rfl (by decide +kernel) (by decide +kernel)
  exact h
theorem v7_eq : v7 m ρ c = shapeCast S36x256 (arg6 m ρ c) shapeCasts_S36x256x1x1_S36x256 := by
  have h := (line2 m ρ c).reshape (x := main_arg6) (y := main_v7) 5 rfl (by decide +kernel) (by decide +kernel)
  exact h
theorem v8_eq : v8 m ρ c = (transpose S256x36 [1, 0] · transposes_S36x256_S256x36_1_0) (v7 m ρ c) := by
  have h := (line2 m ρ c).unary (x := main_v7) (y := main_v8) 6 rfl (by decide +kernel) (by decide +kernel)
  exact h
theorem v9_eq : v9 m ρ c = (Host.slice S256x9 ![0, 0] ![1, 4] · slicesBy_S256x36_S256x9_0s1_0s4) (v8 m ρ c) := by
  have h := (line2 m ρ c).unary (x := main_v8) (y := main_v9) 7 rfl (by decide +kernel) (by decide +kernel)
  exact h
theorem v10_eq : v10 m ρ c = (Host.slice S256x9 ![0, 1] ![1, 4] · slicesBy_S256x36_S256x9_0s1_1s4) (v8 m ρ c) := by
  have h := (line2 m ρ c).unary (x := main_v8) (y := main_v10) 8 rfl (by decide +kernel) (by decide +kernel)
  exact h
theorem v11_eq : v11 m ρ c = (Host.slice S256x9 ![0, 2] ![1, 4] · slicesBy_S256x36_S256x9_0s1_2s4) (v8 m ρ c) := by
  have h := (line2 m ρ c).unary (x := main_v8) (y := main_v11) 9 rfl (by decide +kernel) (by decide +kernel)
  exact h
theorem v12_eq : v12 m ρ c = (Host.slice S256x9 ![0, 3] ![1, 4] · slicesBy_S256x36_S256x9_0s1_3s4) (v8 m ρ c) := by
  have h := (line2 m ρ c).unary (x := main_v8) (y := main_v12) 10 rfl (by decide +kernel) (by decide +kernel)
  exact h
theorem v13_eq : v13 m ρ c = broadcastInDim S1x256x9 ![1, 2] bcast_S256x9_S1x256x9_1_2 (v9 m ρ c) := by
  have h := (line2 m ρ c).unary (x := main_v9) (y := main_v13) 11 rfl (by decide +kernel) (by decide +kernel)
  exact h
theorem v14_eq : v14 m ρ c = broadcastInDim S1x256x9 ![1, 2] bcast_S256x9_S1x256x9_1_2 (v10 m ρ c) := by
  have h := (line2 m ρ c).unary (x := main_v10) (y := main_v14) 12 rfl (by decide +kernel) (by decide +kernel)
  exact h
theorem v15_eq : v15 m ρ c = broadcastInDim S1x256x9 ![1, 2] bcast_S256x9_S1x256x9_1_2 (v11 m ρ c) := by
  have h := (line2 m ρ c).unary (x := main_v11) (y := main_v15) 13 rfl (by decide +kernel) (by decide +kernel)
  exact h
theorem v16_eq : v16 m ρ c = broadcastInDim S1x256x9 ![1, 2] bcast_S256x9_S1x256x9_1_2 (v12 m ρ c) := by
  have h := (line2 m ρ c).unary (x := main_v12) (y := main_v16) 14 rfl (by decide +kernel) (by decide +kernel)
  exact h
theorem v17_eq : v17 m ρ c = (concatenate S4x256x9 0 [⟨S1x256x9, v13 m ρ c⟩, ⟨S1x256x9, v14 m ρ c⟩, ⟨S1x256x9, v15 m ρ c⟩, ⟨S1x256x9, v16 m ρ c⟩] concatenates_S1x256x9_S1x256x9_S1x256x9_S1x256x9_S4x256x9_d0 : (⟨S4x256x9, .f32⟩ : BufTy).Contents (Elt Ideal)) := by
  have h := (line2 m ρ c).nary (xs := ![main_v13, main_v14, main_v15, main_v16]) (y := main_v17) 15 rfl (by decide +kernel) (by decide +kernel)
  exact h
theorem v18_eq : v18 m ρ c = (Host.slice S9 ![0] ![4] · slicesBy_S36_S9_0s4) (arg7 m ρ c) := by
  have h := (line2 m ρ c).unary (x := main_arg7) (y := main_v18) 16 rfl (by decide +kernel) (by decide +kernel)
  exact h
theorem v19_eq : v19 m ρ c = (Host.slice S9 ![1] ![4] · slicesBy_S36_S9_1s4) (arg7 m ρ c) := by
  have h := (line2 m ρ c).unary (x := main_arg7) (y := main_v19) 17 rfl (by decide +kernel) (by decide +kernel)
  exact h
theorem v20_eq : v20 m ρ c = (Host.slice S9 ![2] ![4] · slicesBy_S36_S9_2s4) (arg7 m ρ c) := by
  have h := (line2 m ρ c).unary (x := main_arg7) (y := main_v20) 18 rfl (by decide +kernel) (by decide +kernel)
  exact h
theorem v21_eq : v21 m ρ c = (Host.slice S9 ![3] ![4] · slicesBy_S36_S9_3s4) (arg7 m ρ c) := by
  have h := (line2 m ρ c).unary (x := main_arg7) (y := main_v21) 19 rfl (by decide +kernel) (by decide +kernel)
  exact h
theorem v22_eq : v22 m ρ c = broadcastInDim S1x9 ![1] bcast_S9_S1x9_1 (v18 m ρ c) := by
  have h := (line2 m ρ c).unary (x := main_v18) (y := main_v22) 20 rfl (by decide +kernel) (by decide +kernel)
  exact h
theorem v23_eq : v23 m ρ c = broadcastInDim S1x9 ![1] bcast_S9_S1x9_1 (v19 m ρ c) := by
  have h := (line2 m ρ c).unary (x := main_v19) (y := main_v23) 21 rfl (by decide +kernel) (by decide +kernel)
  exact h
theorem v24_eq : v24 m ρ c = broadcastInDim S1x9 ![1] bcast_S9_S1x9_1 (v20 m ρ c) := by
  have h := (line2 m ρ c).unary (x := main_v20) (y := main_v24) 22 rfl (by decide +kernel) (by decide +kernel)
  exact h
theorem v25_eq : v25 m ρ c = broadcastInDim S1x9 ![1] bcast_S9_S1x9_1 (v21 m ρ c) := by
  have h := (line2 m ρ c).unary (x := main_v21) (y := main_v25) 23 rfl (by decide +kernel) (by decide +kernel)
  exact h
theorem v26_eq : v26 m ρ c = (concatenate S4x9 0 [⟨S1x9, v22 m ρ c⟩, ⟨S1x9, v23 m ρ c⟩, ⟨S1x9, v24 m ρ c⟩, ⟨S1x9, v25 m ρ c⟩] concatenates_S1x9_S1x9_S1x9_S1x9_S4x9_d0 : (⟨S4x9, .f32⟩ : BufTy).Contents (Elt Ideal)) := by
  have h := (line2 m ρ c).nary (xs := ![main_v22, main_v23, main_v24, main_v25]) (y := main_v26) 24 rfl (by decide +kernel) (by decide +kernel)
  exact h
theorem v27_eq : v27 m ρ c = broadcastInDim S4x1x9 ![0, 2] bcast_S4x9_S4x1x9_0_2 (v26 m ρ c) := by
  have h := (line2 m ρ c).unary (x := main_v26) (y := main_v27) 25 rfl (by decide +kernel) (by decide +kernel)
  exact h
theorem v28_eq : v28 m ρ c = shapeCast S1x256 (arg3 m ρ c) shapeCasts_S256_S1x256 := by
  have h := (line2 m ρ c).reshape (x := main_arg3) (y := main_v28) 26 rfl (by decide +kernel) (by decide +kernel)
  exact h
theorem v29_eq : v29 m ρ c = shapeCast S1x9 (arg5 m ρ c) shapeCasts_S9_S1x9 := by
  have h := (line2 m ρ c).reshape (x := main_arg5) (y := main_v29) 27 rfl (by decide +kernel) (by decide +kernel)
  exact h
theorem c_0_eq : c_0 m ρ c = (constantI S_ 32 0#32) := by
  have h := (line4 m ρ c).nullary  (y := main_c_0) 0 rfl (by decide +kernel)
  exact h
theorem call1_v0_eq : call1_v0 m ρ c = (sitofp .f32) (c_0 m ρ c) := by
  have h := (line5 m ρ c).tunary 0 (.of main_c_0 : TRef sig ⟨S_, .i32⟩) (.of main_call1_v0 : TRef sig ⟨S_, .f32⟩) rfl (by decide +kernel) (by decide +kernel) (HEq.rfl : HEq (W23 m ρ c (Proc.devRef .tc main_c_0)) (c_0 m ρ c)) (HEq.rfl : HEq (W23 m ρ c (Proc.devRef .tc main_call1_v0)) (call1_v0 m ρ c))
  exact h
theorem v31_eq : v31 m ρ c = (fun x v => pad S2x2704x9 ![0, 53, 0] ![0, 53, 0] ![0, 0, 0] x v pads_S2x2598x9_S2x2704x9_000_53530_000 h_S_) (v30_0 m ρ c) (call1_v0 m ρ c) := by
  have h := (line5 m ρ c).tbinary 1 (.of main_v30_0 : TRef sig ⟨S2x2598x9, .f32⟩) (.of main_call1_v0 : TRef sig ⟨S_, .f32⟩) (.of main_v31 : TRef sig ⟨S2x2704x9, .f32⟩) rfl (by decide +kernel) (by decide +kernel) (HEq.rfl : HEq (W23 m ρ c (Proc.devRef .tc main_v30_0)) (v30_0 m ρ c)) (HEq.rfl : HEq (W23 m ρ c (Proc.devRef .tc main_call1_v0)) (call1_v0 m ρ c)) (HEq.rfl : HEq (W23 m ρ c (Proc.devRef .tc main_v31)) (v31 m ρ c))
  exact h
theorem v32_eq : v32 m ρ c = shapeCast S2x52x52x9 (v31 m ρ c) shapeCasts_S2x2704x9_S2x52x52x9 := by
  have h := (line6 m ρ c).reshape (x := main_v31) (y := main_v32) 0 rfl (by decide +kernel) (by decide +kernel)
  exact h
theorem v33_eq : v33 m ρ c = (extractStridedSlice S2x50x50x9 ![0, 1, 1, 0] · slices_S2x52x52x9_S2x50x50x9_0_1_1_0) (v32 m ρ c) := by
  have h := (line6 m ρ c).unary (x := main_v32) (y := main_v33) 1 rfl (by decide +kernel) (by decide +kernel)
  exact h
theorem v34_eq : v34 m ρ c = shapeCast S2x22500 (v33 m ρ c) shapeCasts_S2x50x50x9_S2x22500 := by
  have h := (line6 m ρ c).reshape (x := main_v33) (y := main_v34) 2 rfl (by decide +kernel) (by decide +kernel)
  exact h
theorem c_1_eq : c_1 m ρ c = (constantI S_ 32 0#32) := by
  have h := (line6 m ρ c).nullary  (y := main_c_1) 3 rfl (by decide +kernel)
  exact h
theorem call2_v0_eq : call2_v0 m ρ c = (sitofp .f32) (c_1 m ρ c) := by
  have h := (line7 m ρ c).tunary 0 (.of main_c_1 : TRef sig ⟨S_, .i32⟩) (.of main_call2_v0 : TRef sig ⟨S_, .f32⟩) rfl (by decide +kernel) (by decide +kernel) (HEq.rfl : HEq (W23 m ρ c (Proc.devRef .tc main_c_1)) (c_1 m ρ c)) (HEq.rfl : HEq (W23 m ρ c (Proc.devRef .tc main_call2_v0)) (call2_v0 m ρ c))
  exact h
theorem v35_eq : v35 m ρ c = (fun x v => pad S2x2704x9 ![0, 53, 0] ![0, 53, 0] ![0, 0, 0] x v pads_S2x2598x9_S2x2704x9_000_53530_000 h_S_) (v30_1 m ρ c) (call2_v0 m ρ c) := by
  have h := (line7 m ρ c).tbinary 1 (.of main_v30_1 : TRef sig ⟨S2x2598x9, .f32⟩) (.of main_call2_v0 : TRef sig ⟨S_, .f32⟩) (.of main_v35 : TRef sig ⟨S2x2704x9, .f32⟩) rfl (by decide +kernel) (by decide +kernel) (HEq.rfl : HEq (W23 m ρ c (Proc.devRef .tc main_v30_1)) (v30_1 m ρ c)) (HEq.rfl : HEq (W23 m ρ c (Proc.devRef .tc main_call2_v0)) (call2_v0 m ρ c)) (HEq.rfl : HEq (W23 m ρ c (Proc.devRef .tc main_v35)) (v35 m ρ c))
  exact h
theorem v36_eq : v36 m ρ c = shapeCast S2x52x52x9 (v35 m ρ c) shapeCasts_S2x2704x9_S2x52x52x9 := by
  have h := (line8 m ρ c).reshape (x := main_v35) (y := main_v36) 0 rfl (by decide +kernel) (by decide +kernel)
  exact h
theorem v37_eq : v37 m ρ c = (extractStridedSlice S2x50x50x9 ![0, 1, 1, 0] · slices_S2x52x52x9_S2x50x50x9_0_1_1_0) (v36 m ρ c) := by
  have h := (line8 m ρ c).unary (x := main_v36) (y := main_v37) 1 rfl (by decide +kernel) (by decide +kernel)
  exact h
theorem v38_eq : v38 m ρ c = shapeCast S2x22500 (v37 m ρ c) shapeCasts_S2x50x50x9_S2x22500 := by
  have h := (line8 m ρ c).reshape (x := main_v37) (y := main_v38) 2 rfl (by decide +kernel) (by decide +kernel)
  exact h
theorem c_2_eq : c_2 m ρ c = (constantI S_ 32 0#32) := by
  have h := (line8 m ρ c).nullary  (y := main_c_2) 3 rfl (by decide +kernel)
  exact h
theorem call3_v0_eq : call3_v0 m ρ c = (sitofp .f32) (c_2 m ρ c) := by
  have h := (line9 m ρ c).tunary 0 (.of main_c_2 : TRef sig ⟨S_, .i32⟩) (.of main_call3_v0 : TRef sig ⟨S_, .f32⟩) rfl (by decide +kernel) (by decide +kernel) (HEq.rfl : HEq (W23 m ρ c (Proc.devRef .tc main_c_2)) (c_2 m ρ c)) (HEq.rfl : HEq (W23 m ρ c (Proc.devRef .tc main_call3_v0)) (call3_v0 m ρ c))
  exact h
theorem v39_eq : v39 m ρ c = (fun x v => pad S2x2704x9 ![0, 53, 0] ![0, 53, 0] ![0, 0, 0] x v pads_S2x2598x9_S2x2704x9_000_53530_000 h_S_) (v30_2 m ρ c) (call3_v0 m ρ c) := by
  have h := (line9 m ρ c).tbinary 1 (.of main_v30_2 : TRef sig ⟨S2x2598x9, .f32⟩) (.of main_call3_v0 : TRef sig ⟨S_, .f32⟩) (.of main_v39 : TRef sig ⟨S2x2704x9, .f32⟩) rfl (by decide +kernel) (by decide +kernel) (HEq.rfl : HEq (W23 m ρ c (Proc.devRef .tc main_v30_2)) (v30_2 m ρ c)) (HEq.rfl : HEq (W23 m ρ c (Proc.devRef .tc main_call3_v0)) (call3_v0 m ρ c)) (HEq.rfl : HEq (W23 m ρ c (Proc.devRef .tc main_v39)) (v39 m ρ c))
  exact h
theorem v40_eq : v40 m ρ c = shapeCast S2x52x52x9 (v39 m ρ c) shapeCasts_S2x2704x9_S2x52x52x9 := by
  have h := (line10 m ρ c).reshape (x := main_v39) (y := main_v40) 0 rfl (by decide +kernel) (by decide +kernel)
  exact h
theorem v41_eq : v41 m ρ c = (extractStridedSlice S2x50x50x9 ![0, 1, 1, 0] · slices_S2x52x52x9_S2x50x50x9_0_1_1_0) (v40 m ρ c) := by
  have h := (line10 m ρ c).unary (x := main_v40) (y := main_v41) 1 rfl (by decide +kernel) (by decide +kernel)
  exact h
theorem v42_eq : v42 m ρ c = shapeCast S2x22500 (v41 m ρ c) shapeCasts_S2x50x50x9_S2x22500 := by
  have h := (line10 m ρ c).reshape (x := main_v41) (y := main_v42) 2 rfl (by decide +kernel) (by decide +kernel)
  exact h
theorem c_3_eq : c_3 m ρ c = (constantI S_ 32 0#32) := by
  have h := (line10 m ρ c).nullary  (y := main_c_3) 3 rfl (by decide +kernel)
  exact h
theorem call4_v0_eq : call4_v0 m ρ c = (sitofp .f32) (c_3 m ρ c) := by
  have h := (line11 m ρ c).tunary 0 (.of main_c_3 : TRef sig ⟨S_, .i32⟩) (.of main_call4_v0 : TRef sig ⟨S_, .f32⟩) rfl (by decide +kernel) (by decide +kernel) (HEq.rfl : HEq (W23 m ρ c (Proc.devRef .tc main_c_3)) (c_3 m ρ c)) (HEq.rfl : HEq (W23 m ρ c (Proc.devRef .tc main_call4_v0)) (call4_v0 m ρ c))
  exact h
theorem v43_eq : v43 m ρ c = (fun x v => pad S2x2704x9 ![0, 53, 0] ![0, 53, 0] ![0, 0, 0] x v pads_S2x2598x9_S2x2704x9_000_53530_000 h_S_) (v30_3 m ρ c) (call4_v0 m ρ c) := by
  have h := (line11 m ρ c).tbinary 1 (.of main_v30_3 : TRef sig ⟨S2x2598x9, .f32⟩) (.of main_call4_v0 : TRef sig ⟨S_, .f32⟩) (.of main_v43 : TRef sig ⟨S2x2704x9, .f32⟩) rfl (by decide +kernel) (by decide +kernel) (HEq.rfl : HEq (W23 m ρ c (Proc.devRef .tc main_v30_3)) (v30_3 m ρ c)) (HEq.rfl : HEq (W23 m ρ c (Proc.devRef .tc main_call4_v0)) (call4_v0 m ρ c)) (HEq.rfl : HEq (W23 m ρ c (Proc.devRef .tc main_v43)) (v43 m ρ c))
  exact h
theorem v44_eq : v44 m ρ c = shapeCast S2x52x52x9 (v43 m ρ c) shapeCasts_S2x2704x9_S2x52x52x9 := by
  have h := (line12 m ρ c).reshape (x := main_v43) (y := main_v44) 0 rfl (by decide +kernel) (by decide +kernel)
  exact h
theorem v45_eq : v45 m ρ c = (extractStridedSlice S2x50x50x9 ![0, 1, 1, 0] · slices_S2x52x52x9_S2x50x50x9_0_1_1_0) (v44 m ρ c) := by
  have h := (line12 m ρ c).unary (x := main_v44) (y := main_v45) 1 rfl (by decide +kernel) (by decide +kernel)
  exact h
theorem v46_eq : v46 m ρ c = shapeCast S2x22500 (v45 m ρ c) shapeCasts_S2x50x50x9_S2x22500 := by
  have h := (line12 m ρ c).reshape (x := main_v45) (y := main_v46) 2 rfl (by decide +kernel) (by decide +kernel)
  exact h
theorem c_4_eq : c_4 m ρ c = (constantI S_ 32 0#32) := by
  have h := (line12 m ρ c).nullary  (y := main_c_4) 3 rfl (by decide +kernel)
  exact h
theorem call5_v0_eq : call5_v0 m ρ c = (sitofp .f32) (c_4 m ρ c) := by
  have h := (line13 m ρ c).tunary 0 (.of main_c_4 : TRef sig ⟨S_, .i32⟩) (.of main_call5_v0 : TRef sig ⟨S_, .f32⟩) rfl (by decide +kernel) (by decide +kernel) (HEq.rfl : HEq (W23 m ρ c (Proc.devRef .tc main_c_4)) (c_4 m ρ c)) (HEq.rfl : HEq (W23 m ρ c (Proc.devRef .tc main_call5_v0)) (call5_v0 m ρ c))
  exact h
theorem v47_eq : v47 m ρ c = (fun x v => pad S2x2704x9 ![0, 53, 0] ![0, 53, 0] ![0, 0, 0] x v pads_S2x2598x9_S2x2704x9_000_53530_000 h_S_) (v30_4 m ρ c) (call5_v0 m ρ c) := by
  have h := (line13 m ρ c).tbinary 1 (.of main_v30_4 : TRef sig ⟨S2x2598x9, .f32⟩) (.of main_call5_v0 : TRef sig ⟨S_, .f32⟩) (.of main_v47 : TRef sig ⟨S2x2704x9, .f32⟩) rfl (by decide +kernel) (by decide +kernel) (HEq.rfl : HEq (W23 m ρ c (Proc.devRef .tc main_v30_4)) (v30_4 m ρ c)) (HEq.rfl : HEq (W23 m ρ c (Proc.devRef .tc main_call5_v0)) (call5_v0 m ρ c)) (HEq.rfl : HEq (W23 m ρ c (Proc.devRef .tc main_v47)) (v47 m ρ c))
  exact h
theorem v48_eq : v48 m ρ c = shapeCast S2x52x52x9 (v47 m ρ c) shapeCasts_S2x2704x9_S2x52x52x9 := by
  have h := (line14 m ρ c).reshape (x := main_v47) (y := main_v48) 0 rfl (by decide +kernel) (by decide +kernel)
  exact h
theorem v49_eq : v49 m ρ c = (extractStridedSlice S2x50x50x9 ![0, 1, 1, 0] · slices_S2x52x52x9_S2x50x50x9_0_1_1_0) (v48 m ρ c) := by
  have h := (line14 m ρ c).unary (x := main_v48) (y := main_v49) 1 rfl (by decide +kernel) (by decide +kernel)
  exact h
theorem v50_eq : v50 m ρ c = shapeCast S2x22500 (v49 m ρ c) shapeCasts_S2x50x50x9_S2x22500 := by
  have h := (line14 m ρ c).reshape (x := main_v49) (y := main_v50) 2 rfl (by decide +kernel) (by decide +kernel)
  exact h
theorem v51_eq : v51 m ρ c = broadcastInDim S2x22500x1 ![0, 1] bcast_S2x22500_S2x22500x1_0_1 (v38 m ρ c) := by
  have h := (line14 m ρ c).unary (x := main_v38) (y := main_v51) 3 rfl (by decide +kernel) (by decide +kernel)
  exact h
theorem v52_eq : v52 m ρ c = broadcastInDim S2x22500x1 ![0, 1] bcast_S2x22500_S2x22500x1_0_1 (v42 m ρ c) := by
  have h := (line14 m ρ c).unary (x := main_v42) (y := main_v52) 4 rfl (by decide +kernel) (by decide +kernel)
  exact h
theorem v53_eq : v53 m ρ c = broadcastInDim S2x22500x1 ![0, 1] bcast_S2x22500_S2x22500x1_0_1 (v46 m ρ c) := by
  have h := (line14 m ρ c).unary (x := main_v46) (y := main_v53) 5 rfl (by decide +kernel) (by decide +kernel)
  exact h
theorem v54_eq : v54 m ρ c = broadcastInDim S2x22500x1 ![0, 1] bcast_S2x22500_S2x22500x1_0_1 (v50 m ρ c) := by
  have h := (line14 m ρ c).unary (x := main_v50) (y := main_v54) 6 rfl (by decide +kernel) (by decide +kernel)
  exact h
theorem v55_eq : v55 m ρ c = (concatenate S2x22500x4 2 [⟨S2x22500x1, v51 m ρ c⟩, ⟨S2x22500x1, v52 m ρ c⟩, ⟨S2x22500x1, v53 m ρ c⟩, ⟨S2x22500x1, v54 m ρ c⟩] concatenates_S2x22500x1_S2x22500x1_S2x22500x1_S2x22500x1_S2x22500x4_d2 : (⟨S2x22500x4, .f32⟩ : BufTy).Contents (Elt Ideal)) := by
  have h := (line14 m ρ c).nary (xs := ![main_v51, main_v52, main_v53, main_v54]) (y := main_v55) 7 rfl (by decide +kernel) (by decide +kernel)
  exact h
theorem values_eq : values m ρ c = (fun x => (Host.topK S2x1000 1 (FloatOps.cmpfTotal .gt) x sliceFits_S2x22500_S2x1000).1) (v34 m ρ c) := by
  have h := (line14 m ρ c).unary (x := main_v34) (y := main_values) 8 rfl (by decide +kernel) (by decide +kernel)
  exact h
theorem indices_eq : indices m ρ c = (fun x => (Host.topK S2x1000 1 (FloatOps.cmpfTotal .gt) x sliceFits_S2x22500_S2x1000).2) (v34 m ρ c) := by
  have h := (line14 m ρ c).unary (x := main_v34) (y := main_indices) 9 rfl (by decide +kernel) (by decide +kernel)
  exact h
theorem v56_eq : v56 m ρ c = broadcastInDim S2x1000x1 ![0, 1] bcast_S2x1000_S2x1000x1_0_1 (indices m ρ c) := by
  have h := (line14 m ρ c).unary (x := main_indices) (y := main_v56) 10 rfl (by decide +kernel) (by decide +kernel)
  exact h
theorem call6_c_eq : call6_c m ρ c = (constantI S_ 32 0#32) := by
  have h := (line15 m ρ c).tnullary 0 (.of main_call6_c : TRef sig ⟨S_, .i32⟩) rfl (by decide +kernel) (HEq.rfl : HEq (W23 m ρ c (Proc.devRef .tc main_call6_c)) (call6_c m ρ c))
  exact h
theorem call6_v0_eq : call6_v0 m ρ c = (broadcastInDim S2x1000x1 ![] bcast_S_S2x1000x1) (call6_c m ρ c) := by
  have h := (line15 m ρ c).tunary 1 (.of main_call6_c : TRef sig ⟨S_, .i32⟩) (.of main_call6_v0 : TRef sig ⟨S2x1000x1, .i32⟩) rfl (by decide +kernel) (by decide +kernel) (HEq.rfl : HEq (W23 m ρ c (Proc.devRef .tc main_call6_c)) (call6_c m ρ c)) (HEq.rfl : HEq (W23 m ρ c (Proc.devRef .tc main_call6_v0)) (call6_v0 m ρ c))
  exact h
theorem call6_v1_eq : call6_v1 m ρ c = (cmpi .slt) (v56 m ρ c) (call6_v0 m ρ c) := by
  have h := (line15 m ρ c).tbinary 2 (.of main_v56 : TRef sig ⟨S2x1000x1, .i32⟩) (.of main_call6_v0 : TRef sig ⟨S2x1000x1, .i32⟩) (.of main_call6_v1 : TRef sig ⟨S2x1000x1, .i1⟩) rfl (by decide +kernel) (by decide +kernel) (HEq.rfl : HEq (W23 m ρ c (Proc.devRef .tc main_v56)) (v56 m ρ c)) (HEq.rfl : HEq (W23 m ρ c (Proc.devRef .tc main_call6_v0)) (call6_v0 m ρ c)) (HEq.rfl : HEq (W23 m ρ c (Proc.devRef .tc main_call6_v1)) (call6_v1 m ρ c))
  exact h
theorem call6_c_0_eq : call6_c_0 m ρ c = (constantI S_ 32 22500#32) := by
  have h := (line15 m ρ c).tnullary 3 (.of main_call6_c_0 : TRef sig ⟨S_, .i32⟩) rfl (by decide +kernel) (HEq.rfl : HEq (W23 m ρ c (Proc.devRef .tc main_call6_c_0)) (call6_c_0 m ρ c))
  exact h
theorem call6_v2_eq : call6_v2 m ρ c = (broadcastInDim S2x1000x1 ![] bcast_S_S2x1000x1) (call6_c_0 m ρ c) := by
  have h := (line15 m ρ c).tunary 4 (.of main_call6_c_0 : TRef sig ⟨S_, .i32⟩) (.of main_call6_v2 : TRef sig ⟨S2x1000x1, .i32⟩) rfl (by decide +kernel) (by decide +kernel) (HEq.rfl : HEq (W23 m ρ c (Proc.devRef .tc main_call6_c_0)) (call6_c_0 m ρ c)) (HEq.rfl : HEq (W23 m ρ c (Proc.devRef .tc main_call6_v2)) (call6_v2 m ρ c))
  exact h
theorem call6_v3_eq : call6_v3 m ρ c = addi (v56 m ρ c) (call6_v2 m ρ c) := by
  have h := (line15 m ρ c).tbinary 5 (.of main_v56 : TRef sig ⟨S2x1000x1, .i32⟩) (.of main_call6_v2 : TRef sig ⟨S2x1000x1, .i32⟩) (.of main_call6_v3 : TRef sig ⟨S2x1000x1, .i32⟩) rfl (by decide +kernel) (by decide +kernel) (HEq.rfl : HEq (W23 m ρ c (Proc.devRef .tc main_v56)) (v56 m ρ c)) (HEq.rfl : HEq (W23 m ρ c (Proc.devRef .tc main_call6_v2)) (call6_v2 m ρ c)) (HEq.rfl : HEq (W23 m ρ c (Proc.devRef .tc main_call6_v3)) (call6_v3 m ρ c))
  exact h
theorem call6_v4_eq : call6_v4 m ρ c = select (call6_v1 m ρ c) (call6_v3 m ρ c) (v56 m ρ c) := by
  have h := (line15 m ρ c).tternary 6 (.of main_call6_v1 : TRef sig ⟨S2x1000x1, .i1⟩) (.of main_call6_v3 : TRef sig ⟨S2x1000x1, .i32⟩) (.of main_v56 : TRef sig ⟨S2x1000x1, .i32⟩) (.of main_call6_v4 : TRef sig ⟨S2x1000x1, .i32⟩) rfl (by decide +kernel) (by decide +kernel) (HEq.rfl : HEq (W23 m ρ c (Proc.devRef .tc main_call6_v1)) (call6_v1 m ρ c)) (HEq.rfl : HEq (W23 m ρ c (Proc.devRef .tc main_call6_v3)) (call6_v3 m ρ c)) (HEq.rfl : HEq (W23 m ρ c (Proc.devRef .tc main_v56)) (v56 m ρ c)) (HEq.rfl : HEq (W23 m ρ c (Proc.devRef .tc main_call6_v4)) (call6_v4 m ρ c))
  exact h
theorem call6_c_1_eq : call6_c_1 m ρ c = (constantI S1 32 22499#32) := by
  have h := (line15 m ρ c).tnullary 7 (.of main_call6_c_1 : TRef sig ⟨S1, .i32⟩) rfl (by decide +kernel) (HEq.rfl : HEq (W23 m ρ c (Proc.devRef .tc main_call6_c_1)) (call6_c_1 m ρ c))
  exact h
theorem call6_c_2_eq : call6_c_2 m ρ c = (constantI S_ 32 0#32) := by
  have h := (line15 m ρ c).tnullary 8 (.of main_call6_c_2 : TRef sig ⟨S_, .i32⟩) rfl (by decide +kernel) (HEq.rfl : HEq (W23 m ρ c (Proc.devRef .tc main_call6_c_2)) (call6_c_2 m ρ c))
  exact h
theorem call6_v5_eq : call6_v5 m ρ c = (broadcastInDim S2x1000x1 ![] bcast_S_S2x1000x1) (call6_c_2 m ρ c) := by
  have h := (line15 m ρ c).tunary 9 (.of main_call6_c_2 : TRef sig ⟨S_, .i32⟩) (.of main_call6_v5 : TRef sig ⟨S2x1000x1, .i32⟩) rfl (by decide +kernel) (by decide +kernel) (HEq.rfl : HEq (W23 m ρ c (Proc.devRef .tc main_call6_c_2)) (call6_c_2 m ρ c)) (HEq.rfl : HEq (W23 m ρ c (Proc.devRef .tc main_call6_v5)) (call6_v5 m ρ c))
  exact h
theorem call6_v6_eq : call6_v6 m ρ c = (cmpi .sge) (call6_v4 m ρ c) (call6_v5 m ρ c) := by
  have h := (line15 m ρ c).tbinary 10 (.of main_call6_v4 : TRef sig ⟨S2x1000x1, .i32⟩) (.of main_call6_v5 : TRef sig ⟨S2x1000x1, .i32⟩) (.of main_call6_v6 : TRef sig ⟨S2x1000x1, .i1⟩) rfl (by decide +kernel) (by decide +kernel) (HEq.rfl : HEq (W23 m ρ c (Proc.devRef .tc main_call6_v4)) (call6_v4 m ρ c)) (HEq.rfl : HEq (W23 m ρ c (Proc.devRef .tc main_call6_v5)) (call6_v5 m ρ c)) (HEq.rfl : HEq (W23 m ρ c (Proc.devRef .tc main_call6_v6)) (call6_v6 m ρ c))
  exact h
theorem call6_v7_eq : call6_v7 m ρ c = (broadcastInDim S1x1x1 ![2] bcast_S1_S1x1x1_2) (call6_c_1 m ρ c) := by
  have h := (line15 m ρ c).tunary 11 (.of main_call6_c_1 : TRef sig ⟨S1, .i32⟩) (.of main_call6_v7 : TRef sig ⟨S1x1x1, .i32⟩) rfl (by decide +kernel) (by decide +kernel) (HEq.rfl : HEq (W23 m ρ c (Proc.devRef .tc main_call6_c_1)) (call6_c_1 m ρ c)) (HEq.rfl : HEq (W23 m ρ c (Proc.devRef .tc main_call6_v7)) (call6_v7 m ρ c))
  exact h
theorem call6_v8_eq : call6_v8 m ρ c = (broadcastInDim S2x1000x1 ![0, 1, 2] bcast_S1x1x1_S2x1000x1_0_1_2) (call6_v7 m ρ c) := by
  have h := (line15 m ρ c).tunary 12 (.of main_call6_v7 : TRef sig ⟨S1x1x1, .i32⟩) (.of main_call6_v8 : TRef sig ⟨S2x1000x1, .i32⟩) rfl (by decide +kernel) (by decide +kernel) (HEq.rfl : HEq (W23 m ρ c (Proc.devRef .tc main_call6_v7)) (call6_v7 m ρ c)) (HEq.rfl : HEq (W23 m ρ c (Proc.devRef .tc main_call6_v8)) (call6_v8 m ρ c))
  exact h
theorem call6_v9_eq : call6_v9 m ρ c = (cmpi .sle) (call6_v4 m ρ c) (call6_v8 m ρ c) := by
  have h := (line15 m ρ c).tbinary 13 (.of main_call6_v4 : TRef sig ⟨S2x1000x1, .i32⟩) (.of main_call6_v8 : TRef sig ⟨S2x1000x1, .i32⟩) (.of main_call6_v9 : TRef sig ⟨S2x1000x1, .i1⟩) rfl (by decide +kernel) (by decide +kernel) (HEq.rfl : HEq (W23 m ρ c (Proc.devRef .tc main_call6_v4)) (call6_v4 m ρ c)) (HEq.rfl : HEq (W23 m ρ c (Proc.devRef .tc main_call6_v8)) (call6_v8 m ρ c)) (HEq.rfl : HEq (W23 m ρ c (Proc.devRef .tc main_call6_v9)) (call6_v9 m ρ c))
  exact h
theorem call6_v10_eq : call6_v10 m ρ c = andi (call6_v6 m ρ c) (call6_v9 m ρ c) := by
  have h := (line15 m ρ c).tbinary 14 (.of main_call6_v6 : TRef sig ⟨S2x1000x1, .i1⟩) (.of main_call6_v9 : TRef sig ⟨S2x1000x1, .i1⟩) (.of main_call6_v10 : TRef sig ⟨S2x1000x1, .i1⟩) rfl (by decide +kernel) (by decide +kernel) (HEq.rfl : HEq (W23 m ρ c (Proc.devRef .tc main_call6_v6)) (call6_v6 m ρ c)) (HEq.rfl : HEq (W23 m ρ c (Proc.devRef .tc main_call6_v9)) (call6_v9 m ρ c)) (HEq.rfl : HEq (W23 m ρ c (Proc.devRef .tc main_call6_v10)) (call6_v10 m ρ c))
  exact h
theorem call6_c_3_eq : call6_c_3 m ρ c = (constantI S_ 1 1#1) := by
  have h := (line15 m ρ c).tnullary 15 (.of main_call6_c_3 : TRef sig ⟨S_, .i1⟩) rfl (by decide +kernel) (HEq.rfl : HEq (W23 m ρ c (Proc.devRef .tc main_call6_c_3)) (call6_c_3 m ρ c))
  exact h
theorem call6_v11_eq : call6_v11 m ρ c = (fun x v => Host.reduce IntOp.andi x v reducesTo_S2x1000x1_S2x1000_d2 h_S_) (call6_v10 m ρ c) (call6_c_3 m ρ c) := by
  have h := (line15 m ρ c).tbinary 16 (.of main_call6_v10 : TRef sig ⟨S2x1000x1, .i1⟩) (.of main_call6_c_3 : TRef sig ⟨S_, .i1⟩) (.of main_call6_v11 : TRef sig ⟨S2x1000, .i1⟩) rfl (by decide +kernel) (by decide +kernel) (HEq.rfl : HEq (W23 m ρ c (Proc.devRef .tc main_call6_v10)) (call6_v10 m ρ c)) (HEq.rfl : HEq (W23 m ρ c (Proc.devRef .tc main_call6_c_3)) (call6_c_3 m ρ c)) (HEq.rfl : HEq (W23 m ρ c (Proc.devRef .tc main_call6_v11)) (call6_v11 m ρ c))
  exact h
theorem call6_v12_eq : call6_v12 m ρ c = Host.gather gather_S2x22500x4_S2x1000x1_S2x1000x4_2_1_0_0_1_2_114 (v55 m ρ c) (call6_v4 m ρ c) := by
  have h := (line15 m ρ c).tbinary 17 (.of main_v55 : TRef sig ⟨S2x22500x4, .f32⟩) (.of main_call6_v4 : TRef sig ⟨S2x1000x1, .i32⟩) (.of main_call6_v12 : TRef sig ⟨S2x1000x4, .f32⟩) rfl (by decide +kernel) (by decide +kernel) (HEq.rfl : HEq (W23 m ρ c (Proc.devRef .tc main_v55)) (v55 m ρ c)) (HEq.rfl : HEq (W23 m ρ c (Proc.devRef .tc main_call6_v4)) (call6_v4 m ρ c)) (HEq.rfl : HEq (W23 m ρ c (Proc.devRef .tc main_call6_v12)) (call6_v12 m ρ c))
  exact h
theorem call6_v13_eq : call6_v13 m ρ c = (broadcastInDim S2x1000x4 ![0, 1] bcast_S2x1000_S2x1000x4_0_1) (call6_v11 m ρ c) := by
  have h := (line15 m ρ c).tunary 18 (.of main_call6_v11 : TRef sig ⟨S2x1000, .i1⟩) (.of main_call6_v13 : TRef sig ⟨S2x1000x4, .i1⟩) rfl (by decide +kernel) (by decide +kernel) (HEq.rfl : HEq (W23 m ρ c (Proc.devRef .tc main_call6_v11)) (call6_v11 m ρ c)) (HEq.rfl : HEq (W23 m ρ c (Proc.devRef .tc main_call6_v13)) (call6_v13 m ρ c))
  exact h
theorem call6_cst_eq : call6_cst m ρ c = (constant S_ .f32 0x7FC00000#32) := by
  have h := (line15 m ρ c).tnullary 19 (.of main_call6_cst : TRef sig ⟨S_, .f32⟩) rfl (by decide +kernel) (HEq.rfl : HEq (W23 m ρ c (Proc.devRef .tc main_call6_cst)) (call6_cst m ρ c))
  exact h
theorem call6_v14_eq : call6_v14 m ρ c = (broadcastInDim S2x1000x4 ![] bcast_S_S2x1000x4) (call6_cst m ρ c) := by
  have h := (line15 m ρ c).tunary 20 (.of main_call6_cst : TRef sig ⟨S_, .f32⟩) (.of main_call6_v14 : TRef sig ⟨S2x1000x4, .f32⟩) rfl (by decide +kernel) (by decide +kernel) (HEq.rfl : HEq (W23 m ρ c (Proc.devRef .tc main_call6_cst)) (call6_cst m ρ c)) (HEq.rfl : HEq (W23 m ρ c (Proc.devRef .tc main_call6_v14)) (call6_v14 m ρ c))
  exact h
theorem v57_eq : v57 m ρ c = select (call6_v13 m ρ c) (call6_v12 m ρ c) (call6_v14 m ρ c) := by
  have h := (line15 m ρ c).tternary 21 (.of main_call6_v13 : TRef sig ⟨S2x1000x4, .i1⟩) (.of main_call6_v12 : TRef sig ⟨S2x1000x4, .f32⟩) (.of main_call6_v14 : TRef sig ⟨S2x1000x4, .f32⟩) (.of main_v57 : TRef sig ⟨S2x1000x4, .f32⟩) rfl (by decide +kernel) (by decide +kernel) (HEq.rfl : HEq (W23 m ρ c (Proc.devRef .tc main_call6_v13)) (call6_v13 m ρ c)) (HEq.rfl : HEq (W23 m ρ c (Proc.devRef .tc main_call6_v12)) (call6_v12 m ρ c)) (HEq.rfl : HEq (W23 m ρ c (Proc.devRef .tc main_call6_v14)) (call6_v14 m ρ c)) (HEq.rfl : HEq (W23 m ρ c (Proc.devRef .tc main_v57)) (v57 m ρ c))
  exact h
theorem c_5_eq : c_5 m ρ c = (constantI S_ 32 0#32) := by
  have h := (line16 m ρ c).nullary  (y := main_c_5) 0 rfl (by decide +kernel)
  exact h
theorem call7_v0_eq : call7_v0 m ρ c = (sitofp .f32) (c_5 m ρ c) := by
  have h := (line17 m ρ c).tunary 0 (.of main_c_5 : TRef sig ⟨S_, .i32⟩) (.of main_call7_v0 : TRef sig ⟨S_, .f32⟩) rfl (by decide +kernel) (by decide +kernel) (HEq.rfl : HEq (W23 m ρ c (Proc.devRef .tc main_c_5)) (c_5 m ρ c)) (HEq.rfl : HEq (W23 m ρ c (Proc.devRef .tc main_call7_v0)) (call7_v0 m ρ c))
  exact h
theorem v58_eq : v58 m ρ c = (fun x v => pad S2x1024x4 ![0, 0, 0] ![0, 24, 0] ![0, 0, 0] x v pads_S2x1000x4_S2x1024x4_000_0240_000 h_S_) (v57 m ρ c) (call7_v0 m ρ c) := by
  have h := (line17 m ρ c).tbinary 1 (.of main_v57 : TRef sig ⟨S2x1000x4, .f32⟩) (.of main_call7_v0 : TRef sig ⟨S_, .f32⟩) (.of main_v58 : TRef sig ⟨S2x1024x4, .f32⟩) rfl (by decide +kernel) (by decide +kernel) (HEq.rfl : HEq (W23 m ρ c (Proc.devRef .tc main_v57)) (v57 m ρ c)) (HEq.rfl : HEq (W23 m ρ c (Proc.devRef .tc main_call7_v0)) (call7_v0 m ρ c)) (HEq.rfl : HEq (W23 m ρ c (Proc.devRef .tc main_v58)) (v58 m ρ c))
  exact h
theorem cst_6_eq : cst_6 m ρ c = (constant S_ .f32 0xCE6E6B28#32) := by
  have h := (line18 m ρ c).nullary  (y := main_cst_6) 0 rfl (by decide +kernel)
  exact h
theorem call8_v0_eq : call8_v0 m ρ c = id (cst_6 m ρ c) := by
  have h := (line19 m ρ c).tunary 0 (.of main_cst_6 : TRef sig ⟨S_, .f32⟩) (.of main_call8_v0 : TRef sig ⟨S_, .f32⟩) rfl (by decide +kernel) (by decide +kernel) (HEq.rfl : HEq (W23 m ρ c (Proc.devRef .tc main_cst_6)) (cst_6 m ρ c)) (HEq.rfl : HEq (W23 m ρ c (Proc.devRef .tc main_call8_v0)) (call8_v0 m ρ c))
  exact h
theorem v59_eq : v59 m ρ c = (fun x v => pad S2x1024 ![0, 0] ![0, 24] ![0, 0] x v pads_S2x1000_S2x1024_000_0240 h_S_) (values m ρ c) (call8_v0 m ρ c) := by
  have h := (line19 m ρ c).tbinary 1 (.of main_values : TRef sig ⟨S2x1000, .f32⟩) (.of main_call8_v0 : TRef sig ⟨S_, .f32⟩) (.of main_v59 : TRef sig ⟨S2x1024, .f32⟩) rfl (by decide +kernel) (by decide +kernel) (HEq.rfl : HEq (W23 m ρ c (Proc.devRef .tc main_values)) (values m ρ c)) (HEq.rfl : HEq (W23 m ρ c (Proc.devRef .tc main_call8_v0)) (call8_v0 m ρ c)) (HEq.rfl : HEq (W23 m ρ c (Proc.devRef .tc main_v59)) (v59 m ρ c))
  exact h
theorem v60_eq : v60 m ρ c = (transpose S2x4x1024 [0, 2, 1] · transposes_S2x1024x4_S2x4x1024_0_2_1) (v58 m ρ c) := by
  have h := (line20 m ρ c).unary (x := main_v58) (y := main_v60) 0 rfl (by decide +kernel) (by decide +kernel)
  exact h
theorem v61_eq : v61 m ρ c = broadcastInDim S2x1024x1 ![0, 1] bcast_S2x1024_S2x1024x1_0_1 (v59 m ρ c) := by
  have h := (line20 m ρ c).unary (x := main_v59) (y := main_v61) 1 rfl (by decide +kernel) (by decide +kernel)
  exact h
theorem v62_eq : v62 m ρ c = broadcastInDim S2x1x1024 ![0, 2] bcast_S2x1024_S2x1x1024_0_2 (v59 m ρ c) := by
  have h := (line20 m ρ c).unary (x := main_v59) (y := main_v62) 2 rfl (by decide +kernel) (by decide +kernel)
  exact h
theorem v64_eq : v64 m ρ c = (extractStridedSlice S2x300x4 ![0, 0, 0] · slices_S2x304x4_S2x300x4_0_0_0) (v63_0 m ρ c) := by
  have h := (line22 m ρ c).unary (x := main_v63_0) (y := main_v64) 0 rfl (by decide +kernel) (by decide +kernel)
  exact h
theorem v65_eq : v65 m ρ c = (extractStridedSlice S2x300x1 ![0, 0, 0] · slices_S2x304x1_S2x300x1_0_0_0) (v63_1 m ρ c) := by
  have h := (line22 m ρ c).unary (x := main_v63_1) (y := main_v65) 1 rfl (by decide +kernel) (by decide +kernel)
  exact h
theorem v66_eq : v66 m ρ c = (fun a b => concatenate S2x300x5 2 [⟨S2x300x4, a⟩, ⟨S2x300x1, b⟩] concatenates_S2x300x4_S2x300x1_S2x300x5_d2) (v64 m ρ c) (v65 m ρ c) := by
  have h := (line22 m ρ c).binary (a := main_v64) (b := main_v65) (y := main_v66) 2 rfl (by decide +kernel) (by decide +kernel)
  exact h

end Cert.KernelIdeal.Val

end
-- ==== Proof.KSel.lean ====
module

public import proofs.«01_k».proof.Proof.KEq

/-! The kernel program's selection: the boxes at the selected positions as one function of the positions and all boxes. -/

@[expose] public section
set_option maxRecDepth 16384
noncomputable section
namespace Cert.KernelIdeal.Val
open Cert.KernelIdeal Cert.KernelIdeal.Gen Cert.KernelIdeal.Whole
open Idealize.ShloMosaic Idealize.ShloMosaic.TcCoe Idealize.ShloMosaic.StableHlo
open Idealize.SL.Sem Cert.HostLine

variable (m : (ℓ : Loc nD τ sig) → Buf (Elt Ideal) ℓ) (ρ : Dev nD → PrngReg) (c : Dev nD)

/-- The positions as the gather reads them: one axis more, negative ones counted from the end. -/
def starts (p : IVec S2x1000 32) : IVec S2x1000x1 32 :=
  select (cmpi .slt (broadcastInDim S2x1000x1 ![0, 1] bcast_S2x1000_S2x1000x1_0_1 p) (broadcastInDim S2x1000x1 ![] bcast_S_S2x1000x1 (constantI S_ 32 0#32)))
    (addi (broadcastInDim S2x1000x1 ![0, 1] bcast_S2x1000_S2x1000x1_0_1 p) (broadcastInDim S2x1000x1 ![] bcast_S_S2x1000x1 (constantI S_ 32 22500#32)))
    (broadcastInDim S2x1000x1 ![0, 1] bcast_S2x1000_S2x1000x1_0_1 p)

/-- The boxes at the positions, the not-a-number constant where a position lies outside the array. -/
def pick (p : IVec S2x1000 32) (B : FVec Ideal S2x22500x4 .f32) : FVec Ideal S2x1000x4 .f32 :=
  select (broadcastInDim S2x1000x4 ![0, 1] bcast_S2x1000_S2x1000x4_0_1
      (Host.reduce IntOp.andi (andi (cmpi .sge (starts p) (broadcastInDim S2x1000x1 ![] bcast_S_S2x1000x1 (constantI S_ 32 0#32)))
        (cmpi .sle (starts p) (broadcastInDim S2x1000x1 ![0, 1, 2] bcast_S1x1x1_S2x1000x1_0_1_2 (broadcastInDim S1x1x1 ![2] bcast_S1_S1x1x1_2 (constantI S1 32 22499#32)))))
        (constantI S_ 1 1#1) reducesTo_S2x1000x1_S2x1000_d2 h_S_))
    (Host.gather gather_S2x22500x4_S2x1000x1_S2x1000x4_2_1_0_0_1_2_114 B (starts p))
    (broadcastInDim S2x1000x4 ![] bcast_S_S2x1000x4 (constant S_ .f32 0x7FC00000#32))

/-- The largest thousand scores of each image, in order. -/
def top (s : FVec Ideal S2x22500 .f32) : FVec Ideal S2x1000 .f32 :=
  (Host.topK S2x1000 1 (FloatOps.cmpfTotal .gt) s sliceFits_S2x22500_S2x1000).1

/-- The positions of the largest thousand scores of each image. -/
def pos (s : FVec Ideal S2x22500 .f32) : IVec S2x1000 32 :=
  (Host.topK S2x1000 1 (FloatOps.cmpfTotal .gt) s sliceFits_S2x22500_S2x1000).2

/-- The selected scores are the largest thousand of the masked scores. -/
theorem values_top : values m ρ c = top (v34 m ρ c) := by
  rw [values_eq]; unfold top; with_reducible rfl

/-- The selected boxes are the boxes at the positions of the largest thousand masked scores. -/
theorem v57_pick : v57 m ρ c = pick (pos (v34 m ρ c)) (v55 m ρ c) := by
  simp only [v57_eq, call6_v14_eq, call6_cst_eq, call6_v13_eq, call6_v12_eq, call6_v11_eq, call6_c_3_eq, call6_v10_eq, call6_v9_eq, call6_v8_eq, call6_v7_eq, call6_v6_eq, call6_v5_eq, call6_c_2_eq, call6_c_1_eq, call6_v4_eq, call6_v3_eq, call6_v2_eq, call6_c_0_eq, call6_v1_eq, call6_v0_eq, call6_c_eq, v56_eq, indices_eq]
  unfold pick starts pos
  with_reducible rfl

end Cert.KernelIdeal.Val

end
-- ==== Proof.RVal.lean ====
/-
  The final contents of every value of the reference, and the lines of operations they are written by.
-/
module

public import proofs.«01_k».proof.Proof.RRun
public import proofs.«01_k».proof.Proof.SSA
public import Idealize.ShloMosaic.Lib.Pointwise

@[expose] public section

set_option maxRecDepth 16384

noncomputable section

namespace Cert.ReferenceIdeal.Val

open Cert.ReferenceIdeal Cert.ReferenceIdeal.Gen Cert.ReferenceIdeal.Value Cert.ReferenceIdeal.Whole
open Idealize.ShloMosaic Idealize.ShloMosaic.TcCoe Idealize.ShloMosaic.StableHlo
open Idealize.SL.Sem Cert.HostLine

variable (m : (ℓ : Loc nD τ sig) → Buf (Elt Ideal) ℓ) (c : Dev nD)

/-- The final contents of `main_cst`. -/
def cst : FVec Ideal S9 .f32 := U25 m c (Proc.devRef .tc main_cst)
/-- The final contents of `main_cst_0`. -/
def cst_0 : FVec Ideal S9 .f32 := U25 m c (Proc.devRef .tc main_cst_0)
/-- The final contents of `main_c`. -/
def c0 : IVec S_ 32 := U25 m c (Proc.devRef .tc main_c)
/-- The final contents of `main_call0_v0`. -/
def call0_v0 : FVec Ideal S_ .f32 := U25 m c (Proc.devRef .tc main_call0_v0)
/-- The final contents of `main_arg1`. -/
def arg1 : FVec Ideal S2x256x50x50 .f32 := U25 m c (Proc.devRef .tc main_arg1)
/-- The final contents of `main_v0`. -/
def v0 : FVec Ideal S2x256x52x52 .f32 := U25 m c (Proc.devRef .tc main_v0)
/-- The final contents of `main_cst_1`. -/
def cst_1 : FVec Ideal S_ .f32 := U25 m c (Proc.devRef .tc main_cst_1)
/-- The final contents of `main_v1`. -/
def v1 : FVec Ideal S2x256x50x50 .f32 := U25 m c (Proc.devRef .tc main_v1)
/-- The final contents of `main_v2`. -/
def v2 : FVec Ideal S2x256x50x50 .f32 := U25 m c (Proc.devRef .tc main_v2)
/-- The final contents of `main_arg2`. -/
def arg2 : FVec Ideal S256x256x3x3 .f32 := U25 m c (Proc.devRef .tc main_arg2)
/-- The final contents of `main_v3`. -/
def v3 : FVec Ideal S256x256x1x1 .f32 := U25 m c (Proc.devRef .tc main_v3)
/-- The final contents of `main_v4`. -/
def v4 : FVec Ideal S256x256 .f32 := U25 m c (Proc.devRef .tc main_v4)
/-- The final contents of `main_v5`. -/
def v5 : FVec Ideal S256x2x50x50 .f32 := U25 m c (Proc.devRef .tc main_v5)
/-- The final contents of `main_v6`. -/
def v6 : FVec Ideal S2x256x50x50 .f32 := U25 m c (Proc.devRef .tc main_v6)
/-- The final contents of `main_v7`. -/
def v7 : FVec Ideal S2x256x50x50 .f32 := U25 m c (Proc.devRef .tc main_v7)
/-- The final contents of `main_v8`. -/
def v8 : FVec Ideal S2x256x50x50 .f32 := U25 m c (Proc.devRef .tc main_v8)
/-- The final contents of `main_v9`. -/
def v9 : FVec Ideal S256x256x1x1 .f32 := U25 m c (Proc.devRef .tc main_v9)
/-- The final contents of `main_v10`. -/
def v10 : FVec Ideal S256x256 .f32 := U25 m c (Proc.devRef .tc main_v10)
/-- The final contents of `main_v11`. -/
def v11 : FVec Ideal S256x2x50x50 .f32 := U25 m c (Proc.devRef .tc main_v11)
/-- The final contents of `main_v12`. -/
def v12 : FVec Ideal S2x256x50x50 .f32 := U25 m c (Proc.devRef .tc main_v12)
/-- The final contents of `main_v13`. -/
def v13 : FVec Ideal S2x256x50x50 .f32 := U25 m c (Proc.devRef .tc main_v13)
/-- The final contents of `main_v14`. -/
def v14 : FVec Ideal S2x256x50x50 .f32 := U25 m c (Proc.devRef .tc main_v14)
/-- The final contents of `main_v15`. -/
def v15 : FVec Ideal S256x256x1x1 .f32 := U25 m c (Proc.devRef .tc main_v15)
/-- The final contents of `main_v16`. -/
def v16 : FVec Ideal S256x256 .f32 := U25 m c (Proc.devRef .tc main_v16)
/-- The final contents of `main_v17`. -/
def v17 : FVec Ideal S256x2x50x50 .f32 := U25 m c (Proc.devRef .tc main_v17)
/-- The final contents of `main_v18`. -/
def v18 : FVec Ideal S2x256x50x50 .f32 := U25 m c (Proc.devRef .tc main_v18)
/-- The final contents of `main_v19`. -/
def v19 : FVec Ideal S2x256x50x50 .f32 := U25 m c (Proc.devRef .tc main_v19)
/-- The final contents of `main_v20`. -/
def v20 : FVec Ideal S2x256x50x50 .f32 := U25 m c (Proc.devRef .tc main_v20)
/-- The final contents of `main_v21`. -/
def v21 : FVec Ideal S256x256x1x1 .f32 := U25 m c (Proc.devRef .tc main_v21)
/-- The final contents of `main_v22`. -/
def v22 : FVec Ideal S256x256 .f32 := U25 m c (Proc.devRef .tc main_v22)
/-- The final contents of `main_v23`. -/
def v23 : FVec Ideal S256x2x50x50 .f32 := U25 m c (Proc.devRef .tc main_v23)
/-- The final contents of `main_v24`. -/
def v24 : FVec Ideal S2x256x50x50 .f32 := U25 m c (Proc.devRef .tc main_v24)
/-- The final contents of `main_v25`. -/
def v25 : FVec Ideal S2x256x50x50 .f32 := U25 m c (Proc.devRef .tc main_v25)
/-- The final contents of `main_v26`. -/
def v26 : FVec Ideal S2x256x50x50 .f32 := U25 m c (Proc.devRef .tc main_v26)
/-- The final contents of `main_v27`. -/
def v27 : FVec Ideal S256x256x1x1 .f32 := U25 m c (Proc.devRef .tc main_v27)
/-- The final contents of `main_v28`. -/
def v28 : FVec Ideal S256x256 .f32 := U25 m c (Proc.devRef .tc main_v28)
/-- The final contents of `main_v29`. -/
def v29 : FVec Ideal S256x2x50x50 .f32 := U25 m c (Proc.devRef .tc main_v29)
/-- The final contents of `main_v30`. -/
def v30 : FVec Ideal S2x256x50x50 .f32 := U25 m c (Proc.devRef .tc main_v30)
/-- The final contents of `main_v31`. -/
def v31 : FVec Ideal S2x256x50x50 .f32 := U25 m c (Proc.devRef .tc main_v31)
/-- The final contents of `main_v32`. -/
def v32 : FVec Ideal S2x256x50x50 .f32 := U25 m c (Proc.devRef .tc main_v32)
/-- The final contents of `main_v33`. -/
def v33 : FVec Ideal S256x256x1x1 .f32 := U25 m c (Proc.devRef .tc main_v33)
/-- The final contents of `main_v34`. -/
def v34 : FVec Ideal S256x256 .f32 := U25 m c (Proc.devRef .tc main_v34)
/-- The final contents of `main_v35`. -/
def v35 : FVec Ideal S256x2x50x50 .f32 := U25 m c (Proc.devRef .tc main_v35)
/-- The final contents of `main_v36`. -/
def v36 : FVec Ideal S2x256x50x50 .f32 := U25 m c (Proc.devRef .tc main_v36)
/-- The final contents of `main_v37`. -/
def v37 : FVec Ideal S2x256x50x50 .f32 := U25 m c (Proc.devRef .tc main_v37)
/-- The final contents of `main_v38`. -/
def v38 : FVec Ideal S2x256x50x50 .f32 := U25 m c (Proc.devRef .tc main_v38)
/-- The final contents of `main_v39`. -/
def v39 : FVec Ideal S256x256x1x1 .f32 := U25 m c (Proc.devRef .tc main_v39)
/-- The final contents of `main_v40`. -/
def v40 : FVec Ideal S256x256 .f32 := U25 m c (Proc.devRef .tc main_v40)
/-- The final contents of `main_v41`. -/
def v41 : FVec Ideal S256x2x50x50 .f32 := U25 m c (Proc.devRef .tc main_v41)
/-- The final contents of `main_v42`. -/
def v42 : FVec Ideal S2x256x50x50 .f32 := U25 m c (Proc.devRef .tc main_v42)
/-- The final contents of `main_v43`. -/
def v43 : FVec Ideal S2x256x50x50 .f32 := U25 m c (Proc.devRef .tc main_v43)
/-- The final contents of `main_v44`. -/
def v44 : FVec Ideal S2x256x50x50 .f32 := U25 m c (Proc.devRef .tc main_v44)
/-- The final contents of `main_v45`. -/
def v45 : FVec Ideal S256x256x1x1 .f32 := U25 m c (Proc.devRef .tc main_v45)
/-- The final contents of `main_v46`. -/
def v46 : FVec Ideal S256x256 .f32 := U25 m c (Proc.devRef .tc main_v46)
/-- The final contents of `main_v47`. -/
def v47 : FVec Ideal S256x2x50x50 .f32 := U25 m c (Proc.devRef .tc main_v47)
/-- The final contents of `main_v48`. -/
def v48 : FVec Ideal S2x256x50x50 .f32 := U25 m c (Proc.devRef .tc main_v48)
/-- The final contents of `main_v49`. -/
def v49 : FVec Ideal S2x256x50x50 .f32 := U25 m c (Proc.devRef .tc main_v49)
/-- The final contents of `main_v50`. -/
def v50 : FVec Ideal S2x256x50x50 .f32 := U25 m c (Proc.devRef .tc main_v50)
/-- The final contents of `main_v51`. -/
def v51 : FVec Ideal S256x256x1x1 .f32 := U25 m c (Proc.devRef .tc main_v51)
/-- The final contents of `main_v52`. -/
def v52 : FVec Ideal S256x256 .f32 := U25 m c (Proc.devRef .tc main_v52)
/-- The final contents of `main_v53`. -/
def v53 : FVec Ideal S256x2x50x50 .f32 := U25 m c (Proc.devRef .tc main_v53)
/-- The final contents of `main_v54`. -/
def v54 : FVec Ideal S2x256x50x50 .f32 := U25 m c (Proc.devRef .tc main_v54)
/-- The final contents of `main_v55`. -/
def v55 : FVec Ideal S2x256x50x50 .f32 := U25 m c (Proc.devRef .tc main_v55)
/-- The final contents of `main_arg3`. -/
def arg3 : FVec Ideal S256 .f32 := U25 m c (Proc.devRef .tc main_arg3)
/-- The final contents of `main_v56`. -/
def v56 : FVec Ideal S1x256x1x1 .f32 := U25 m c (Proc.devRef .tc main_v56)
/-- The final contents of `main_v57`. -/
def v57 : FVec Ideal S2x256x50x50 .f32 := U25 m c (Proc.devRef .tc main_v57)
/-- The final contents of `main_v58`. -/
def v58 : FVec Ideal S2x256x50x50 .f32 := U25 m c (Proc.devRef .tc main_v58)
/-- The final contents of `main_call1_cst`. -/
def call1_cst : FVec Ideal S_ .f32 := U25 m c (Proc.devRef .tc main_call1_cst)
/-- The final contents of `main_call1_v0`. -/
def call1_v0 : FVec Ideal S2x256x50x50 .f32 := U25 m c (Proc.devRef .tc main_call1_v0)
/-- The final contents of `main_v59`. -/
def v59 : FVec Ideal S2x256x50x50 .f32 := U25 m c (Proc.devRef .tc main_v59)
/-- The final contents of `main_arg4`. -/
def arg4 : FVec Ideal S9x256x1x1 .f32 := U25 m c (Proc.devRef .tc main_arg4)
/-- The final contents of `main_v60`. -/
def v60 : FVec Ideal S9x256 .f32 := U25 m c (Proc.devRef .tc main_v60)
/-- The final contents of `main_v61`. -/
def v61 : FVec Ideal S9x2x50x50 .f32 := U25 m c (Proc.devRef .tc main_v61)
/-- The final contents of `main_v62`. -/
def v62 : FVec Ideal S2x9x50x50 .f32 := U25 m c (Proc.devRef .tc main_v62)
/-- The final contents of `main_arg5`. -/
def arg5 : FVec Ideal S9 .f32 := U25 m c (Proc.devRef .tc main_arg5)
/-- The final contents of `main_v63`. -/
def v63 : FVec Ideal S1x9x1x1 .f32 := U25 m c (Proc.devRef .tc main_v63)
/-- The final contents of `main_v64`. -/
def v64 : FVec Ideal S2x9x50x50 .f32 := U25 m c (Proc.devRef .tc main_v64)
/-- The final contents of `main_v65`. -/
def v65 : FVec Ideal S2x9x50x50 .f32 := U25 m c (Proc.devRef .tc main_v65)
/-- The final contents of `main_arg6`. -/
def arg6 : FVec Ideal S36x256x1x1 .f32 := U25 m c (Proc.devRef .tc main_arg6)
/-- The final contents of `main_v66`. -/
def v66 : FVec Ideal S36x256 .f32 := U25 m c (Proc.devRef .tc main_v66)
/-- The final contents of `main_v67`. -/
def v67 : FVec Ideal S36x2x50x50 .f32 := U25 m c (Proc.devRef .tc main_v67)
/-- The final contents of `main_v68`. -/
def v68 : FVec Ideal S2x36x50x50 .f32 := U25 m c (Proc.devRef .tc main_v68)
/-- The final contents of `main_arg7`. -/
def arg7 : FVec Ideal S36 .f32 := U25 m c (Proc.devRef .tc main_arg7)
/-- The final contents of `main_v69`. -/
def v69 : FVec Ideal S1x36x1x1 .f32 := U25 m c (Proc.devRef .tc main_v69)
/-- The final contents of `main_v70`. -/
def v70 : FVec Ideal S2x36x50x50 .f32 := U25 m c (Proc.devRef .tc main_v70)
/-- The final contents of `main_v71`. -/
def v71 : FVec Ideal S2x36x50x50 .f32 := U25 m c (Proc.devRef .tc main_v71)
/-- The final contents of `main_v72`. -/
def v72 : FVec Ideal S2x9x1x50x50 .f32 := U25 m c (Proc.devRef .tc main_v72)
/-- The final contents of `main_v73`. -/
def v73 : FVec Ideal S2x50x50x9x1 .f32 := U25 m c (Proc.devRef .tc main_v73)
/-- The final contents of `main_v74`. -/
def v74 : FVec Ideal S2x22500x1 .f32 := U25 m c (Proc.devRef .tc main_v74)
/-- The final contents of `main_v75`. -/
def v75 : FVec Ideal S2x9x4x50x50 .f32 := U25 m c (Proc.devRef .tc main_v75)
/-- The final contents of `main_v76`. -/
def v76 : FVec Ideal S2x50x50x9x4 .f32 := U25 m c (Proc.devRef .tc main_v76)
/-- The final contents of `main_v77`. -/
def v77 : FVec Ideal S2x22500x4 .f32 := U25 m c (Proc.devRef .tc main_v77)
/-- The final contents of `main_v78`. -/
def v78 : FVec Ideal S9 .f32 := U25 m c (Proc.devRef .tc main_v78)
/-- The final contents of `main_cst_2`. -/
def cst_2 : FVec Ideal S_ .f32 := U25 m c (Proc.devRef .tc main_cst_2)
/-- The final contents of `main_v79`. -/
def v79 : FVec Ideal S9 .f32 := U25 m c (Proc.devRef .tc main_v79)
/-- The final contents of `main_v80`. -/
def v80 : FVec Ideal S9 .f32 := U25 m c (Proc.devRef .tc main_v80)
/-- The final contents of `main_v81`. -/
def v81 : FVec Ideal S9 .f32 := U25 m c (Proc.devRef .tc main_v81)
/-- The final contents of `main_cst_3`. -/
def cst_3 : FVec Ideal S_ .f32 := U25 m c (Proc.devRef .tc main_cst_3)
/-- The final contents of `main_v82`. -/
def v82 : FVec Ideal S9 .f32 := U25 m c (Proc.devRef .tc main_v82)
/-- The final contents of `main_v83`. -/
def v83 : FVec Ideal S9 .f32 := U25 m c (Proc.devRef .tc main_v83)
/-- The final contents of `main_cst_4`. -/
def cst_4 : FVec Ideal S_ .f32 := U25 m c (Proc.devRef .tc main_cst_4)
/-- The final contents of `main_v84`. -/
def v84 : FVec Ideal S9 .f32 := U25 m c (Proc.devRef .tc main_v84)
/-- The final contents of `main_v85`. -/
def v85 : FVec Ideal S9 .f32 := U25 m c (Proc.devRef .tc main_v85)
/-- The final contents of `main_cst_5`. -/
def cst_5 : FVec Ideal S_ .f32 := U25 m c (Proc.devRef .tc main_cst_5)
/-- The final contents of `main_v86`. -/
def v86 : FVec Ideal S9 .f32 := U25 m c (Proc.devRef .tc main_v86)
/-- The final contents of `main_v87`. -/
def v87 : FVec Ideal S9 .f32 := U25 m c (Proc.devRef .tc main_v87)
/-- The final contents of `main_v88`. -/
def v88 : FVec Ideal S9x1 .f32 := U25 m c (Proc.devRef .tc main_v88)
/-- The final contents of `main_v89`. -/
def v89 : FVec Ideal S9x1 .f32 := U25 m c (Proc.devRef .tc main_v89)
/-- The final contents of `main_v90`. -/
def v90 : FVec Ideal S9x1 .f32 := U25 m c (Proc.devRef .tc main_v90)
/-- The final contents of `main_v91`. -/
def v91 : FVec Ideal S9x1 .f32 := U25 m c (Proc.devRef .tc main_v91)
/-- The final contents of `main_v92`. -/
def v92 : FVec Ideal S9x4 .f32 := U25 m c (Proc.devRef .tc main_v92)
/-- The final contents of `main_v93`. -/
def v93 : IVec S50x50 32 := U25 m c (Proc.devRef .tc main_v93)
/-- The final contents of `main_v94`. -/
def v94 : FVec Ideal S50x50 .f32 := U25 m c (Proc.devRef .tc main_v94)
/-- The final contents of `main_cst_6`. -/
def cst_6 : FVec Ideal S_ .f32 := U25 m c (Proc.devRef .tc main_cst_6)
/-- The final contents of `main_v95`. -/
def v95 : FVec Ideal S50x50 .f32 := U25 m c (Proc.devRef .tc main_v95)
/-- The final contents of `main_v96`. -/
def v96 : FVec Ideal S50x50 .f32 := U25 m c (Proc.devRef .tc main_v96)
/-- The final contents of `main_cst_7`. -/
def cst_7 : FVec Ideal S_ .f32 := U25 m c (Proc.devRef .tc main_cst_7)
/-- The final contents of `main_v97`. -/
def v97 : FVec Ideal S50x50 .f32 := U25 m c (Proc.devRef .tc main_v97)
/-- The final contents of `main_v98`. -/
def v98 : FVec Ideal S50x50 .f32 := U25 m c (Proc.devRef .tc main_v98)
/-- The final contents of `main_v99`. -/
def v99 : IVec S50x50 32 := U25 m c (Proc.devRef .tc main_v99)
/-- The final contents of `main_v100`. -/
def v100 : FVec Ideal S50x50 .f32 := U25 m c (Proc.devRef .tc main_v100)
/-- The final contents of `main_cst_8`. -/
def cst_8 : FVec Ideal S_ .f32 := U25 m c (Proc.devRef .tc main_cst_8)
/-- The final contents of `main_v101`. -/
def v101 : FVec Ideal S50x50 .f32 := U25 m c (Proc.devRef .tc main_v101)
/-- The final contents of `main_v102`. -/
def v102 : FVec Ideal S50x50 .f32 := U25 m c (Proc.devRef .tc main_v102)
/-- The final contents of `main_cst_9`. -/
def cst_9 : FVec Ideal S_ .f32 := U25 m c (Proc.devRef .tc main_cst_9)
/-- The final contents of `main_v103`. -/
def v103 : FVec Ideal S50x50 .f32 := U25 m c (Proc.devRef .tc main_v103)
/-- The final contents of `main_v104`. -/
def v104 : FVec Ideal S50x50 .f32 := U25 m c (Proc.devRef .tc main_v104)
/-- The final contents of `main_v105`. -/
def v105 : FVec Ideal S50x50x1 .f32 := U25 m c (Proc.devRef .tc main_v105)
/-- The final contents of `main_v106`. -/
def v106 : FVec Ideal S50x50x1 .f32 := U25 m c (Proc.devRef .tc main_v106)
/-- The final contents of `main_v107`. -/
def v107 : FVec Ideal S50x50x1 .f32 := U25 m c (Proc.devRef .tc main_v107)
/-- The final contents of `main_v108`. -/
def v108 : FVec Ideal S50x50x1 .f32 := U25 m c (Proc.devRef .tc main_v108)
/-- The final contents of `main_v109`. -/
def v109 : FVec Ideal S50x50x4 .f32 := U25 m c (Proc.devRef .tc main_v109)
/-- The final contents of `main_v110`. -/
def v110 : FVec Ideal S2500x4 .f32 := U25 m c (Proc.devRef .tc main_v110)
/-- The final contents of `main_v111`. -/
def v111 : FVec Ideal S2500x1x4 .f32 := U25 m c (Proc.devRef .tc main_v111)
/-- The final contents of `main_v112`. -/
def v112 : FVec Ideal S1x9x4 .f32 := U25 m c (Proc.devRef .tc main_v112)
/-- The final contents of `main_v113`. -/
def v113 : FVec Ideal S2500x9x4 .f32 := U25 m c (Proc.devRef .tc main_v113)
/-- The final contents of `main_v114`. -/
def v114 : FVec Ideal S2500x9x4 .f32 := U25 m c (Proc.devRef .tc main_v114)
/-- The final contents of `main_v115`. -/
def v115 : FVec Ideal S2500x9x4 .f32 := U25 m c (Proc.devRef .tc main_v115)
/-- The final contents of `main_v116`. -/
def v116 : FVec Ideal S22500x4 .f32 := U25 m c (Proc.devRef .tc main_v116)
/-- The final contents of `main_v117`. -/
def v117 : FVec Ideal S2x22500 .f32 := U25 m c (Proc.devRef .tc main_v117)
/-- The final contents of `main_v118`. -/
def v118 : FVec Ideal S2x22500 .f32 := U25 m c (Proc.devRef .tc main_v118)
/-- The final contents of `main_v119`. -/
def v119 : FVec Ideal S2x22500 .f32 := U25 m c (Proc.devRef .tc main_v119)
/-- The final contents of `main_cst_10`. -/
def cst_10 : FVec Ideal S_ .f32 := U25 m c (Proc.devRef .tc main_cst_10)
/-- The final contents of `main_v120`. -/
def v120 : FVec Ideal S2x22500 .f32 := U25 m c (Proc.devRef .tc main_v120)
/-- The final contents of `main_v121`. -/
def v121 : FVec Ideal S2x22500 .f32 := U25 m c (Proc.devRef .tc main_v121)
/-- The final contents of `main_cst_11`. -/
def cst_11 : FVec Ideal S_ .f32 := U25 m c (Proc.devRef .tc main_cst_11)
/-- The final contents of `main_v122`. -/
def v122 : FVec Ideal S2x22500 .f32 := U25 m c (Proc.devRef .tc main_v122)
/-- The final contents of `main_v123`. -/
def v123 : FVec Ideal S2x22500 .f32 := U25 m c (Proc.devRef .tc main_v123)
/-- The final contents of `main_v124`. -/
def v124 : FVec Ideal S22500x1 .f32 := U25 m c (Proc.devRef .tc main_v124)
/-- The final contents of `main_v125`. -/
def v125 : FVec Ideal S22500 .f32 := U25 m c (Proc.devRef .tc main_v125)
/-- The final contents of `main_v126`. -/
def v126 : FVec Ideal S22500x1 .f32 := U25 m c (Proc.devRef .tc main_v126)
/-- The final contents of `main_v127`. -/
def v127 : FVec Ideal S22500 .f32 := U25 m c (Proc.devRef .tc main_v127)
/-- The final contents of `main_v128`. -/
def v128 : FVec Ideal S22500 .f32 := U25 m c (Proc.devRef .tc main_v128)
/-- The final contents of `main_v129`. -/
def v129 : FVec Ideal S22500x1 .f32 := U25 m c (Proc.devRef .tc main_v129)
/-- The final contents of `main_v130`. -/
def v130 : FVec Ideal S22500 .f32 := U25 m c (Proc.devRef .tc main_v130)
/-- The final contents of `main_v131`. -/
def v131 : FVec Ideal S22500x1 .f32 := U25 m c (Proc.devRef .tc main_v131)
/-- The final contents of `main_v132`. -/
def v132 : FVec Ideal S22500 .f32 := U25 m c (Proc.devRef .tc main_v132)
/-- The final contents of `main_v133`. -/
def v133 : FVec Ideal S22500 .f32 := U25 m c (Proc.devRef .tc main_v133)
/-- The final contents of `main_v134`. -/
def v134 : FVec Ideal S22500x1 .f32 := U25 m c (Proc.devRef .tc main_v134)
/-- The final contents of `main_v135`. -/
def v135 : FVec Ideal S22500 .f32 := U25 m c (Proc.devRef .tc main_v135)
/-- The final contents of `main_cst_12`. -/
def cst_12 : FVec Ideal S_ .f32 := U25 m c (Proc.devRef .tc main_cst_12)
/-- The final contents of `main_v136`. -/
def v136 : FVec Ideal S22500 .f32 := U25 m c (Proc.devRef .tc main_v136)
/-- The final contents of `main_v137`. -/
def v137 : FVec Ideal S22500 .f32 := U25 m c (Proc.devRef .tc main_v137)
/-- The final contents of `main_v138`. -/
def v138 : FVec Ideal S22500 .f32 := U25 m c (Proc.devRef .tc main_v138)
/-- The final contents of `main_v139`. -/
def v139 : FVec Ideal S22500x1 .f32 := U25 m c (Proc.devRef .tc main_v139)
/-- The final contents of `main_v140`. -/
def v140 : FVec Ideal S22500 .f32 := U25 m c (Proc.devRef .tc main_v140)
/-- The final contents of `main_cst_13`. -/
def cst_13 : FVec Ideal S_ .f32 := U25 m c (Proc.devRef .tc main_cst_13)
/-- The final contents of `main_v141`. -/
def v141 : FVec Ideal S22500 .f32 := U25 m c (Proc.devRef .tc main_v141)
/-- The final contents of `main_v142`. -/
def v142 : FVec Ideal S22500 .f32 := U25 m c (Proc.devRef .tc main_v142)
/-- The final contents of `main_v143`. -/
def v143 : FVec Ideal S22500 .f32 := U25 m c (Proc.devRef .tc main_v143)
/-- The final contents of `main_v144`. -/
def v144 : FVec Ideal S2x22500x1 .f32 := U25 m c (Proc.devRef .tc main_v144)
/-- The final contents of `main_v145`. -/
def v145 : FVec Ideal S2x22500 .f32 := U25 m c (Proc.devRef .tc main_v145)
/-- The final contents of `main_v146`. -/
def v146 : FVec Ideal S2x22500x1 .f32 := U25 m c (Proc.devRef .tc main_v146)
/-- The final contents of `main_v147`. -/
def v147 : FVec Ideal S2x22500 .f32 := U25 m c (Proc.devRef .tc main_v147)
/-- The final contents of `main_v148`. -/
def v148 : FVec Ideal S2x22500x1 .f32 := U25 m c (Proc.devRef .tc main_v148)
/-- The final contents of `main_v149`. -/
def v149 : FVec Ideal S2x22500 .f32 := U25 m c (Proc.devRef .tc main_v149)
/-- The final contents of `main_v150`. -/
def v150 : FVec Ideal S2x22500x1 .f32 := U25 m c (Proc.devRef .tc main_v150)
/-- The final contents of `main_v151`. -/
def v151 : FVec Ideal S2x22500 .f32 := U25 m c (Proc.devRef .tc main_v151)
/-- The final contents of `main_cst_14`. -/
def cst_14 : FVec Ideal S_ .f32 := U25 m c (Proc.devRef .tc main_cst_14)
/-- The final contents of `main_v152`. -/
def v152 : FVec Ideal S2x22500 .f32 := U25 m c (Proc.devRef .tc main_v152)
/-- The final contents of `main_v153`. -/
def v153 : FVec Ideal S2x22500 .f32 := U25 m c (Proc.devRef .tc main_v153)
/-- The final contents of `main_cst_15`. -/
def cst_15 : FVec Ideal S_ .f32 := U25 m c (Proc.devRef .tc main_cst_15)
/-- The final contents of `main_v154`. -/
def v154 : FVec Ideal S2x22500 .f32 := U25 m c (Proc.devRef .tc main_v154)
/-- The final contents of `main_v155`. -/
def v155 : FVec Ideal S2x22500 .f32 := U25 m c (Proc.devRef .tc main_v155)
/-- The final contents of `main_v156`. -/
def v156 : FVec Ideal S1x22500 .f32 := U25 m c (Proc.devRef .tc main_v156)
/-- The final contents of `main_v157`. -/
def v157 : FVec Ideal S2x22500 .f32 := U25 m c (Proc.devRef .tc main_v157)
/-- The final contents of `main_v158`. -/
def v158 : FVec Ideal S2x22500 .f32 := U25 m c (Proc.devRef .tc main_v158)
/-- The final contents of `main_v159`. -/
def v159 : FVec Ideal S1x22500 .f32 := U25 m c (Proc.devRef .tc main_v159)
/-- The final contents of `main_v160`. -/
def v160 : FVec Ideal S2x22500 .f32 := U25 m c (Proc.devRef .tc main_v160)
/-- The final contents of `main_v161`. -/
def v161 : FVec Ideal S2x22500 .f32 := U25 m c (Proc.devRef .tc main_v161)
/-- The final contents of `main_v162`. -/
def v162 : FVec Ideal S1x22500 .f32 := U25 m c (Proc.devRef .tc main_v162)
/-- The final contents of `main_v163`. -/
def v163 : FVec Ideal S2x22500 .f32 := U25 m c (Proc.devRef .tc main_v163)
/-- The final contents of `main_v164`. -/
def v164 : FVec Ideal S2x22500 .f32 := U25 m c (Proc.devRef .tc main_v164)
/-- The final contents of `main_v165`. -/
def v165 : FVec Ideal S1x22500 .f32 := U25 m c (Proc.devRef .tc main_v165)
/-- The final contents of `main_v166`. -/
def v166 : FVec Ideal S2x22500 .f32 := U25 m c (Proc.devRef .tc main_v166)
/-- The final contents of `main_v167`. -/
def v167 : FVec Ideal S2x22500 .f32 := U25 m c (Proc.devRef .tc main_v167)
/-- The final contents of `main_v168`. -/
def v168 : FVec Ideal S2x22500 .f32 := U25 m c (Proc.devRef .tc main_v168)
/-- The final contents of `main_v169`. -/
def v169 : FVec Ideal S1x22500 .f32 := U25 m c (Proc.devRef .tc main_v169)
/-- The final contents of `main_v170`. -/
def v170 : FVec Ideal S2x22500 .f32 := U25 m c (Proc.devRef .tc main_v170)
/-- The final contents of `main_v171`. -/
def v171 : FVec Ideal S2x22500 .f32 := U25 m c (Proc.devRef .tc main_v171)
/-- The final contents of `main_v172`. -/
def v172 : FVec Ideal S2x22500 .f32 := U25 m c (Proc.devRef .tc main_v172)
/-- The final contents of `main_v173`. -/
def v173 : FVec Ideal S1x22500 .f32 := U25 m c (Proc.devRef .tc main_v173)
/-- The final contents of `main_v174`. -/
def v174 : FVec Ideal S2x22500 .f32 := U25 m c (Proc.devRef .tc main_v174)
/-- The final contents of `main_v175`. -/
def v175 : FVec Ideal S2x22500 .f32 := U25 m c (Proc.devRef .tc main_v175)
/-- The final contents of `main_cst_16`. -/
def cst_16 : FVec Ideal S_ .f32 := U25 m c (Proc.devRef .tc main_cst_16)
/-- The final contents of `main_v176`. -/
def v176 : FVec Ideal S2x22500 .f32 := U25 m c (Proc.devRef .tc main_v176)
/-- The final contents of `main_v177`. -/
def v177 : FVec Ideal S2x22500 .f32 := U25 m c (Proc.devRef .tc main_v177)
/-- The final contents of `main_v178`. -/
def v178 : FVec Ideal S2x22500 .f32 := U25 m c (Proc.devRef .tc main_v178)
/-- The final contents of `main_cst_17`. -/
def cst_17 : FVec Ideal S_ .f32 := U25 m c (Proc.devRef .tc main_cst_17)
/-- The final contents of `main_v179`. -/
def v179 : FVec Ideal S2x22500 .f32 := U25 m c (Proc.devRef .tc main_v179)
/-- The final contents of `main_v180`. -/
def v180 : FVec Ideal S2x22500 .f32 := U25 m c (Proc.devRef .tc main_v180)
/-- The final contents of `main_v181`. -/
def v181 : FVec Ideal S2x22500 .f32 := U25 m c (Proc.devRef .tc main_v181)
/-- The final contents of `main_cst_18`. -/
def cst_18 : FVec Ideal S_ .f32 := U25 m c (Proc.devRef .tc main_cst_18)
/-- The final contents of `main_v182`. -/
def v182 : FVec Ideal S2x22500 .f32 := U25 m c (Proc.devRef .tc main_v182)
/-- The final contents of `main_v183`. -/
def v183 : FVec Ideal S2x22500 .f32 := U25 m c (Proc.devRef .tc main_v183)
/-- The final contents of `main_v184`. -/
def v184 : FVec Ideal S2x22500 .f32 := U25 m c (Proc.devRef .tc main_v184)
/-- The final contents of `main_cst_19`. -/
def cst_19 : FVec Ideal S_ .f32 := U25 m c (Proc.devRef .tc main_cst_19)
/-- The final contents of `main_v185`. -/
def v185 : FVec Ideal S2x22500 .f32 := U25 m c (Proc.devRef .tc main_v185)
/-- The final contents of `main_v186`. -/
def v186 : FVec Ideal S2x22500 .f32 := U25 m c (Proc.devRef .tc main_v186)
/-- The final contents of `main_v187`. -/
def v187 : FVec Ideal S2x22500 .f32 := U25 m c (Proc.devRef .tc main_v187)
/-- The final contents of `main_cst_20`. -/
def cst_20 : FVec Ideal S_ .f32 := U25 m c (Proc.devRef .tc main_cst_20)
/-- The final contents of `main_cst_21`. -/
def cst_21 : FVec Ideal S_ .f32 := U25 m c (Proc.devRef .tc main_cst_21)
/-- The final contents of `main_call2_v0`. -/
def call2_v0 : FVec Ideal S_ .f32 := U25 m c (Proc.devRef .tc main_call2_v0)
/-- The final contents of `main_call2_v1`. -/
def call2_v1 : FVec Ideal S2x22500 .f32 := U25 m c (Proc.devRef .tc main_call2_v1)
/-- The final contents of `main_call2_v2`. -/
def call2_v2 : FVec Ideal S2x22500 .f32 := U25 m c (Proc.devRef .tc main_call2_v2)
/-- The final contents of `main_call2_v3`. -/
def call2_v3 : FVec Ideal S_ .f32 := U25 m c (Proc.devRef .tc main_call2_v3)
/-- The final contents of `main_call2_v4`. -/
def call2_v4 : FVec Ideal S2x22500 .f32 := U25 m c (Proc.devRef .tc main_call2_v4)
/-- The final contents of `main_v188`. -/
def v188 : FVec Ideal S2x22500 .f32 := U25 m c (Proc.devRef .tc main_v188)
/-- The final contents of `main_cst_22`. -/
def cst_22 : FVec Ideal S_ .f32 := U25 m c (Proc.devRef .tc main_cst_22)
/-- The final contents of `main_cst_23`. -/
def cst_23 : FVec Ideal S_ .f32 := U25 m c (Proc.devRef .tc main_cst_23)
/-- The final contents of `main_call3_v0`. -/
def call3_v0 : FVec Ideal S_ .f32 := U25 m c (Proc.devRef .tc main_call3_v0)
/-- The final contents of `main_call3_v1`. -/
def call3_v1 : FVec Ideal S2x22500 .f32 := U25 m c (Proc.devRef .tc main_call3_v1)
/-- The final contents of `main_call3_v2`. -/
def call3_v2 : FVec Ideal S2x22500 .f32 := U25 m c (Proc.devRef .tc main_call3_v2)
/-- The final contents of `main_call3_v3`. -/
def call3_v3 : FVec Ideal S_ .f32 := U25 m c (Proc.devRef .tc main_call3_v3)
/-- The final contents of `main_call3_v4`. -/
def call3_v4 : FVec Ideal S2x22500 .f32 := U25 m c (Proc.devRef .tc main_call3_v4)
/-- The final contents of `main_v189`. -/
def v189 : FVec Ideal S2x22500 .f32 := U25 m c (Proc.devRef .tc main_v189)
/-- The final contents of `main_cst_24`. -/
def cst_24 : FVec Ideal S_ .f32 := U25 m c (Proc.devRef .tc main_cst_24)
/-- The final contents of `main_cst_25`. -/
def cst_25 : FVec Ideal S_ .f32 := U25 m c (Proc.devRef .tc main_cst_25)
/-- The final contents of `main_call4_v0`. -/
def call4_v0 : FVec Ideal S_ .f32 := U25 m c (Proc.devRef .tc main_call4_v0)
/-- The final contents of `main_call4_v1`. -/
def call4_v1 : FVec Ideal S2x22500 .f32 := U25 m c (Proc.devRef .tc main_call4_v1)
/-- The final contents of `main_call4_v2`. -/
def call4_v2 : FVec Ideal S2x22500 .f32 := U25 m c (Proc.devRef .tc main_call4_v2)
/-- The final contents of `main_call4_v3`. -/
def call4_v3 : FVec Ideal S_ .f32 := U25 m c (Proc.devRef .tc main_call4_v3)
/-- The final contents of `main_call4_v4`. -/
def call4_v4 : FVec Ideal S2x22500 .f32 := U25 m c (Proc.devRef .tc main_call4_v4)
/-- The final contents of `main_v190`. -/
def v190 : FVec Ideal S2x22500 .f32 := U25 m c (Proc.devRef .tc main_v190)
/-- The final contents of `main_cst_26`. -/
def cst_26 : FVec Ideal S_ .f32 := U25 m c (Proc.devRef .tc main_cst_26)
/-- The final contents of `main_cst_27`. -/
def cst_27 : FVec Ideal S_ .f32 := U25 m c (Proc.devRef .tc main_cst_27)
/-- The final contents of `main_call5_v0`. -/
def call5_v0 : FVec Ideal S_ .f32 := U25 m c (Proc.devRef .tc main_call5_v0)
/-- The final contents of `main_call5_v1`. -/
def call5_v1 : FVec Ideal S2x22500 .f32 := U25 m c (Proc.devRef .tc main_call5_v1)
/-- The final contents of `main_call5_v2`. -/
def call5_v2 : FVec Ideal S2x22500 .f32 := U25 m c (Proc.devRef .tc main_call5_v2)
/-- The final contents of `main_call5_v3`. -/
def call5_v3 : FVec Ideal S_ .f32 := U25 m c (Proc.devRef .tc main_call5_v3)
/-- The final contents of `main_call5_v4`. -/
def call5_v4 : FVec Ideal S2x22500 .f32 := U25 m c (Proc.devRef .tc main_call5_v4)
/-- The final contents of `main_v191`. -/
def v191 : FVec Ideal S2x22500 .f32 := U25 m c (Proc.devRef .tc main_v191)
/-- The final contents of `main_v192`. -/
def v192 : FVec Ideal S2x22500 .f32 := U25 m c (Proc.devRef .tc main_v192)
/-- The final contents of `main_v193`. -/
def v193 : FVec Ideal S2x22500 .f32 := U25 m c (Proc.devRef .tc main_v193)
/-- The final contents of `main_v194`. -/
def v194 : FVec Ideal S2x22500x1 .f32 := U25 m c (Proc.devRef .tc main_v194)
/-- The final contents of `main_v195`. -/
def v195 : FVec Ideal S2x22500x1 .f32 := U25 m c (Proc.devRef .tc main_v195)
/-- The final contents of `main_v196`. -/
def v196 : FVec Ideal S2x22500x1 .f32 := U25 m c (Proc.devRef .tc main_v196)
/-- The final contents of `main_v197`. -/
def v197 : FVec Ideal S2x22500x1 .f32 := U25 m c (Proc.devRef .tc main_v197)
/-- The final contents of `main_v198`. -/
def v198 : FVec Ideal S2x22500x4 .f32 := U25 m c (Proc.devRef .tc main_v198)
/-- The final contents of `main_cst_28`. -/
def cst_28 : FVec Ideal S_ .f32 := U25 m c (Proc.devRef .tc main_cst_28)
/-- The final contents of `main_v199`. -/
def v199 : FVec Ideal S2x22500 .f32 := U25 m c (Proc.devRef .tc main_v199)
/-- The final contents of `main_v200`. -/
def v200 : IVec S2x22500 1 := U25 m c (Proc.devRef .tc main_v200)
/-- The final contents of `main_cst_29`. -/
def cst_29 : FVec Ideal S_ .f32 := U25 m c (Proc.devRef .tc main_cst_29)
/-- The final contents of `main_v201`. -/
def v201 : FVec Ideal S2x22500 .f32 := U25 m c (Proc.devRef .tc main_v201)
/-- The final contents of `main_v202`. -/
def v202 : IVec S2x22500 1 := U25 m c (Proc.devRef .tc main_v202)
/-- The final contents of `main_v203`. -/
def v203 : IVec S2x22500 1 := U25 m c (Proc.devRef .tc main_v203)
/-- The final contents of `main_cst_30`. -/
def cst_30 : FVec Ideal S_ .f32 := U25 m c (Proc.devRef .tc main_cst_30)
/-- The final contents of `main_v204`. -/
def v204 : FVec Ideal S2x22500 .f32 := U25 m c (Proc.devRef .tc main_v204)
/-- The final contents of `main_v205`. -/
def v205 : IVec S2x22500 1 := U25 m c (Proc.devRef .tc main_v205)
/-- The final contents of `main_v206`. -/
def v206 : IVec S2x22500 1 := U25 m c (Proc.devRef .tc main_v206)
/-- The final contents of `main_cst_31`. -/
def cst_31 : FVec Ideal S_ .f32 := U25 m c (Proc.devRef .tc main_cst_31)
/-- The final contents of `main_call6_v0`. -/
def call6_v0 : FVec Ideal S_ .f32 := U25 m c (Proc.devRef .tc main_call6_v0)
/-- The final contents of `main_call6_v1`. -/
def call6_v1 : FVec Ideal S2x22500 .f32 := U25 m c (Proc.devRef .tc main_call6_v1)
/-- The final contents of `main_v207`. -/
def v207 : FVec Ideal S2x22500 .f32 := U25 m c (Proc.devRef .tc main_v207)
/-- The final contents of `main_values`. -/
def values : FVec Ideal S2x1000 .f32 := U25 m c (Proc.devRef .tc main_values)
/-- The final contents of `main_indices`. -/
def indices : IVec S2x1000 32 := U25 m c (Proc.devRef .tc main_indices)
/-- The final contents of `main_v208`. -/
def v208 : IVec S2x1000x1 32 := U25 m c (Proc.devRef .tc main_v208)
/-- The final contents of `main_call7_c`. -/
def call7_c : IVec S_ 32 := U25 m c (Proc.devRef .tc main_call7_c)
/-- The final contents of `main_call7_v0`. -/
def call7_v0 : IVec S2x1000x1 32 := U25 m c (Proc.devRef .tc main_call7_v0)
/-- The final contents of `main_call7_v1`. -/
def call7_v1 : IVec S2x1000x1 1 := U25 m c (Proc.devRef .tc main_call7_v1)
/-- The final contents of `main_call7_c_0`. -/
def call7_c_0 : IVec S_ 32 := U25 m c (Proc.devRef .tc main_call7_c_0)
/-- The final contents of `main_call7_v2`. -/
def call7_v2 : IVec S2x1000x1 32 := U25 m c (Proc.devRef .tc main_call7_v2)
/-- The final contents of `main_call7_v3`. -/
def call7_v3 : IVec S2x1000x1 32 := U25 m c (Proc.devRef .tc main_call7_v3)
/-- The final contents of `main_call7_v4`. -/
def call7_v4 : IVec S2x1000x1 32 := U25 m c (Proc.devRef .tc main_call7_v4)
/-- The final contents of `main_call7_c_1`. -/
def call7_c_1 : IVec S1 32 := U25 m c (Proc.devRef .tc main_call7_c_1)
/-- The final contents of `main_call7_c_2`. -/
def call7_c_2 : IVec S_ 32 := U25 m c (Proc.devRef .tc main_call7_c_2)
/-- The final contents of `main_call7_v5`. -/
def call7_v5 : IVec S2x1000x1 32 := U25 m c (Proc.devRef .tc main_call7_v5)
/-- The final contents of `main_call7_v6`. -/
def call7_v6 : IVec S2x1000x1 1 := U25 m c (Proc.devRef .tc main_call7_v6)
/-- The final contents of `main_call7_v7`. -/
def call7_v7 : IVec S1x1x1 32 := U25 m c (Proc.devRef .tc main_call7_v7)
/-- The final contents of `main_call7_v8`. -/
def call7_v8 : IVec S2x1000x1 32 := U25 m c (Proc.devRef .tc main_call7_v8)
/-- The final contents of `main_call7_v9`. -/
def call7_v9 : IVec S2x1000x1 1 := U25 m c (Proc.devRef .tc main_call7_v9)
/-- The final contents of `main_call7_v10`. -/
def call7_v10 : IVec S2x1000x1 1 := U25 m c (Proc.devRef .tc main_call7_v10)
/-- The final contents of `main_call7_c_3`. -/
def call7_c_3 : IVec S_ 1 := U25 m c (Proc.devRef .tc main_call7_c_3)
/-- The final contents of `main_call7_v11`. -/
def call7_v11 : IVec S2x1000 1 := U25 m c (Proc.devRef .tc main_call7_v11)
/-- The final contents of `main_call7_v12`. -/
def call7_v12 : FVec Ideal S2x1000x4 .f32 := U25 m c (Proc.devRef .tc main_call7_v12)
/-- The final contents of `main_call7_v13`. -/
def call7_v13 : IVec S2x1000x4 1 := U25 m c (Proc.devRef .tc main_call7_v13)
/-- The final contents of `main_call7_cst`. -/
def call7_cst : FVec Ideal S_ .f32 := U25 m c (Proc.devRef .tc main_call7_cst)
/-- The final contents of `main_call7_v14`. -/
def call7_v14 : FVec Ideal S2x1000x4 .f32 := U25 m c (Proc.devRef .tc main_call7_v14)
/-- The final contents of `main_v209`. -/
def v209 : FVec Ideal S2x1000x4 .f32 := U25 m c (Proc.devRef .tc main_v209)
/-- The final contents of `main_v210`. -/
def v210 : FVec Ideal S2x1000x1 .f32 := U25 m c (Proc.devRef .tc main_v210)
/-- The final contents of `main_v211`. -/
def v211 : FVec Ideal S2x1000 .f32 := U25 m c (Proc.devRef .tc main_v211)
/-- The final contents of `main_v212`. -/
def v212 : FVec Ideal S2x1000x1 .f32 := U25 m c (Proc.devRef .tc main_v212)
/-- The final contents of `main_v213`. -/
def v213 : FVec Ideal S2x1000 .f32 := U25 m c (Proc.devRef .tc main_v213)
/-- The final contents of `main_v214`. -/
def v214 : FVec Ideal S2x1000 .f32 := U25 m c (Proc.devRef .tc main_v214)
/-- The final contents of `main_v215`. -/
def v215 : FVec Ideal S2x1000x1 .f32 := U25 m c (Proc.devRef .tc main_v215)
/-- The final contents of `main_v216`. -/
def v216 : FVec Ideal S2x1000 .f32 := U25 m c (Proc.devRef .tc main_v216)
/-- The final contents of `main_v217`. -/
def v217 : FVec Ideal S2x1000x1 .f32 := U25 m c (Proc.devRef .tc main_v217)
/-- The final contents of `main_v218`. -/
def v218 : FVec Ideal S2x1000 .f32 := U25 m c (Proc.devRef .tc main_v218)
/-- The final contents of `main_v219`. -/
def v219 : FVec Ideal S2x1000 .f32 := U25 m c (Proc.devRef .tc main_v219)
/-- The final contents of `main_v220`. -/
def v220 : FVec Ideal S2x1000 .f32 := U25 m c (Proc.devRef .tc main_v220)
/-- The final contents of `main_v221`. -/
def v221 : FVec Ideal S2x1000x1 .f32 := U25 m c (Proc.devRef .tc main_v221)
/-- The final contents of `main_v222`. -/
def v222 : FVec Ideal S2x1000 .f32 := U25 m c (Proc.devRef .tc main_v222)
/-- The final contents of `main_v223`. -/
def v223 : FVec Ideal S2x1000x1 .f32 := U25 m c (Proc.devRef .tc main_v223)
/-- The final contents of `main_v224`. -/
def v224 : FVec Ideal S2x1000 .f32 := U25 m c (Proc.devRef .tc main_v224)
/-- The final contents of `main_v225`. -/
def v225 : FVec Ideal S2x1000 .f32 := U25 m c (Proc.devRef .tc main_v225)
/-- The final contents of `main_v226`. -/
def v226 : FVec Ideal S2x1000x1 .f32 := U25 m c (Proc.devRef .tc main_v226)
/-- The final contents of `main_v227`. -/
def v227 : FVec Ideal S2x1000 .f32 := U25 m c (Proc.devRef .tc main_v227)
/-- The final contents of `main_v228`. -/
def v228 : FVec Ideal S2x1000x1 .f32 := U25 m c (Proc.devRef .tc main_v228)
/-- The final contents of `main_v229`. -/
def v229 : FVec Ideal S2x1000 .f32 := U25 m c (Proc.devRef .tc main_v229)
/-- The final contents of `main_v230`. -/
def v230 : FVec Ideal S2x1000 .f32 := U25 m c (Proc.devRef .tc main_v230)
/-- The final contents of `main_v231`. -/
def v231 : FVec Ideal S2x1000 .f32 := U25 m c (Proc.devRef .tc main_v231)
/-- The final contents of `main_v232`. -/
def v232 : FVec Ideal S2x1000x2 .f32 := U25 m c (Proc.devRef .tc main_v232)
/-- The final contents of `main_v233`. -/
def v233 : FVec Ideal S2x1000x1x2 .f32 := U25 m c (Proc.devRef .tc main_v233)
/-- The final contents of `main_v234`. -/
def v234 : FVec Ideal S2x1000x2 .f32 := U25 m c (Proc.devRef .tc main_v234)
/-- The final contents of `main_v235`. -/
def v235 : FVec Ideal S2x1x1000x2 .f32 := U25 m c (Proc.devRef .tc main_v235)
/-- The final contents of `main_v236`. -/
def v236 : FVec Ideal S2x1000x1000x2 .f32 := U25 m c (Proc.devRef .tc main_v236)
/-- The final contents of `main_v237`. -/
def v237 : FVec Ideal S2x1000x1000x2 .f32 := U25 m c (Proc.devRef .tc main_v237)
/-- The final contents of `main_v238`. -/
def v238 : FVec Ideal S2x1000x1000x2 .f32 := U25 m c (Proc.devRef .tc main_v238)
/-- The final contents of `main_v239`. -/
def v239 : FVec Ideal S2x1000x2 .f32 := U25 m c (Proc.devRef .tc main_v239)
/-- The final contents of `main_v240`. -/
def v240 : FVec Ideal S2x1000x1x2 .f32 := U25 m c (Proc.devRef .tc main_v240)
/-- The final contents of `main_v241`. -/
def v241 : FVec Ideal S2x1000x2 .f32 := U25 m c (Proc.devRef .tc main_v241)
/-- The final contents of `main_v242`. -/
def v242 : FVec Ideal S2x1x1000x2 .f32 := U25 m c (Proc.devRef .tc main_v242)
/-- The final contents of `main_v243`. -/
def v243 : FVec Ideal S2x1000x1000x2 .f32 := U25 m c (Proc.devRef .tc main_v243)
/-- The final contents of `main_v244`. -/
def v244 : FVec Ideal S2x1000x1000x2 .f32 := U25 m c (Proc.devRef .tc main_v244)
/-- The final contents of `main_v245`. -/
def v245 : FVec Ideal S2x1000x1000x2 .f32 := U25 m c (Proc.devRef .tc main_v245)
/-- The final contents of `main_v246`. -/
def v246 : FVec Ideal S2x1000x1000x2 .f32 := U25 m c (Proc.devRef .tc main_v246)
/-- The final contents of `main_cst_32`. -/
def cst_32 : FVec Ideal S_ .f32 := U25 m c (Proc.devRef .tc main_cst_32)
/-- The final contents of `main_v247`. -/
def v247 : FVec Ideal S2x1000x1000x2 .f32 := U25 m c (Proc.devRef .tc main_v247)
/-- The final contents of `main_v248`. -/
def v248 : FVec Ideal S2x1000x1000x2 .f32 := U25 m c (Proc.devRef .tc main_v248)
/-- The final contents of `main_v249`. -/
def v249 : FVec Ideal S2x1000x1000x1 .f32 := U25 m c (Proc.devRef .tc main_v249)
/-- The final contents of `main_v250`. -/
def v250 : FVec Ideal S2x1000x1000 .f32 := U25 m c (Proc.devRef .tc main_v250)
/-- The final contents of `main_v251`. -/
def v251 : FVec Ideal S2x1000x1000x1 .f32 := U25 m c (Proc.devRef .tc main_v251)
/-- The final contents of `main_v252`. -/
def v252 : FVec Ideal S2x1000x1000 .f32 := U25 m c (Proc.devRef .tc main_v252)
/-- The final contents of `main_v253`. -/
def v253 : FVec Ideal S2x1000x1000 .f32 := U25 m c (Proc.devRef .tc main_v253)
/-- The final contents of `main_v254`. -/
def v254 : FVec Ideal S2x1000x1 .f32 := U25 m c (Proc.devRef .tc main_v254)
/-- The final contents of `main_v255`. -/
def v255 : FVec Ideal S2x1x1000 .f32 := U25 m c (Proc.devRef .tc main_v255)
/-- The final contents of `main_v256`. -/
def v256 : FVec Ideal S2x1000x1000 .f32 := U25 m c (Proc.devRef .tc main_v256)
/-- The final contents of `main_v257`. -/
def v257 : FVec Ideal S2x1000x1000 .f32 := U25 m c (Proc.devRef .tc main_v257)
/-- The final contents of `main_v258`. -/
def v258 : FVec Ideal S2x1000x1000 .f32 := U25 m c (Proc.devRef .tc main_v258)
/-- The final contents of `main_v259`. -/
def v259 : FVec Ideal S2x1000x1000 .f32 := U25 m c (Proc.devRef .tc main_v259)
/-- The final contents of `main_cst_33`. -/
def cst_33 : FVec Ideal S_ .f32 := U25 m c (Proc.devRef .tc main_cst_33)
/-- The final contents of `main_v260`. -/
def v260 : FVec Ideal S2x1000x1000 .f32 := U25 m c (Proc.devRef .tc main_v260)
/-- The final contents of `main_v261`. -/
def v261 : FVec Ideal S2x1000x1000 .f32 := U25 m c (Proc.devRef .tc main_v261)
/-- The final contents of `main_v262`. -/
def v262 : FVec Ideal S2x1000x1000 .f32 := U25 m c (Proc.devRef .tc main_v262)
/-- The final contents of `main_v263`. -/
def v263 : IVec S1000 32 := U25 m c (Proc.devRef .tc main_v263)
/-- The final contents of `main_cst_34`. -/
def cst_34 : FVec Ideal S_ .f32 := U25 m c (Proc.devRef .tc main_cst_34)
/-- The final contents of `main_v264`. -/
def v264 : FVec Ideal S2x1000x1000 .f32 := U25 m c (Proc.devRef .tc main_v264)
/-- The final contents of `main_v265`. -/
def v265 : IVec S2x1000x1000 1 := U25 m c (Proc.devRef .tc main_v265)
/-- The final contents of `main_v266`. -/
def v266 : IVec S1x1x1000 32 := U25 m c (Proc.devRef .tc main_v266)
/-- The final contents of `main_v267`. -/
def v267 : IVec S1x1000x1 32 := U25 m c (Proc.devRef .tc main_v267)
/-- The final contents of `main_v268`. -/
def v268 : IVec S1x1000x1000 32 := U25 m c (Proc.devRef .tc main_v268)
/-- The final contents of `main_v269`. -/
def v269 : IVec S1x1000x1000 32 := U25 m c (Proc.devRef .tc main_v269)
/-- The final contents of `main_v270`. -/
def v270 : IVec S1x1000x1000 1 := U25 m c (Proc.devRef .tc main_v270)
/-- The final contents of `main_v271`. -/
def v271 : IVec S2x1000x1000 1 := U25 m c (Proc.devRef .tc main_v271)
/-- The final contents of `main_v272`. -/
def v272 : IVec S2x1000x1000 1 := U25 m c (Proc.devRef .tc main_v272)
/-- The final contents of `main_c_35`. -/
def c_35 : IVec S_ 1 := U25 m c (Proc.devRef .tc main_c_35)
/-- The final contents of `main_v273`. -/
def v273 : IVec S2x1000 1 := U25 m c (Proc.devRef .tc main_v273)
/-- The final contents of `main_c_36`. -/
def c_36 : IVec S_ 32 := U25 m c (Proc.devRef .tc main_c_36)
/-- The final contents of `main_c_37`. -/
def c_37 : IVec S_ 32 := U25 m c (Proc.devRef .tc main_c_37)
/-- The final contents of `main_v274_0`. -/
def v274_0 : IVec S2x1000x1000 1 := U25 m c (Proc.devRef .tc main_v274_0)
/-- The final contents of `main_v274_1`. -/
def v274_1 : IVec S_ 32 := U25 m c (Proc.devRef .tc main_v274_1)
/-- The final contents of `main_v274_2`. -/
def v274_2 : IVec S_ 32 := U25 m c (Proc.devRef .tc main_v274_2)
/-- The final contents of `main_v274_3`. -/
def v274_3 : IVec S2x1000 1 := U25 m c (Proc.devRef .tc main_v274_3)
/-- The final contents of `main_cst_38`. -/
def cst_38 : FVec Ideal S_ .f32 := U25 m c (Proc.devRef .tc main_cst_38)
/-- The final contents of `main_v275`. -/
def v275 : FVec Ideal S2x1000 .f32 := U25 m c (Proc.devRef .tc main_v275)
/-- The final contents of `main_v276`. -/
def v276 : IVec S2x1000 1 := U25 m c (Proc.devRef .tc main_v276)
/-- The final contents of `main_v277`. -/
def v277 : IVec S2x1000 1 := U25 m c (Proc.devRef .tc main_v277)
/-- The final contents of `main_c_39`. -/
def c_39 : IVec S_ 32 := U25 m c (Proc.devRef .tc main_c_39)
/-- The final contents of `main_c_40`. -/
def c_40 : IVec S_ 32 := U25 m c (Proc.devRef .tc main_c_40)
/-- The final contents of `main_call9_v0`. -/
def call9_v0 : IVec S2x1000 32 := U25 m c (Proc.devRef .tc main_call9_v0)
/-- The final contents of `main_call9_v1`. -/
def call9_v1 : IVec S2x1000 32 := U25 m c (Proc.devRef .tc main_call9_v1)
/-- The final contents of `main_v278`. -/
def v278 : IVec S2x1000 32 := U25 m c (Proc.devRef .tc main_v278)
/-- The final contents of `main_v279`. -/
def v279 : IVec S2x1000 32 := U25 m c (Proc.devRef .tc main_v279)
/-- The final contents of `main_call10_v0`. -/
def call10_v0 : IVec S2x1000 32 := U25 m c (Proc.devRef .tc main_call10_v0)
/-- The final contents of `main_call10_v1_0`. -/
def call10_v1_0 : IVec S2x1000 32 := U25 m c (Proc.devRef .tc main_call10_v1_0)
/-- The final contents of `main_v280`. -/
def v280 : IVec S2x1000 32 := U25 m c (Proc.devRef .tc main_v280)
/-- The final contents of `main_v281`. -/
def v281 : IVec S2x300 32 := U25 m c (Proc.devRef .tc main_v281)
/-- The final contents of `main_v282`. -/
def v282 : FVec Ideal S2x1000x1 .f32 := U25 m c (Proc.devRef .tc main_v282)
/-- The final contents of `main_v283`. -/
def v283 : FVec Ideal S2x1000x5 .f32 := U25 m c (Proc.devRef .tc main_v283)
/-- The final contents of `main_v284`. -/
def v284 : IVec S2x1000x1 1 := U25 m c (Proc.devRef .tc main_v284)
/-- The final contents of `main_cst_41`. -/
def cst_41 : FVec Ideal S_ .f32 := U25 m c (Proc.devRef .tc main_cst_41)
/-- The final contents of `main_call11_v0`. -/
def call11_v0 : FVec Ideal S_ .f32 := U25 m c (Proc.devRef .tc main_call11_v0)
/-- The final contents of `main_call11_v1`. -/
def call11_v1 : IVec S2x1000x5 1 := U25 m c (Proc.devRef .tc main_call11_v1)
/-- The final contents of `main_call11_v2`. -/
def call11_v2 : FVec Ideal S2x1000x5 .f32 := U25 m c (Proc.devRef .tc main_call11_v2)
/-- The final contents of `main_v285`. -/
def v285 : FVec Ideal S2x1000x5 .f32 := U25 m c (Proc.devRef .tc main_v285)
/-- The final contents of `main_v286`. -/
def v286 : IVec S2x300x1 32 := U25 m c (Proc.devRef .tc main_v286)
/-- The final contents of `main_call12_c`. -/
def call12_c : IVec S_ 32 := U25 m c (Proc.devRef .tc main_call12_c)
/-- The final contents of `main_call12_v0`. -/
def call12_v0 : IVec S2x300x1 32 := U25 m c (Proc.devRef .tc main_call12_v0)
/-- The final contents of `main_call12_v1`. -/
def call12_v1 : IVec S2x300x1 1 := U25 m c (Proc.devRef .tc main_call12_v1)
/-- The final contents of `main_call12_c_0`. -/
def call12_c_0 : IVec S_ 32 := U25 m c (Proc.devRef .tc main_call12_c_0)
/-- The final contents of `main_call12_v2`. -/
def call12_v2 : IVec S2x300x1 32 := U25 m c (Proc.devRef .tc main_call12_v2)
/-- The final contents of `main_call12_v3`. -/
def call12_v3 : IVec S2x300x1 32 := U25 m c (Proc.devRef .tc main_call12_v3)
/-- The final contents of `main_call12_v4`. -/
def call12_v4 : IVec S2x300x1 32 := U25 m c (Proc.devRef .tc main_call12_v4)
/-- The final contents of `main_call12_c_1`. -/
def call12_c_1 : IVec S1 32 := U25 m c (Proc.devRef .tc main_call12_c_1)
/-- The final contents of `main_call12_c_2`. -/
def call12_c_2 : IVec S_ 32 := U25 m c (Proc.devRef .tc main_call12_c_2)
/-- The final contents of `main_call12_v5`. -/
def call12_v5 : IVec S2x300x1 32 := U25 m c (Proc.devRef .tc main_call12_v5)
/-- The final contents of `main_call12_v6`. -/
def call12_v6 : IVec S2x300x1 1 := U25 m c (Proc.devRef .tc main_call12_v6)
/-- The final contents of `main_call12_v7`. -/
def call12_v7 : IVec S1x1x1 32 := U25 m c (Proc.devRef .tc main_call12_v7)
/-- The final contents of `main_call12_v8`. -/
def call12_v8 : IVec S2x300x1 32 := U25 m c (Proc.devRef .tc main_call12_v8)
/-- The final contents of `main_call12_v9`. -/
def call12_v9 : IVec S2x300x1 1 := U25 m c (Proc.devRef .tc main_call12_v9)
/-- The final contents of `main_call12_v10`. -/
def call12_v10 : IVec S2x300x1 1 := U25 m c (Proc.devRef .tc main_call12_v10)
/-- The final contents of `main_call12_c_3`. -/
def call12_c_3 : IVec S_ 1 := U25 m c (Proc.devRef .tc main_call12_c_3)
/-- The final contents of `main_call12_v11`. -/
def call12_v11 : IVec S2x300 1 := U25 m c (Proc.devRef .tc main_call12_v11)
/-- The final contents of `main_call12_v12`. -/
def call12_v12 : FVec Ideal S2x300x5 .f32 := U25 m c (Proc.devRef .tc main_call12_v12)
/-- The final contents of `main_call12_v13`. -/
def call12_v13 : IVec S2x300x5 1 := U25 m c (Proc.devRef .tc main_call12_v13)
/-- The final contents of `main_call12_cst`. -/
def call12_cst : FVec Ideal S_ .f32 := U25 m c (Proc.devRef .tc main_call12_cst)
/-- The final contents of `main_call12_v14`. -/
def call12_v14 : FVec Ideal S2x300x5 .f32 := U25 m c (Proc.devRef .tc main_call12_v14)
/-- The final contents of `main_v287`. -/
def v287 : FVec Ideal S2x300x5 .f32 := U25 m c (Proc.devRef .tc main_v287)

abbrev late25 : List (Ref sig .tc) := []
theorem last25 (r : Ref sig .tc) (_ : r ∉ late25) : U25 m c (Proc.devRef .tc r) = U25 m c (Proc.devRef .tc r) := rfl
/-- Stretch 24 in the final contents. -/
theorem line24 : Line hostOps0_24 (U24 m c) (U25 m c) hostOps0_24_W late25 := ⟨rfl, fun r h => last25 m c r h⟩
abbrev late24 : List (Ref sig .tc) := hostOps0_24_W ++ late25
theorem last24 (r : Ref sig .tc) (h : r ∉ late24) : U25 m c (Proc.devRef .tc r) = U24 m c (Proc.devRef .tc r) := by
  rw [late24, List.mem_append, not_or] at h
  rw [last25 m c r h.2, U25_of m c r h.1]
/-- Stretch 23 in the final contents. -/
theorem line23 : Line hostOps0_23 (U23 m c) (U25 m c) hostOps0_23_W late24 := ⟨rfl, fun r h => last24 m c r h⟩
abbrev late23 : List (Ref sig .tc) := hostOps0_23_W ++ late24
theorem last23 (r : Ref sig .tc) (h : r ∉ late23) : U25 m c (Proc.devRef .tc r) = U23 m c (Proc.devRef .tc r) := by
  rw [late23, List.mem_append, not_or] at h
  rw [last24 m c r h.2, U24_of m c r h.1]
/-- Stretch 22 in the final contents. -/
theorem line22 : Line hostOps0_22 (U22 m c) (U25 m c) hostOps0_22_W late23 := ⟨rfl, fun r h => last23 m c r h⟩
abbrev late22 : List (Ref sig .tc) := hostOps0_22_W ++ late23
theorem last22 (r : Ref sig .tc) (h : r ∉ late22) : U25 m c (Proc.devRef .tc r) = U22 m c (Proc.devRef .tc r) := by
  rw [late22, List.mem_append, not_or] at h
  rw [last23 m c r h.2, U23_of m c r h.1]
/-- Stretch 21 in the final contents. -/
theorem line21 : Line hostOps0_21 (U21 m c) (U25 m c) hostOps0_21_W late22 := ⟨rfl, fun r h => last22 m c r h⟩
abbrev late21 : List (Ref sig .tc) := hostOps0_21_W ++ late22
theorem last21 (r : Ref sig .tc) (h : r ∉ late21) : U25 m c (Proc.devRef .tc r) = U21 m c (Proc.devRef .tc r) := by
  rw [late21, List.mem_append, not_or] at h
  rw [last22 m c r h.2, U22_of m c r h.1]
/-- Stretch 20 in the final contents. -/
theorem line20 : Line hostOps0_20 (U20 m c) (U25 m c) hostOps0_20_W late21 := ⟨rfl, fun r h => last21 m c r h⟩
abbrev late20 : List (Ref sig .tc) := hostOps0_20_W ++ late21
theorem last20 (r : Ref sig .tc) (h : r ∉ late20) : U25 m c (Proc.devRef .tc r) = U20 m c (Proc.devRef .tc r) := by
  rw [late20, List.mem_append, not_or] at h
  rw [last21 m c r h.2, U21_of m c r h.1]
/-- Stretch 19 in the final contents. -/
theorem line19 : Line hostOps0_19 (U19 m c) (U25 m c) hostOps0_19_W late20 := ⟨rfl, fun r h => last20 m c r h⟩
abbrev late19 : List (Ref sig .tc) := hostOps0_19_W ++ late20
theorem last19 (r : Ref sig .tc) (h : r ∉ late19) : U25 m c (Proc.devRef .tc r) = U19 m c (Proc.devRef .tc r) := by
  rw [late19, List.mem_append, not_or] at h
  rw [last20 m c r h.2, U20_of m c r h.1]
/-- Stretch 18 in the final contents. -/
theorem line18 : Line hostOps0_18 (U18 m c) (U25 m c) hostOps0_18_W late19 := ⟨rfl, fun r h => last19 m c r h⟩
abbrev late18 : List (Ref sig .tc) := hostOps0_18_W ++ late19
theorem last18 (r : Ref sig .tc) (h : r ∉ late18) : U25 m c (Proc.devRef .tc r) = U18 m c (Proc.devRef .tc r) := by
  rw [late18, List.mem_append, not_or] at h
  rw [last19 m c r h.2, U19_of m c r h.1]
/-- Stretch 17 in the final contents. -/
theorem line17 : Line hostOps0_17 (UC m c) (U25 m c) hostOps0_17_W late18 := ⟨rfl, fun r h => last18 m c r h⟩
abbrev late17 : List (Ref sig .tc) := hostOps0_17_W ++ (condOps_W ++ (condOps_W ++ while0Ops0_W ++ while0Ops0_1_W ++ while0Ops0_2_W)) ++ late18
theorem last17 (r : Ref sig .tc) (h : r ∉ late17) : U25 m c (Proc.devRef .tc r) = U17 m c (Proc.devRef .tc r) := by
  rw [late17, List.mem_append, not_or, List.mem_append, not_or, List.mem_append, not_or] at h
  rw [last18 m c r h.2, U18_of m c r h.1.1, UC_of m c r h.1.2.1, UL_of m c r h.1.2.2]
/-- Stretch 16 in the final contents. -/
theorem line16 : Line hostOps0_16 (U16 m c) (U25 m c) hostOps0_16_W late17 := ⟨rfl, fun r h => last17 m c r h⟩
abbrev late16 : List (Ref sig .tc) := hostOps0_16_W ++ late17
theorem last16 (r : Ref sig .tc) (h : r ∉ late16) : U25 m c (Proc.devRef .tc r) = U16 m c (Proc.devRef .tc r) := by
  rw [late16, List.mem_append, not_or] at h
  rw [last17 m c r h.2, U17_of m c r h.1]
/-- Stretch 15 in the final contents. -/
theorem line15 : Line hostOps0_15 (U15 m c) (U25 m c) hostOps0_15_W late16 := ⟨rfl, fun r h => last16 m c r h⟩
abbrev late15 : List (Ref sig .tc) := hostOps0_15_W ++ late16
theorem last15 (r : Ref sig .tc) (h : r ∉ late15) : U25 m c (Proc.devRef .tc r) = U15 m c (Proc.devRef .tc r) := by
  rw [late15, List.mem_append, not_or] at h
  rw [last16 m c r h.2, U16_of m c r h.1]
/-- Stretch 14 in the final contents. -/
theorem line14 : Line hostOps0_14 (U14 m c) (U25 m c) hostOps0_14_W late15 := ⟨rfl, fun r h => last15 m c r h⟩
abbrev late14 : List (Ref sig .tc) := hostOps0_14_W ++ late15
theorem last14 (r : Ref sig .tc) (h : r ∉ late14) : U25 m c (Proc.devRef .tc r) = U14 m c (Proc.devRef .tc r) := by
  rw [late14, List.mem_append, not_or] at h
  rw [last15 m c r h.2, U15_of m c r h.1]
/-- Stretch 13 in the final contents. -/
theorem line13 : Line hostOps0_13 (U13 m c) (U25 m c) hostOps0_13_W late14 := ⟨rfl, fun r h => last14 m c r h⟩
abbrev late13 : List (Ref sig .tc) := hostOps0_13_W ++ late14
theorem last13 (r : Ref sig .tc) (h : r ∉ late13) : U25 m c (Proc.devRef .tc r) = U13 m c (Proc.devRef .tc r) := by
  rw [late13, List.mem_append, not_or] at h
  rw [last14 m c r h.2, U14_of m c r h.1]
/-- Stretch 12 in the final contents. -/
theorem line12 : Line hostOps0_12 (U12 m c) (U25 m c) hostOps0_12_W late13 := ⟨rfl, fun r h => last13 m c r h⟩
abbrev late12 : List (Ref sig .tc) := hostOps0_12_W ++ late13
theorem last12 (r : Ref sig .tc) (h : r ∉ late12) : U25 m c (Proc.devRef .tc r) = U12 m c (Proc.devRef .tc r) := by
  rw [late12, List.mem_append, not_or] at h
  rw [last13 m c r h.2, U13_of m c r h.1]
/-- Stretch 11 in the final contents. -/
theorem line11 : Line hostOps0_11 (U11 m c) (U25 m c) hostOps0_11_W late12 := ⟨rfl, fun r h => last12 m c r h⟩
abbrev late11 : List (Ref sig .tc) := hostOps0_11_W ++ late12
theorem last11 (r : Ref sig .tc) (h : r ∉ late11) : U25 m c (Proc.devRef .tc r) = U11 m c (Proc.devRef .tc r) := by
  rw [late11, List.mem_append, not_or] at h
  rw [last12 m c r h.2, U12_of m c r h.1]
/-- Stretch 10 in the final contents. -/
theorem line10 : Line hostOps0_10 (U10 m c) (U25 m c) hostOps0_10_W late11 := ⟨rfl, fun r h => last11 m c r h⟩
abbrev late10 : List (Ref sig .tc) := hostOps0_10_W ++ late11
theorem last10 (r : Ref sig .tc) (h : r ∉ late10) : U25 m c (Proc.devRef .tc r) = U10 m c (Proc.devRef .tc r) := by
  rw [late10, List.mem_append, not_or] at h
  rw [last11 m c r h.2, U11_of m c r h.1]
/-- Stretch 9 in the final contents. -/
theorem line9 : Line hostOps0_9 (U9 m c) (U25 m c) hostOps0_9_W late10 := ⟨rfl, fun r h => last10 m c r h⟩
abbrev late9 : List (Ref sig .tc) := hostOps0_9_W ++ late10
theorem last9 (r : Ref sig .tc) (h : r ∉ late9) : U25 m c (Proc.devRef .tc r) = U9 m c (Proc.devRef .tc r) := by
  rw [late9, List.mem_append, not_or] at h
  rw [last10 m c r h.2, U10_of m c r h.1]
/-- Stretch 8 in the final contents. -/
theorem line8 : Line hostOps0_8 (U8 m c) (U25 m c) hostOps0_8_W late9 := ⟨rfl, fun r h => last9 m c r h⟩
abbrev late8 : List (Ref sig .tc) := hostOps0_8_W ++ late9
theorem last8 (r : Ref sig .tc) (h : r ∉ late8) : U25 m c (Proc.devRef .tc r) = U8 m c (Proc.devRef .tc r) := by
  rw [late8, List.mem_append, not_or] at h
  rw [last9 m c r h.2, U9_of m c r h.1]
/-- Stretch 7 in the final contents. -/
theorem line7 : Line hostOps0_7 (U7 m c) (U25 m c) hostOps0_7_W late8 := ⟨rfl, fun r h => last8 m c r h⟩
abbrev late7 : List (Ref sig .tc) := hostOps0_7_W ++ late8
theorem last7 (r : Ref sig .tc) (h : r ∉ late7) : U25 m c (Proc.devRef .tc r) = U7 m c (Proc.devRef .tc r) := by
  rw [late7, List.mem_append, not_or] at h
  rw [last8 m c r h.2, U8_of m c r h.1]
/-- Stretch 6 in the final contents. -/
theorem line6 : Line hostOps0_6 (U6 m c) (U25 m c) hostOps0_6_W late7 := ⟨rfl, fun r h => last7 m c r h⟩
abbrev late6 : List (Ref sig .tc) := hostOps0_6_W ++ late7
theorem last6 (r : Ref sig .tc) (h : r ∉ late6) : U25 m c (Proc.devRef .tc r) = U6 m c (Proc.devRef .tc r) := by
  rw [late6, List.mem_append, not_or] at h
  rw [last7 m c r h.2, U7_of m c r h.1]
/-- Stretch 5 in the final contents. -/
theorem line5 : Line hostOps0_5 (U5 m c) (U25 m c) hostOps0_5_W late6 := ⟨rfl, fun r h => last6 m c r h⟩
abbrev late5 : List (Ref sig .tc) := hostOps0_5_W ++ late6
theorem last5 (r : Ref sig .tc) (h : r ∉ late5) : U25 m c (Proc.devRef .tc r) = U5 m c (Proc.devRef .tc r) := by
  rw [late5, List.mem_append, not_or] at h
  rw [last6 m c r h.2, U6_of m c r h.1]
/-- Stretch 4 in the final contents. -/
theorem line4 : Line hostOps0_4 (U4 m c) (U25 m c) hostOps0_4_W late5 := ⟨rfl, fun r h => last5 m c r h⟩
abbrev late4 : List (Ref sig .tc) := hostOps0_4_W ++ late5
theorem last4 (r : Ref sig .tc) (h : r ∉ late4) : U25 m c (Proc.devRef .tc r) = U4 m c (Proc.devRef .tc r) := by
  rw [late4, List.mem_append, not_or] at h
  rw [last5 m c r h.2, U5_of m c r h.1]
/-- Stretch 3 in the final contents. -/
theorem line3 : Line hostOps0_3 (U3 m c) (U25 m c) hostOps0_3_W late4 := ⟨rfl, fun r h => last4 m c r h⟩
abbrev late3 : List (Ref sig .tc) := hostOps0_3_W ++ late4
theorem last3 (r : Ref sig .tc) (h : r ∉ late3) : U25 m c (Proc.devRef .tc r) = U3 m c (Proc.devRef .tc r) := by
  rw [late3, List.mem_append, not_or] at h
  rw [last4 m c r h.2, U4_of m c r h.1]
/-- Stretch 2 in the final contents. -/
theorem line2 : Line hostOps0_2 (U2 m c) (U25 m c) hostOps0_2_W late3 := ⟨rfl, fun r h => last3 m c r h⟩
abbrev late2 : List (Ref sig .tc) := hostOps0_2_W ++ late3
theorem last2 (r : Ref sig .tc) (h : r ∉ late2) : U25 m c (Proc.devRef .tc r) = U2 m c (Proc.devRef .tc r) := by
  rw [late2, List.mem_append, not_or] at h
  rw [last3 m c r h.2, U3_of m c r h.1]
/-- Stretch 1 in the final contents. -/
theorem line1 : Line hostOps0_1 (U1 m c) (U25 m c) hostOps0_1_W late2 := ⟨rfl, fun r h => last2 m c r h⟩
abbrev late1 : List (Ref sig .tc) := hostOps0_1_W ++ late2
theorem last1 (r : Ref sig .tc) (h : r ∉ late1) : U25 m c (Proc.devRef .tc r) = U1 m c (Proc.devRef .tc r) := by
  rw [late1, List.mem_append, not_or] at h
  rw [last2 m c r h.2, U2_of m c r h.1]
/-- Stretch 0 in the final contents. -/
theorem line0 : Line hostOps0 (U0 m c) (U25 m c) hostOps0_W late1 := ⟨rfl, fun r h => last1 m c r h⟩

end Cert.ReferenceIdeal.Val

end
-- ==== Proof.REq1.lean ====
/-
  The reference operation by operation: the head.
-/
module

public import proofs.«01_k».proof.Proof.RVal

@[expose] public section

set_option maxRecDepth 16384

noncomputable section

namespace Cert.ReferenceIdeal.Val

open Cert.ReferenceIdeal Cert.ReferenceIdeal.Gen Cert.ReferenceIdeal.Value Cert.ReferenceIdeal.Whole
open Idealize.ShloMosaic Idealize.ShloMosaic.TcCoe Idealize.ShloMosaic.StableHlo
open Idealize.SL.Sem Cert.HostLine

variable (m : (ℓ : Loc nD τ sig) → Buf (Elt Ideal) ℓ) (c : Dev nD)

theorem cst_eq : cst m c = (fun i => FloatOps.ofBits .f32 (lit0 (S9.rowMajor i))) := by
  have h := (line0 m c).nullary  (y := main_cst) 0 rfl (by decide +kernel)
  exact h
theorem cst_0_eq : cst_0 m c = (fun i => FloatOps.ofBits .f32 (lit1 (S9.rowMajor i))) := by
  have h := (line0 m c).nullary  (y := main_cst_0) 1 rfl (by decide +kernel)
  exact h
theorem c0_eq : c0 m c = (constantI S_ 32 0#32) := by
  have h := (line0 m c).nullary  (y := main_c) 2 rfl (by decide +kernel)
  exact h
theorem call0_v0_eq : call0_v0 m c = (sitofp .f32) (c0 m c) := by
  have h := (line1 m c).tunary 0 (.of main_c : TRef sig ⟨S_, .i32⟩) (.of main_call0_v0 : TRef sig ⟨S_, .f32⟩) rfl (by decide +kernel) (by decide +kernel) (HEq.rfl : HEq (U25 m c (Proc.devRef .tc main_c)) (c0 m c)) (HEq.rfl : HEq (U25 m c (Proc.devRef .tc main_call0_v0)) (call0_v0 m c))
  exact h
theorem v0_eq : v0 m c = (fun x v => pad S2x256x52x52 ![0, 0, 1, 1] ![0, 0, 1, 1] ![0, 0, 0, 0] x v pads_S2x256x50x50_S2x256x52x52_000_000_110_110 h_S_) (arg1 m c) (call0_v0 m c) := by
  have h := (line1 m c).tbinary 1 (.of main_arg1 : TRef sig ⟨S2x256x50x50, .f32⟩) (.of main_call0_v0 : TRef sig ⟨S_, .f32⟩) (.of main_v0 : TRef sig ⟨S2x256x52x52, .f32⟩) rfl (by decide +kernel) (by decide +kernel) (HEq.rfl : HEq (U25 m c (Proc.devRef .tc main_arg1)) (arg1 m c)) (HEq.rfl : HEq (U25 m c (Proc.devRef .tc main_call0_v0)) (call0_v0 m c)) (HEq.rfl : HEq (U25 m c (Proc.devRef .tc main_v0)) (v0 m c))
  exact h
theorem cst_1_eq : cst_1 m c = (constant S_ .f32 0x00000000#32) := by
  have h := (line2 m c).nullary  (y := main_cst_1) 0 rfl (by decide +kernel)
  exact h
theorem v1_eq : v1 m c = broadcastInDim S2x256x50x50 ![] bcast_S_S2x256x50x50 (cst_1 m c) := by
  have h := (line2 m c).unary (x := main_cst_1) (y := main_v1) 1 rfl (by decide +kernel) (by decide +kernel)
  exact h
theorem v2_eq : v2 m c = (extractStridedSlice S2x256x50x50 ![0, 0, 0, 0] · slices_S2x256x52x52_S2x256x50x50_0_0_0_0) (v0 m c) := by
  have h := (line2 m c).unary (x := main_v0) (y := main_v2) 2 rfl (by decide +kernel) (by decide +kernel)
  exact h
theorem v3_eq : v3 m c = (extractStridedSlice S256x256x1x1 ![0, 0, 0, 0] · slices_S256x256x3x3_S256x256x1x1_0_0_0_0) (arg2 m c) := by
  have h := (line2 m c).unary (x := main_arg2) (y := main_v3) 3 rfl (by decide +kernel) (by decide +kernel)
  exact h
theorem v4_eq : v4 m c = shapeCast S256x256 (v3 m c) shapeCasts_S256x256x1x1_S256x256 := by
  have h := (line2 m c).reshape (x := main_v3) (y := main_v4) 4 rfl (by decide +kernel) (by decide +kernel)
  exact h
theorem v5_eq : v5 m c = (fun l r => Host.dotGeneral dot_S256x256_S2x256x50x50_S256x2x50x50_1_1_0_023_n_n none l r) (v4 m c) (v2 m c) := by
  have h := (line2 m c).binary (a := main_v4) (b := main_v2) (y := main_v5) 5 rfl (by decide +kernel) (by decide +kernel)
  exact h
theorem v6_eq : v6 m c = (transpose S2x256x50x50 [1, 0, 2, 3] · transposes_S256x2x50x50_S2x256x50x50_1_0_2_3) (v5 m c) := by
  have h := (line2 m c).unary (x := main_v5) (y := main_v6) 6 rfl (by decide +kernel) (by decide +kernel)
  exact h
theorem v7_eq : v7 m c = addf (v1 m c) (v6 m c) := by
  have h := (line2 m c).binary (a := main_v1) (b := main_v6) (y := main_v7) 7 rfl (by decide +kernel) (by decide +kernel)
  exact h
theorem v8_eq : v8 m c = (extractStridedSlice S2x256x50x50 ![0, 0, 0, 1] · slices_S2x256x52x52_S2x256x50x50_0_0_0_1) (v0 m c) := by
  have h := (line2 m c).unary (x := main_v0) (y := main_v8) 8 rfl (by decide +kernel) (by decide +kernel)
  exact h
theorem v9_eq : v9 m c = (extractStridedSlice S256x256x1x1 ![0, 0, 0, 1] · slices_S256x256x3x3_S256x256x1x1_0_0_0_1) (arg2 m c) := by
  have h := (line2 m c).unary (x := main_arg2) (y := main_v9) 9 rfl (by decide +kernel) (by decide +kernel)
  exact h
theorem v10_eq : v10 m c = shapeCast S256x256 (v9 m c) shapeCasts_S256x256x1x1_S256x256 := by
  have h := (line2 m c).reshape (x := main_v9) (y := main_v10) 10 rfl (by decide +kernel) (by decide +kernel)
  exact h
theorem v11_eq : v11 m c = (fun l r => Host.dotGeneral dot_S256x256_S2x256x50x50_S256x2x50x50_1_1_0_023_n_n none l r) (v10 m c) (v8 m c) := by
  have h := (line2 m c).binary (a := main_v10) (b := main_v8) (y := main_v11) 11 rfl (by decide +kernel) (by decide +kernel)
  exact h
theorem v12_eq : v12 m c = (transpose S2x256x50x50 [1, 0, 2, 3] · transposes_S256x2x50x50_S2x256x50x50_1_0_2_3) (v11 m c) := by
  have h := (line2 m c).unary (x := main_v11) (y := main_v12) 12 rfl (by decide +kernel) (by decide +kernel)
  exact h
theorem v13_eq : v13 m c = addf (v7 m c) (v12 m c) := by
  have h := (line2 m c).binary (a := main_v7) (b := main_v12) (y := main_v13) 13 rfl (by decide +kernel) (by decide +kernel)
  exact h
theorem v14_eq : v14 m c = (extractStridedSlice S2x256x50x50 ![0, 0, 0, 2] · slices_S2x256x52x52_S2x256x50x50_0_0_0_2) (v0 m c) := by
  have h := (line2 m c).unary (x := main_v0) (y := main_v14) 14 rfl (by decide +kernel) (by decide +kernel)
  exact h
theorem v15_eq : v15 m c = (extractStridedSlice S256x256x1x1 ![0, 0, 0, 2] · slices_S256x256x3x3_S256x256x1x1_0_0_0_2) (arg2 m c) := by
  have h := (line2 m c).unary (x := main_arg2) (y := main_v15) 15 rfl (by decide +kernel) (by decide +kernel)
  exact h
theorem v16_eq : v16 m c = shapeCast S256x256 (v15 m c) shapeCasts_S256x256x1x1_S256x256 := by
  have h := (line2 m c).reshape (x := main_v15) (y := main_v16) 16 rfl (by decide +kernel) (by decide +kernel)
  exact h
theorem v17_eq : v17 m c = (fun l r => Host.dotGeneral dot_S256x256_S2x256x50x50_S256x2x50x50_1_1_0_023_n_n none l r) (v16 m c) (v14 m c) := by
  have h := (line2 m c).binary (a := main_v16) (b := main_v14) (y := main_v17) 17 rfl (by decide +kernel) (by decide +kernel)
  exact h
theorem v18_eq : v18 m c = (transpose S2x256x50x50 [1, 0, 2, 3] · transposes_S256x2x50x50_S2x256x50x50_1_0_2_3) (v17 m c) := by
  have h := (line2 m c).unary (x := main_v17) (y := main_v18) 18 rfl (by decide +kernel) (by decide +kernel)
  exact h
theorem v19_eq : v19 m c = addf (v13 m c) (v18 m c) := by
  have h := (line2 m c).binary (a := main_v13) (b := main_v18) (y := main_v19) 19 rfl (by decide +kernel) (by decide +kernel)
  exact h
theorem v20_eq : v20 m c = (extractStridedSlice S2x256x50x50 ![0, 0, 1, 0] · slices_S2x256x52x52_S2x256x50x50_0_0_1_0) (v0 m c) := by
  have h := (line2 m c).unary (x := main_v0) (y := main_v20) 20 rfl (by decide +kernel) (by decide +kernel)
  exact h
theorem v21_eq : v21 m c = (extractStridedSlice S256x256x1x1 ![0, 0, 1, 0] · slices_S256x256x3x3_S256x256x1x1_0_0_1_0) (arg2 m c) := by
  have h := (line2 m c).unary (x := main_arg2) (y := main_v21) 21 rfl (by decide +kernel) (by decide +kernel)
  exact h
theorem v22_eq : v22 m c = shapeCast S256x256 (v21 m c) shapeCasts_S256x256x1x1_S256x256 := by
  have h := (line2 m c).reshape (x := main_v21) (y := main_v22) 22 rfl (by decide +kernel) (by decide +kernel)
  exact h
theorem v23_eq : v23 m c = (fun l r => Host.dotGeneral dot_S256x256_S2x256x50x50_S256x2x50x50_1_1_0_023_n_n none l r) (v22 m c) (v20 m c) := by
  have h := (line2 m c).binary (a := main_v22) (b := main_v20) (y := main_v23) 23 rfl (by decide +kernel) (by decide +kernel)
  exact h
theorem v24_eq : v24 m c = (transpose S2x256x50x50 [1, 0, 2, 3] · transposes_S256x2x50x50_S2x256x50x50_1_0_2_3) (v23 m c) := by
  have h := (line2 m c).unary (x := main_v23) (y := main_v24) 24 rfl (by decide +kernel) (by decide +kernel)
  exact h
theorem v25_eq : v25 m c = addf (v19 m c) (v24 m c) := by
  have h := (line2 m c).binary (a := main_v19) (b := main_v24) (y := main_v25) 25 rfl (by decide +kernel) (by decide +kernel)
  exact h
theorem v26_eq : v26 m c = (extractStridedSlice S2x256x50x50 ![0, 0, 1, 1] · slices_S2x256x52x52_S2x256x50x50_0_0_1_1) (v0 m c) := by
  have h := (line2 m c).unary (x := main_v0) (y := main_v26) 26 rfl (by decide +kernel) (by decide +kernel)
  exact h
theorem v27_eq : v27 m c = (extractStridedSlice S256x256x1x1 ![0, 0, 1, 1] · slices_S256x256x3x3_S256x256x1x1_0_0_1_1) (arg2 m c) := by
  have h := (line2 m c).unary (x := main_arg2) (y := main_v27) 27 rfl (by decide +kernel) (by decide +kernel)
  exact h
theorem v28_eq : v28 m c = shapeCast S256x256 (v27 m c) shapeCasts_S256x256x1x1_S256x256 := by
  have h := (line2 m c).reshape (x := main_v27) (y := main_v28) 28 rfl (by decide +kernel) (by decide +kernel)
  exact h
theorem v29_eq : v29 m c = (fun l r => Host.dotGeneral dot_S256x256_S2x256x50x50_S256x2x50x50_1_1_0_023_n_n none l r) (v28 m c) (v26 m c) := by
  have h := (line2 m c).binary (a := main_v28) (b := main_v26) (y := main_v29) 29 rfl (by decide +kernel) (by decide +kernel)
  exact h
theorem v30_eq : v30 m c = (transpose S2x256x50x50 [1, 0, 2, 3] · transposes_S256x2x50x50_S2x256x50x50_1_0_2_3) (v29 m c) := by
  have h := (line2 m c).unary (x := main_v29) (y := main_v30) 30 rfl (by decide +kernel) (by decide +kernel)
  exact h
theorem v31_eq : v31 m c = addf (v25 m c) (v30 m c) := by
  have h := (line2 m c).binary (a := main_v25) (b := main_v30) (y := main_v31) 31 rfl (by decide +kernel) (by decide +kernel)
  exact h
theorem v32_eq : v32 m c = (extractStridedSlice S2x256x50x50 ![0, 0, 1, 2] · slices_S2x256x52x52_S2x256x50x50_0_0_1_2) (v0 m c) := by
  have h := (line2 m c).unary (x := main_v0) (y := main_v32) 32 rfl (by decide +kernel) (by decide +kernel)
  exact h
theorem v33_eq : v33 m c = (extractStridedSlice S256x256x1x1 ![0, 0, 1, 2] · slices_S256x256x3x3_S256x256x1x1_0_0_1_2) (arg2 m c) := by
  have h := (line2 m c).unary (x := main_arg2) (y := main_v33) 33 rfl (by decide +kernel) (by decide +kernel)
  exact h
theorem v34_eq : v34 m c = shapeCast S256x256 (v33 m c) shapeCasts_S256x256x1x1_S256x256 := by
  have h := (line2 m c).reshape (x := main_v33) (y := main_v34) 34 rfl (by decide +kernel) (by decide +kernel)
  exact h
theorem v35_eq : v35 m c = (fun l r => Host.dotGeneral dot_S256x256_S2x256x50x50_S256x2x50x50_1_1_0_023_n_n none l r) (v34 m c) (v32 m c) := by
  have h := (line2 m c).binary (a := main_v34) (b := main_v32) (y := main_v35) 35 rfl (by decide +kernel) (by decide +kernel)
  exact h
theorem v36_eq : v36 m c = (transpose S2x256x50x50 [1, 0, 2, 3] · transposes_S256x2x50x50_S2x256x50x50_1_0_2_3) (v35 m c) := by
  have h := (line2 m c).unary (x := main_v35) (y := main_v36) 36 rfl (by decide +kernel) (by decide +kernel)
  exact h
theorem v37_eq : v37 m c = addf (v31 m c) (v36 m c) := by
  have h := (line2 m c).binary (a := main_v31) (b := main_v36) (y := main_v37) 37 rfl (by decide +kernel) (by decide +kernel)
  exact h
theorem v38_eq : v38 m c = (extractStridedSlice S2x256x50x50 ![0, 0, 2, 0] · slices_S2x256x52x52_S2x256x50x50_0_0_2_0) (v0 m c) := by
  have h := (line2 m c).unary (x := main_v0) (y := main_v38) 38 rfl (by decide +kernel) (by decide +kernel)
  exact h
theorem v39_eq : v39 m c = (extractStridedSlice S256x256x1x1 ![0, 0, 2, 0] · slices_S256x256x3x3_S256x256x1x1_0_0_2_0) (arg2 m c) := by
  have h := (line2 m c).unary (x := main_arg2) (y := main_v39) 39 rfl (by decide +kernel) (by decide +kernel)
  exact h
theorem v40_eq : v40 m c = shapeCast S256x256 (v39 m c) shapeCasts_S256x256x1x1_S256x256 := by
  have h := (line2 m c).reshape (x := main_v39) (y := main_v40) 40 rfl (by decide +kernel) (by decide +kernel)
  exact h
theorem v41_eq : v41 m c = (fun l r => Host.dotGeneral dot_S256x256_S2x256x50x50_S256x2x50x50_1_1_0_023_n_n none l r) (v40 m c) (v38 m c) := by
  have h := (line2 m c).binary (a := main_v40) (b := main_v38) (y := main_v41) 41 rfl (by decide +kernel) (by decide +kernel)
  exact h
theorem v42_eq : v42 m c = (transpose S2x256x50x50 [1, 0, 2, 3] · transposes_S256x2x50x50_S2x256x50x50_1_0_2_3) (v41 m c) := by
  have h := (line2 m c).unary (x := main_v41) (y := main_v42) 42 rfl (by decide +kernel) (by decide +kernel)
  exact h
theorem v43_eq : v43 m c = addf (v37 m c) (v42 m c) := by
  have h := (line2 m c).binary (a := main_v37) (b := main_v42) (y := main_v43) 43 rfl (by decide +kernel) (by decide +kernel)
  exact h
theorem v44_eq : v44 m c = (extractStridedSlice S2x256x50x50 ![0, 0, 2, 1] · slices_S2x256x52x52_S2x256x50x50_0_0_2_1) (v0 m c) := by
  have h := (line2 m c).unary (x := main_v0) (y := main_v44) 44 rfl (by decide +kernel) (by decide +kernel)
  exact h
theorem v45_eq : v45 m c = (extractStridedSlice S256x256x1x1 ![0, 0, 2, 1] · slices_S256x256x3x3_S256x256x1x1_0_0_2_1) (arg2 m c) := by
  have h := (line2 m c).unary (x := main_arg2) (y := main_v45) 45 rfl (by decide +kernel) (by decide +kernel)
  exact h
theorem v46_eq : v46 m c = shapeCast S256x256 (v45 m c) shapeCasts_S256x256x1x1_S256x256 := by
  have h := (line2 m c).reshape (x := main_v45) (y := main_v46) 46 rfl (by decide +kernel) (by decide +kernel)
  exact h
theorem v47_eq : v47 m c = (fun l r => Host.dotGeneral dot_S256x256_S2x256x50x50_S256x2x50x50_1_1_0_023_n_n none l r) (v46 m c) (v44 m c) := by
  have h := (line2 m c).binary (a := main_v46) (b := main_v44) (y := main_v47) 47 rfl (by decide +kernel) (by decide +kernel)
  exact h
theorem v48_eq : v48 m c = (transpose S2x256x50x50 [1, 0, 2, 3] · transposes_S256x2x50x50_S2x256x50x50_1_0_2_3) (v47 m c) := by
  have h := (line2 m c).unary (x := main_v47) (y := main_v48) 48 rfl (by decide +kernel) (by decide +kernel)
  exact h
theorem v49_eq : v49 m c = addf (v43 m c) (v48 m c) := by
  have h := (line2 m c).binary (a := main_v43) (b := main_v48) (y := main_v49) 49 rfl (by decide +kernel) (by decide +kernel)
  exact h
theorem v50_eq : v50 m c = (extractStridedSlice S2x256x50x50 ![0, 0, 2, 2] · slices_S2x256x52x52_S2x256x50x50_0_0_2_2) (v0 m c) := by
  have h := (line2 m c).unary (x := main_v0) (y := main_v50) 50 rfl (by decide +kernel) (by decide +kernel)
  exact h
theorem v51_eq : v51 m c = (extractStridedSlice S256x256x1x1 ![0, 0, 2, 2] · slices_S256x256x3x3_S256x256x1x1_0_0_2_2) (arg2 m c) := by
  have h := (line2 m c).unary (x := main_arg2) (y := main_v51) 51 rfl (by decide +kernel) (by decide +kernel)
  exact h
theorem v52_eq : v52 m c = shapeCast S256x256 (v51 m c) shapeCasts_S256x256x1x1_S256x256 := by
  have h := (line2 m c).reshape (x := main_v51) (y := main_v52) 52 rfl (by decide +kernel) (by decide +kernel)
  exact h
theorem v53_eq : v53 m c = (fun l r => Host.dotGeneral dot_S256x256_S2x256x50x50_S256x2x50x50_1_1_0_023_n_n none l r) (v52 m c) (v50 m c) := by
  have h := (line2 m c).binary (a := main_v52) (b := main_v50) (y := main_v53) 53 rfl (by decide +kernel) (by decide +kernel)
  exact h
theorem v54_eq : v54 m c = (transpose S2x256x50x50 [1, 0, 2, 3] · transposes_S256x2x50x50_S2x256x50x50_1_0_2_3) (v53 m c) := by
  have h := (line2 m c).unary (x := main_v53) (y := main_v54) 54 rfl (by decide +kernel) (by decide +kernel)
  exact h
theorem v55_eq : v55 m c = addf (v49 m c) (v54 m c) := by
  have h := (line2 m c).binary (a := main_v49) (b := main_v54) (y := main_v55) 55 rfl (by decide +kernel) (by decide +kernel)
  exact h
theorem v56_eq : v56 m c = broadcastInDim S1x256x1x1 ![1] bcast_S256_S1x256x1x1_1 (arg3 m c) := by
  have h := (line2 m c).unary (x := main_arg3) (y := main_v56) 56 rfl (by decide +kernel) (by decide +kernel)
  exact h
theorem v57_eq : v57 m c = broadcastInDim S2x256x50x50 ![0, 1, 2, 3] bcast_S1x256x1x1_S2x256x50x50_0_1_2_3 (v56 m c) := by
  have h := (line2 m c).unary (x := main_v56) (y := main_v57) 57 rfl (by decide +kernel) (by decide +kernel)
  exact h
theorem v58_eq : v58 m c = addf (v55 m c) (v57 m c) := by
  have h := (line2 m c).binary (a := main_v55) (b := main_v57) (y := main_v58) 58 rfl (by decide +kernel) (by decide +kernel)
  exact h
theorem call1_cst_eq : call1_cst m c = (constant S_ .f32 0x00000000#32) := by
  have h := (line3 m c).tnullary 0 (.of main_call1_cst : TRef sig ⟨S_, .f32⟩) rfl (by decide +kernel) (HEq.rfl : HEq (U25 m c (Proc.devRef .tc main_call1_cst)) (call1_cst m c))
  exact h
theorem call1_v0_eq : call1_v0 m c = (broadcastInDim S2x256x50x50 ![] bcast_S_S2x256x50x50) (call1_cst m c) := by
  have h := (line3 m c).tunary 1 (.of main_call1_cst : TRef sig ⟨S_, .f32⟩) (.of main_call1_v0 : TRef sig ⟨S2x256x50x50, .f32⟩) rfl (by decide +kernel) (by decide +kernel) (HEq.rfl : HEq (U25 m c (Proc.devRef .tc main_call1_cst)) (call1_cst m c)) (HEq.rfl : HEq (U25 m c (Proc.devRef .tc main_call1_v0)) (call1_v0 m c))
  exact h
theorem v59_eq : v59 m c = maximumf (v58 m c) (call1_v0 m c) := by
  have h := (line3 m c).tbinary 2 (.of main_v58 : TRef sig ⟨S2x256x50x50, .f32⟩) (.of main_call1_v0 : TRef sig ⟨S2x256x50x50, .f32⟩) (.of main_v59 : TRef sig ⟨S2x256x50x50, .f32⟩) rfl (by decide +kernel) (by decide +kernel) (HEq.rfl : HEq (U25 m c (Proc.devRef .tc main_v58)) (v58 m c)) (HEq.rfl : HEq (U25 m c (Proc.devRef .tc main_call1_v0)) (call1_v0 m c)) (HEq.rfl : HEq (U25 m c (Proc.devRef .tc main_v59)) (v59 m c))
  exact h
theorem v60_eq : v60 m c = shapeCast S9x256 (arg4 m c) shapeCasts_S9x256x1x1_S9x256 := by
  have h := (line4 m c).reshape (x := main_arg4) (y := main_v60) 0 rfl (by decide +kernel) (by decide +kernel)
  exact h
theorem v61_eq : v61 m c = (fun l r => Host.dotGeneral dot_S9x256_S2x256x50x50_S9x2x50x50_1_1_0_023_n_n none l r) (v60 m c) (v59 m c) := by
  have h := (line4 m c).binary (a := main_v60) (b := main_v59) (y := main_v61) 1 rfl (by decide +kernel) (by decide +kernel)
  exact h
theorem v62_eq : v62 m c = (transpose S2x9x50x50 [1, 0, 2, 3] · transposes_S9x2x50x50_S2x9x50x50_1_0_2_3) (v61 m c) := by
  have h := (line4 m c).unary (x := main_v61) (y := main_v62) 2 rfl (by decide +kernel) (by decide +kernel)
  exact h
theorem v63_eq : v63 m c = broadcastInDim S1x9x1x1 ![1] bcast_S9_S1x9x1x1_1 (arg5 m c) := by
  have h := (line4 m c).unary (x := main_arg5) (y := main_v63) 3 rfl (by decide +kernel) (by decide +kernel)
  exact h
theorem v64_eq : v64 m c = broadcastInDim S2x9x50x50 ![0, 1, 2, 3] bcast_S1x9x1x1_S2x9x50x50_0_1_2_3 (v63 m c) := by
  have h := (line4 m c).unary (x := main_v63) (y := main_v64) 4 rfl (by decide +kernel) (by decide +kernel)
  exact h
theorem v65_eq : v65 m c = addf (v62 m c) (v64 m c) := by
  have h := (line4 m c).binary (a := main_v62) (b := main_v64) (y := main_v65) 5 rfl (by decide +kernel) (by decide +kernel)
  exact h
theorem v66_eq : v66 m c = shapeCast S36x256 (arg6 m c) shapeCasts_S36x256x1x1_S36x256 := by
  have h := (line4 m c).reshape (x := main_arg6) (y := main_v66) 6 rfl (by decide +kernel) (by decide +kernel)
  exact h
theorem v67_eq : v67 m c = (fun l r => Host.dotGeneral dot_S36x256_S2x256x50x50_S36x2x50x50_1_1_0_023_n_n none l r) (v66 m c) (v59 m c) := by
  have h := (line4 m c).binary (a := main_v66) (b := main_v59) (y := main_v67) 7 rfl (by decide +kernel) (by decide +kernel)
  exact h
theorem v68_eq : v68 m c = (transpose S2x36x50x50 [1, 0, 2, 3] · transposes_S36x2x50x50_S2x36x50x50_1_0_2_3) (v67 m c) := by
  have h := (line4 m c).unary (x := main_v67) (y := main_v68) 8 rfl (by decide +kernel) (by decide +kernel)
  exact h
theorem v69_eq : v69 m c = broadcastInDim S1x36x1x1 ![1] bcast_S36_S1x36x1x1_1 (arg7 m c) := by
  have h := (line4 m c).unary (x := main_arg7) (y := main_v69) 9 rfl (by decide +kernel) (by decide +kernel)
  exact h
theorem v70_eq : v70 m c = broadcastInDim S2x36x50x50 ![0, 1, 2, 3] bcast_S1x36x1x1_S2x36x50x50_0_1_2_3 (v69 m c) := by
  have h := (line4 m c).unary (x := main_v69) (y := main_v70) 10 rfl (by decide +kernel) (by decide +kernel)
  exact h
theorem v71_eq : v71 m c = addf (v68 m c) (v70 m c) := by
  have h := (line4 m c).binary (a := main_v68) (b := main_v70) (y := main_v71) 11 rfl (by decide +kernel) (by decide +kernel)
  exact h
theorem v72_eq : v72 m c = shapeCast S2x9x1x50x50 (v65 m c) shapeCasts_S2x9x50x50_S2x9x1x50x50 := by
  have h := (line4 m c).reshape (x := main_v65) (y := main_v72) 12 rfl (by decide +kernel) (by decide +kernel)
  exact h
theorem v73_eq : v73 m c = (transpose S2x50x50x9x1 [0, 3, 4, 1, 2] · transposes_S2x9x1x50x50_S2x50x50x9x1_0_3_4_1_2) (v72 m c) := by
  have h := (line4 m c).unary (x := main_v72) (y := main_v73) 13 rfl (by decide +kernel) (by decide +kernel)
  exact h
theorem v74_eq : v74 m c = shapeCast S2x22500x1 (v73 m c) shapeCasts_S2x50x50x9x1_S2x22500x1 := by
  have h := (line4 m c).reshape (x := main_v73) (y := main_v74) 14 rfl (by decide +kernel) (by decide +kernel)
  exact h
theorem v75_eq : v75 m c = shapeCast S2x9x4x50x50 (v71 m c) shapeCasts_S2x36x50x50_S2x9x4x50x50 := by
  have h := (line4 m c).reshape (x := main_v71) (y := main_v75) 15 rfl (by decide +kernel) (by decide +kernel)
  exact h
theorem v76_eq : v76 m c = (transpose S2x50x50x9x4 [0, 3, 4, 1, 2] · transposes_S2x9x4x50x50_S2x50x50x9x4_0_3_4_1_2) (v75 m c) := by
  have h := (line4 m c).unary (x := main_v75) (y := main_v76) 16 rfl (by decide +kernel) (by decide +kernel)
  exact h
theorem v77_eq : v77 m c = shapeCast S2x22500x4 (v76 m c) shapeCasts_S2x50x50x9x4_S2x22500x4 := by
  have h := (line4 m c).reshape (x := main_v76) (y := main_v77) 17 rfl (by decide +kernel) (by decide +kernel)
  exact h
theorem v78_eq : v78 m c = Host.negf (cst m c) := by
  have h := (line4 m c).unary (x := main_cst) (y := main_v78) 18 rfl (by decide +kernel) (by decide +kernel)
  exact h
theorem cst_2_eq : cst_2 m c = (constant S_ .f32 0x40000000#32) := by
  have h := (line4 m c).nullary  (y := main_cst_2) 19 rfl (by decide +kernel)
  exact h
theorem v79_eq : v79 m c = broadcastInDim S9 ![] bcast_S_S9 (cst_2 m c) := by
  have h := (line4 m c).unary (x := main_cst_2) (y := main_v79) 20 rfl (by decide +kernel) (by decide +kernel)
  exact h
theorem v80_eq : v80 m c = Host.divf (v78 m c) (v79 m c) := by
  have h := (line4 m c).binary (a := main_v78) (b := main_v79) (y := main_v80) 21 rfl (by decide +kernel) (by decide +kernel)
  exact h
theorem v81_eq : v81 m c = Host.negf (cst_0 m c) := by
  have h := (line4 m c).unary (x := main_cst_0) (y := main_v81) 22 rfl (by decide +kernel) (by decide +kernel)
  exact h
theorem cst_3_eq : cst_3 m c = (constant S_ .f32 0x40000000#32) := by
  have h := (line4 m c).nullary  (y := main_cst_3) 23 rfl (by decide +kernel)
  exact h
theorem v82_eq : v82 m c = broadcastInDim S9 ![] bcast_S_S9 (cst_3 m c) := by
  have h := (line4 m c).unary (x := main_cst_3) (y := main_v82) 24 rfl (by decide +kernel) (by decide +kernel)
  exact h
theorem v83_eq : v83 m c = Host.divf (v81 m c) (v82 m c) := by
  have h := (line4 m c).binary (a := main_v81) (b := main_v82) (y := main_v83) 25 rfl (by decide +kernel) (by decide +kernel)
  exact h
theorem cst_4_eq : cst_4 m c = (constant S_ .f32 0x40000000#32) := by
  have h := (line4 m c).nullary  (y := main_cst_4) 26 rfl (by decide +kernel)
  exact h
theorem v84_eq : v84 m c = broadcastInDim S9 ![] bcast_S_S9 (cst_4 m c) := by
  have h := (line4 m c).unary (x := main_cst_4) (y := main_v84) 27 rfl (by decide +kernel) (by decide +kernel)
  exact h
theorem v85_eq : v85 m c = Host.divf (cst m c) (v84 m c) := by
  have h := (line4 m c).binary (a := main_cst) (b := main_v84) (y := main_v85) 28 rfl (by decide +kernel) (by decide +kernel)
  exact h
theorem cst_5_eq : cst_5 m c = (constant S_ .f32 0x40000000#32) := by
  have h := (line4 m c).nullary  (y := main_cst_5) 29 rfl (by decide +kernel)
  exact h
theorem v86_eq : v86 m c = broadcastInDim S9 ![] bcast_S_S9 (cst_5 m c) := by
  have h := (line4 m c).unary (x := main_cst_5) (y := main_v86) 30 rfl (by decide +kernel) (by decide +kernel)
  exact h
theorem v87_eq : v87 m c = Host.divf (cst_0 m c) (v86 m c) := by
  have h := (line4 m c).binary (a := main_cst_0) (b := main_v86) (y := main_v87) 31 rfl (by decide +kernel) (by decide +kernel)
  exact h
theorem v88_eq : v88 m c = broadcastInDim S9x1 ![0] bcast_S9_S9x1_0 (v80 m c) := by
  have h := (line4 m c).unary (x := main_v80) (y := main_v88) 32 rfl (by decide +kernel) (by decide +kernel)
  exact h
theorem v89_eq : v89 m c = broadcastInDim S9x1 ![0] bcast_S9_S9x1_0 (v83 m c) := by
  have h := (line4 m c).unary (x := main_v83) (y := main_v89) 33 rfl (by decide +kernel) (by decide +kernel)
  exact h
theorem v90_eq : v90 m c = broadcastInDim S9x1 ![0] bcast_S9_S9x1_0 (v85 m c) := by
  have h := (line4 m c).unary (x := main_v85) (y := main_v90) 34 rfl (by decide +kernel) (by decide +kernel)
  exact h
theorem v91_eq : v91 m c = broadcastInDim S9x1 ![0] bcast_S9_S9x1_0 (v87 m c) := by
  have h := (line4 m c).unary (x := main_v87) (y := main_v91) 35 rfl (by decide +kernel) (by decide +kernel)
  exact h
theorem v92_eq : v92 m c = (concatenate S9x4 1 [⟨S9x1, v88 m c⟩, ⟨S9x1, v89 m c⟩, ⟨S9x1, v90 m c⟩, ⟨S9x1, v91 m c⟩] concatenates_S9x1_S9x1_S9x1_S9x1_S9x4_d1 : (⟨S9x4, .f32⟩ : BufTy).Contents (Elt Ideal)) := by
  have h := (line4 m c).nary (xs := ![main_v88, main_v89, main_v90, main_v91]) (y := main_v92) 36 rfl (by decide +kernel) (by decide +kernel)
  exact h
theorem v93_eq : v93 m c = (iotaInDim S50x50 32 1) := by
  have h := (line4 m c).nullary  (y := main_v93) 37 rfl (by decide +kernel)
  exact h
theorem v94_eq : v94 m c = sitofp .f32 (v93 m c) := by
  have h := (line4 m c).unary (x := main_v93) (y := main_v94) 38 rfl (by decide +kernel) (by decide +kernel)
  exact h
theorem cst_6_eq : cst_6 m c = (constant S_ .f32 0x3F000000#32) := by
  have h := (line4 m c).nullary  (y := main_cst_6) 39 rfl (by decide +kernel)
  exact h
theorem v95_eq : v95 m c = broadcastInDim S50x50 ![] bcast_S_S50x50 (cst_6 m c) := by
  have h := (line4 m c).unary (x := main_cst_6) (y := main_v95) 40 rfl (by decide +kernel) (by decide +kernel)
  exact h
theorem v96_eq : v96 m c = addf (v94 m c) (v95 m c) := by
  have h := (line4 m c).binary (a := main_v94) (b := main_v95) (y := main_v96) 41 rfl (by decide +kernel) (by decide +kernel)
  exact h
theorem cst_7_eq : cst_7 m c = (constant S_ .f32 0x41800000#32) := by
  have h := (line4 m c).nullary  (y := main_cst_7) 42 rfl (by decide +kernel)
  exact h
theorem v97_eq : v97 m c = broadcastInDim S50x50 ![] bcast_S_S50x50 (cst_7 m c) := by
  have h := (line4 m c).unary (x := main_cst_7) (y := main_v97) 43 rfl (by decide +kernel) (by decide +kernel)
  exact h
theorem v98_eq : v98 m c = mulf (v96 m c) (v97 m c) := by
  have h := (line4 m c).binary (a := main_v96) (b := main_v97) (y := main_v98) 44 rfl (by decide +kernel) (by decide +kernel)
  exact h
theorem v99_eq : v99 m c = (iotaInDim S50x50 32 0) := by
  have h := (line4 m c).nullary  (y := main_v99) 45 rfl (by decide +kernel)
  exact h
theorem v100_eq : v100 m c = sitofp .f32 (v99 m c) := by
  have h := (line4 m c).unary (x := main_v99) (y := main_v100) 46 rfl (by decide +kernel) (by decide +kernel)
  exact h
theorem cst_8_eq : cst_8 m c = (constant S_ .f32 0x3F000000#32) := by
  have h := (line4 m c).nullary  (y := main_cst_8) 47 rfl (by decide +kernel)
  exact h
theorem v101_eq : v101 m c = broadcastInDim S50x50 ![] bcast_S_S50x50 (cst_8 m c) := by
  have h := (line4 m c).unary (x := main_cst_8) (y := main_v101) 48 rfl (by decide +kernel) (by decide +kernel)
  exact h
theorem v102_eq : v102 m c = addf (v100 m c) (v101 m c) := by
  have h := (line4 m c).binary (a := main_v100) (b := main_v101) (y := main_v102) 49 rfl (by decide +kernel) (by decide +kernel)
  exact h
theorem cst_9_eq : cst_9 m c = (constant S_ .f32 0x41800000#32) := by
  have h := (line4 m c).nullary  (y := main_cst_9) 50 rfl (by decide +kernel)
  exact h
theorem v103_eq : v103 m c = broadcastInDim S50x50 ![] bcast_S_S50x50 (cst_9 m c) := by
  have h := (line4 m c).unary (x := main_cst_9) (y := main_v103) 51 rfl (by decide +kernel) (by decide +kernel)
  exact h
theorem v104_eq : v104 m c = mulf (v102 m c) (v103 m c) := by
  have h := (line4 m c).binary (a := main_v102) (b := main_v103) (y := main_v104) 52 rfl (by decide +kernel) (by decide +kernel)
  exact h
theorem v105_eq : v105 m c = broadcastInDim S50x50x1 ![0, 1] bcast_S50x50_S50x50x1_0_1 (v98 m c) := by
  have h := (line4 m c).unary (x := main_v98) (y := main_v105) 53 rfl (by decide +kernel) (by decide +kernel)
  exact h
theorem v106_eq : v106 m c = broadcastInDim S50x50x1 ![0, 1] bcast_S50x50_S50x50x1_0_1 (v104 m c) := by
  have h := (line4 m c).unary (x := main_v104) (y := main_v106) 54 rfl (by decide +kernel) (by decide +kernel)
  exact h
theorem v107_eq : v107 m c = broadcastInDim S50x50x1 ![0, 1] bcast_S50x50_S50x50x1_0_1 (v98 m c) := by
  have h := (line4 m c).unary (x := main_v98) (y := main_v107) 55 rfl (by decide +kernel) (by decide +kernel)
  exact h
theorem v108_eq : v108 m c = broadcastInDim S50x50x1 ![0, 1] bcast_S50x50_S50x50x1_0_1 (v104 m c) := by
  have h := (line4 m c).unary (x := main_v104) (y := main_v108) 56 rfl (by decide +kernel) (by decide +kernel)
  exact h
theorem v109_eq : v109 m c = (concatenate S50x50x4 2 [⟨S50x50x1, v105 m c⟩, ⟨S50x50x1, v106 m c⟩, ⟨S50x50x1, v107 m c⟩, ⟨S50x50x1, v108 m c⟩] concatenates_S50x50x1_S50x50x1_S50x50x1_S50x50x1_S50x50x4_d2 : (⟨S50x50x4, .f32⟩ : BufTy).Contents (Elt Ideal)) := by
  have h := (line4 m c).nary (xs := ![main_v105, main_v106, main_v107, main_v108]) (y := main_v109) 57 rfl (by decide +kernel) (by decide +kernel)
  exact h
theorem v110_eq : v110 m c = shapeCast S2500x4 (v109 m c) shapeCasts_S50x50x4_S2500x4 := by
  have h := (line4 m c).reshape (x := main_v109) (y := main_v110) 58 rfl (by decide +kernel) (by decide +kernel)
  exact h
theorem v111_eq : v111 m c = broadcastInDim S2500x1x4 ![0, 2] bcast_S2500x4_S2500x1x4_0_2 (v110 m c) := by
  have h := (line4 m c).unary (x := main_v110) (y := main_v111) 59 rfl (by decide +kernel) (by decide +kernel)
  exact h
theorem v112_eq : v112 m c = broadcastInDim S1x9x4 ![1, 2] bcast_S9x4_S1x9x4_1_2 (v92 m c) := by
  have h := (line4 m c).unary (x := main_v92) (y := main_v112) 60 rfl (by decide +kernel) (by decide +kernel)
  exact h
theorem v113_eq : v113 m c = broadcastInDim S2500x9x4 ![0, 1, 2] bcast_S2500x1x4_S2500x9x4_0_1_2 (v111 m c) := by
  have h := (line4 m c).unary (x := main_v111) (y := main_v113) 61 rfl (by decide +kernel) (by decide +kernel)
  exact h
theorem v114_eq : v114 m c = broadcastInDim S2500x9x4 ![0, 1, 2] bcast_S1x9x4_S2500x9x4_0_1_2 (v112 m c) := by
  have h := (line4 m c).unary (x := main_v112) (y := main_v114) 62 rfl (by decide +kernel) (by decide +kernel)
  exact h
theorem v115_eq : v115 m c = addf (v113 m c) (v114 m c) := by
  have h := (line4 m c).binary (a := main_v113) (b := main_v114) (y := main_v115) 63 rfl (by decide +kernel) (by decide +kernel)
  exact h
theorem v116_eq : v116 m c = shapeCast S22500x4 (v115 m c) shapeCasts_S2500x9x4_S22500x4 := by
  have h := (line4 m c).reshape (x := main_v115) (y := main_v116) 64 rfl (by decide +kernel) (by decide +kernel)
  exact h
theorem v117_eq : v117 m c = shapeCast S2x22500 (v74 m c) shapeCasts_S2x22500x1_S2x22500 := by
  have h := (line4 m c).reshape (x := main_v74) (y := main_v117) 65 rfl (by decide +kernel) (by decide +kernel)
  exact h
theorem v118_eq : v118 m c = Host.negf (v117 m c) := by
  have h := (line4 m c).unary (x := main_v117) (y := main_v118) 66 rfl (by decide +kernel) (by decide +kernel)
  exact h
theorem v119_eq : v119 m c = Host.exp (v118 m c) := by
  have h := (line4 m c).unary (x := main_v118) (y := main_v119) 67 rfl (by decide +kernel) (by decide +kernel)
  exact h
theorem cst_10_eq : cst_10 m c = (constant S_ .f32 0x3F800000#32) := by
  have h := (line4 m c).nullary  (y := main_cst_10) 68 rfl (by decide +kernel)
  exact h
theorem v120_eq : v120 m c = broadcastInDim S2x22500 ![] bcast_S_S2x22500 (cst_10 m c) := by
  have h := (line4 m c).unary (x := main_cst_10) (y := main_v120) 69 rfl (by decide +kernel) (by decide +kernel)
  exact h
theorem v121_eq : v121 m c = addf (v120 m c) (v119 m c) := by
  have h := (line4 m c).binary (a := main_v120) (b := main_v119) (y := main_v121) 70 rfl (by decide +kernel) (by decide +kernel)
  exact h
theorem cst_11_eq : cst_11 m c = (constant S_ .f32 0x3F800000#32) := by
  have h := (line4 m c).nullary  (y := main_cst_11) 71 rfl (by decide +kernel)
  exact h
theorem v122_eq : v122 m c = broadcastInDim S2x22500 ![] bcast_S_S2x22500 (cst_11 m c) := by
  have h := (line4 m c).unary (x := main_cst_11) (y := main_v122) 72 rfl (by decide +kernel) (by decide +kernel)
  exact h
theorem v123_eq : v123 m c = Host.divf (v122 m c) (v121 m c) := by
  have h := (line4 m c).binary (a := main_v122) (b := main_v121) (y := main_v123) 73 rfl (by decide +kernel) (by decide +kernel)
  exact h
theorem v124_eq : v124 m c = (extractStridedSlice S22500x1 ![0, 2] · slices_S22500x4_S22500x1_0_2) (v116 m c) := by
  have h := (line4 m c).unary (x := main_v116) (y := main_v124) 74 rfl (by decide +kernel) (by decide +kernel)
  exact h
theorem v125_eq : v125 m c = shapeCast S22500 (v124 m c) shapeCasts_S22500x1_S22500 := by
  have h := (line4 m c).reshape (x := main_v124) (y := main_v125) 75 rfl (by decide +kernel) (by decide +kernel)
  exact h
theorem v126_eq : v126 m c = (extractStridedSlice S22500x1 ![0, 0] · slices_S22500x4_S22500x1_0_0) (v116 m c) := by
  have h := (line4 m c).unary (x := main_v116) (y := main_v126) 76 rfl (by decide +kernel) (by decide +kernel)
  exact h
theorem v127_eq : v127 m c = shapeCast S22500 (v126 m c) shapeCasts_S22500x1_S22500 := by
  have h := (line4 m c).reshape (x := main_v126) (y := main_v127) 77 rfl (by decide +kernel) (by decide +kernel)
  exact h
theorem v128_eq : v128 m c = subf (v125 m c) (v127 m c) := by
  have h := (line4 m c).binary (a := main_v125) (b := main_v127) (y := main_v128) 78 rfl (by decide +kernel) (by decide +kernel)
  exact h
theorem v129_eq : v129 m c = (extractStridedSlice S22500x1 ![0, 3] · slices_S22500x4_S22500x1_0_3) (v116 m c) := by
  have h := (line4 m c).unary (x := main_v116) (y := main_v129) 79 rfl (by decide +kernel) (by decide +kernel)
  exact h
theorem v130_eq : v130 m c = shapeCast S22500 (v129 m c) shapeCasts_S22500x1_S22500 := by
  have h := (line4 m c).reshape (x := main_v129) (y := main_v130) 80 rfl (by decide +kernel) (by decide +kernel)
  exact h
theorem v131_eq : v131 m c = (extractStridedSlice S22500x1 ![0, 1] · slices_S22500x4_S22500x1_0_1) (v116 m c) := by
  have h := (line4 m c).unary (x := main_v116) (y := main_v131) 81 rfl (by decide +kernel) (by decide +kernel)
  exact h
theorem v132_eq : v132 m c = shapeCast S22500 (v131 m c) shapeCasts_S22500x1_S22500 := by
  have h := (line4 m c).reshape (x := main_v131) (y := main_v132) 82 rfl (by decide +kernel) (by decide +kernel)
  exact h
theorem v133_eq : v133 m c = subf (v130 m c) (v132 m c) := by
  have h := (line4 m c).binary (a := main_v130) (b := main_v132) (y := main_v133) 83 rfl (by decide +kernel) (by decide +kernel)
  exact h
theorem v134_eq : v134 m c = (extractStridedSlice S22500x1 ![0, 0] · slices_S22500x4_S22500x1_0_0) (v116 m c) := by
  have h := (line4 m c).unary (x := main_v116) (y := main_v134) 84 rfl (by decide +kernel) (by decide +kernel)
  exact h
theorem v135_eq : v135 m c = shapeCast S22500 (v134 m c) shapeCasts_S22500x1_S22500 := by
  have h := (line4 m c).reshape (x := main_v134) (y := main_v135) 85 rfl (by decide +kernel) (by decide +kernel)
  exact h
theorem cst_12_eq : cst_12 m c = (constant S_ .f32 0x3F000000#32) := by
  have h := (line4 m c).nullary  (y := main_cst_12) 86 rfl (by decide +kernel)
  exact h
theorem v136_eq : v136 m c = broadcastInDim S22500 ![] bcast_S_S22500 (cst_12 m c) := by
  have h := (line4 m c).unary (x := main_cst_12) (y := main_v136) 87 rfl (by decide +kernel) (by decide +kernel)
  exact h
theorem v137_eq : v137 m c = mulf (v136 m c) (v128 m c) := by
  have h := (line4 m c).binary (a := main_v136) (b := main_v128) (y := main_v137) 88 rfl (by decide +kernel) (by decide +kernel)
  exact h
theorem v138_eq : v138 m c = addf (v135 m c) (v137 m c) := by
  have h := (line4 m c).binary (a := main_v135) (b := main_v137) (y := main_v138) 89 rfl (by decide +kernel) (by decide +kernel)
  exact h
theorem v139_eq : v139 m c = (extractStridedSlice S22500x1 ![0, 1] · slices_S22500x4_S22500x1_0_1) (v116 m c) := by
  have h := (line4 m c).unary (x := main_v116) (y := main_v139) 90 rfl (by decide +kernel) (by decide +kernel)
  exact h
theorem v140_eq : v140 m c = shapeCast S22500 (v139 m c) shapeCasts_S22500x1_S22500 := by
  have h := (line4 m c).reshape (x := main_v139) (y := main_v140) 91 rfl (by decide +kernel) (by decide +kernel)
  exact h
theorem cst_13_eq : cst_13 m c = (constant S_ .f32 0x3F000000#32) := by
  have h := (line4 m c).nullary  (y := main_cst_13) 92 rfl (by decide +kernel)
  exact h
theorem v141_eq : v141 m c = broadcastInDim S22500 ![] bcast_S_S22500 (cst_13 m c) := by
  have h := (line4 m c).unary (x := main_cst_13) (y := main_v141) 93 rfl (by decide +kernel) (by decide +kernel)
  exact h
theorem v142_eq : v142 m c = mulf (v141 m c) (v133 m c) := by
  have h := (line4 m c).binary (a := main_v141) (b := main_v133) (y := main_v142) 94 rfl (by decide +kernel) (by decide +kernel)
  exact h
theorem v143_eq : v143 m c = addf (v140 m c) (v142 m c) := by
  have h := (line4 m c).binary (a := main_v140) (b := main_v142) (y := main_v143) 95 rfl (by decide +kernel) (by decide +kernel)
  exact h
theorem v144_eq : v144 m c = (extractStridedSlice S2x22500x1 ![0, 0, 0] · slices_S2x22500x4_S2x22500x1_0_0_0) (v77 m c) := by
  have h := (line4 m c).unary (x := main_v77) (y := main_v144) 96 rfl (by decide +kernel) (by decide +kernel)
  exact h
theorem v145_eq : v145 m c = shapeCast S2x22500 (v144 m c) shapeCasts_S2x22500x1_S2x22500 := by
  have h := (line4 m c).reshape (x := main_v144) (y := main_v145) 97 rfl (by decide +kernel) (by decide +kernel)
  exact h
theorem v146_eq : v146 m c = (extractStridedSlice S2x22500x1 ![0, 0, 1] · slices_S2x22500x4_S2x22500x1_0_0_1) (v77 m c) := by
  have h := (line4 m c).unary (x := main_v77) (y := main_v146) 98 rfl (by decide +kernel) (by decide +kernel)
  exact h
theorem v147_eq : v147 m c = shapeCast S2x22500 (v146 m c) shapeCasts_S2x22500x1_S2x22500 := by
  have h := (line4 m c).reshape (x := main_v146) (y := main_v147) 99 rfl (by decide +kernel) (by decide +kernel)
  exact h
theorem v148_eq : v148 m c = (extractStridedSlice S2x22500x1 ![0, 0, 2] · slices_S2x22500x4_S2x22500x1_0_0_2) (v77 m c) := by
  have h := (line4 m c).unary (x := main_v77) (y := main_v148) 100 rfl (by decide +kernel) (by decide +kernel)
  exact h
theorem v149_eq : v149 m c = shapeCast S2x22500 (v148 m c) shapeCasts_S2x22500x1_S2x22500 := by
  have h := (line4 m c).reshape (x := main_v148) (y := main_v149) 101 rfl (by decide +kernel) (by decide +kernel)
  exact h
theorem v150_eq : v150 m c = (extractStridedSlice S2x22500x1 ![0, 0, 3] · slices_S2x22500x4_S2x22500x1_0_0_3) (v77 m c) := by
  have h := (line4 m c).unary (x := main_v77) (y := main_v150) 102 rfl (by decide +kernel) (by decide +kernel)
  exact h
theorem v151_eq : v151 m c = shapeCast S2x22500 (v150 m c) shapeCasts_S2x22500x1_S2x22500 := by
  have h := (line4 m c).reshape (x := main_v150) (y := main_v151) 103 rfl (by decide +kernel) (by decide +kernel)
  exact h
theorem cst_14_eq : cst_14 m c = (constant S_ .f32 0x408451EC#32) := by
  have h := (line4 m c).nullary  (y := main_cst_14) 104 rfl (by decide +kernel)
  exact h
theorem v152_eq : v152 m c = broadcastInDim S2x22500 ![] bcast_S_S2x22500 (cst_14 m c) := by
  have h := (line4 m c).unary (x := main_cst_14) (y := main_v152) 105 rfl (by decide +kernel) (by decide +kernel)
  exact h
theorem v153_eq : v153 m c = minimumf (v149 m c) (v152 m c) := by
  have h := (line4 m c).binary (a := main_v149) (b := main_v152) (y := main_v153) 106 rfl (by decide +kernel) (by decide +kernel)
  exact h
theorem cst_15_eq : cst_15 m c = (constant S_ .f32 0x408451EC#32) := by
  have h := (line4 m c).nullary  (y := main_cst_15) 107 rfl (by decide +kernel)
  exact h
theorem v154_eq : v154 m c = broadcastInDim S2x22500 ![] bcast_S_S2x22500 (cst_15 m c) := by
  have h := (line4 m c).unary (x := main_cst_15) (y := main_v154) 108 rfl (by decide +kernel) (by decide +kernel)
  exact h
theorem v155_eq : v155 m c = minimumf (v151 m c) (v154 m c) := by
  have h := (line4 m c).binary (a := main_v151) (b := main_v154) (y := main_v155) 109 rfl (by decide +kernel) (by decide +kernel)
  exact h
theorem v156_eq : v156 m c = broadcastInDim S1x22500 ![1] bcast_S22500_S1x22500_1 (v128 m c) := by
  have h := (line4 m c).unary (x := main_v128) (y := main_v156) 110 rfl (by decide +kernel) (by decide +kernel)
  exact h
theorem v157_eq : v157 m c = broadcastInDim S2x22500 ![0, 1] bcast_S1x22500_S2x22500_0_1 (v156 m c) := by
  have h := (line4 m c).unary (x := main_v156) (y := main_v157) 111 rfl (by decide +kernel) (by decide +kernel)
  exact h
theorem v158_eq : v158 m c = mulf (v145 m c) (v157 m c) := by
  have h := (line4 m c).binary (a := main_v145) (b := main_v157) (y := main_v158) 112 rfl (by decide +kernel) (by decide +kernel)
  exact h
theorem v159_eq : v159 m c = broadcastInDim S1x22500 ![1] bcast_S22500_S1x22500_1 (v138 m c) := by
  have h := (line4 m c).unary (x := main_v138) (y := main_v159) 113 rfl (by decide +kernel) (by decide +kernel)
  exact h
theorem v160_eq : v160 m c = broadcastInDim S2x22500 ![0, 1] bcast_S1x22500_S2x22500_0_1 (v159 m c) := by
  have h := (line4 m c).unary (x := main_v159) (y := main_v160) 114 rfl (by decide +kernel) (by decide +kernel)
  exact h
theorem v161_eq : v161 m c = addf (v158 m c) (v160 m c) := by
  have h := (line4 m c).binary (a := main_v158) (b := main_v160) (y := main_v161) 115 rfl (by decide +kernel) (by decide +kernel)
  exact h
theorem v162_eq : v162 m c = broadcastInDim S1x22500 ![1] bcast_S22500_S1x22500_1 (v133 m c) := by
  have h := (line4 m c).unary (x := main_v133) (y := main_v162) 116 rfl (by decide +kernel) (by decide +kernel)
  exact h
theorem v163_eq : v163 m c = broadcastInDim S2x22500 ![0, 1] bcast_S1x22500_S2x22500_0_1 (v162 m c) := by
  have h := (line4 m c).unary (x := main_v162) (y := main_v163) 117 rfl (by decide +kernel) (by decide +kernel)
  exact h
theorem v164_eq : v164 m c = mulf (v147 m c) (v163 m c) := by
  have h := (line4 m c).binary (a := main_v147) (b := main_v163) (y := main_v164) 118 rfl (by decide +kernel) (by decide +kernel)
  exact h
theorem v165_eq : v165 m c = broadcastInDim S1x22500 ![1] bcast_S22500_S1x22500_1 (v143 m c) := by
  have h := (line4 m c).unary (x := main_v143) (y := main_v165) 119 rfl (by decide +kernel) (by decide +kernel)
  exact h
theorem v166_eq : v166 m c = broadcastInDim S2x22500 ![0, 1] bcast_S1x22500_S2x22500_0_1 (v165 m c) := by
  have h := (line4 m c).unary (x := main_v165) (y := main_v166) 120 rfl (by decide +kernel) (by decide +kernel)
  exact h
theorem v167_eq : v167 m c = addf (v164 m c) (v166 m c) := by
  have h := (line4 m c).binary (a := main_v164) (b := main_v166) (y := main_v167) 121 rfl (by decide +kernel) (by decide +kernel)
  exact h
theorem v168_eq : v168 m c = Host.exp (v153 m c) := by
  have h := (line4 m c).unary (x := main_v153) (y := main_v168) 122 rfl (by decide +kernel) (by decide +kernel)
  exact h
theorem v169_eq : v169 m c = broadcastInDim S1x22500 ![1] bcast_S22500_S1x22500_1 (v128 m c) := by
  have h := (line4 m c).unary (x := main_v128) (y := main_v169) 123 rfl (by decide +kernel) (by decide +kernel)
  exact h
theorem v170_eq : v170 m c = broadcastInDim S2x22500 ![0, 1] bcast_S1x22500_S2x22500_0_1 (v169 m c) := by
  have h := (line4 m c).unary (x := main_v169) (y := main_v170) 124 rfl (by decide +kernel) (by decide +kernel)
  exact h
theorem v171_eq : v171 m c = mulf (v168 m c) (v170 m c) := by
  have h := (line4 m c).binary (a := main_v168) (b := main_v170) (y := main_v171) 125 rfl (by decide +kernel) (by decide +kernel)
  exact h
theorem v172_eq : v172 m c = Host.exp (v155 m c) := by
  have h := (line4 m c).unary (x := main_v155) (y := main_v172) 126 rfl (by decide +kernel) (by decide +kernel)
  exact h
theorem v173_eq : v173 m c = broadcastInDim S1x22500 ![1] bcast_S22500_S1x22500_1 (v133 m c) := by
  have h := (line4 m c).unary (x := main_v133) (y := main_v173) 127 rfl (by decide +kernel) (by decide +kernel)
  exact h
theorem v174_eq : v174 m c = broadcastInDim S2x22500 ![0, 1] bcast_S1x22500_S2x22500_0_1 (v173 m c) := by
  have h := (line4 m c).unary (x := main_v173) (y := main_v174) 128 rfl (by decide +kernel) (by decide +kernel)
  exact h
theorem v175_eq : v175 m c = mulf (v172 m c) (v174 m c) := by
  have h := (line4 m c).binary (a := main_v172) (b := main_v174) (y := main_v175) 129 rfl (by decide +kernel) (by decide +kernel)
  exact h
theorem cst_16_eq : cst_16 m c = (constant S_ .f32 0x3F000000#32) := by
  have h := (line4 m c).nullary  (y := main_cst_16) 130 rfl (by decide +kernel)
  exact h
theorem v176_eq : v176 m c = broadcastInDim S2x22500 ![] bcast_S_S2x22500 (cst_16 m c) := by
  have h := (line4 m c).unary (x := main_cst_16) (y := main_v176) 131 rfl (by decide +kernel) (by decide +kernel)
  exact h
theorem v177_eq : v177 m c = mulf (v176 m c) (v171 m c) := by
  have h := (line4 m c).binary (a := main_v176) (b := main_v171) (y := main_v177) 132 rfl (by decide +kernel) (by decide +kernel)
  exact h
theorem v178_eq : v178 m c = subf (v161 m c) (v177 m c) := by
  have h := (line4 m c).binary (a := main_v161) (b := main_v177) (y := main_v178) 133 rfl (by decide +kernel) (by decide +kernel)
  exact h
theorem cst_17_eq : cst_17 m c = (constant S_ .f32 0x3F000000#32) := by
  have h := (line4 m c).nullary  (y := main_cst_17) 134 rfl (by decide +kernel)
  exact h
theorem v179_eq : v179 m c = broadcastInDim S2x22500 ![] bcast_S_S2x22500 (cst_17 m c) := by
  have h := (line4 m c).unary (x := main_cst_17) (y := main_v179) 135 rfl (by decide +kernel) (by decide +kernel)
  exact h
theorem v180_eq : v180 m c = mulf (v179 m c) (v175 m c) := by
  have h := (line4 m c).binary (a := main_v179) (b := main_v175) (y := main_v180) 136 rfl (by decide +kernel) (by decide +kernel)
  exact h
theorem v181_eq : v181 m c = subf (v167 m c) (v180 m c) := by
  have h := (line4 m c).binary (a := main_v167) (b := main_v180) (y := main_v181) 137 rfl (by decide +kernel) (by decide +kernel)
  exact h
theorem cst_18_eq : cst_18 m c = (constant S_ .f32 0x3F000000#32) := by
  have h := (line4 m c).nullary  (y := main_cst_18) 138 rfl (by decide +kernel)
  exact h
theorem v182_eq : v182 m c = broadcastInDim S2x22500 ![] bcast_S_S2x22500 (cst_18 m c) := by
  have h := (line4 m c).unary (x := main_cst_18) (y := main_v182) 139 rfl (by decide +kernel) (by decide +kernel)
  exact h
theorem v183_eq : v183 m c = mulf (v182 m c) (v171 m c) := by
  have h := (line4 m c).binary (a := main_v182) (b := main_v171) (y := main_v183) 140 rfl (by decide +kernel) (by decide +kernel)
  exact h
theorem v184_eq : v184 m c = addf (v161 m c) (v183 m c) := by
  have h := (line4 m c).binary (a := main_v161) (b := main_v183) (y := main_v184) 141 rfl (by decide +kernel) (by decide +kernel)
  exact h
theorem cst_19_eq : cst_19 m c = (constant S_ .f32 0x3F000000#32) := by
  have h := (line4 m c).nullary  (y := main_cst_19) 142 rfl (by decide +kernel)
  exact h
theorem v185_eq : v185 m c = broadcastInDim S2x22500 ![] bcast_S_S2x22500 (cst_19 m c) := by
  have h := (line4 m c).unary (x := main_cst_19) (y := main_v185) 143 rfl (by decide +kernel) (by decide +kernel)
  exact h
theorem v186_eq : v186 m c = mulf (v185 m c) (v175 m c) := by
  have h := (line4 m c).binary (a := main_v185) (b := main_v175) (y := main_v186) 144 rfl (by decide +kernel) (by decide +kernel)
  exact h
theorem v187_eq : v187 m c = addf (v167 m c) (v186 m c) := by
  have h := (line4 m c).binary (a := main_v167) (b := main_v186) (y := main_v187) 145 rfl (by decide +kernel) (by decide +kernel)
  exact h
theorem cst_20_eq : cst_20 m c = (constant S_ .f32 0x00000000#32) := by
  have h := (line4 m c).nullary  (y := main_cst_20) 146 rfl (by decide +kernel)
  exact h
theorem cst_21_eq : cst_21 m c = (constant S_ .f32 0x44480000#32) := by
  have h := (line4 m c).nullary  (y := main_cst_21) 147 rfl (by decide +kernel)
  exact h

end Cert.ReferenceIdeal.Val

end
-- ==== Proof.REq2.lean ====
/-
  The reference operation by operation: the suppression matrix and the selection.
-/
module

public import proofs.«01_k».proof.Proof.RVal

@[expose] public section

set_option maxRecDepth 16384

noncomputable section

namespace Cert.ReferenceIdeal.Val

open Cert.ReferenceIdeal Cert.ReferenceIdeal.Gen Cert.ReferenceIdeal.Value Cert.ReferenceIdeal.Whole
open Idealize.ShloMosaic Idealize.ShloMosaic.TcCoe Idealize.ShloMosaic.StableHlo
open Idealize.SL.Sem Cert.HostLine

variable (m : (ℓ : Loc nD τ sig) → Buf (Elt Ideal) ℓ) (c : Dev nD)

theorem call2_v0_eq : call2_v0 m c = id (cst_20 m c) := by
  have h := (line5 m c).tunary 0 (.of main_cst_20 : TRef sig ⟨S_, .f32⟩) (.of main_call2_v0 : TRef sig ⟨S_, .f32⟩) rfl (by decide +kernel) (by decide +kernel) (HEq.rfl : HEq (U25 m c (Proc.devRef .tc main_cst_20)) (cst_20 m c)) (HEq.rfl : HEq (U25 m c (Proc.devRef .tc main_call2_v0)) (call2_v0 m c))
  exact h
theorem call2_v1_eq : call2_v1 m c = (broadcastInDim S2x22500 ![] bcast_S_S2x22500) (call2_v0 m c) := by
  have h := (line5 m c).tunary 1 (.of main_call2_v0 : TRef sig ⟨S_, .f32⟩) (.of main_call2_v1 : TRef sig ⟨S2x22500, .f32⟩) rfl (by decide +kernel) (by decide +kernel) (HEq.rfl : HEq (U25 m c (Proc.devRef .tc main_call2_v0)) (call2_v0 m c)) (HEq.rfl : HEq (U25 m c (Proc.devRef .tc main_call2_v1)) (call2_v1 m c))
  exact h
theorem call2_v2_eq : call2_v2 m c = maximumf (call2_v1 m c) (v178 m c) := by
  have h := (line5 m c).tbinary 2 (.of main_call2_v1 : TRef sig ⟨S2x22500, .f32⟩) (.of main_v178 : TRef sig ⟨S2x22500, .f32⟩) (.of main_call2_v2 : TRef sig ⟨S2x22500, .f32⟩) rfl (by decide +kernel) (by decide +kernel) (HEq.rfl : HEq (U25 m c (Proc.devRef .tc main_call2_v1)) (call2_v1 m c)) (HEq.rfl : HEq (U25 m c (Proc.devRef .tc main_v178)) (v178 m c)) (HEq.rfl : HEq (U25 m c (Proc.devRef .tc main_call2_v2)) (call2_v2 m c))
  exact h
theorem call2_v3_eq : call2_v3 m c = id (cst_21 m c) := by
  have h := (line5 m c).tunary 3 (.of main_cst_21 : TRef sig ⟨S_, .f32⟩) (.of main_call2_v3 : TRef sig ⟨S_, .f32⟩) rfl (by decide +kernel) (by decide +kernel) (HEq.rfl : HEq (U25 m c (Proc.devRef .tc main_cst_21)) (cst_21 m c)) (HEq.rfl : HEq (U25 m c (Proc.devRef .tc main_call2_v3)) (call2_v3 m c))
  exact h
theorem call2_v4_eq : call2_v4 m c = (broadcastInDim S2x22500 ![] bcast_S_S2x22500) (call2_v3 m c) := by
  have h := (line5 m c).tunary 4 (.of main_call2_v3 : TRef sig ⟨S_, .f32⟩) (.of main_call2_v4 : TRef sig ⟨S2x22500, .f32⟩) rfl (by decide +kernel) (by decide +kernel) (HEq.rfl : HEq (U25 m c (Proc.devRef .tc main_call2_v3)) (call2_v3 m c)) (HEq.rfl : HEq (U25 m c (Proc.devRef .tc main_call2_v4)) (call2_v4 m c))
  exact h
theorem v188_eq : v188 m c = minimumf (call2_v4 m c) (call2_v2 m c) := by
  have h := (line5 m c).tbinary 5 (.of main_call2_v4 : TRef sig ⟨S2x22500, .f32⟩) (.of main_call2_v2 : TRef sig ⟨S2x22500, .f32⟩) (.of main_v188 : TRef sig ⟨S2x22500, .f32⟩) rfl (by decide +kernel) (by decide +kernel) (HEq.rfl : HEq (U25 m c (Proc.devRef .tc main_call2_v4)) (call2_v4 m c)) (HEq.rfl : HEq (U25 m c (Proc.devRef .tc main_call2_v2)) (call2_v2 m c)) (HEq.rfl : HEq (U25 m c (Proc.devRef .tc main_v188)) (v188 m c))
  exact h
theorem cst_22_eq : cst_22 m c = (constant S_ .f32 0x00000000#32) := by
  have h := (line6 m c).nullary  (y := main_cst_22) 0 rfl (by decide +kernel)
  exact h
theorem cst_23_eq : cst_23 m c = (constant S_ .f32 0x44480000#32) := by
  have h := (line6 m c).nullary  (y := main_cst_23) 1 rfl (by decide +kernel)
  exact h
theorem call3_v0_eq : call3_v0 m c = id (cst_22 m c) := by
  have h := (line7 m c).tunary 0 (.of main_cst_22 : TRef sig ⟨S_, .f32⟩) (.of main_call3_v0 : TRef sig ⟨S_, .f32⟩) rfl (by decide +kernel) (by decide +kernel) (HEq.rfl : HEq (U25 m c (Proc.devRef .tc main_cst_22)) (cst_22 m c)) (HEq.rfl : HEq (U25 m c (Proc.devRef .tc main_call3_v0)) (call3_v0 m c))
  exact h
theorem call3_v1_eq : call3_v1 m c = (broadcastInDim S2x22500 ![] bcast_S_S2x22500) (call3_v0 m c) := by
  have h := (line7 m c).tunary 1 (.of main_call3_v0 : TRef sig ⟨S_, .f32⟩) (.of main_call3_v1 : TRef sig ⟨S2x22500, .f32⟩) rfl (by decide +kernel) (by decide +kernel) (HEq.rfl : HEq (U25 m c (Proc.devRef .tc main_call3_v0)) (call3_v0 m c)) (HEq.rfl : HEq (U25 m c (Proc.devRef .tc main_call3_v1)) (call3_v1 m c))
  exact h
theorem call3_v2_eq : call3_v2 m c = maximumf (call3_v1 m c) (v181 m c) := by
  have h := (line7 m c).tbinary 2 (.of main_call3_v1 : TRef sig ⟨S2x22500, .f32⟩) (.of main_v181 : TRef sig ⟨S2x22500, .f32⟩) (.of main_call3_v2 : TRef sig ⟨S2x22500, .f32⟩) rfl (by decide +kernel) (by decide +kernel) (HEq.rfl : HEq (U25 m c (Proc.devRef .tc main_call3_v1)) (call3_v1 m c)) (HEq.rfl : HEq (U25 m c (Proc.devRef .tc main_v181)) (v181 m c)) (HEq.rfl : HEq (U25 m c (Proc.devRef .tc main_call3_v2)) (call3_v2 m c))
  exact h
theorem call3_v3_eq : call3_v3 m c = id (cst_23 m c) := by
  have h := (line7 m c).tunary 3 (.of main_cst_23 : TRef sig ⟨S_, .f32⟩) (.of main_call3_v3 : TRef sig ⟨S_, .f32⟩) rfl (by decide +kernel) (by decide +kernel) (HEq.rfl : HEq (U25 m c (Proc.devRef .tc main_cst_23)) (cst_23 m c)) (HEq.rfl : HEq (U25 m c (Proc.devRef .tc main_call3_v3)) (call3_v3 m c))
  exact h
theorem call3_v4_eq : call3_v4 m c = (broadcastInDim S2x22500 ![] bcast_S_S2x22500) (call3_v3 m c) := by
  have h := (line7 m c).tunary 4 (.of main_call3_v3 : TRef sig ⟨S_, .f32⟩) (.of main_call3_v4 : TRef sig ⟨S2x22500, .f32⟩) rfl (by decide +kernel) (by decide +kernel) (HEq.rfl : HEq (U25 m c (Proc.devRef .tc main_call3_v3)) (call3_v3 m c)) (HEq.rfl : HEq (U25 m c (Proc.devRef .tc main_call3_v4)) (call3_v4 m c))
  exact h
theorem v189_eq : v189 m c = minimumf (call3_v4 m c) (call3_v2 m c) := by
  have h := (line7 m c).tbinary 5 (.of main_call3_v4 : TRef sig ⟨S2x22500, .f32⟩) (.of main_call3_v2 : TRef sig ⟨S2x22500, .f32⟩) (.of main_v189 : TRef sig ⟨S2x22500, .f32⟩) rfl (by decide +kernel) (by decide +kernel) (HEq.rfl : HEq (U25 m c (Proc.devRef .tc main_call3_v4)) (call3_v4 m c)) (HEq.rfl : HEq (U25 m c (Proc.devRef .tc main_call3_v2)) (call3_v2 m c)) (HEq.rfl : HEq (U25 m c (Proc.devRef .tc main_v189)) (v189 m c))
  exact h
theorem cst_24_eq : cst_24 m c = (constant S_ .f32 0x00000000#32) := by
  have h := (line8 m c).nullary  (y := main_cst_24) 0 rfl (by decide +kernel)
  exact h
theorem cst_25_eq : cst_25 m c = (constant S_ .f32 0x44480000#32) := by
  have h := (line8 m c).nullary  (y := main_cst_25) 1 rfl (by decide +kernel)
  exact h
theorem call4_v0_eq : call4_v0 m c = id (cst_24 m c) := by
  have h := (line9 m c).tunary 0 (.of main_cst_24 : TRef sig ⟨S_, .f32⟩) (.of main_call4_v0 : TRef sig ⟨S_, .f32⟩) rfl (by decide +kernel) (by decide +kernel) (HEq.rfl : HEq (U25 m c (Proc.devRef .tc main_cst_24)) (cst_24 m c)) (HEq.rfl : HEq (U25 m c (Proc.devRef .tc main_call4_v0)) (call4_v0 m c))
  exact h
theorem call4_v1_eq : call4_v1 m c = (broadcastInDim S2x22500 ![] bcast_S_S2x22500) (call4_v0 m c) := by
  have h := (line9 m c).tunary 1 (.of main_call4_v0 : TRef sig ⟨S_, .f32⟩) (.of main_call4_v1 : TRef sig ⟨S2x22500, .f32⟩) rfl (by decide +kernel) (by decide +kernel) (HEq.rfl : HEq (U25 m c (Proc.devRef .tc main_call4_v0)) (call4_v0 m c)) (HEq.rfl : HEq (U25 m c (Proc.devRef .tc main_call4_v1)) (call4_v1 m c))
  exact h
theorem call4_v2_eq : call4_v2 m c = maximumf (call4_v1 m c) (v184 m c) := by
  have h := (line9 m c).tbinary 2 (.of main_call4_v1 : TRef sig ⟨S2x22500, .f32⟩) (.of main_v184 : TRef sig ⟨S2x22500, .f32⟩) (.of main_call4_v2 : TRef sig ⟨S2x22500, .f32⟩) rfl (by decide +kernel) (by decide +kernel) (HEq.rfl : HEq (U25 m c (Proc.devRef .tc main_call4_v1)) (call4_v1 m c)) (HEq.rfl : HEq (U25 m c (Proc.devRef .tc main_v184)) (v184 m c)) (HEq.rfl : HEq (U25 m c (Proc.devRef .tc main_call4_v2)) (call4_v2 m c))
  exact h
theorem call4_v3_eq : call4_v3 m c = id (cst_25 m c) := by
  have h := (line9 m c).tunary 3 (.of main_cst_25 : TRef sig ⟨S_, .f32⟩) (.of main_call4_v3 : TRef sig ⟨S_, .f32⟩) rfl (by decide +kernel) (by decide +kernel) (HEq.rfl : HEq (U25 m c (Proc.devRef .tc main_cst_25)) (cst_25 m c)) (HEq.rfl : HEq (U25 m c (Proc.devRef .tc main_call4_v3)) (call4_v3 m c))
  exact h
theorem call4_v4_eq : call4_v4 m c = (broadcastInDim S2x22500 ![] bcast_S_S2x22500) (call4_v3 m c) := by
  have h := (line9 m c).tunary 4 (.of main_call4_v3 : TRef sig ⟨S_, .f32⟩) (.of main_call4_v4 : TRef sig ⟨S2x22500, .f32⟩) rfl (by decide +kernel) (by decide +kernel) (HEq.rfl : HEq (U25 m c (Proc.devRef .tc main_call4_v3)) (call4_v3 m c)) (HEq.rfl : HEq (U25 m c (Proc.devRef .tc main_call4_v4)) (call4_v4 m c))
  exact h
theorem v190_eq : v190 m c = minimumf (call4_v4 m c) (call4_v2 m c) := by
  have h := (line9 m c).tbinary 5 (.of main_call4_v4 : TRef sig ⟨S2x22500, .f32⟩) (.of main_call4_v2 : TRef sig ⟨S2x22500, .f32⟩) (.of main_v190 : TRef sig ⟨S2x22500, .f32⟩) rfl (by decide +kernel) (by decide +kernel) (HEq.rfl : HEq (U25 m c (Proc.devRef .tc main_call4_v4)) (call4_v4 m c)) (HEq.rfl : HEq (U25 m c (Proc.devRef .tc main_call4_v2)) (call4_v2 m c)) (HEq.rfl : HEq (U25 m c (Proc.devRef .tc main_v190)) (v190 m c))
  exact h
theorem cst_26_eq : cst_26 m c = (constant S_ .f32 0x00000000#32) := by
  have h := (line10 m c).nullary  (y := main_cst_26) 0 rfl (by decide +kernel)
  exact h
theorem cst_27_eq : cst_27 m c = (constant S_ .f32 0x44480000#32) := by
  have h := (line10 m c).nullary  (y := main_cst_27) 1 rfl (by decide +kernel)
  exact h
theorem call5_v0_eq : call5_v0 m c = id (cst_26 m c) := by
  have h := (line11 m c).tunary 0 (.of main_cst_26 : TRef sig ⟨S_, .f32⟩) (.of main_call5_v0 : TRef sig ⟨S_, .f32⟩) rfl (by decide +kernel) (by decide +kernel) (HEq.rfl : HEq (U25 m c (Proc.devRef .tc main_cst_26)) (cst_26 m c)) (HEq.rfl : HEq (U25 m c (Proc.devRef .tc main_call5_v0)) (call5_v0 m c))
  exact h
theorem call5_v1_eq : call5_v1 m c = (broadcastInDim S2x22500 ![] bcast_S_S2x22500) (call5_v0 m c) := by
  have h := (line11 m c).tunary 1 (.of main_call5_v0 : TRef sig ⟨S_, .f32⟩) (.of main_call5_v1 : TRef sig ⟨S2x22500, .f32⟩) rfl (by decide +kernel) (by decide +kernel) (HEq.rfl : HEq (U25 m c (Proc.devRef .tc main_call5_v0)) (call5_v0 m c)) (HEq.rfl : HEq (U25 m c (Proc.devRef .tc main_call5_v1)) (call5_v1 m c))
  exact h
theorem call5_v2_eq : call5_v2 m c = maximumf (call5_v1 m c) (v187 m c) := by
  have h := (line11 m c).tbinary 2 (.of main_call5_v1 : TRef sig ⟨S2x22500, .f32⟩) (.of main_v187 : TRef sig ⟨S2x22500, .f32⟩) (.of main_call5_v2 : TRef sig ⟨S2x22500, .f32⟩) rfl (by decide +kernel) (by decide +kernel) (HEq.rfl : HEq (U25 m c (Proc.devRef .tc main_call5_v1)) (call5_v1 m c)) (HEq.rfl : HEq (U25 m c (Proc.devRef .tc main_v187)) (v187 m c)) (HEq.rfl : HEq (U25 m c (Proc.devRef .tc main_call5_v2)) (call5_v2 m c))
  exact h
theorem call5_v3_eq : call5_v3 m c = id (cst_27 m c) := by
  have h := (line11 m c).tunary 3 (.of main_cst_27 : TRef sig ⟨S_, .f32⟩) (.of main_call5_v3 : TRef sig ⟨S_, .f32⟩) rfl (by decide +kernel) (by decide +kernel) (HEq.rfl : HEq (U25 m c (Proc.devRef .tc main_cst_27)) (cst_27 m c)) (HEq.rfl : HEq (U25 m c (Proc.devRef .tc main_call5_v3)) (call5_v3 m c))
  exact h
theorem call5_v4_eq : call5_v4 m c = (broadcastInDim S2x22500 ![] bcast_S_S2x22500) (call5_v3 m c) := by
  have h := (line11 m c).tunary 4 (.of main_call5_v3 : TRef sig ⟨S_, .f32⟩) (.of main_call5_v4 : TRef sig ⟨S2x22500, .f32⟩) rfl (by decide +kernel) (by decide +kernel) (HEq.rfl : HEq (U25 m c (Proc.devRef .tc main_call5_v3)) (call5_v3 m c)) (HEq.rfl : HEq (U25 m c (Proc.devRef .tc main_call5_v4)) (call5_v4 m c))
  exact h
theorem v191_eq : v191 m c = minimumf (call5_v4 m c) (call5_v2 m c) := by
  have h := (line11 m c).tbinary 5 (.of main_call5_v4 : TRef sig ⟨S2x22500, .f32⟩) (.of main_call5_v2 : TRef sig ⟨S2x22500, .f32⟩) (.of main_v191 : TRef sig ⟨S2x22500, .f32⟩) rfl (by decide +kernel) (by decide +kernel) (HEq.rfl : HEq (U25 m c (Proc.devRef .tc main_call5_v4)) (call5_v4 m c)) (HEq.rfl : HEq (U25 m c (Proc.devRef .tc main_call5_v2)) (call5_v2 m c)) (HEq.rfl : HEq (U25 m c (Proc.devRef .tc main_v191)) (v191 m c))
  exact h
theorem v192_eq : v192 m c = subf (v190 m c) (v188 m c) := by
  have h := (line12 m c).binary (a := main_v190) (b := main_v188) (y := main_v192) 0 rfl (by decide +kernel) (by decide +kernel)
  exact h
theorem v193_eq : v193 m c = subf (v191 m c) (v189 m c) := by
  have h := (line12 m c).binary (a := main_v191) (b := main_v189) (y := main_v193) 1 rfl (by decide +kernel) (by decide +kernel)
  exact h
theorem v194_eq : v194 m c = broadcastInDim S2x22500x1 ![0, 1] bcast_S2x22500_S2x22500x1_0_1 (v188 m c) := by
  have h := (line12 m c).unary (x := main_v188) (y := main_v194) 2 rfl (by decide +kernel) (by decide +kernel)
  exact h
theorem v195_eq : v195 m c = broadcastInDim S2x22500x1 ![0, 1] bcast_S2x22500_S2x22500x1_0_1 (v189 m c) := by
  have h := (line12 m c).unary (x := main_v189) (y := main_v195) 3 rfl (by decide +kernel) (by decide +kernel)
  exact h
theorem v196_eq : v196 m c = broadcastInDim S2x22500x1 ![0, 1] bcast_S2x22500_S2x22500x1_0_1 (v190 m c) := by
  have h := (line12 m c).unary (x := main_v190) (y := main_v196) 4 rfl (by decide +kernel) (by decide +kernel)
  exact h
theorem v197_eq : v197 m c = broadcastInDim S2x22500x1 ![0, 1] bcast_S2x22500_S2x22500x1_0_1 (v191 m c) := by
  have h := (line12 m c).unary (x := main_v191) (y := main_v197) 5 rfl (by decide +kernel) (by decide +kernel)
  exact h
theorem v198_eq : v198 m c = (concatenate S2x22500x4 2 [⟨S2x22500x1, v194 m c⟩, ⟨S2x22500x1, v195 m c⟩, ⟨S2x22500x1, v196 m c⟩, ⟨S2x22500x1, v197 m c⟩] concatenates_S2x22500x1_S2x22500x1_S2x22500x1_S2x22500x1_S2x22500x4_d2 : (⟨S2x22500x4, .f32⟩ : BufTy).Contents (Elt Ideal)) := by
  have h := (line12 m c).nary (xs := ![main_v194, main_v195, main_v196, main_v197]) (y := main_v198) 6 rfl (by decide +kernel) (by decide +kernel)
  exact h
theorem cst_28_eq : cst_28 m c = (constant S_ .f32 0x41800000#32) := by
  have h := (line12 m c).nullary  (y := main_cst_28) 7 rfl (by decide +kernel)
  exact h
theorem v199_eq : v199 m c = broadcastInDim S2x22500 ![] bcast_S_S2x22500 (cst_28 m c) := by
  have h := (line12 m c).unary (x := main_cst_28) (y := main_v199) 8 rfl (by decide +kernel) (by decide +kernel)
  exact h
theorem v200_eq : v200 m c = cmpf .oge (v192 m c) (v199 m c) := by
  have h := (line12 m c).binary (a := main_v192) (b := main_v199) (y := main_v200) 9 rfl (by decide +kernel) (by decide +kernel)
  exact h
theorem cst_29_eq : cst_29 m c = (constant S_ .f32 0x41800000#32) := by
  have h := (line12 m c).nullary  (y := main_cst_29) 10 rfl (by decide +kernel)
  exact h
theorem v201_eq : v201 m c = broadcastInDim S2x22500 ![] bcast_S_S2x22500 (cst_29 m c) := by
  have h := (line12 m c).unary (x := main_cst_29) (y := main_v201) 11 rfl (by decide +kernel) (by decide +kernel)
  exact h
theorem v202_eq : v202 m c = cmpf .oge (v193 m c) (v201 m c) := by
  have h := (line12 m c).binary (a := main_v193) (b := main_v201) (y := main_v202) 12 rfl (by decide +kernel) (by decide +kernel)
  exact h
theorem v203_eq : v203 m c = andi (v200 m c) (v202 m c) := by
  have h := (line12 m c).binary (a := main_v200) (b := main_v202) (y := main_v203) 13 rfl (by decide +kernel) (by decide +kernel)
  exact h
theorem cst_30_eq : cst_30 m c = (constant S_ .f32 0x00000000#32) := by
  have h := (line12 m c).nullary  (y := main_cst_30) 14 rfl (by decide +kernel)
  exact h
theorem v204_eq : v204 m c = broadcastInDim S2x22500 ![] bcast_S_S2x22500 (cst_30 m c) := by
  have h := (line12 m c).unary (x := main_cst_30) (y := main_v204) 15 rfl (by decide +kernel) (by decide +kernel)
  exact h
theorem v205_eq : v205 m c = cmpf .oge (v123 m c) (v204 m c) := by
  have h := (line12 m c).binary (a := main_v123) (b := main_v204) (y := main_v205) 16 rfl (by decide +kernel) (by decide +kernel)
  exact h
theorem v206_eq : v206 m c = andi (v203 m c) (v205 m c) := by
  have h := (line12 m c).binary (a := main_v203) (b := main_v205) (y := main_v206) 17 rfl (by decide +kernel) (by decide +kernel)
  exact h
theorem cst_31_eq : cst_31 m c = (constant S_ .f32 0xCE6E6B28#32) := by
  have h := (line12 m c).nullary  (y := main_cst_31) 18 rfl (by decide +kernel)
  exact h
theorem call6_v0_eq : call6_v0 m c = id (cst_31 m c) := by
  have h := (line13 m c).tunary 0 (.of main_cst_31 : TRef sig ⟨S_, .f32⟩) (.of main_call6_v0 : TRef sig ⟨S_, .f32⟩) rfl (by decide +kernel) (by decide +kernel) (HEq.rfl : HEq (U25 m c (Proc.devRef .tc main_cst_31)) (cst_31 m c)) (HEq.rfl : HEq (U25 m c (Proc.devRef .tc main_call6_v0)) (call6_v0 m c))
  exact h
theorem call6_v1_eq : call6_v1 m c = (broadcastInDim S2x22500 ![] bcast_S_S2x22500) (call6_v0 m c) := by
  have h := (line13 m c).tunary 1 (.of main_call6_v0 : TRef sig ⟨S_, .f32⟩) (.of main_call6_v1 : TRef sig ⟨S2x22500, .f32⟩) rfl (by decide +kernel) (by decide +kernel) (HEq.rfl : HEq (U25 m c (Proc.devRef .tc main_call6_v0)) (call6_v0 m c)) (HEq.rfl : HEq (U25 m c (Proc.devRef .tc main_call6_v1)) (call6_v1 m c))
  exact h
theorem v207_eq : v207 m c = select (v206 m c) (v123 m c) (call6_v1 m c) := by
  have h := (line13 m c).tternary 2 (.of main_v206 : TRef sig ⟨S2x22500, .i1⟩) (.of main_v123 : TRef sig ⟨S2x22500, .f32⟩) (.of main_call6_v1 : TRef sig ⟨S2x22500, .f32⟩) (.of main_v207 : TRef sig ⟨S2x22500, .f32⟩) rfl (by decide +kernel) (by decide +kernel) (HEq.rfl : HEq (U25 m c (Proc.devRef .tc main_v206)) (v206 m c)) (HEq.rfl : HEq (U25 m c (Proc.devRef .tc main_v123)) (v123 m c)) (HEq.rfl : HEq (U25 m c (Proc.devRef .tc main_call6_v1)) (call6_v1 m c)) (HEq.rfl : HEq (U25 m c (Proc.devRef .tc main_v207)) (v207 m c))
  exact h
theorem values_eq : values m c = (fun x => (Host.topK S2x1000 1 (FloatOps.cmpfTotal .gt) x sliceFits_S2x22500_S2x1000).1) (v207 m c) := by
  have h := (line14 m c).unary (x := main_v207) (y := main_values) 0 rfl (by decide +kernel) (by decide +kernel)
  exact h
theorem indices_eq : indices m c = (fun x => (Host.topK S2x1000 1 (FloatOps.cmpfTotal .gt) x sliceFits_S2x22500_S2x1000).2) (v207 m c) := by
  have h := (line14 m c).unary (x := main_v207) (y := main_indices) 1 rfl (by decide +kernel) (by decide +kernel)
  exact h
theorem v208_eq : v208 m c = broadcastInDim S2x1000x1 ![0, 1] bcast_S2x1000_S2x1000x1_0_1 (indices m c) := by
  have h := (line14 m c).unary (x := main_indices) (y := main_v208) 2 rfl (by decide +kernel) (by decide +kernel)
  exact h
theorem call7_c_eq : call7_c m c = (constantI S_ 32 0#32) := by
  have h := (line15 m c).tnullary 0 (.of main_call7_c : TRef sig ⟨S_, .i32⟩) rfl (by decide +kernel) (HEq.rfl : HEq (U25 m c (Proc.devRef .tc main_call7_c)) (call7_c m c))
  exact h
theorem call7_v0_eq : call7_v0 m c = (broadcastInDim S2x1000x1 ![] bcast_S_S2x1000x1) (call7_c m c) := by
  have h := (line15 m c).tunary 1 (.of main_call7_c : TRef sig ⟨S_, .i32⟩) (.of main_call7_v0 : TRef sig ⟨S2x1000x1, .i32⟩) rfl (by decide +kernel) (by decide +kernel) (HEq.rfl : HEq (U25 m c (Proc.devRef .tc main_call7_c)) (call7_c m c)) (HEq.rfl : HEq (U25 m c (Proc.devRef .tc main_call7_v0)) (call7_v0 m c))
  exact h
theorem call7_v1_eq : call7_v1 m c = (cmpi .slt) (v208 m c) (call7_v0 m c) := by
  have h := (line15 m c).tbinary 2 (.of main_v208 : TRef sig ⟨S2x1000x1, .i32⟩) (.of main_call7_v0 : TRef sig ⟨S2x1000x1, .i32⟩) (.of main_call7_v1 : TRef sig ⟨S2x1000x1, .i1⟩) rfl (by decide +kernel) (by decide +kernel) (HEq.rfl : HEq (U25 m c (Proc.devRef .tc main_v208)) (v208 m c)) (HEq.rfl : HEq (U25 m c (Proc.devRef .tc main_call7_v0)) (call7_v0 m c)) (HEq.rfl : HEq (U25 m c (Proc.devRef .tc main_call7_v1)) (call7_v1 m c))
  exact h
theorem call7_c_0_eq : call7_c_0 m c = (constantI S_ 32 22500#32) := by
  have h := (line15 m c).tnullary 3 (.of main_call7_c_0 : TRef sig ⟨S_, .i32⟩) rfl (by decide +kernel) (HEq.rfl : HEq (U25 m c (Proc.devRef .tc main_call7_c_0)) (call7_c_0 m c))
  exact h
theorem call7_v2_eq : call7_v2 m c = (broadcastInDim S2x1000x1 ![] bcast_S_S2x1000x1) (call7_c_0 m c) := by
  have h := (line15 m c).tunary 4 (.of main_call7_c_0 : TRef sig ⟨S_, .i32⟩) (.of main_call7_v2 : TRef sig ⟨S2x1000x1, .i32⟩) rfl (by decide +kernel) (by decide +kernel) (HEq.rfl : HEq (U25 m c (Proc.devRef .tc main_call7_c_0)) (call7_c_0 m c)) (HEq.rfl : HEq (U25 m c (Proc.devRef .tc main_call7_v2)) (call7_v2 m c))
  exact h
theorem call7_v3_eq : call7_v3 m c = addi (v208 m c) (call7_v2 m c) := by
  have h := (line15 m c).tbinary 5 (.of main_v208 : TRef sig ⟨S2x1000x1, .i32⟩) (.of main_call7_v2 : TRef sig ⟨S2x1000x1, .i32⟩) (.of main_call7_v3 : TRef sig ⟨S2x1000x1, .i32⟩) rfl (by decide +kernel) (by decide +kernel) (HEq.rfl : HEq (U25 m c (Proc.devRef .tc main_v208)) (v208 m c)) (HEq.rfl : HEq (U25 m c (Proc.devRef .tc main_call7_v2)) (call7_v2 m c)) (HEq.rfl : HEq (U25 m c (Proc.devRef .tc main_call7_v3)) (call7_v3 m c))
  exact h
theorem call7_v4_eq : call7_v4 m c = select (call7_v1 m c) (call7_v3 m c) (v208 m c) := by
  have h := (line15 m c).tternary 6 (.of main_call7_v1 : TRef sig ⟨S2x1000x1, .i1⟩) (.of main_call7_v3 : TRef sig ⟨S2x1000x1, .i32⟩) (.of main_v208 : TRef sig ⟨S2x1000x1, .i32⟩) (.of main_call7_v4 : TRef sig ⟨S2x1000x1, .i32⟩) rfl (by decide +kernel) (by decide +kernel) (HEq.rfl : HEq (U25 m c (Proc.devRef .tc main_call7_v1)) (call7_v1 m c)) (HEq.rfl : HEq (U25 m c (Proc.devRef .tc main_call7_v3)) (call7_v3 m c)) (HEq.rfl : HEq (U25 m c (Proc.devRef .tc main_v208)) (v208 m c)) (HEq.rfl : HEq (U25 m c (Proc.devRef .tc main_call7_v4)) (call7_v4 m c))
  exact h
theorem call7_c_1_eq : call7_c_1 m c = (constantI S1 32 22499#32) := by
  have h := (line15 m c).tnullary 7 (.of main_call7_c_1 : TRef sig ⟨S1, .i32⟩) rfl (by decide +kernel) (HEq.rfl : HEq (U25 m c (Proc.devRef .tc main_call7_c_1)) (call7_c_1 m c))
  exact h
theorem call7_c_2_eq : call7_c_2 m c = (constantI S_ 32 0#32) := by
  have h := (line15 m c).tnullary 8 (.of main_call7_c_2 : TRef sig ⟨S_, .i32⟩) rfl (by decide +kernel) (HEq.rfl : HEq (U25 m c (Proc.devRef .tc main_call7_c_2)) (call7_c_2 m c))
  exact h
theorem call7_v5_eq : call7_v5 m c = (broadcastInDim S2x1000x1 ![] bcast_S_S2x1000x1) (call7_c_2 m c) := by
  have h := (line15 m c).tunary 9 (.of main_call7_c_2 : TRef sig ⟨S_, .i32⟩) (.of main_call7_v5 : TRef sig ⟨S2x1000x1, .i32⟩) rfl (by decide +kernel) (by decide +kernel) (HEq.rfl : HEq (U25 m c (Proc.devRef .tc main_call7_c_2)) (call7_c_2 m c)) (HEq.rfl : HEq (U25 m c (Proc.devRef .tc main_call7_v5)) (call7_v5 m c))
  exact h
theorem call7_v6_eq : call7_v6 m c = (cmpi .sge) (call7_v4 m c) (call7_v5 m c) := by
  have h := (line15 m c).tbinary 10 (.of main_call7_v4 : TRef sig ⟨S2x1000x1, .i32⟩) (.of main_call7_v5 : TRef sig ⟨S2x1000x1, .i32⟩) (.of main_call7_v6 : TRef sig ⟨S2x1000x1, .i1⟩) rfl (by decide +kernel) (by decide +kernel) (HEq.rfl : HEq (U25 m c (Proc.devRef .tc main_call7_v4)) (call7_v4 m c)) (HEq.rfl : HEq (U25 m c (Proc.devRef .tc main_call7_v5)) (call7_v5 m c)) (HEq.rfl : HEq (U25 m c (Proc.devRef .tc main_call7_v6)) (call7_v6 m c))
  exact h
theorem call7_v7_eq : call7_v7 m c = (broadcastInDim S1x1x1 ![2] bcast_S1_S1x1x1_2) (call7_c_1 m c) := by
  have h := (line15 m c).tunary 11 (.of main_call7_c_1 : TRef sig ⟨S1, .i32⟩) (.of main_call7_v7 : TRef sig ⟨S1x1x1, .i32⟩) rfl (by decide +kernel) (by decide +kernel) (HEq.rfl : HEq (U25 m c (Proc.devRef .tc main_call7_c_1)) (call7_c_1 m c)) (HEq.rfl : HEq (U25 m c (Proc.devRef .tc main_call7_v7)) (call7_v7 m c))
  exact h
theorem call7_v8_eq : call7_v8 m c = (broadcastInDim S2x1000x1 ![0, 1, 2] bcast_S1x1x1_S2x1000x1_0_1_2) (call7_v7 m c) := by
  have h := (line15 m c).tunary 12 (.of main_call7_v7 : TRef sig ⟨S1x1x1, .i32⟩) (.of main_call7_v8 : TRef sig ⟨S2x1000x1, .i32⟩) rfl (by decide +kernel) (by decide +kernel) (HEq.rfl : HEq (U25 m c (Proc.devRef .tc main_call7_v7)) (call7_v7 m c)) (HEq.rfl : HEq (U25 m c (Proc.devRef .tc main_call7_v8)) (call7_v8 m c))
  exact h
theorem call7_v9_eq : call7_v9 m c = (cmpi .sle) (call7_v4 m c) (call7_v8 m c) := by
  have h := (line15 m c).tbinary 13 (.of main_call7_v4 : TRef sig ⟨S2x1000x1, .i32⟩) (.of main_call7_v8 : TRef sig ⟨S2x1000x1, .i32⟩) (.of main_call7_v9 : TRef sig ⟨S2x1000x1, .i1⟩) rfl (by decide +kernel) (by decide +kernel) (HEq.rfl : HEq (U25 m c (Proc.devRef .tc main_call7_v4)) (call7_v4 m c)) (HEq.rfl : HEq (U25 m c (Proc.devRef .tc main_call7_v8)) (call7_v8 m c)) (HEq.rfl : HEq (U25 m c (Proc.devRef .tc main_call7_v9)) (call7_v9 m c))
  exact h
theorem call7_v10_eq : call7_v10 m c = andi (call7_v6 m c) (call7_v9 m c) := by
  have h := (line15 m c).tbinary 14 (.of main_call7_v6 : TRef sig ⟨S2x1000x1, .i1⟩) (.of main_call7_v9 : TRef sig ⟨S2x1000x1, .i1⟩) (.of main_call7_v10 : TRef sig ⟨S2x1000x1, .i1⟩) rfl (by decide +kernel) (by decide +kernel) (HEq.rfl : HEq (U25 m c (Proc.devRef .tc main_call7_v6)) (call7_v6 m c)) (HEq.rfl : HEq (U25 m c (Proc.devRef .tc main_call7_v9)) (call7_v9 m c)) (HEq.rfl : HEq (U25 m c (Proc.devRef .tc main_call7_v10)) (call7_v10 m c))
  exact h
theorem call7_c_3_eq : call7_c_3 m c = (constantI S_ 1 1#1) := by
  have h := (line15 m c).tnullary 15 (.of main_call7_c_3 : TRef sig ⟨S_, .i1⟩) rfl (by decide +kernel) (HEq.rfl : HEq (U25 m c (Proc.devRef .tc main_call7_c_3)) (call7_c_3 m c))
  exact h
theorem call7_v11_eq : call7_v11 m c = (fun x v => Host.reduce IntOp.andi x v reducesTo_S2x1000x1_S2x1000_d2 h_S_) (call7_v10 m c) (call7_c_3 m c) := by
  have h := (line15 m c).tbinary 16 (.of main_call7_v10 : TRef sig ⟨S2x1000x1, .i1⟩) (.of main_call7_c_3 : TRef sig ⟨S_, .i1⟩) (.of main_call7_v11 : TRef sig ⟨S2x1000, .i1⟩) rfl (by decide +kernel) (by decide +kernel) (HEq.rfl : HEq (U25 m c (Proc.devRef .tc main_call7_v10)) (call7_v10 m c)) (HEq.rfl : HEq (U25 m c (Proc.devRef .tc main_call7_c_3)) (call7_c_3 m c)) (HEq.rfl : HEq (U25 m c (Proc.devRef .tc main_call7_v11)) (call7_v11 m c))
  exact h
theorem call7_v12_eq : call7_v12 m c = Host.gather gather_S2x22500x4_S2x1000x1_S2x1000x4_2_1_0_0_1_2_114 (v198 m c) (call7_v4 m c) := by
  have h := (line15 m c).tbinary 17 (.of main_v198 : TRef sig ⟨S2x22500x4, .f32⟩) (.of main_call7_v4 : TRef sig ⟨S2x1000x1, .i32⟩) (.of main_call7_v12 : TRef sig ⟨S2x1000x4, .f32⟩) rfl (by decide +kernel) (by decide +kernel) (HEq.rfl : HEq (U25 m c (Proc.devRef .tc main_v198)) (v198 m c)) (HEq.rfl : HEq (U25 m c (Proc.devRef .tc main_call7_v4)) (call7_v4 m c)) (HEq.rfl : HEq (U25 m c (Proc.devRef .tc main_call7_v12)) (call7_v12 m c))
  exact h
theorem call7_v13_eq : call7_v13 m c = (broadcastInDim S2x1000x4 ![0, 1] bcast_S2x1000_S2x1000x4_0_1) (call7_v11 m c) := by
  have h := (line15 m c).tunary 18 (.of main_call7_v11 : TRef sig ⟨S2x1000, .i1⟩) (.of main_call7_v13 : TRef sig ⟨S2x1000x4, .i1⟩) rfl (by decide +kernel) (by decide +kernel) (HEq.rfl : HEq (U25 m c (Proc.devRef .tc main_call7_v11)) (call7_v11 m c)) (HEq.rfl : HEq (U25 m c (Proc.devRef .tc main_call7_v13)) (call7_v13 m c))
  exact h
theorem call7_cst_eq : call7_cst m c = (constant S_ .f32 0x7FC00000#32) := by
  have h := (line15 m c).tnullary 19 (.of main_call7_cst : TRef sig ⟨S_, .f32⟩) rfl (by decide +kernel) (HEq.rfl : HEq (U25 m c (Proc.devRef .tc main_call7_cst)) (call7_cst m c))
  exact h
theorem call7_v14_eq : call7_v14 m c = (broadcastInDim S2x1000x4 ![] bcast_S_S2x1000x4) (call7_cst m c) := by
  have h := (line15 m c).tunary 20 (.of main_call7_cst : TRef sig ⟨S_, .f32⟩) (.of main_call7_v14 : TRef sig ⟨S2x1000x4, .f32⟩) rfl (by decide +kernel) (by decide +kernel) (HEq.rfl : HEq (U25 m c (Proc.devRef .tc main_call7_cst)) (call7_cst m c)) (HEq.rfl : HEq (U25 m c (Proc.devRef .tc main_call7_v14)) (call7_v14 m c))
  exact h
theorem v209_eq : v209 m c = select (call7_v13 m c) (call7_v12 m c) (call7_v14 m c) := by
  have h := (line15 m c).tternary 21 (.of main_call7_v13 : TRef sig ⟨S2x1000x4, .i1⟩) (.of main_call7_v12 : TRef sig ⟨S2x1000x4, .f32⟩) (.of main_call7_v14 : TRef sig ⟨S2x1000x4, .f32⟩) (.of main_v209 : TRef sig ⟨S2x1000x4, .f32⟩) rfl (by decide +kernel) (by decide +kernel) (HEq.rfl : HEq (U25 m c (Proc.devRef .tc main_call7_v13)) (call7_v13 m c)) (HEq.rfl : HEq (U25 m c (Proc.devRef .tc main_call7_v12)) (call7_v12 m c)) (HEq.rfl : HEq (U25 m c (Proc.devRef .tc main_call7_v14)) (call7_v14 m c)) (HEq.rfl : HEq (U25 m c (Proc.devRef .tc main_v209)) (v209 m c))
  exact h
theorem v210_eq : v210 m c = (extractStridedSlice S2x1000x1 ![0, 0, 2] · slices_S2x1000x4_S2x1000x1_0_0_2) (v209 m c) := by
  have h := (line16 m c).unary (x := main_v209) (y := main_v210) 0 rfl (by decide +kernel) (by decide +kernel)
  exact h
theorem v211_eq : v211 m c = shapeCast S2x1000 (v210 m c) shapeCasts_S2x1000x1_S2x1000 := by
  have h := (line16 m c).reshape (x := main_v210) (y := main_v211) 1 rfl (by decide +kernel) (by decide +kernel)
  exact h
theorem v212_eq : v212 m c = (extractStridedSlice S2x1000x1 ![0, 0, 0] · slices_S2x1000x4_S2x1000x1_0_0_0) (v209 m c) := by
  have h := (line16 m c).unary (x := main_v209) (y := main_v212) 2 rfl (by decide +kernel) (by decide +kernel)
  exact h
theorem v213_eq : v213 m c = shapeCast S2x1000 (v212 m c) shapeCasts_S2x1000x1_S2x1000 := by
  have h := (line16 m c).reshape (x := main_v212) (y := main_v213) 3 rfl (by decide +kernel) (by decide +kernel)
  exact h
theorem v214_eq : v214 m c = subf (v211 m c) (v213 m c) := by
  have h := (line16 m c).binary (a := main_v211) (b := main_v213) (y := main_v214) 4 rfl (by decide +kernel) (by decide +kernel)
  exact h
theorem v215_eq : v215 m c = (extractStridedSlice S2x1000x1 ![0, 0, 3] · slices_S2x1000x4_S2x1000x1_0_0_3) (v209 m c) := by
  have h := (line16 m c).unary (x := main_v209) (y := main_v215) 5 rfl (by decide +kernel) (by decide +kernel)
  exact h
theorem v216_eq : v216 m c = shapeCast S2x1000 (v215 m c) shapeCasts_S2x1000x1_S2x1000 := by
  have h := (line16 m c).reshape (x := main_v215) (y := main_v216) 6 rfl (by decide +kernel) (by decide +kernel)
  exact h
theorem v217_eq : v217 m c = (extractStridedSlice S2x1000x1 ![0, 0, 1] · slices_S2x1000x4_S2x1000x1_0_0_1) (v209 m c) := by
  have h := (line16 m c).unary (x := main_v209) (y := main_v217) 7 rfl (by decide +kernel) (by decide +kernel)
  exact h
theorem v218_eq : v218 m c = shapeCast S2x1000 (v217 m c) shapeCasts_S2x1000x1_S2x1000 := by
  have h := (line16 m c).reshape (x := main_v217) (y := main_v218) 8 rfl (by decide +kernel) (by decide +kernel)
  exact h
theorem v219_eq : v219 m c = subf (v216 m c) (v218 m c) := by
  have h := (line16 m c).binary (a := main_v216) (b := main_v218) (y := main_v219) 9 rfl (by decide +kernel) (by decide +kernel)
  exact h
theorem v220_eq : v220 m c = mulf (v214 m c) (v219 m c) := by
  have h := (line16 m c).binary (a := main_v214) (b := main_v219) (y := main_v220) 10 rfl (by decide +kernel) (by decide +kernel)
  exact h
theorem v221_eq : v221 m c = (extractStridedSlice S2x1000x1 ![0, 0, 2] · slices_S2x1000x4_S2x1000x1_0_0_2) (v209 m c) := by
  have h := (line16 m c).unary (x := main_v209) (y := main_v221) 11 rfl (by decide +kernel) (by decide +kernel)
  exact h
theorem v222_eq : v222 m c = shapeCast S2x1000 (v221 m c) shapeCasts_S2x1000x1_S2x1000 := by
  have h := (line16 m c).reshape (x := main_v221) (y := main_v222) 12 rfl (by decide +kernel) (by decide +kernel)
  exact h
theorem v223_eq : v223 m c = (extractStridedSlice S2x1000x1 ![0, 0, 0] · slices_S2x1000x4_S2x1000x1_0_0_0) (v209 m c) := by
  have h := (line16 m c).unary (x := main_v209) (y := main_v223) 13 rfl (by decide +kernel) (by decide +kernel)
  exact h
theorem v224_eq : v224 m c = shapeCast S2x1000 (v223 m c) shapeCasts_S2x1000x1_S2x1000 := by
  have h := (line16 m c).reshape (x := main_v223) (y := main_v224) 14 rfl (by decide +kernel) (by decide +kernel)
  exact h
theorem v225_eq : v225 m c = subf (v222 m c) (v224 m c) := by
  have h := (line16 m c).binary (a := main_v222) (b := main_v224) (y := main_v225) 15 rfl (by decide +kernel) (by decide +kernel)
  exact h
theorem v226_eq : v226 m c = (extractStridedSlice S2x1000x1 ![0, 0, 3] · slices_S2x1000x4_S2x1000x1_0_0_3) (v209 m c) := by
  have h := (line16 m c).unary (x := main_v209) (y := main_v226) 16 rfl (by decide +kernel) (by decide +kernel)
  exact h
theorem v227_eq : v227 m c = shapeCast S2x1000 (v226 m c) shapeCasts_S2x1000x1_S2x1000 := by
  have h := (line16 m c).reshape (x := main_v226) (y := main_v227) 17 rfl (by decide +kernel) (by decide +kernel)
  exact h
theorem v228_eq : v228 m c = (extractStridedSlice S2x1000x1 ![0, 0, 1] · slices_S2x1000x4_S2x1000x1_0_0_1) (v209 m c) := by
  have h := (line16 m c).unary (x := main_v209) (y := main_v228) 18 rfl (by decide +kernel) (by decide +kernel)
  exact h
theorem v229_eq : v229 m c = shapeCast S2x1000 (v228 m c) shapeCasts_S2x1000x1_S2x1000 := by
  have h := (line16 m c).reshape (x := main_v228) (y := main_v229) 19 rfl (by decide +kernel) (by decide +kernel)
  exact h
theorem v230_eq : v230 m c = subf (v227 m c) (v229 m c) := by
  have h := (line16 m c).binary (a := main_v227) (b := main_v229) (y := main_v230) 20 rfl (by decide +kernel) (by decide +kernel)
  exact h
theorem v231_eq : v231 m c = mulf (v225 m c) (v230 m c) := by
  have h := (line16 m c).binary (a := main_v225) (b := main_v230) (y := main_v231) 21 rfl (by decide +kernel) (by decide +kernel)
  exact h
theorem v232_eq : v232 m c = (extractStridedSlice S2x1000x2 ![0, 0, 0] · slices_S2x1000x4_S2x1000x2_0_0_0) (v209 m c) := by
  have h := (line16 m c).unary (x := main_v209) (y := main_v232) 22 rfl (by decide +kernel) (by decide +kernel)
  exact h
theorem v233_eq : v233 m c = broadcastInDim S2x1000x1x2 ![0, 1, 3] bcast_S2x1000x2_S2x1000x1x2_0_1_3 (v232 m c) := by
  have h := (line16 m c).unary (x := main_v232) (y := main_v233) 23 rfl (by decide +kernel) (by decide +kernel)
  exact h
theorem v234_eq : v234 m c = (extractStridedSlice S2x1000x2 ![0, 0, 0] · slices_S2x1000x4_S2x1000x2_0_0_0) (v209 m c) := by
  have h := (line16 m c).unary (x := main_v209) (y := main_v234) 24 rfl (by decide +kernel) (by decide +kernel)
  exact h
theorem v235_eq : v235 m c = broadcastInDim S2x1x1000x2 ![0, 2, 3] bcast_S2x1000x2_S2x1x1000x2_0_2_3 (v234 m c) := by
  have h := (line16 m c).unary (x := main_v234) (y := main_v235) 25 rfl (by decide +kernel) (by decide +kernel)
  exact h
theorem v236_eq : v236 m c = broadcastInDim S2x1000x1000x2 ![0, 1, 2, 3] bcast_S2x1000x1x2_S2x1000x1000x2_0_1_2_3 (v233 m c) := by
  have h := (line16 m c).unary (x := main_v233) (y := main_v236) 26 rfl (by decide +kernel) (by decide +kernel)
  exact h
theorem v237_eq : v237 m c = broadcastInDim S2x1000x1000x2 ![0, 1, 2, 3] bcast_S2x1x1000x2_S2x1000x1000x2_0_1_2_3 (v235 m c) := by
  have h := (line16 m c).unary (x := main_v235) (y := main_v237) 27 rfl (by decide +kernel) (by decide +kernel)
  exact h
theorem v238_eq : v238 m c = maximumf (v236 m c) (v237 m c) := by
  have h := (line16 m c).binary (a := main_v236) (b := main_v237) (y := main_v238) 28 rfl (by decide +kernel) (by decide +kernel)
  exact h
theorem v239_eq : v239 m c = (extractStridedSlice S2x1000x2 ![0, 0, 2] · slices_S2x1000x4_S2x1000x2_0_0_2) (v209 m c) := by
  have h := (line16 m c).unary (x := main_v209) (y := main_v239) 29 rfl (by decide +kernel) (by decide +kernel)
  exact h
theorem v240_eq : v240 m c = broadcastInDim S2x1000x1x2 ![0, 1, 3] bcast_S2x1000x2_S2x1000x1x2_0_1_3 (v239 m c) := by
  have h := (line16 m c).unary (x := main_v239) (y := main_v240) 30 rfl (by decide +kernel) (by decide +kernel)
  exact h
theorem v241_eq : v241 m c = (extractStridedSlice S2x1000x2 ![0, 0, 2] · slices_S2x1000x4_S2x1000x2_0_0_2) (v209 m c) := by
  have h := (line16 m c).unary (x := main_v209) (y := main_v241) 31 rfl (by decide +kernel) (by decide +kernel)
  exact h
theorem v242_eq : v242 m c = broadcastInDim S2x1x1000x2 ![0, 2, 3] bcast_S2x1000x2_S2x1x1000x2_0_2_3 (v241 m c) := by
  have h := (line16 m c).unary (x := main_v241) (y := main_v242) 32 rfl (by decide +kernel) (by decide +kernel)
  exact h
theorem v243_eq : v243 m c = broadcastInDim S2x1000x1000x2 ![0, 1, 2, 3] bcast_S2x1000x1x2_S2x1000x1000x2_0_1_2_3 (v240 m c) := by
  have h := (line16 m c).unary (x := main_v240) (y := main_v243) 33 rfl (by decide +kernel) (by decide +kernel)
  exact h
theorem v244_eq : v244 m c = broadcastInDim S2x1000x1000x2 ![0, 1, 2, 3] bcast_S2x1x1000x2_S2x1000x1000x2_0_1_2_3 (v242 m c) := by
  have h := (line16 m c).unary (x := main_v242) (y := main_v244) 34 rfl (by decide +kernel) (by decide +kernel)
  exact h
theorem v245_eq : v245 m c = minimumf (v243 m c) (v244 m c) := by
  have h := (line16 m c).binary (a := main_v243) (b := main_v244) (y := main_v245) 35 rfl (by decide +kernel) (by decide +kernel)
  exact h
theorem v246_eq : v246 m c = subf (v245 m c) (v238 m c) := by
  have h := (line16 m c).binary (a := main_v245) (b := main_v238) (y := main_v246) 36 rfl (by decide +kernel) (by decide +kernel)
  exact h
theorem cst_32_eq : cst_32 m c = (constant S_ .f32 0x00000000#32) := by
  have h := (line16 m c).nullary  (y := main_cst_32) 37 rfl (by decide +kernel)
  exact h
theorem v247_eq : v247 m c = broadcastInDim S2x1000x1000x2 ![] bcast_S_S2x1000x1000x2 (cst_32 m c) := by
  have h := (line16 m c).unary (x := main_cst_32) (y := main_v247) 38 rfl (by decide +kernel) (by decide +kernel)
  exact h
theorem v248_eq : v248 m c = maximumf (v246 m c) (v247 m c) := by
  have h := (line16 m c).binary (a := main_v246) (b := main_v247) (y := main_v248) 39 rfl (by decide +kernel) (by decide +kernel)
  exact h
theorem v249_eq : v249 m c = (extractStridedSlice S2x1000x1000x1 ![0, 0, 0, 0] · slices_S2x1000x1000x2_S2x1000x1000x1_0_0_0_0) (v248 m c) := by
  have h := (line16 m c).unary (x := main_v248) (y := main_v249) 40 rfl (by decide +kernel) (by decide +kernel)
  exact h
theorem v250_eq : v250 m c = shapeCast S2x1000x1000 (v249 m c) shapeCasts_S2x1000x1000x1_S2x1000x1000 := by
  have h := (line16 m c).reshape (x := main_v249) (y := main_v250) 41 rfl (by decide +kernel) (by decide +kernel)
  exact h
theorem v251_eq : v251 m c = (extractStridedSlice S2x1000x1000x1 ![0, 0, 0, 1] · slices_S2x1000x1000x2_S2x1000x1000x1_0_0_0_1) (v248 m c) := by
  have h := (line16 m c).unary (x := main_v248) (y := main_v251) 42 rfl (by decide +kernel) (by decide +kernel)
  exact h
theorem v252_eq : v252 m c = shapeCast S2x1000x1000 (v251 m c) shapeCasts_S2x1000x1000x1_S2x1000x1000 := by
  have h := (line16 m c).reshape (x := main_v251) (y := main_v252) 43 rfl (by decide +kernel) (by decide +kernel)
  exact h
theorem v253_eq : v253 m c = mulf (v250 m c) (v252 m c) := by
  have h := (line16 m c).binary (a := main_v250) (b := main_v252) (y := main_v253) 44 rfl (by decide +kernel) (by decide +kernel)
  exact h
theorem v254_eq : v254 m c = broadcastInDim S2x1000x1 ![0, 1] bcast_S2x1000_S2x1000x1_0_1 (v220 m c) := by
  have h := (line16 m c).unary (x := main_v220) (y := main_v254) 45 rfl (by decide +kernel) (by decide +kernel)
  exact h
theorem v255_eq : v255 m c = broadcastInDim S2x1x1000 ![0, 2] bcast_S2x1000_S2x1x1000_0_2 (v231 m c) := by
  have h := (line16 m c).unary (x := main_v231) (y := main_v255) 46 rfl (by decide +kernel) (by decide +kernel)
  exact h
theorem v256_eq : v256 m c = broadcastInDim S2x1000x1000 ![0, 1, 2] bcast_S2x1000x1_S2x1000x1000_0_1_2 (v254 m c) := by
  have h := (line16 m c).unary (x := main_v254) (y := main_v256) 47 rfl (by decide +kernel) (by decide +kernel)
  exact h
theorem v257_eq : v257 m c = broadcastInDim S2x1000x1000 ![0, 1, 2] bcast_S2x1x1000_S2x1000x1000_0_1_2 (v255 m c) := by
  have h := (line16 m c).unary (x := main_v255) (y := main_v257) 48 rfl (by decide +kernel) (by decide +kernel)
  exact h
theorem v258_eq : v258 m c = addf (v256 m c) (v257 m c) := by
  have h := (line16 m c).binary (a := main_v256) (b := main_v257) (y := main_v258) 49 rfl (by decide +kernel) (by decide +kernel)
  exact h
theorem v259_eq : v259 m c = subf (v258 m c) (v253 m c) := by
  have h := (line16 m c).binary (a := main_v258) (b := main_v253) (y := main_v259) 50 rfl (by decide +kernel) (by decide +kernel)
  exact h
theorem cst_33_eq : cst_33 m c = (constant S_ .f32 0x3089705F#32) := by
  have h := (line16 m c).nullary  (y := main_cst_33) 51 rfl (by decide +kernel)
  exact h
theorem v260_eq : v260 m c = broadcastInDim S2x1000x1000 ![] bcast_S_S2x1000x1000 (cst_33 m c) := by
  have h := (line16 m c).unary (x := main_cst_33) (y := main_v260) 52 rfl (by decide +kernel) (by decide +kernel)
  exact h
theorem v261_eq : v261 m c = addf (v259 m c) (v260 m c) := by
  have h := (line16 m c).binary (a := main_v259) (b := main_v260) (y := main_v261) 53 rfl (by decide +kernel) (by decide +kernel)
  exact h
theorem v262_eq : v262 m c = Host.divf (v253 m c) (v261 m c) := by
  have h := (line16 m c).binary (a := main_v253) (b := main_v261) (y := main_v262) 54 rfl (by decide +kernel) (by decide +kernel)
  exact h
theorem v263_eq : v263 m c = (iotaInDim S1000 32 0) := by
  have h := (line16 m c).nullary  (y := main_v263) 55 rfl (by decide +kernel)
  exact h
theorem cst_34_eq : cst_34 m c = (constant S_ .f32 0x3F333333#32) := by
  have h := (line16 m c).nullary  (y := main_cst_34) 56 rfl (by decide +kernel)
  exact h
theorem v264_eq : v264 m c = broadcastInDim S2x1000x1000 ![] bcast_S_S2x1000x1000 (cst_34 m c) := by
  have h := (line16 m c).unary (x := main_cst_34) (y := main_v264) 57 rfl (by decide +kernel) (by decide +kernel)
  exact h
theorem v265_eq : v265 m c = cmpf .ogt (v262 m c) (v264 m c) := by
  have h := (line16 m c).binary (a := main_v262) (b := main_v264) (y := main_v265) 58 rfl (by decide +kernel) (by decide +kernel)
  exact h
theorem v266_eq : v266 m c = broadcastInDim S1x1x1000 ![2] bcast_S1000_S1x1x1000_2 (v263 m c) := by
  have h := (line16 m c).unary (x := main_v263) (y := main_v266) 59 rfl (by decide +kernel) (by decide +kernel)
  exact h
theorem v267_eq : v267 m c = broadcastInDim S1x1000x1 ![1] bcast_S1000_S1x1000x1_1 (v263 m c) := by
  have h := (line16 m c).unary (x := main_v263) (y := main_v267) 60 rfl (by decide +kernel) (by decide +kernel)
  exact h
theorem v268_eq : v268 m c = broadcastInDim S1x1000x1000 ![0, 1, 2] bcast_S1x1x1000_S1x1000x1000_0_1_2 (v266 m c) := by
  have h := (line16 m c).unary (x := main_v266) (y := main_v268) 61 rfl (by decide +kernel) (by decide +kernel)
  exact h
theorem v269_eq : v269 m c = broadcastInDim S1x1000x1000 ![0, 1, 2] bcast_S1x1000x1_S1x1000x1000_0_1_2 (v267 m c) := by
  have h := (line16 m c).unary (x := main_v267) (y := main_v269) 62 rfl (by decide +kernel) (by decide +kernel)
  exact h
theorem v270_eq : v270 m c = cmpi .sgt (v268 m c) (v269 m c) := by
  have h := (line16 m c).binary (a := main_v268) (b := main_v269) (y := main_v270) 63 rfl (by decide +kernel) (by decide +kernel)
  exact h
theorem v271_eq : v271 m c = broadcastInDim S2x1000x1000 ![0, 1, 2] bcast_S1x1000x1000_S2x1000x1000_0_1_2 (v270 m c) := by
  have h := (line16 m c).unary (x := main_v270) (y := main_v271) 64 rfl (by decide +kernel) (by decide +kernel)
  exact h
theorem v272_eq : v272 m c = andi (v265 m c) (v271 m c) := by
  have h := (line16 m c).binary (a := main_v265) (b := main_v271) (y := main_v272) 65 rfl (by decide +kernel) (by decide +kernel)
  exact h
theorem c_35_eq : c_35 m c = (constantI S_ 1 1#1) := by
  have h := (line16 m c).nullary  (y := main_c_35) 66 rfl (by decide +kernel)
  exact h
theorem v273_eq : v273 m c = broadcastInDim S2x1000 ![] bcast_S_S2x1000 (c_35 m c) := by
  have h := (line16 m c).unary (x := main_c_35) (y := main_v273) 67 rfl (by decide +kernel) (by decide +kernel)
  exact h
theorem c_36_eq : c_36 m c = (constantI S_ 32 0#32) := by
  have h := (line16 m c).nullary  (y := main_c_36) 68 rfl (by decide +kernel)
  exact h
theorem c_37_eq : c_37 m c = (constantI S_ 32 0#32) := by
  have h := (line16 m c).nullary  (y := main_c_37) 69 rfl (by decide +kernel)
  exact h
theorem cst_38_eq : cst_38 m c = (constant S_ .f32 0xCCBEBC20#32) := by
  have h := (line17 m c).nullary  (y := main_cst_38) 0 rfl (by decide +kernel)
  exact h
theorem v275_eq : v275 m c = broadcastInDim S2x1000 ![] bcast_S_S2x1000 (cst_38 m c) := by
  have h := (line17 m c).unary (x := main_cst_38) (y := main_v275) 1 rfl (by decide +kernel) (by decide +kernel)
  exact h
theorem v276_eq : v276 m c = cmpf .ogt (values m c) (v275 m c) := by
  have h := (line17 m c).binary (a := main_values) (b := main_v275) (y := main_v276) 2 rfl (by decide +kernel) (by decide +kernel)
  exact h
theorem v277_eq : v277 m c = andi (v274_3 m c) (v276 m c) := by
  have h := (line17 m c).binary (a := main_v274_3) (b := main_v276) (y := main_v277) 3 rfl (by decide +kernel) (by decide +kernel)
  exact h
theorem c_39_eq : c_39 m c = (constantI S_ 32 0#32) := by
  have h := (line17 m c).nullary  (y := main_c_39) 4 rfl (by decide +kernel)
  exact h
theorem c_40_eq : c_40 m c = (constantI S_ 32 1#32) := by
  have h := (line17 m c).nullary  (y := main_c_40) 5 rfl (by decide +kernel)
  exact h
theorem call9_v0_eq : call9_v0 m c = (broadcastInDim S2x1000 ![] bcast_S_S2x1000) (c_39 m c) := by
  have h := (line18 m c).tunary 0 (.of main_c_39 : TRef sig ⟨S_, .i32⟩) (.of main_call9_v0 : TRef sig ⟨S2x1000, .i32⟩) rfl (by decide +kernel) (by decide +kernel) (HEq.rfl : HEq (U25 m c (Proc.devRef .tc main_c_39)) (c_39 m c)) (HEq.rfl : HEq (U25 m c (Proc.devRef .tc main_call9_v0)) (call9_v0 m c))
  exact h
theorem call9_v1_eq : call9_v1 m c = (broadcastInDim S2x1000 ![] bcast_S_S2x1000) (c_40 m c) := by
  have h := (line18 m c).tunary 1 (.of main_c_40 : TRef sig ⟨S_, .i32⟩) (.of main_call9_v1 : TRef sig ⟨S2x1000, .i32⟩) rfl (by decide +kernel) (by decide +kernel) (HEq.rfl : HEq (U25 m c (Proc.devRef .tc main_c_40)) (c_40 m c)) (HEq.rfl : HEq (U25 m c (Proc.devRef .tc main_call9_v1)) (call9_v1 m c))
  exact h
theorem v278_eq : v278 m c = select (v277 m c) (call9_v0 m c) (call9_v1 m c) := by
  have h := (line18 m c).tternary 2 (.of main_v277 : TRef sig ⟨S2x1000, .i1⟩) (.of main_call9_v0 : TRef sig ⟨S2x1000, .i32⟩) (.of main_call9_v1 : TRef sig ⟨S2x1000, .i32⟩) (.of main_v278 : TRef sig ⟨S2x1000, .i32⟩) rfl (by decide +kernel) (by decide +kernel) (HEq.rfl : HEq (U25 m c (Proc.devRef .tc main_v277)) (v277 m c)) (HEq.rfl : HEq (U25 m c (Proc.devRef .tc main_call9_v0)) (call9_v0 m c)) (HEq.rfl : HEq (U25 m c (Proc.devRef .tc main_call9_v1)) (call9_v1 m c)) (HEq.rfl : HEq (U25 m c (Proc.devRef .tc main_v278)) (v278 m c))
  exact h
theorem v279_eq : v279 m c = id (v278 m c) := by
  have h := (line19 m c).unary (x := main_v278) (y := main_v279) 0 rfl (by decide +kernel) (by decide +kernel)
  exact h
theorem call10_v0_eq : call10_v0 m c = (iotaInDim S2x1000 32 1) := by
  have h := (line20 m c).tnullary 0 (.of main_call10_v0 : TRef sig ⟨S2x1000, .i32⟩) rfl (by decide +kernel) (HEq.rfl : HEq (U25 m c (Proc.devRef .tc main_call10_v0)) (call10_v0 m c))
  exact h
theorem call10_v1_0_eq : call10_v1_0 m c = (fun x y => (Host.sort2 S2x1000 1 comparator_i32_i32_d1 x y).1) (v279 m c) (call10_v0 m c) := by
  have h := (line20 m c).tbinary 1 (.of main_v279 : TRef sig ⟨S2x1000, .i32⟩) (.of main_call10_v0 : TRef sig ⟨S2x1000, .i32⟩) (.of main_call10_v1_0 : TRef sig ⟨S2x1000, .i32⟩) rfl (by decide +kernel) (by decide +kernel) (HEq.rfl : HEq (U25 m c (Proc.devRef .tc main_v279)) (v279 m c)) (HEq.rfl : HEq (U25 m c (Proc.devRef .tc main_call10_v0)) (call10_v0 m c)) (HEq.rfl : HEq (U25 m c (Proc.devRef .tc main_call10_v1_0)) (call10_v1_0 m c))
  exact h
theorem v280_eq : v280 m c = (fun x y => (Host.sort2 S2x1000 1 comparator_i32_i32_d1 x y).2) (v279 m c) (call10_v0 m c) := by
  have h := (line20 m c).tbinary 2 (.of main_v279 : TRef sig ⟨S2x1000, .i32⟩) (.of main_call10_v0 : TRef sig ⟨S2x1000, .i32⟩) (.of main_v280 : TRef sig ⟨S2x1000, .i32⟩) rfl (by decide +kernel) (by decide +kernel) (HEq.rfl : HEq (U25 m c (Proc.devRef .tc main_v279)) (v279 m c)) (HEq.rfl : HEq (U25 m c (Proc.devRef .tc main_call10_v0)) (call10_v0 m c)) (HEq.rfl : HEq (U25 m c (Proc.devRef .tc main_v280)) (v280 m c))
  exact h
theorem v281_eq : v281 m c = (extractStridedSlice S2x300 ![0, 0] · slices_S2x1000_S2x300_0_0) (v280 m c) := by
  have h := (line21 m c).unary (x := main_v280) (y := main_v281) 0 rfl (by decide +kernel) (by decide +kernel)
  exact h
theorem v282_eq : v282 m c = broadcastInDim S2x1000x1 ![0, 1] bcast_S2x1000_S2x1000x1_0_1 (values m c) := by
  have h := (line21 m c).unary (x := main_values) (y := main_v282) 1 rfl (by decide +kernel) (by decide +kernel)
  exact h
theorem v283_eq : v283 m c = (fun a b => concatenate S2x1000x5 2 [⟨S2x1000x4, a⟩, ⟨S2x1000x1, b⟩] concatenates_S2x1000x4_S2x1000x1_S2x1000x5_d2) (v209 m c) (v282 m c) := by
  have h := (line21 m c).binary (a := main_v209) (b := main_v282) (y := main_v283) 2 rfl (by decide +kernel) (by decide +kernel)
  exact h
theorem v284_eq : v284 m c = broadcastInDim S2x1000x1 ![0, 1] bcast_S2x1000_S2x1000x1_0_1 (v277 m c) := by
  have h := (line21 m c).unary (x := main_v277) (y := main_v284) 3 rfl (by decide +kernel) (by decide +kernel)
  exact h
theorem cst_41_eq : cst_41 m c = (constant S_ .f32 0x00000000#32) := by
  have h := (line21 m c).nullary  (y := main_cst_41) 4 rfl (by decide +kernel)
  exact h
theorem call11_v0_eq : call11_v0 m c = id (cst_41 m c) := by
  have h := (line22 m c).tunary 0 (.of main_cst_41 : TRef sig ⟨S_, .f32⟩) (.of main_call11_v0 : TRef sig ⟨S_, .f32⟩) rfl (by decide +kernel) (by decide +kernel) (HEq.rfl : HEq (U25 m c (Proc.devRef .tc main_cst_41)) (cst_41 m c)) (HEq.rfl : HEq (U25 m c (Proc.devRef .tc main_call11_v0)) (call11_v0 m c))
  exact h
theorem call11_v1_eq : call11_v1 m c = (broadcastInDim S2x1000x5 ![0, 1, 2] bcast_S2x1000x1_S2x1000x5_0_1_2) (v284 m c) := by
  have h := (line22 m c).tunary 1 (.of main_v284 : TRef sig ⟨S2x1000x1, .i1⟩) (.of main_call11_v1 : TRef sig ⟨S2x1000x5, .i1⟩) rfl (by decide +kernel) (by decide +kernel) (HEq.rfl : HEq (U25 m c (Proc.devRef .tc main_v284)) (v284 m c)) (HEq.rfl : HEq (U25 m c (Proc.devRef .tc main_call11_v1)) (call11_v1 m c))
  exact h
theorem call11_v2_eq : call11_v2 m c = (broadcastInDim S2x1000x5 ![] bcast_S_S2x1000x5) (call11_v0 m c) := by
  have h := (line22 m c).tunary 2 (.of main_call11_v0 : TRef sig ⟨S_, .f32⟩) (.of main_call11_v2 : TRef sig ⟨S2x1000x5, .f32⟩) rfl (by decide +kernel) (by decide +kernel) (HEq.rfl : HEq (U25 m c (Proc.devRef .tc main_call11_v0)) (call11_v0 m c)) (HEq.rfl : HEq (U25 m c (Proc.devRef .tc main_call11_v2)) (call11_v2 m c))
  exact h
theorem v285_eq : v285 m c = select (call11_v1 m c) (v283 m c) (call11_v2 m c) := by
  have h := (line22 m c).tternary 3 (.of main_call11_v1 : TRef sig ⟨S2x1000x5, .i1⟩) (.of main_v283 : TRef sig ⟨S2x1000x5, .f32⟩) (.of main_call11_v2 : TRef sig ⟨S2x1000x5, .f32⟩) (.of main_v285 : TRef sig ⟨S2x1000x5, .f32⟩) rfl (by decide +kernel) (by decide +kernel) (HEq.rfl : HEq (U25 m c (Proc.devRef .tc main_call11_v1)) (call11_v1 m c)) (HEq.rfl : HEq (U25 m c (Proc.devRef .tc main_v283)) (v283 m c)) (HEq.rfl : HEq (U25 m c (Proc.devRef .tc main_call11_v2)) (call11_v2 m c)) (HEq.rfl : HEq (U25 m c (Proc.devRef .tc main_v285)) (v285 m c))
  exact h
theorem v286_eq : v286 m c = broadcastInDim S2x300x1 ![0, 1] bcast_S2x300_S2x300x1_0_1 (v281 m c) := by
  have h := (line23 m c).unary (x := main_v281) (y := main_v286) 0 rfl (by decide +kernel) (by decide +kernel)
  exact h
theorem call12_c_eq : call12_c m c = (constantI S_ 32 0#32) := by
  have h := (line24 m c).tnullary 0 (.of main_call12_c : TRef sig ⟨S_, .i32⟩) rfl (by decide +kernel) (HEq.rfl : HEq (U25 m c (Proc.devRef .tc main_call12_c)) (call12_c m c))
  exact h
theorem call12_v0_eq : call12_v0 m c = (broadcastInDim S2x300x1 ![] bcast_S_S2x300x1) (call12_c m c) := by
  have h := (line24 m c).tunary 1 (.of main_call12_c : TRef sig ⟨S_, .i32⟩) (.of main_call12_v0 : TRef sig ⟨S2x300x1, .i32⟩) rfl (by decide +kernel) (by decide +kernel) (HEq.rfl : HEq (U25 m c (Proc.devRef .tc main_call12_c)) (call12_c m c)) (HEq.rfl : HEq (U25 m c (Proc.devRef .tc main_call12_v0)) (call12_v0 m c))
  exact h
theorem call12_v1_eq : call12_v1 m c = (cmpi .slt) (v286 m c) (call12_v0 m c) := by
  have h := (line24 m c).tbinary 2 (.of main_v286 : TRef sig ⟨S2x300x1, .i32⟩) (.of main_call12_v0 : TRef sig ⟨S2x300x1, .i32⟩) (.of main_call12_v1 : TRef sig ⟨S2x300x1, .i1⟩) rfl (by decide +kernel) (by decide +kernel) (HEq.rfl : HEq (U25 m c (Proc.devRef .tc main_v286)) (v286 m c)) (HEq.rfl : HEq (U25 m c (Proc.devRef .tc main_call12_v0)) (call12_v0 m c)) (HEq.rfl : HEq (U25 m c (Proc.devRef .tc main_call12_v1)) (call12_v1 m c))
  exact h
theorem call12_c_0_eq : call12_c_0 m c = (constantI S_ 32 1000#32) := by
  have h := (line24 m c).tnullary 3 (.of main_call12_c_0 : TRef sig ⟨S_, .i32⟩) rfl (by decide +kernel) (HEq.rfl : HEq (U25 m c (Proc.devRef .tc main_call12_c_0)) (call12_c_0 m c))
  exact h
theorem call12_v2_eq : call12_v2 m c = (broadcastInDim S2x300x1 ![] bcast_S_S2x300x1) (call12_c_0 m c) := by
  have h := (line24 m c).tunary 4 (.of main_call12_c_0 : TRef sig ⟨S_, .i32⟩) (.of main_call12_v2 : TRef sig ⟨S2x300x1, .i32⟩) rfl (by decide +kernel) (by decide +kernel) (HEq.rfl : HEq (U25 m c (Proc.devRef .tc main_call12_c_0)) (call12_c_0 m c)) (HEq.rfl : HEq (U25 m c (Proc.devRef .tc main_call12_v2)) (call12_v2 m c))
  exact h
theorem call12_v3_eq : call12_v3 m c = addi (v286 m c) (call12_v2 m c) := by
  have h := (line24 m c).tbinary 5 (.of main_v286 : TRef sig ⟨S2x300x1, .i32⟩) (.of main_call12_v2 : TRef sig ⟨S2x300x1, .i32⟩) (.of main_call12_v3 : TRef sig ⟨S2x300x1, .i32⟩) rfl (by decide +kernel) (by decide +kernel) (HEq.rfl : HEq (U25 m c (Proc.devRef .tc main_v286)) (v286 m c)) (HEq.rfl : HEq (U25 m c (Proc.devRef .tc main_call12_v2)) (call12_v2 m c)) (HEq.rfl : HEq (U25 m c (Proc.devRef .tc main_call12_v3)) (call12_v3 m c))
  exact h
theorem call12_v4_eq : call12_v4 m c = select (call12_v1 m c) (call12_v3 m c) (v286 m c) := by
  have h := (line24 m c).tternary 6 (.of main_call12_v1 : TRef sig ⟨S2x300x1, .i1⟩) (.of main_call12_v3 : TRef sig ⟨S2x300x1, .i32⟩) (.of main_v286 : TRef sig ⟨S2x300x1, .i32⟩) (.of main_call12_v4 : TRef sig ⟨S2x300x1, .i32⟩) rfl (by decide +kernel) (by decide +kernel) (HEq.rfl : HEq (U25 m c (Proc.devRef .tc main_call12_v1)) (call12_v1 m c)) (HEq.rfl : HEq (U25 m c (Proc.devRef .tc main_call12_v3)) (call12_v3 m c)) (HEq.rfl : HEq (U25 m c (Proc.devRef .tc main_v286)) (v286 m c)) (HEq.rfl : HEq (U25 m c (Proc.devRef .tc main_call12_v4)) (call12_v4 m c))
  exact h
theorem call12_c_1_eq : call12_c_1 m c = (constantI S1 32 999#32) := by
  have h := (line24 m c).tnullary 7 (.of main_call12_c_1 : TRef sig ⟨S1, .i32⟩) rfl (by decide +kernel) (HEq.rfl : HEq (U25 m c (Proc.devRef .tc main_call12_c_1)) (call12_c_1 m c))
  exact h
theorem call12_c_2_eq : call12_c_2 m c = (constantI S_ 32 0#32) := by
  have h := (line24 m c).tnullary 8 (.of main_call12_c_2 : TRef sig ⟨S_, .i32⟩) rfl (by decide +kernel) (HEq.rfl : HEq (U25 m c (Proc.devRef .tc main_call12_c_2)) (call12_c_2 m c))
  exact h
theorem call12_v5_eq : call12_v5 m c = (broadcastInDim S2x300x1 ![] bcast_S_S2x300x1) (call12_c_2 m c) := by
  have h := (line24 m c).tunary 9 (.of main_call12_c_2 : TRef sig ⟨S_, .i32⟩) (.of main_call12_v5 : TRef sig ⟨S2x300x1, .i32⟩) rfl (by decide +kernel) (by decide +kernel) (HEq.rfl : HEq (U25 m c (Proc.devRef .tc main_call12_c_2)) (call12_c_2 m c)) (HEq.rfl : HEq (U25 m c (Proc.devRef .tc main_call12_v5)) (call12_v5 m c))
  exact h
theorem call12_v6_eq : call12_v6 m c = (cmpi .sge) (call12_v4 m c) (call12_v5 m c) := by
  have h := (line24 m c).tbinary 10 (.of main_call12_v4 : TRef sig ⟨S2x300x1, .i32⟩) (.of main_call12_v5 : TRef sig ⟨S2x300x1, .i32⟩) (.of main_call12_v6 : TRef sig ⟨S2x300x1, .i1⟩) rfl (by decide +kernel) (by decide +kernel) (HEq.rfl : HEq (U25 m c (Proc.devRef .tc main_call12_v4)) (call12_v4 m c)) (HEq.rfl : HEq (U25 m c (Proc.devRef .tc main_call12_v5)) (call12_v5 m c)) (HEq.rfl : HEq (U25 m c (Proc.devRef .tc main_call12_v6)) (call12_v6 m c))
  exact h
theorem call12_v7_eq : call12_v7 m c = (broadcastInDim S1x1x1 ![2] bcast_S1_S1x1x1_2) (call12_c_1 m c) := by
  have h := (line24 m c).tunary 11 (.of main_call12_c_1 : TRef sig ⟨S1, .i32⟩) (.of main_call12_v7 : TRef sig ⟨S1x1x1, .i32⟩) rfl (by decide +kernel) (by decide +kernel) (HEq.rfl : HEq (U25 m c (Proc.devRef .tc main_call12_c_1)) (call12_c_1 m c)) (HEq.rfl : HEq (U25 m c (Proc.devRef .tc main_call12_v7)) (call12_v7 m c))
  exact h
theorem call12_v8_eq : call12_v8 m c = (broadcastInDim S2x300x1 ![0, 1, 2] bcast_S1x1x1_S2x300x1_0_1_2) (call12_v7 m c) := by
  have h := (line24 m c).tunary 12 (.of main_call12_v7 : TRef sig ⟨S1x1x1, .i32⟩) (.of main_call12_v8 : TRef sig ⟨S2x300x1, .i32⟩) rfl (by decide +kernel) (by decide +kernel) (HEq.rfl : HEq (U25 m c (Proc.devRef .tc main_call12_v7)) (call12_v7 m c)) (HEq.rfl : HEq (U25 m c (Proc.devRef .tc main_call12_v8)) (call12_v8 m c))
  exact h
theorem call12_v9_eq : call12_v9 m c = (cmpi .sle) (call12_v4 m c) (call12_v8 m c) := by
  have h := (line24 m c).tbinary 13 (.of main_call12_v4 : TRef sig ⟨S2x300x1, .i32⟩) (.of main_call12_v8 : TRef sig ⟨S2x300x1, .i32⟩) (.of main_call12_v9 : TRef sig ⟨S2x300x1, .i1⟩) rfl (by decide +kernel) (by decide +kernel) (HEq.rfl : HEq (U25 m c (Proc.devRef .tc main_call12_v4)) (call12_v4 m c)) (HEq.rfl : HEq (U25 m c (Proc.devRef .tc main_call12_v8)) (call12_v8 m c)) (HEq.rfl : HEq (U25 m c (Proc.devRef .tc main_call12_v9)) (call12_v9 m c))
  exact h
theorem call12_v10_eq : call12_v10 m c = andi (call12_v6 m c) (call12_v9 m c) := by
  have h := (line24 m c).tbinary 14 (.of main_call12_v6 : TRef sig ⟨S2x300x1, .i1⟩) (.of main_call12_v9 : TRef sig ⟨S2x300x1, .i1⟩) (.of main_call12_v10 : TRef sig ⟨S2x300x1, .i1⟩) rfl (by decide +kernel) (by decide +kernel) (HEq.rfl : HEq (U25 m c (Proc.devRef .tc main_call12_v6)) (call12_v6 m c)) (HEq.rfl : HEq (U25 m c (Proc.devRef .tc main_call12_v9)) (call12_v9 m c)) (HEq.rfl : HEq (U25 m c (Proc.devRef .tc main_call12_v10)) (call12_v10 m c))
  exact h
theorem call12_c_3_eq : call12_c_3 m c = (constantI S_ 1 1#1) := by
  have h := (line24 m c).tnullary 15 (.of main_call12_c_3 : TRef sig ⟨S_, .i1⟩) rfl (by decide +kernel) (HEq.rfl : HEq (U25 m c (Proc.devRef .tc main_call12_c_3)) (call12_c_3 m c))
  exact h
theorem call12_v11_eq : call12_v11 m c = (fun x v => Host.reduce IntOp.andi x v reducesTo_S2x300x1_S2x300_d2 h_S_) (call12_v10 m c) (call12_c_3 m c) := by
  have h := (line24 m c).tbinary 16 (.of main_call12_v10 : TRef sig ⟨S2x300x1, .i1⟩) (.of main_call12_c_3 : TRef sig ⟨S_, .i1⟩) (.of main_call12_v11 : TRef sig ⟨S2x300, .i1⟩) rfl (by decide +kernel) (by decide +kernel) (HEq.rfl : HEq (U25 m c (Proc.devRef .tc main_call12_v10)) (call12_v10 m c)) (HEq.rfl : HEq (U25 m c (Proc.devRef .tc main_call12_c_3)) (call12_c_3 m c)) (HEq.rfl : HEq (U25 m c (Proc.devRef .tc main_call12_v11)) (call12_v11 m c))
  exact h
theorem call12_v12_eq : call12_v12 m c = Host.gather gather_S2x1000x5_S2x300x1_S2x300x5_2_1_0_0_1_2_115 (v285 m c) (call12_v4 m c) := by
  have h := (line24 m c).tbinary 17 (.of main_v285 : TRef sig ⟨S2x1000x5, .f32⟩) (.of main_call12_v4 : TRef sig ⟨S2x300x1, .i32⟩) (.of main_call12_v12 : TRef sig ⟨S2x300x5, .f32⟩) rfl (by decide +kernel) (by decide +kernel) (HEq.rfl : HEq (U25 m c (Proc.devRef .tc main_v285)) (v285 m c)) (HEq.rfl : HEq (U25 m c (Proc.devRef .tc main_call12_v4)) (call12_v4 m c)) (HEq.rfl : HEq (U25 m c (Proc.devRef .tc main_call12_v12)) (call12_v12 m c))
  exact h
theorem call12_v13_eq : call12_v13 m c = (broadcastInDim S2x300x5 ![0, 1] bcast_S2x300_S2x300x5_0_1) (call12_v11 m c) := by
  have h := (line24 m c).tunary 18 (.of main_call12_v11 : TRef sig ⟨S2x300, .i1⟩) (.of main_call12_v13 : TRef sig ⟨S2x300x5, .i1⟩) rfl (by decide +kernel) (by decide +kernel) (HEq.rfl : HEq (U25 m c (Proc.devRef .tc main_call12_v11)) (call12_v11 m c)) (HEq.rfl : HEq (U25 m c (Proc.devRef .tc main_call12_v13)) (call12_v13 m c))
  exact h
theorem call12_cst_eq : call12_cst m c = (constant S_ .f32 0x7FC00000#32) := by
  have h := (line24 m c).tnullary 19 (.of main_call12_cst : TRef sig ⟨S_, .f32⟩) rfl (by decide +kernel) (HEq.rfl : HEq (U25 m c (Proc.devRef .tc main_call12_cst)) (call12_cst m c))
  exact h
theorem call12_v14_eq : call12_v14 m c = (broadcastInDim S2x300x5 ![] bcast_S_S2x300x5) (call12_cst m c) := by
  have h := (line24 m c).tunary 20 (.of main_call12_cst : TRef sig ⟨S_, .f32⟩) (.of main_call12_v14 : TRef sig ⟨S2x300x5, .f32⟩) rfl (by decide +kernel) (by decide +kernel) (HEq.rfl : HEq (U25 m c (Proc.devRef .tc main_call12_cst)) (call12_cst m c)) (HEq.rfl : HEq (U25 m c (Proc.devRef .tc main_call12_v14)) (call12_v14 m c))
  exact h
theorem v287_eq : v287 m c = select (call12_v13 m c) (call12_v12 m c) (call12_v14 m c) := by
  have h := (line24 m c).tternary 21 (.of main_call12_v13 : TRef sig ⟨S2x300x5, .i1⟩) (.of main_call12_v12 : TRef sig ⟨S2x300x5, .f32⟩) (.of main_call12_v14 : TRef sig ⟨S2x300x5, .f32⟩) (.of main_v287 : TRef sig ⟨S2x300x5, .f32⟩) rfl (by decide +kernel) (by decide +kernel) (HEq.rfl : HEq (U25 m c (Proc.devRef .tc main_call12_v13)) (call12_v13 m c)) (HEq.rfl : HEq (U25 m c (Proc.devRef .tc main_call12_v12)) (call12_v12 m c)) (HEq.rfl : HEq (U25 m c (Proc.devRef .tc main_call12_v14)) (call12_v14 m c)) (HEq.rfl : HEq (U25 m c (Proc.devRef .tc main_v287)) (v287 m c))
  exact h

end Cert.ReferenceIdeal.Val

end
-- ==== Proof.RSel.lean ====
module

public import proofs.«01_k».proof.Proof.REq1
public import proofs.«01_k».proof.Proof.REq2

/-! The reference program's selection: the boxes at the selected positions as one function of the positions and all boxes. -/

@[expose] public section
set_option maxRecDepth 16384
noncomputable section
namespace Cert.ReferenceIdeal.Val
open Cert.ReferenceIdeal Cert.ReferenceIdeal.Gen Cert.ReferenceIdeal.Value Cert.ReferenceIdeal.Whole
open Idealize.ShloMosaic Idealize.ShloMosaic.TcCoe Idealize.ShloMosaic.StableHlo
open Idealize.SL.Sem Cert.HostLine

variable (m : (ℓ : Loc nD τ sig) → Buf (Elt Ideal) ℓ) (c : Dev nD)

/-- The positions as the gather reads them: one axis more, negative ones counted from the end. -/
def starts (p : IVec S2x1000 32) : IVec S2x1000x1 32 :=
  select (cmpi .slt (broadcastInDim S2x1000x1 ![0, 1] bcast_S2x1000_S2x1000x1_0_1 p) (broadcastInDim S2x1000x1 ![] bcast_S_S2x1000x1 (constantI S_ 32 0#32)))
    (addi (broadcastInDim S2x1000x1 ![0, 1] bcast_S2x1000_S2x1000x1_0_1 p) (broadcastInDim S2x1000x1 ![] bcast_S_S2x1000x1 (constantI S_ 32 22500#32)))
    (broadcastInDim S2x1000x1 ![0, 1] bcast_S2x1000_S2x1000x1_0_1 p)

/-- The boxes at the positions, the not-a-number constant where a position lies outside the array. -/
def pick (p : IVec S2x1000 32) (B : FVec Ideal S2x22500x4 .f32) : FVec Ideal S2x1000x4 .f32 :=
  select (broadcastInDim S2x1000x4 ![0, 1] bcast_S2x1000_S2x1000x4_0_1
      (Host.reduce IntOp.andi (andi (cmpi .sge (starts p) (broadcastInDim S2x1000x1 ![] bcast_S_S2x1000x1 (constantI S_ 32 0#32)))
        (cmpi .sle (starts p) (broadcastInDim S2x1000x1 ![0, 1, 2] bcast_S1x1x1_S2x1000x1_0_1_2 (broadcastInDim S1x1x1 ![2] bcast_S1_S1x1x1_2 (constantI S1 32 22499#32)))))
        (constantI S_ 1 1#1) reducesTo_S2x1000x1_S2x1000_d2 h_S_))
    (Host.gather gather_S2x22500x4_S2x1000x1_S2x1000x4_2_1_0_0_1_2_114 B (starts p))
    (broadcastInDim S2x1000x4 ![] bcast_S_S2x1000x4 (constant S_ .f32 0x7FC00000#32))

/-- The largest thousand scores of each image, in order. -/
def top (s : FVec Ideal S2x22500 .f32) : FVec Ideal S2x1000 .f32 :=
  (Host.topK S2x1000 1 (FloatOps.cmpfTotal .gt) s sliceFits_S2x22500_S2x1000).1

/-- The positions of the largest thousand scores of each image. -/
def pos (s : FVec Ideal S2x22500 .f32) : IVec S2x1000 32 :=
  (Host.topK S2x1000 1 (FloatOps.cmpfTotal .gt) s sliceFits_S2x22500_S2x1000).2

/-- The selected scores are the largest thousand of the masked scores. -/
theorem values_top : values m c = top (v207 m c) := by
  rw [values_eq]; unfold top; with_reducible rfl

/-- The selected boxes are the boxes at the positions of the largest thousand masked scores. -/
theorem v209_pick : v209 m c = pick (pos (v207 m c)) (v198 m c) := by
  simp only [v209_eq, call7_v14_eq, call7_cst_eq, call7_v13_eq, call7_v12_eq, call7_v11_eq, call7_c_3_eq, call7_v10_eq, call7_v9_eq, call7_v8_eq, call7_v7_eq, call7_v6_eq, call7_v5_eq, call7_c_2_eq, call7_c_1_eq, call7_v4_eq, call7_v3_eq, call7_v2_eq, call7_c_0_eq, call7_v1_eq, call7_v0_eq, call7_c_eq, v208_eq, indices_eq]
  unfold pick starts pos
  with_reducible rfl

end Cert.ReferenceIdeal.Val

end
-- ==== Proof.Greedy.lean ====
module

public import Idealize.ShloMosaic.Lib.Pointwise

/-! Greedy suppression over the natural numbers, its form in blocks, and the stable partition
that puts the kept elements first. Nothing here mentions a program. -/

@[expose] public section
noncomputable section
namespace Cert.Greedy
open Idealize.ShloMosaic
open scoped Classical

/-- The number one where the proposition holds and zero where it does not. -/
def E (p : Prop) : EReal := if p then 1 else 0

/-- `Keep S n j`: element `j` is kept after the first `n` elements have suppressed in turn: a kept
    element `n` suppresses every `j` that `S n j` relates to it. -/
def Keep (S : ℕ → ℕ → Prop) : ℕ → ℕ → Prop
  | 0, _ => True
  | n + 1, j => Keep S n j ∧ ¬ (Keep S n n ∧ S n j)

variable {S : ℕ → ℕ → Prop}

/-- Once its own turn has come an element's state does not change. -/
theorem keep_stable (hS : ∀ i j, S i j → i < j) (j m : ℕ) : Keep S (j + m) j ↔ Keep S j j := by
  induction m with
  | zero => rfl
  | succ m ih =>
    refine ⟨fun h => ih.mp h.1, fun h => ⟨ih.mpr h, fun hs => ?_⟩⟩
    have h2 : j + m < j := hS _ _ hs.2
    omega

/-- The state after any later step is the state at the element's own turn. -/
theorem keep_of_le (hS : ∀ i j, S i j → i < j) {j n : ℕ} (h : j ≤ n) : Keep S n j ↔ Keep S j j := by
  obtain ⟨m, rfl⟩ := Nat.exists_eq_add_of_le h
  exact keep_stable hS j m

/-- A block of `m` steps at once: an element is kept after it when it was kept before and no element
    of the block that is kept at the block's end suppresses it. -/
theorem keep_block (hS : ∀ i j, S i j → i < j) (n m j : ℕ) :
    Keep S (n + m) j ↔ Keep S n j ∧ ¬ ∃ t, t < m ∧ Keep S (n + m) (n + t) ∧ S (n + t) j := by
  have key : ∀ m', m' ≤ m → (Keep S (n + m') j ↔
      Keep S n j ∧ ¬ ∃ t, t < m' ∧ Keep S (n + t) (n + t) ∧ S (n + t) j) := by
    intro m' hm
    induction m' with
    | zero => simp
    | succ k ih =>
      have ih := ih (by omega)
      constructor
      · intro h
        have h1 := ih.mp h.1
        refine ⟨h1.1, ?_⟩
        rintro ⟨t, ht, hk, hs⟩
        rcases Nat.lt_succ_iff_lt_or_eq.mp ht with h2 | rfl
        · exact h1.2 ⟨t, h2, hk, hs⟩
        · exact h.2 ⟨hk, hs⟩
      · rintro ⟨h1, h2⟩
        refine ⟨ih.mpr ⟨h1, ?_⟩, fun h3 => h2 ⟨k, by omega, h3.1, h3.2⟩⟩
        rintro ⟨t, ht, hk⟩
        exact h2 ⟨t, by omega, hk⟩
  rw [key m le_rfl]
  refine and_congr_right fun _ => not_congr ⟨?_, ?_⟩
  · rintro ⟨t, ht, hk, hs⟩
    exact ⟨t, ht, (keep_of_le hS (by omega)).mpr hk, hs⟩
  · rintro ⟨t, ht, hk, hs⟩
    exact ⟨t, ht, (keep_of_le hS (by omega)).mp hk, hs⟩

/-- Relations that agree below `N` keep the same elements below `N`. -/
theorem keep_congr {S' : ℕ → ℕ → Prop} {N : ℕ} (h : ∀ i j, i < N → j < N → (S i j ↔ S' i j)) :
    ∀ n j, n ≤ N → j < N → (Keep S n j ↔ Keep S' n j) := by
  intro n
  induction n with
  | zero => intros; rfl
  | succ n ih =>
    intro j hn hj
    unfold Keep
    rw [ih j (by omega) hj, ih n (by omega) (by omega), h n j (by omega) hj]

theorem E_true {p : Prop} (h : p) : E p = 1 := if_pos h
theorem E_false {p : Prop} (h : ¬ p) : E p = 0 := if_neg h
theorem E_congr {p q : Prop} (h : p ↔ q) : E p = E q := by rw [propext h]

/-- A product of indicators is the indicator of both. -/
theorem E_mul (p q : Prop) : E p * E q = E (p ∧ q) := by
  by_cases hp : p <;> by_cases hq : q <;> simp [E, hp, hq]

/-- One suppression in 0/1 arithmetic. -/
theorem E_step (a b r : Prop) : E a * (1 - E b * E r) = E (a ∧ ¬ (b ∧ r)) := by
  have h : (1 : EReal) - 1 = 0 := EReal.sub_self (by decide) (by decide)
  by_cases ha : a <;> by_cases hb : b <;> by_cases hr : r <;> simp [E, ha, hb, hr, h]

/-- A sum of indicators is the number of elements at which they are one. -/
theorem sum_E {ι : Type} (s : Finset ι) (p : ι → Prop) :
    ∑ x ∈ s, E (p x) = (((s.filter p).card : ℕ) : EReal) := by
  induction s using Finset.induction_on with
  | empty => simp
  | insert a s ha ih =>
    rw [Finset.sum_insert ha, ih, Finset.filter_insert]
    by_cases h : p a
    · rw [if_pos h, Finset.card_insert_of_notMem (by simp [ha]), E_true h, Nat.cast_add, Nat.cast_one, add_comm]
    · rw [if_neg h, E_false h, zero_add]

/-- Half is below a sum of indicators exactly when one of them is one. -/
theorem half_le_sum_E {ι : Type} [Fintype ι] (p : ι → Prop) (h : EReal) (h0 : 0 < h) (h1 : h ≤ 1) :
    h ≤ ∑ x, E (p x) ↔ ∃ x, p x := by
  rw [sum_E]
  constructor
  · intro hh
    by_contra hn
    have : (Finset.univ.filter p).card = 0 := by
      rw [Finset.card_eq_zero, Finset.filter_eq_empty_iff]
      exact fun x _ hx => hn ⟨x, hx⟩
    rw [this, Nat.cast_zero] at hh
    exact absurd hh (not_le.mpr h0)
  · rintro ⟨x, hx⟩
    have : 1 ≤ (Finset.univ.filter p).card := Finset.card_pos.mpr ⟨x, by simp [hx]⟩
    refine h1.trans ?_
    exact_mod_cast this

/-- Sorting stably by "kept before not kept" lists the kept elements, then the others. -/
theorem stableSort_partition {ι : Type} (b : ι → Bool) (l : List ι) :
    stableSort (fun x y => b x && !b y) l = l.filter b ++ l.filter (fun x => !b x) := by
  induction l with
  | nil => rfl
  | cons a l ih =>
    unfold stableSort
    rw [ih]
    have h1 : ∀ (K U : List ι), (∀ x ∈ K, b x = true) → (∀ x ∈ U, b x = false) →
        insertBefore (fun x y => b x && !b y) a (K ++ U) = if b a then a :: (K ++ U) else K ++ a :: U := by
      intro K U hK hU
      induction K with
      | nil =>
        cases U with
        | nil => simp [insertBefore]
        | cons u U => simp [insertBefore, hU u (by simp)]
      | cons k K ihK =>
        have hk := hK k (by simp)
        have := ihK (fun x hx => hK x (by simp [hx]))
        cases ha : b a
        · simp only [List.cons_append, insertBefore, hk, ha] at this ⊢
          simpa using this
        · simp [insertBefore, hk, ha]
    rw [h1 _ _ (fun x hx => by simpa using (List.mem_filter.mp hx).2) (fun x hx => by simpa using (List.mem_filter.mp hx).2)]
    cases ha : b a <;> simp [ha]

/-- Where the partition puts element `j`: the kept `j` stands at place `k` exactly when `k` kept
    elements precede it. -/
theorem partition_get {ι : Type} (b : ι → Bool) (s t : List ι) (j : ι) (hn : (s ++ j :: t).Nodup) (k : ℕ)
    (hk : k < ((s ++ j :: t).filter b ++ (s ++ j :: t).filter (fun x => !b x)).length) :
    (b j = true ∧ (s.filter b).length = k) ↔
      (j = ((s ++ j :: t).filter b ++ (s ++ j :: t).filter (fun x => !b x))[k] ∧ b j = true) := by
  by_cases hj : b j = true
  swap
  · simp [hj]
  have hnd : ((s ++ j :: t).filter b ++ (s ++ j :: t).filter (fun x => !b x)).Nodup :=
    List.nodup_append.mpr ⟨hn.filter _, hn.filter _, fun x hx y hy he => by
      subst he
      have h1 := (List.mem_filter.mp hx).2
      have h2 := (List.mem_filter.mp hy).2
      simp [h1] at h2⟩
  have hlen : (s.filter b).length < ((s ++ j :: t).filter b ++ (s ++ j :: t).filter (fun x => !b x)).length := by
    simp [List.filter_append, hj]
  have hget : ((s ++ j :: t).filter b ++ (s ++ j :: t).filter (fun x => !b x))[(s.filter b).length] = j := by
    simp [List.filter_append, hj]
  constructor
  · rintro ⟨_, rfl⟩
    exact ⟨hget.symm, hj⟩
  · rintro ⟨h, _⟩
    refine ⟨hj, ?_⟩
    exact (hnd.getElem_inj_iff (hi := hlen) (hj := hk)).mp (hget.trans h)

/-- The element that the stable partition of `n` positions puts at place `k`, described by counting:
    a kept `j` is there exactly when `k + 1` kept positions are at most `j`. -/
theorem sortedFrom_count {n : ℕ} (b : Fin n → Bool) (k j : Fin n) :
    (b j = true ∧ (Finset.univ.filter fun x : Fin n => b x = true ∧ x ≤ j).card = k.val + 1) ↔
      (j = sortedFrom (fun x y => b x && !b y) k ∧ b j = true) := by
  by_cases hj : b j = true
  swap
  · simp [hj]
  have hs : j ∈ List.finRange n := List.mem_finRange j
  obtain ⟨s, t, hst⟩ := List.append_of_mem hs
  have hnd : (s ++ j :: t).Nodup := hst ▸ List.nodup_finRange n
  have hsorted : (s ++ j :: t).Pairwise (· < ·) := hst ▸ List.pairwise_lt_finRange n
  have hmem : ∀ x : Fin n, x ∈ s ↔ x < j := by
    intro x
    rw [List.pairwise_append] at hsorted
    constructor
    · intro hx
      exact hsorted.2.2 x hx j (by simp)
    · intro hx
      have : x ∈ s ++ j :: t := hst ▸ List.mem_finRange x
      rcases List.mem_append.mp this with h | h
      · exact h
      · rcases List.mem_cons.mp h with h | h
        · exact absurd hx (by simp [h])
        · have := (List.pairwise_cons.mp hsorted.2.1).1 x h
          exact absurd hx (not_lt.mpr this.le)
  have hcard : (Finset.univ.filter fun x : Fin n => b x = true ∧ x ≤ j).card = (s.filter b).length + 1 := by
    have h1 : (Finset.univ.filter fun x : Fin n => b x = true ∧ x ≤ j) = insert j (s.filter b).toFinset := by
      ext x
      simp only [Finset.mem_filter, Finset.mem_univ, true_and, Finset.mem_insert, List.mem_toFinset, List.mem_filter, hmem]
      constructor
      · rintro ⟨hb, hle⟩
        rcases hle.lt_or_eq with h | h
        · exact Or.inr ⟨h, hb⟩
        · exact Or.inl h
      · rintro (h | ⟨h, hb⟩)
        · subst h; exact ⟨hj, le_rfl⟩
        · exact ⟨hb, h.le⟩
    rw [h1, Finset.card_insert_of_notMem (by simp [hmem]), List.toFinset_card_of_nodup]
    exact (List.nodup_append.mp hnd).1.filter _
  have hp : sortPositions n (fun x y => b x && !b y) = (s ++ j :: t).filter b ++ (s ++ j :: t).filter (fun x => !b x) := by
    unfold sortPositions
    rw [stableSort_partition, hst]
  have hk : k.val < ((s ++ j :: t).filter b ++ (s ++ j :: t).filter (fun x => !b x)).length := by
    rw [← hp, length_sortPositions]; exact k.isLt
  have hg : sortedFrom (fun x y => b x && !b y) k = ((s ++ j :: t).filter b ++ (s ++ j :: t).filter (fun x => !b x))[k.val] := by
    unfold sortedFrom
    simp only [List.get_eq_getElem, Fin.val_cast]
    simp only [hp]
  rw [hg, ← partition_get b s t j hnd k.val hk, hcard]
  simp [hj]

/-- Selecting by counting: the sum that weighs `f j` by "`j` is kept and is the `k`-th kept" is `f` at
    the place that the stable partition puts at `k`, or zero when that place is not kept. -/
theorem sum_pick {n : ℕ} (b : Fin n → Bool) (k : Fin n) (f : Fin n → EReal) :
    ∑ j, E (b j = true ∧ (Finset.univ.filter fun x : Fin n => b x = true ∧ x ≤ j).card = k.val + 1) * f j =
      if b (sortedFrom (fun x y => b x && !b y) k) = true then f (sortedFrom (fun x y => b x && !b y) k) else 0 := by
  have h : ∀ j, E (b j = true ∧ (Finset.univ.filter fun x : Fin n => b x = true ∧ x ≤ j).card = k.val + 1) * f j =
      if j = sortedFrom (fun x y => b x && !b y) k then (if b (sortedFrom (fun x y => b x && !b y) k) = true then f (sortedFrom (fun x y => b x && !b y) k) else 0) else 0 := by
    intro j
    rw [E_congr (sortedFrom_count b k j)]
    by_cases h1 : j = sortedFrom (fun x y => b x && !b y) k
    · subst h1
      by_cases h2 : b (sortedFrom (fun x y => b x && !b y) k) = true
      · rw [E_true ⟨rfl, h2⟩, one_mul, if_pos rfl, if_pos h2]
      · rw [E_false (fun h => h2 h.2), zero_mul, if_pos rfl, if_neg h2]
    · rw [E_false (fun h => h1 h.1), zero_mul, if_neg h1]
  rw [Finset.sum_congr rfl fun j _ => h j, Finset.sum_ite_eq' Finset.univ (sortedFrom (fun x y => b x && !b y) k) (fun _ => _), if_pos (Finset.mem_univ _)]

/-- A decided choice between one and zero is the indicator. -/
theorem E_ite (p : Prop) [Decidable p] : (if p then (1 : EReal) else 0) = E p := by
  by_cases h : p <;> simp [E, h]

/-- How many elements up to `l` satisfy `P`. -/
def cnt {n : ℕ} (P : Fin n → Prop) (l : Fin n) : ℕ := (Finset.univ.filter fun y : Fin n => P y ∧ y ≤ l).card

theorem cnt_congr {n : ℕ} {P Q : Fin n → Prop} (h : ∀ l, P l ↔ Q l) (l : Fin n) : cnt P l = cnt Q l := by
  have : P = Q := funext fun x => propext (h x)
  rw [this]

/-- The count as a sum of indicators. -/
theorem sum_cnt {n : ℕ} (P : Fin n → Prop) (l : Fin n) : ∑ y, E (P y ∧ y ≤ l) = ((cnt P l : ℕ) : EReal) := by
  rw [sum_E]
  unfold cnt
  congr!

/-- Selecting by counting among the first `n` of `n + d` elements, none of the last `d` being kept: the
    sum that weighs `f j` by "`j` is kept and is the `k`-th kept" is `f` at the place that the stable
    partition of the first `n` puts at `k`, or zero when that place is not kept. -/
theorem sum_pick_pad {n d : ℕ} (P : Fin (n + d) → Prop) (hP : ∀ j : Fin d, ¬ P (Fin.natAdd n j))
    (b : Fin n → Bool) (hb : ∀ j, b j = true ↔ P (Fin.castAdd d j)) (k : Fin n) (f : Fin (n + d) → EReal) :
    ∑ j, E (P j ∧ cnt P j = k.val + 1) * f j =
      if b (sortedFrom (fun x y => b x && !b y) k) = true then f (Fin.castAdd d (sortedFrom (fun x y => b x && !b y) k)) else 0 := by
  rw [Fin.sum_univ_add, Finset.sum_eq_zero (s := Finset.univ) (f := fun j : Fin d => E (P (Fin.natAdd n j) ∧ cnt P (Fin.natAdd n j) = k.val + 1) * f (Fin.natAdd n j))
    (fun j _ => by rw [E_false fun h => hP j h.1, zero_mul]), add_zero, ← sum_pick b k fun j => f (Fin.castAdd d j)]
  refine Finset.sum_congr rfl fun j _ => ?_
  congr 1
  refine E_congr (and_congr (hb j).symm ?_)
  have hc : cnt P (Fin.castAdd d j) = (Finset.univ.filter fun x : Fin n => b x = true ∧ x ≤ j).card := by
    unfold cnt
    refine (Finset.card_bij (fun x _ => Fin.castAdd d x) ?_ ?_ ?_).symm
    · intro x hx
      have hx := (Finset.mem_filter.mp hx).2
      exact Finset.mem_filter.mpr ⟨Finset.mem_univ _, (hb x).mp hx.1, hx.2⟩
    · intro x _ y _ h
      exact Fin.castAdd_injective n d h
    · intro y hy
      have hy := (Finset.mem_filter.mp hy).2
      have hlt : y.val < n := lt_of_le_of_lt (show y.val ≤ j.val from hy.2) j.isLt
      exact ⟨⟨y.val, hlt⟩, Finset.mem_filter.mpr ⟨Finset.mem_univ _, (hb _).mpr hy.1, hy.2⟩, rfl⟩
  rw [hc]

/-- Two boxes `(x1, y1, x2, y2)` overlap by more than the threshold: intersection over union, the
    union guarded by a small constant, compared with the 32-bit constant nearest to 0.7. -/
def Over (f g : Fin 4 → EReal) : Prop :=
  Ideal.ofBits FTy.f32 1060320051#32 <
    Ideal.div
      (max (min (f 2) (g 2) - max (f 0) (g 0)) 0 * max (min (f 3) (g 3) - max (f 1) (g 1)) 0)
      ((f 2 - f 0) * (f 3 - f 1) + (g 2 - g 0) * (g 3 - g 1)
          - max (min (f 2) (g 2) - max (f 0) (g 0)) 0 * max (min (f 3) (g 3) - max (f 1) (g 1)) 0
        + Ideal.ofBits FTy.f32 814313567#32)

/-- Box `i` can suppress box `j` of the `N` boxes `f`: it stands earlier and overlaps it. -/
def Sup {N : ℕ} (f : Fin N → Fin 4 → EReal) (i j : ℕ) : Prop :=
  i < j ∧ ∃ (hi : i < N) (hj : j < N), Over (f ⟨i, hi⟩) (f ⟨j, hj⟩)

theorem sup_lt {N : ℕ} (f : Fin N → Fin 4 → EReal) (i j : ℕ) (h : Sup f i j) : i < j := h.1

/-- Inside the range suppression is order and overlap. -/
theorem sup_iff {N : ℕ} (f : Fin N → Fin 4 → EReal) (i j : Fin N) :
    Sup f i.val j.val ↔ (i.val < j.val ∧ Over (f i) (f j)) :=
  ⟨fun h => ⟨h.1, h.2.2.2⟩, fun h => ⟨h.1, i.isLt, j.isLt, h.2⟩⟩

/-- The end of a block in 0/1 arithmetic: where the product of the block's states with the block's rows
    reaches one half the element is dropped, elsewhere it keeps the state it had. -/
theorem block_end (hS : ∀ i j, S i j → i < j) {m : ℕ} (o l : ℕ) (half : EReal) (h0 : 0 < half) (h1 : half ≤ 1)
    (kb Mb : Fin m → EReal) (p : EReal) (hkb : ∀ x, kb x = E (Keep S (o + m) (o + x.val)))
    (hMb : ∀ x, Mb x = E (S (o + x.val) l)) (hp : p = E (Keep S o l)) :
    (if half ≤ ∑ x, kb x * Mb x then 0 else p) = E (Keep S (o + m) l) := by
  have hsum : ∑ x, kb x * Mb x = ∑ x : Fin m, E (Keep S (o + m) (o + x.val) ∧ S (o + x.val) l) :=
    Finset.sum_congr rfl fun x _ => by rw [hkb, hMb, E_mul]
  rw [hsum]
  by_cases h : ∃ x : Fin m, Keep S (o + m) (o + x.val) ∧ S (o + x.val) l
  · rw [if_pos ((half_le_sum_E _ half h0 h1).mpr h)]
    refine (E_false fun hk => ((keep_block hS o m l).mp hk).2 ?_).symm
    obtain ⟨x, hx⟩ := h
    exact ⟨x.val, x.isLt, hx⟩
  · rw [if_neg fun hh => h ((half_le_sum_E _ half h0 h1).mp hh), hp]
    refine E_congr ⟨fun hk => (keep_block hS o m l).mpr ⟨hk, ?_⟩, fun hk => ((keep_block hS o m l).mp hk).1⟩
    rintro ⟨t, ht, hx⟩
    exact h ⟨⟨t, ht⟩, hx⟩

/-- The 32-bit constant one half. -/
theorem ofBits_half : Ideal.ofBits .f32 1056964608#32 = (((1 : ℝ) / 2 : ℝ) : EReal) := by
  simp [Ideal.ofBits, Ideal.ieee, -EReal.coe_mul]; norm_num

theorem half_pos : 0 < Ideal.ofBits .f32 1056964608#32 := by
  rw [ofBits_half]; exact_mod_cast (by norm_num : (0 : ℝ) < 1 / 2)

theorem half_le : Ideal.ofBits .f32 1056964608#32 ≤ 1 := by
  rw [ofBits_half]; exact_mod_cast (by norm_num : (1 / 2 : ℝ) ≤ 1)

/-- Which of the 1000 candidates survive: the greedy suppression keeps them and their score is above
    the mask's threshold. -/
def kept (f : Fin 1000 → Fin 4 → EReal) (s : Fin 1000 → EReal) (j : Fin 1000) : Bool :=
  decide (Keep (Sup f) 1000 j.val ∧ Ideal.ofBits FTy.f32 3435052064#32 < s j)

/-- Row `k` of the proposals: the candidate that the stable partition puts at place `k` with its score,
    or zeros when that candidate does not survive. -/
def proposal (f : Fin 1000 → Fin 4 → EReal) (s : Fin 1000 → EReal) (k : Fin 1000) (q : Fin 5) : EReal :=
  if kept f s (sortedFrom (fun x y => kept f s x && !kept f s y) k) = true then
    (if h : q.val < 4 then f (sortedFrom (fun x y => kept f s x && !kept f s y) k) ⟨q.val, h⟩
      else s (sortedFrom (fun x y => kept f s x && !kept f s y) k))
  else 0

/-- The padding score is not above the mask's threshold. -/
theorem pad_score : ¬ Ideal.ofBits FTy.f32 3435052064#32 < Ideal.ofBits FTy.f32 3463342888#32 := by
  have h1 : Ideal.ofBits FTy.f32 3435052064#32 = ((-100000000 : ℝ) : EReal) := by
    simp [Ideal.ofBits, Ideal.ieee, -EReal.coe_mul, -EReal.coe_neg]; norm_num
  have h2 : Ideal.ofBits FTy.f32 3463342888#32 = ((-1000000000 : ℝ) : EReal) := by
    simp [Ideal.ofBits, Ideal.ieee, -EReal.coe_mul, -EReal.coe_neg]; norm_num
  rw [h1, h2, not_lt]
  exact_mod_cast (by norm_num : (-1000000000 : ℝ) ≤ -100000000)

/-- A counted selection over the 1024 padded candidates is the proposal of the 1000 candidates. -/
theorem sum_proposal (f : Fin 1000 → Fin 4 → EReal) (s : Fin 1000 → EReal) (f' : Fin 1024 → Fin 4 → EReal) (s' : Fin 1024 → EReal)
    (hf : ∀ (j : Fin 1000) q, f' (Fin.castAdd 24 j) q = f j q) (hs : ∀ j : Fin 1000, s' (Fin.castAdd 24 j) = s j)
    (hp : ∀ j : Fin 24, s' (Fin.natAdd 1000 j) = Ideal.ofBits FTy.f32 3463342888#32) (k : Fin 1000) (g : Fin 1024 → EReal) :
    ∑ l : Fin 1024, E ((Keep (Sup f') 1024 l.val ∧ Ideal.ofBits FTy.f32 3435052064#32 < s' l) ∧
        cnt (fun l : Fin 1024 => Keep (Sup f') 1024 l.val ∧ Ideal.ofBits FTy.f32 3435052064#32 < s' l) l = k.val + 1) * g l
      = if kept f s (sortedFrom (fun x y => kept f s x && !kept f s y) k) = true then
          g (Fin.castAdd 24 (sortedFrom (fun x y => kept f s x && !kept f s y) k)) else 0 := by
  refine sum_pick_pad (n := 1000) (d := 24) (fun l => Keep (Sup f') 1024 l.val ∧ Ideal.ofBits FTy.f32 3435052064#32 < s' l) ?_ (kept f s) ?_ k g
  · intro j h
    have h2 := h.2
    rw [hp] at h2
    exact pad_score h2
  · intro j
    have h1 : Keep (Sup f') 1024 j.val ↔ Keep (Sup f) 1000 j.val := by
      rw [keep_of_le (sup_lt f') (by omega), ← keep_of_le (sup_lt f') (n := 1000) (by omega)]
      refine keep_congr (N := 1000) (fun a b ha hb => ?_) 1000 j.val le_rfl j.isLt
      have e1 := sup_iff f' (Fin.castAdd 24 ⟨a, ha⟩) (Fin.castAdd 24 ⟨b, hb⟩)
      have e2 := sup_iff f ⟨a, ha⟩ ⟨b, hb⟩
      have e3 : f' (Fin.castAdd 24 ⟨a, ha⟩) = f ⟨a, ha⟩ := funext fun q => hf _ q
      have e4 : f' (Fin.castAdd 24 ⟨b, hb⟩) = f ⟨b, hb⟩ := funext fun q => hf _ q
      rw [e3, e4] at e1
      exact e1.trans e2.symm
    unfold kept
    rw [decide_eq_true_iff]
    refine and_congr h1.symm ?_
    rw [hs]

end Cert.Greedy
-- ==== Proof.Anchor.lean ====
/-
  What the anchor table holds, as bit patterns.
-/
module

public import proofs.«01_k».proof.Proof.KVal

@[expose] public section

set_option maxRecDepth 16384

noncomputable section

namespace Cert.Anchor

/-- An entry of the anchor table as a number. -/
def look (i : Nat) : Nat := (Cert.KernelIdeal.lit0t i).toNat

/-- The bit pattern of a small positive integer as a single-precision number. -/
def enc (v : Nat) : Nat := (127 + v.log2) * 2 ^ 23 + (v - 2 ^ v.log2) * 2 ^ (23 - v.log2)

/-- The bit patterns of the nine anchor widths. -/
def wBits (a : Nat) : Nat := match a with
  | 0 => 0x433504F3 | 1 => 0x43B504F3 | 2 => 0x443504F3 | 3 => 0x43000000 | 4 => 0x43800000
  | 5 => 0x44000000 | 6 => 0x42B504F3 | 7 => 0x433504F3 | _ => 0x43B504F3

/-- The bit patterns of the nine anchor heights. -/
def hBits (a : Nat) : Nat := match a with
  | 0 => 0x42B504F3 | 1 => 0x433504F3 | 2 => 0x43B504F3 | 3 => 0x43000000 | 4 => 0x43800000
  | 5 => 0x44000000 | 6 => 0x433504F3 | 7 => 0x43B504F3 | _ => 0x443504F3

end Cert.Anchor
-- ==== Proof.Head.lean ====
module

public import proofs.«01_k».proof.Proof.Greedy
public import proofs.«01_k».proof.Proof.Anchor
public import Idealize.ShloMosaic.Lib.Pointwise

/-! The convolutional head as mathematics: each anchor's box and its masked score, over the arguments. -/

@[expose] public section
noncomputable section
namespace Cert.Head
open Idealize.ShloMosaic Cert.Anchor

/-- The seven arguments by their coordinates: the features, the convolution's weights and bias, the
    classifier's weights and bias, the regressor's weights and bias. -/
structure Args where
  X : Fin 2 → Fin 256 → Fin 50 → Fin 50 → EReal
  W : Fin 256 → Fin 256 → Fin 3 → Fin 3 → EReal
  b : Fin 256 → EReal
  U : Fin 9 → Fin 256 → EReal
  u : Fin 9 → EReal
  V : Fin 36 → Fin 256 → EReal
  v : Fin 36 → EReal

/-- The arguments by their coordinates, of the seven arrays. -/
def Args.of (a1 : FVec Ideal ⟨4, ![2, 256, 50, 50]⟩ .f32) (a2 : FVec Ideal ⟨4, ![256, 256, 3, 3]⟩ .f32) (a3 : FVec Ideal ⟨1, ![256]⟩ .f32)
    (a4 : FVec Ideal ⟨4, ![9, 256, 1, 1]⟩ .f32) (a5 : FVec Ideal ⟨1, ![9]⟩ .f32) (a6 : FVec Ideal ⟨4, ![36, 256, 1, 1]⟩ .f32)
    (a7 : FVec Ideal ⟨1, ![36]⟩ .f32) : Args where
  X := fun n ch y x => a1 (ix4 n ch y x)
  W := fun o ch i j => a2 (ix4 o ch i j)
  b := fun o => a3 (ix1 o)
  U := fun a o => a4 (ix4 a o 0 0)
  u := fun a => a5 (ix1 a)
  V := fun j o => a6 (ix4 j o 0 0)
  v := fun j => a7 (ix1 j)

section of
variable (a1 : FVec Ideal ⟨4, ![2, 256, 50, 50]⟩ .f32) (a2 : FVec Ideal ⟨4, ![256, 256, 3, 3]⟩ .f32) (a3 : FVec Ideal ⟨1, ![256]⟩ .f32)
  (a4 : FVec Ideal ⟨4, ![9, 256, 1, 1]⟩ .f32) (a5 : FVec Ideal ⟨1, ![9]⟩ .f32) (a6 : FVec Ideal ⟨4, ![36, 256, 1, 1]⟩ .f32)
  (a7 : FVec Ideal ⟨1, ![36]⟩ .f32)
theorem of_X (n : Fin 2) (ch : Fin 256) (y x : Fin 50) : (Args.of a1 a2 a3 a4 a5 a6 a7).X n ch y x = a1 (ix4 n ch y x) := rfl
theorem of_W (o ch : Fin 256) (i j : Fin 3) : (Args.of a1 a2 a3 a4 a5 a6 a7).W o ch i j = a2 (ix4 o ch i j) := rfl
theorem of_b (o : Fin 256) : (Args.of a1 a2 a3 a4 a5 a6 a7).b o = a3 (ix1 o) := rfl
theorem of_U (a : Fin 9) (o : Fin 256) : (Args.of a1 a2 a3 a4 a5 a6 a7).U a o = a4 (ix4 a o 0 0) := rfl
theorem of_u (a : Fin 9) : (Args.of a1 a2 a3 a4 a5 a6 a7).u a = a5 (ix1 a) := rfl
theorem of_V (j : Fin 36) (o : Fin 256) : (Args.of a1 a2 a3 a4 a5 a6 a7).V j o = a6 (ix4 j o 0 0) := rfl
theorem of_v (j : Fin 36) : (Args.of a1 a2 a3 a4 a5 a6 a7).v j = a7 (ix1 j) := rfl
end of

variable (A : Args)

/-- The features with one ring of zeros around them. -/
def padded (n : Fin 2) (ch : Fin 256) (y x : Nat) : EReal :=
  if h : (1 ≤ y ∧ y - 1 < 50) ∧ 1 ≤ x ∧ x - 1 < 50 then A.X n ch ⟨y - 1, h.1.2⟩ ⟨x - 1, h.2.2⟩ else 0

/-- One tap of the convolution at a cell. -/
def tap (n : Fin 2) (o : Fin 256) (y x : Nat) (i j : Fin 3) : EReal :=
  ∑ ch : Fin 256, padded A n ch (i.val + y) (j.val + x) * A.W o ch i j

/-- The 3 by 3 convolution at a cell, its taps in order. -/
def conv (n : Fin 2) (o : Fin 256) (y x : Nat) : EReal :=
  tap A n o y x 0 0 + tap A n o y x 0 1 + tap A n o y x 0 2 + tap A n o y x 1 0 + tap A n o y x 1 1
    + tap A n o y x 1 2 + tap A n o y x 2 0 + tap A n o y x 2 1 + tap A n o y x 2 2

/-- The hidden layer at a cell. -/
def hid (n : Fin 2) (o : Fin 256) (y x : Nat) : EReal := max (conv A n o y x + A.b o) 0

/-- The sigmoid of a number. -/
def sigm (l : EReal) : EReal := Ideal.div 1 (1 + Ideal.exp (-l))

/-- One anchor's score. -/
def score (n : Fin 2) (y x : Nat) (a : Fin 9) : EReal :=
  sigm (∑ o : Fin 256, hid A n o y x * A.U a o + A.u a)

/-- One anchor's regression output. -/
def loc (n : Fin 2) (y x : Nat) (a : Fin 9) (q : Fin 4) : EReal :=
  ∑ o : Fin 256, hid A n o y x * A.V ⟨a.val * 4 + q.val, by omega⟩ o + A.v ⟨a.val * 4 + q.val, by omega⟩

/-- The anchors' centres on one axis. -/
def ctr (x : Nat) : EReal := ((16 * (x : ℝ) + 8 : ℝ) : EReal)
/-- The anchors' widths. -/
def wid (a : Fin 9) : EReal := Ideal.ofBits .f32 (BitVec.ofNat 32 (wBits a.val))
/-- The anchors' heights. -/
def hgt (a : Fin 9) : EReal := Ideal.ofBits .f32 (BitVec.ofNat 32 (hBits a.val))

/-- A box's centre on one axis: the shift in units of the anchor's extent. -/
def mid (d w p : EReal) : EReal := d * w + p
/-- A box's extent on one axis: the anchor's extent scaled by an exponential. -/
def ext (d w : EReal) : EReal := Ideal.exp (min d (Ideal.ofBits .f32 1082413548#32)) * w
/-- A box's low side, clipped to the picture. -/
def low (p e : EReal) : EReal :=
  min (Ideal.ofBits .f32 1145569280#32) (max 0 (p - Ideal.ofBits .f32 1056964608#32 * e))
/-- A box's high side, clipped to the picture. -/
def high (p e : EReal) : EReal :=
  min (Ideal.ofBits .f32 1145569280#32) (max 0 (p + Ideal.ofBits .f32 1056964608#32 * e))

/-- A score, or the mask's number where the box is too small or the score negative. -/
def masked (s x0 y0 x1 y1 : EReal) : EReal :=
  Scalar.select
    (IntOp.andi
      (IntOp.andi (BitVec.ofBool (decide (Ideal.ofBits .f32 1098907648#32 ≤ x1 - x0)))
        (BitVec.ofBool (decide (Ideal.ofBits .f32 1098907648#32 ≤ y1 - y0))))
      (BitVec.ofBool (decide (0 ≤ s)))) s (Ideal.ofBits .f32 3463342888#32)

def mx (n : Fin 2) (y x : Nat) (a : Fin 9) : EReal := mid (loc A n y x a 0) (wid a) (ctr x)
def my (n : Fin 2) (y x : Nat) (a : Fin 9) : EReal := mid (loc A n y x a 1) (hgt a) (ctr y)
def ex (n : Fin 2) (y x : Nat) (a : Fin 9) : EReal := ext (loc A n y x a 2) (wid a)
def ey (n : Fin 2) (y x : Nat) (a : Fin 9) : EReal := ext (loc A n y x a 3) (hgt a)

/-- One anchor's clipped box: low across, low down, high across, high down. -/
def x0 (n : Fin 2) (y x : Nat) (a : Fin 9) : EReal := low (mx A n y x a) (ex A n y x a)
def y0 (n : Fin 2) (y x : Nat) (a : Fin 9) : EReal := low (my A n y x a) (ey A n y x a)
def x1 (n : Fin 2) (y x : Nat) (a : Fin 9) : EReal := high (mx A n y x a) (ex A n y x a)
def y1 (n : Fin 2) (y x : Nat) (a : Fin 9) : EReal := high (my A n y x a) (ey A n y x a)

/-- One anchor's masked score. -/
def mscore (n : Fin 2) (y x : Nat) (a : Fin 9) : EReal :=
  masked (score A n y x a) (x0 A n y x a) (y0 A n y x a) (x1 A n y x a) (y1 A n y x a)

/-- The cell and the shape of an anchor by its number. -/
abbrev row (i : Fin 22500) : Nat := i.val / 450
abbrev col (i : Fin 22500) : Nat := i.val / 9 % 50
abbrev shp (i : Fin 22500) : Fin 9 := ⟨i.val % 9, by omega⟩

/-- Every anchor's masked score, by its number. -/
def mscoreF (n : Fin 2) (i : Fin 22500) : EReal := mscore A n (row i) (col i) (shp i)

/-- Every anchor's box, by its number. -/
def boxF (n : Fin 2) (i : Fin 22500) (q : Fin 4) : EReal :=
  if q.val < 1 then x0 A n (row i) (col i) (shp i)
  else if q.val - 1 < 1 then y0 A n (row i) (col i) (shp i)
  else if q.val - 1 - 1 < 1 then x1 A n (row i) (col i) (shp i)
  else y1 A n (row i) (col i) (shp i)

end Cert.Head
-- ==== Proof.KHead.lean ====
module

public import proofs.«01_k».proof.Proof.KEq
public import proofs.«01_k».proof.Proof.Head
public import Idealize.ShloMosaic.Lib.Pipeline.ValueKit

/-! The first region's outputs at an index, over the blocks of its inputs. -/

@[expose] public section
set_option maxRecDepth 16384
noncomputable section
namespace Cert.KernelIdeal.HeadVal
open Cert.KernelIdeal Cert.KernelIdeal.Gen Cert.KernelIdeal.Whole
open Idealize.ShloMosaic Idealize.ShloMosaic.TcCoe Idealize.ShloMosaic.StableHlo
open Idealize.SL.Sem Cert.HostLine

variable (x0 : FVec Ideal S1x2704x256 .f32) (x1 : FVec Ideal S9x256x256 .f32) (x2 : FVec Ideal S1x256 .f32)
  (x3 : FVec Ideal S256x9 .f32) (x4 : FVec Ideal S1x9 .f32) (x5 : FVec Ideal S4x256x9 .f32)
  (x6 : FVec Ideal S4x1x9 .f32) (x7 : FVec Ideal S4x2598x9 .f32) (r : Fin 2598) (a : Fin 9)

/-- One tap: a row of the padded features, some rows on, times one of the nine matrices. -/
def tapB (s : Nat) (hs : s ≤ 106) (k : Fin 9) (o : Fin 256) : EReal :=
  ∑ ch : Fin 256, x0 (ix3 0 ⟨s + r.val, by omega⟩ ch) * x1 (ix3 k ch o)

/-- The nine taps. -/
def convB (o : Fin 256) : EReal :=
  tapB x0 x1 r 0 (by decide) 0 o + tapB x0 x1 r 1 (by decide) 1 o + tapB x0 x1 r 2 (by decide) 2 o
    + tapB x0 x1 r 52 (by decide) 3 o + tapB x0 x1 r 53 (by decide) 4 o + tapB x0 x1 r 54 (by decide) 5 o
    + tapB x0 x1 r 104 (by decide) 6 o + tapB x0 x1 r 105 (by decide) 7 o + tapB x0 x1 r 106 (by decide) 8 o

theorem conv_at (o : Fin 256) :
    k0_pay25 (F := Ideal) x0 x1 x2 x3 x4 x5 x6 x7 (ix2 r o) = convB x0 x1 r o := by
  unfold k0_pay25 k0_pay8 k0_pay6 k0_pay7
  pointwise
  have h0 : ∀ h, (⟨r.val, h⟩ : Fin 2704) = ⟨0 + r.val, by omega⟩ := fun h => Fin.ext (by simp)
  unfold convB tapB
  simp only [h0]

/-- The hidden layer. -/
def hidB (o : Fin 256) : EReal := max (convB x0 x1 r o + x2 (ix2 0 o)) 0

theorem hid_at (o : Fin 256) :
    k0_pay9 (F := Ideal) (k0_pay25 x0 x1 x2 x3 x4 x5 x6 x7) (View.ld (Val := Elt Ideal) (e' := .f32) x2 r0_18) (ix2 r o) = hidB x0 x1 x2 r o := by
  unfold k0_pay9
  pointwise
  rw [conv_at]; rfl

/-- The score. -/
def scoreB : EReal := Head.sigm (∑ o : Fin 256, hidB x0 x1 x2 r o * x3 (ix2 o a) + x4 (ix2 0 a))

theorem hid_at' (o : Fin 256) : k0_pay9 (F := Ideal) (k0_pay25 x0 x1 x2 x3 x4 x5 x6 x7) x2 (ix2 r o) = hidB x0 x1 x2 r o := by
  unfold k0_pay9
  pointwise
  rw [conv_at]; rfl

theorem score_at :
    k0_pay10 (F := Ideal) (k0_pay25 x0 x1 x2 x3 x4 x5 x6 x7) x2 x3 x4 (ix2 r a)
      = scoreB x0 x1 x2 x3 x4 r a := by
  unfold k0_pay10
  pointwise
  simp only [hid_at']
  unfold scoreB Head.sigm
  rw [sub_eq_add_neg, zero_add]

/-- The regression outputs. -/
def locB (q : Fin 4) : EReal := ∑ o : Fin 256, hidB x0 x1 x2 r o * x5 (ix3 q o a) + x6 (ix3 q 0 a)

theorem mx_at : k0_pay28 (F := Ideal) x0 x1 x2 x3 x4 x5 x6 x7 (ix2 r a)
    = Head.mid (locB x0 x1 x2 x5 x6 r a 0) (x7 (ix3 2 r a)) (x7 (ix3 0 r a)) := by
  unfold k0_pay28 k0_pay15 k0_pay11 k0_pay13
  pointwise
  simp only [hid_at]
  rfl

theorem my_at : k0_pay29 (F := Ideal) x0 x1 x2 x3 x4 x5 x6 x7 (ix2 r a)
    = Head.mid (locB x0 x1 x2 x5 x6 r a 1) (x7 (ix3 3 r a)) (x7 (ix3 1 r a)) := by
  unfold k0_pay29 k0_pay16 k0_pay12 k0_pay14
  pointwise
  simp only [hid_at]
  rfl

theorem ex_at : k0_pay30 (F := Ideal) x0 x1 x2 x3 x4 x5 x6 x7 (ix2 r a)
    = Head.ext (locB x0 x1 x2 x5 x6 r a 2) (x7 (ix3 2 r a)) := by
  unfold k0_pay30 k0_pay26 k0_pay17 k0_pay13
  pointwise
  simp only [hid_at]
  rfl

theorem ey_at : k0_pay31 (F := Ideal) x0 x1 x2 x3 x4 x5 x6 x7 (ix2 r a) * k0_pay27 (F := Ideal) x0 x1 x2 x3 x4 x5 x6 x7 (ix2 r a)
    = Head.ext (locB x0 x1 x2 x5 x6 r a 3) (x7 (ix3 3 r a)) := by
  unfold k0_pay31 k0_pay26 k0_pay18 k0_pay27 k0_pay14
  pointwise
  simp only [hid_at]
  rfl

def mxB : EReal := Head.mid (locB x0 x1 x2 x5 x6 r a 0) (x7 (ix3 2 r a)) (x7 (ix3 0 r a))
def myB : EReal := Head.mid (locB x0 x1 x2 x5 x6 r a 1) (x7 (ix3 3 r a)) (x7 (ix3 1 r a))
def exB : EReal := Head.ext (locB x0 x1 x2 x5 x6 r a 2) (x7 (ix3 2 r a))
def eyB : EReal := Head.ext (locB x0 x1 x2 x5 x6 r a 3) (x7 (ix3 3 r a))

/-- The second output: the box's low side across. -/
theorem out9_at : out0_9 (F := Ideal) x0 x1 x2 x3 x4 x5 x6 x7 (ix3 0 r a)
    = Head.low (mxB x0 x1 x2 x5 x6 x7 r a) (exB x0 x1 x2 x5 x6 x7 r a) := by
  unfold out0_9
  frame_out
  unfold k0_pay2 k0_pay20
  pointwise
  rw [mx_at, ex_at]; rfl

/-- The third output: the box's low side down. -/
theorem out10_at : out0_10 (F := Ideal) x0 x1 x2 x3 x4 x5 x6 x7 (ix3 0 r a)
    = Head.low (myB x0 x1 x2 x5 x6 x7 r a) (eyB x0 x1 x2 x5 x6 x7 r a) := by
  unfold out0_10
  frame_out
  unfold k0_pay3 k0_pay21 k0_pay19
  pointwise
  rw [my_at, ey_at]; rfl

/-- The fourth output: the box's high side across. -/
theorem out11_at : out0_11 (F := Ideal) x0 x1 x2 x3 x4 x5 x6 x7 (ix3 0 r a)
    = Head.high (mxB x0 x1 x2 x5 x6 x7 r a) (exB x0 x1 x2 x5 x6 x7 r a) := by
  unfold out0_11
  frame_out
  unfold k0_pay4 k0_pay22
  pointwise
  rw [mx_at, ex_at]; rfl

/-- The fifth output: the box's high side down. -/
theorem out12_at : out0_12 (F := Ideal) x0 x1 x2 x3 x4 x5 x6 x7 (ix3 0 r a)
    = Head.high (myB x0 x1 x2 x5 x6 x7 r a) (eyB x0 x1 x2 x5 x6 x7 r a) := by
  unfold out0_12
  frame_out
  unfold k0_pay5 k0_pay23 k0_pay19
  pointwise
  rw [my_at, ey_at]; rfl

/-- The first output: the masked score. -/
theorem out8_at : out0_8 (F := Ideal) x0 x1 x2 x3 x4 x5 x6 x7 (ix3 0 r a)
    = Head.masked (scoreB x0 x1 x2 x3 x4 r a)
      (Head.low (mxB x0 x1 x2 x5 x6 x7 r a) (exB x0 x1 x2 x5 x6 x7 r a))
      (Head.low (myB x0 x1 x2 x5 x6 x7 r a) (eyB x0 x1 x2 x5 x6 x7 r a))
      (Head.high (mxB x0 x1 x2 x5 x6 x7 r a) (exB x0 x1 x2 x5 x6 x7 r a))
      (Head.high (myB x0 x1 x2 x5 x6 x7 r a) (eyB x0 x1 x2 x5 x6 x7 r a)) := by
  unfold out0_8
  frame_out
  unfold k0_pay1 k0_pay24 k0_pay20 k0_pay21 k0_pay22 k0_pay23 k0_pay19
  pointwise
  simp only [mx_at, my_at, ex_at, ey_at, score_at]
  unfold Head.masked Head.low Head.high mxB myB exB eyB
  congr!

end Cert.KernelIdeal.HeadVal
-- ==== Proof.KLoop.lean ====
module

public import proofs.«01_k».proof.Proof.KVal
public import proofs.«01_k».proof.Proof.Greedy
public import Idealize.ShloMosaic.Lib.Pointwise
public import Idealize.ShloMosaic.Lib.Pipeline.ValueKit
public import Idealize.ShloMosaic.Lib.Pipeline.ReadBack

/-! The suppression call's loops: each of the eight loops runs the greedy suppression inside one
block of 128 elements, against the matrix of suppressions held in the scratch. -/

@[expose] public section
set_option maxRecDepth 16384
noncomputable section
namespace Cert.KernelIdeal.Val
open Cert.KernelIdeal Cert.KernelIdeal.Gen Cert.KernelIdeal.Whole
open Idealize.ShloMosaic Idealize.ShloMosaic.TcCoe Idealize.ShloMosaic.StableHlo
open Idealize.SL.Sem Cert.HostLine Cert.Greedy

/-- The scratch's contents after the matrix `M` has been stored over all of it. -/
abbrev stored (M : Vec Ideal S1024x1024 .f32) : BufTy.Contents (Elt Ideal) (View.whole cc1_scratch0).ty :=
  (View.whole cc1_scratch0).writes (Elt Ideal) (View.whole cc1_scratch0).junk
    [⟨Rect.unit ![0, 0] ![1024, 1024] inb_S1024x1024_S1024x1024_0_0, M⟩]

/-- A lane's number equals the loop's counter exactly at the counter's own lane. -/
theorem lane_eq (k x : Fin 128) :
    IntOp.cmpi .eq (BitVec.ofNat 32 x.val) (Scf.iv 0#32 1#32 k.val) = if x = k then 1#1 else 0#1 := by
  revert k x; decide +kernel

/-- A sum against the counter's one-hot row picks the counter's lane. -/
theorem sum_onehot (f : Fin 128 → EReal) (k : Fin 128) :
    ∑ x, Scalar.select (IntOp.cmpi .eq (BitVec.ofNat 32 x.val) (Scf.iv 0#32 1#32 k.val)) (f x) (0 : EReal) = f k := by
  rw [Finset.sum_eq_single k]
  · rw [lane_eq, if_pos rfl]; rfl
  · intro x _ hx
    rw [lane_eq, if_neg hx]; rfl
  · simp

/-- Loop 1's load starts at the counter's row of block 0. -/
theorem off1_at : ∀ k : Fin k1_t1_loop.trips, k1_off1 k = ![0 + k.val, 0] := by decide +kernel

/-- One trip of loop 1 at a lane. -/
theorem pay1_at (k : Fin 128) (acc : FVec Ideal S1x128 .f32) (row : Vec Ideal S1x1024 .f32) (l : Fin 128) :
    k1_pay10 (F := Ideal) k acc row (ix2 0 l) = (acc (ix2 0 l) * (1 - acc (ix2 0 k) * row (ix2 0 ⟨0 + l.val, by omega⟩)) : EReal) := by
  pointwise [k1_pay10]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v47 v48 : IVec S1024x1024 1)

/-- What a trip of loop 1 computes from the stored matrix. -/
theorem trip1_eq (M : Vec Ideal S1024x1024 .f32) (k : Fin k1_t1_loop.trips) (acc : FVec Ideal S1x128 .f32) :
    tripR_k1_t1 (F := Ideal) Variants.none c none i a1 h1 a2 h2 a3 h3 a4 h4 a5 h5 a6 h6 scM1_0 (Memref.isWhole_whole _) v47 v48 (stored M) k acc
      = k1_pay10 k acc (View.ld M (Rect.unit (k1_off1 k) ![1, 1024] (k1_off1_inb k))) := by
  unfold tripR_k1_t1 trip_k1_t1
  frame_open
  simp (disch := decide) only [↓ View.readCov_skip, ↓ View.readCov_cons_toLoadRect, ↓ View.readCov_fill]
  frame_out

/-- Loop 1 runs the greedy suppression through block 0: before trip `k` lane `l` is the indicator of
    element `0 + l` being kept after `0 + k` steps. -/
theorem loop1_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 0 (0 + l.val))) (k : ℕ) (hk : k ≤ 128) (l : Fin 128) :
    st_k1_t1 (F := Ideal) Variants.none c none i a1 h1 a2 h2 a3 h3 a4 h4 a5 h5 a6 h6 scM1_0 (Memref.isWhole_whole _) v47 v48 (stored M) init k (ix2 0 l)
      = E (Keep S (0 + k) (0 + l.val)) := by
  induction k generalizing l with
  | zero => exact hi l
  | succ k ih =>
    have hk' : k < k1_t1_loop.trips := by
      have : k1_t1_loop.trips = 128 := by decide +kernel
      omega
    have hs := st_k1_t1_succ (F := Ideal) Variants.none c none i a1 h1 a2 h2 a3 h3 a4 h4 a5 h5 a6 h6 scM1_0 (Memref.isWhole_whole _) v47 v48 (stored M) init ⟨k, hk'⟩
    have hp := pay1_at ⟨k, by omega⟩ (st_k1_t1 (F := Ideal) Variants.none c none i a1 h1 a2 h2 a3 h3 a4 h4 a5 h5 a6 h6 scM1_0 (Memref.isWhole_whole _) v47 v48 (stored M) init k) (View.ld M (Rect.unit (k1_off1 ⟨k, hk'⟩) ![1, 1024] (k1_off1_inb ⟨k, hk'⟩))) l
    have hr : View.ld M (Rect.unit (k1_off1 ⟨k, hk'⟩) ![1, 1024] (k1_off1_inb ⟨k, hk'⟩)) (ix2 0 ⟨0 + l.val, by omega⟩)
        = E (S (0 + k) (0 + l.val)) := by
      rw [← hM ⟨0 + k, by omega⟩ ⟨0 + l.val, by omega⟩]
      have ho := off1_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip1_eq] at hs
    rw [hs]
    refine hp.trans ?_
    rw [ih (by omega) l, ih (by omega) ⟨k, by omega⟩, hr, E_step]
    rfl
end

/-- Loop 2's load starts at the counter's row of block 1. -/
theorem off2_at : ∀ k : Fin k1_t2_loop.trips, k1_off2 k = ![128 + k.val, 0] := by decide +kernel

/-- One trip of loop 2 at a lane. -/
theorem pay2_at (k : Fin 128) (acc : FVec Ideal S1x128 .f32) (row : Vec Ideal S1x1024 .f32) (l : Fin 128) :
    k1_pay13 (F := Ideal) k acc row (ix2 0 l) = (acc (ix2 0 l) * (1 - acc (ix2 0 k) * row (ix2 0 ⟨128 + l.val, by omega⟩)) : EReal) := by
  pointwise [k1_pay13]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v47 v48 : IVec S1024x1024 1)

/-- What a trip of loop 2 computes from the stored matrix. -/
theorem trip2_eq (M : Vec Ideal S1024x1024 .f32) (k : Fin k1_t2_loop.trips) (acc : FVec Ideal S1x128 .f32) :
    tripR_k1_t2 (F := Ideal) Variants.none c none i a1 h1 a2 h2 a3 h3 a4 h4 a5 h5 a6 h6 scM1_0 (Memref.isWhole_whole _) v47 v48 (stored M) k acc
      = k1_pay13 k acc (View.ld M (Rect.unit (k1_off2 k) ![1, 1024] (k1_off2_inb k))) := by
  unfold tripR_k1_t2 trip_k1_t2
  frame_open
  simp (disch := decide) only [↓ View.readCov_skip, ↓ View.readCov_cons_toLoadRect, ↓ View.readCov_fill]
  frame_out

/-- Loop 2 runs the greedy suppression through block 1: before trip `k` lane `l` is the indicator of
    element `128 + l` being kept after `128 + k` steps. -/
theorem loop2_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 128 (128 + l.val))) (k : ℕ) (hk : k ≤ 128) (l : Fin 128) :
    st_k1_t2 (F := Ideal) Variants.none c none i a1 h1 a2 h2 a3 h3 a4 h4 a5 h5 a6 h6 scM1_0 (Memref.isWhole_whole _) v47 v48 (stored M) init k (ix2 0 l)
      = E (Keep S (128 + k) (128 + l.val)) := by
  induction k generalizing l with
  | zero => exact hi l
  | succ k ih =>
    have hk' : k < k1_t2_loop.trips := by
      have : k1_t2_loop.trips = 128 := by decide +kernel
      omega
    have hs := st_k1_t2_succ (F := Ideal) Variants.none c none i a1 h1 a2 h2 a3 h3 a4 h4 a5 h5 a6 h6 scM1_0 (Memref.isWhole_whole _) v47 v48 (stored M) init ⟨k, hk'⟩
    have hp := pay2_at ⟨k, by omega⟩ (st_k1_t2 (F := Ideal) Variants.none c none i a1 h1 a2 h2 a3 h3 a4 h4 a5 h5 a6 h6 scM1_0 (Memref.isWhole_whole _) v47 v48 (stored M) init k) (View.ld M (Rect.unit (k1_off2 ⟨k, hk'⟩) ![1, 1024] (k1_off2_inb ⟨k, hk'⟩))) l
    have hr : View.ld M (Rect.unit (k1_off2 ⟨k, hk'⟩) ![1, 1024] (k1_off2_inb ⟨k, hk'⟩)) (ix2 0 ⟨128 + l.val, by omega⟩)
        = E (S (128 + k) (128 + l.val)) := by
      rw [← hM ⟨128 + k, by omega⟩ ⟨128 + l.val, by omega⟩]
      have ho := off2_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip2_eq] at hs
    rw [hs]
    refine hp.trans ?_
    rw [ih (by omega) l, ih (by omega) ⟨k, by omega⟩, hr, E_step]
    rfl
end

/-- Loop 3's load starts at the counter's row of block 2. -/
theorem off3_at : ∀ k : Fin k1_t3_loop.trips, k1_off3 k = ![256 + k.val, 0] := by decide +kernel

/-- One trip of loop 3 at a lane. -/
theorem pay3_at (k : Fin 128) (acc : FVec Ideal S1x128 .f32) (row : Vec Ideal S1x1024 .f32) (l : Fin 128) :
    k1_pay16 (F := Ideal) k acc row (ix2 0 l) = (acc (ix2 0 l) * (1 - acc (ix2 0 k) * row (ix2 0 ⟨256 + l.val, by omega⟩)) : EReal) := by
  pointwise [k1_pay16]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v47 v48 : IVec S1024x1024 1)

/-- What a trip of loop 3 computes from the stored matrix. -/
theorem trip3_eq (M : Vec Ideal S1024x1024 .f32) (k : Fin k1_t3_loop.trips) (acc : FVec Ideal S1x128 .f32) :
    tripR_k1_t3 (F := Ideal) Variants.none c none i a1 h1 a2 h2 a3 h3 a4 h4 a5 h5 a6 h6 scM1_0 (Memref.isWhole_whole _) v47 v48 (stored M) k acc
      = k1_pay16 k acc (View.ld M (Rect.unit (k1_off3 k) ![1, 1024] (k1_off3_inb k))) := by
  unfold tripR_k1_t3 trip_k1_t3
  frame_open
  simp (disch := decide) only [↓ View.readCov_skip, ↓ View.readCov_cons_toLoadRect, ↓ View.readCov_fill]
  frame_out

/-- Loop 3 runs the greedy suppression through block 2: before trip `k` lane `l` is the indicator of
    element `256 + l` being kept after `256 + k` steps. -/
theorem loop3_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 256 (256 + l.val))) (k : ℕ) (hk : k ≤ 128) (l : Fin 128) :
    st_k1_t3 (F := Ideal) Variants.none c none i a1 h1 a2 h2 a3 h3 a4 h4 a5 h5 a6 h6 scM1_0 (Memref.isWhole_whole _) v47 v48 (stored M) init k (ix2 0 l)
      = E (Keep S (256 + k) (256 + l.val)) := by
  induction k generalizing l with
  | zero => exact hi l
  | succ k ih =>
    have hk' : k < k1_t3_loop.trips := by
      have : k1_t3_loop.trips = 128 := by decide +kernel
      omega
    have hs := st_k1_t3_succ (F := Ideal) Variants.none c none i a1 h1 a2 h2 a3 h3 a4 h4 a5 h5 a6 h6 scM1_0 (Memref.isWhole_whole _) v47 v48 (stored M) init ⟨k, hk'⟩
    have hp := pay3_at ⟨k, by omega⟩ (st_k1_t3 (F := Ideal) Variants.none c none i a1 h1 a2 h2 a3 h3 a4 h4 a5 h5 a6 h6 scM1_0 (Memref.isWhole_whole _) v47 v48 (stored M) init k) (View.ld M (Rect.unit (k1_off3 ⟨k, hk'⟩) ![1, 1024] (k1_off3_inb ⟨k, hk'⟩))) l
    have hr : View.ld M (Rect.unit (k1_off3 ⟨k, hk'⟩) ![1, 1024] (k1_off3_inb ⟨k, hk'⟩)) (ix2 0 ⟨256 + l.val, by omega⟩)
        = E (S (256 + k) (256 + l.val)) := by
      rw [← hM ⟨256 + k, by omega⟩ ⟨256 + l.val, by omega⟩]
      have ho := off3_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip3_eq] at hs
    rw [hs]
    refine hp.trans ?_
    rw [ih (by omega) l, ih (by omega) ⟨k, by omega⟩, hr, E_step]
    rfl
end

/-- Loop 4's load starts at the counter's row of block 3. -/
theorem off4_at : ∀ k : Fin k1_t4_loop.trips, k1_off4 k = ![384 + k.val, 0] := by decide +kernel

/-- One trip of loop 4 at a lane. -/
theorem pay4_at (k : Fin 128) (acc : FVec Ideal S1x128 .f32) (row : Vec Ideal S1x1024 .f32) (l : Fin 128) :
    k1_pay19 (F := Ideal) (iota .tc S1x128 32 [1] iota_S1x128_d1_w32) k acc row (ix2 0 l) = (acc (ix2 0 l) * (1 - acc (ix2 0 k) * row (ix2 0 ⟨384 + l.val, by omega⟩)) : EReal) := by
  pointwise [k1_pay19]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v75 : FVec Ideal S1x1024 .f32) (v78 : FVec Ideal S1x128 .f32)

/-- What a trip of loop 4 computes from the stored matrix. -/
theorem trip4_eq (M : Vec Ideal S1024x1024 .f32) (k : Fin k1_t4_loop.trips) (acc : FVec Ideal S1x128 .f32) :
    tripR_k1_t4 (F := Ideal) Variants.none c none i a1 h1 a2 h2 a3 h3 a4 h4 a5 h5 a6 h6 scM1_0 (Memref.isWhole_whole _) (iota .tc S1x128 32 [1] iota_S1x128_d1_w32) v75 v78 (stored M) k acc
      = k1_pay19 (iota .tc S1x128 32 [1] iota_S1x128_d1_w32) k acc (View.ld M (Rect.unit (k1_off4 k) ![1, 1024] (k1_off4_inb k))) := by
  unfold tripR_k1_t4 trip_k1_t4
  frame_open
  simp (disch := decide) only [↓ View.readCov_skip, ↓ View.readCov_cons_toLoadRect, ↓ View.readCov_fill]
  frame_out

/-- Loop 4 runs the greedy suppression through block 3: before trip `k` lane `l` is the indicator of
    element `384 + l` being kept after `384 + k` steps. -/
theorem loop4_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 384 (384 + l.val))) (k : ℕ) (hk : k ≤ 128) (l : Fin 128) :
    st_k1_t4 (F := Ideal) Variants.none c none i a1 h1 a2 h2 a3 h3 a4 h4 a5 h5 a6 h6 scM1_0 (Memref.isWhole_whole _) (iota .tc S1x128 32 [1] iota_S1x128_d1_w32) v75 v78 (stored M) init k (ix2 0 l)
      = E (Keep S (384 + k) (384 + l.val)) := by
  induction k generalizing l with
  | zero => exact hi l
  | succ k ih =>
    have hk' : k < k1_t4_loop.trips := by
      have : k1_t4_loop.trips = 128 := by decide +kernel
      omega
    have hs := st_k1_t4_succ (F := Ideal) Variants.none c none i a1 h1 a2 h2 a3 h3 a4 h4 a5 h5 a6 h6 scM1_0 (Memref.isWhole_whole _) (iota .tc S1x128 32 [1] iota_S1x128_d1_w32) v75 v78 (stored M) init ⟨k, hk'⟩
    have hp := pay4_at ⟨k, by omega⟩ (st_k1_t4 (F := Ideal) Variants.none c none i a1 h1 a2 h2 a3 h3 a4 h4 a5 h5 a6 h6 scM1_0 (Memref.isWhole_whole _) (iota .tc S1x128 32 [1] iota_S1x128_d1_w32) v75 v78 (stored M) init k) (View.ld M (Rect.unit (k1_off4 ⟨k, hk'⟩) ![1, 1024] (k1_off4_inb ⟨k, hk'⟩))) l
    have hr : View.ld M (Rect.unit (k1_off4 ⟨k, hk'⟩) ![1, 1024] (k1_off4_inb ⟨k, hk'⟩)) (ix2 0 ⟨384 + l.val, by omega⟩)
        = E (S (384 + k) (384 + l.val)) := by
      rw [← hM ⟨384 + k, by omega⟩ ⟨384 + l.val, by omega⟩]
      have ho := off4_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip4_eq] at hs
    rw [hs]
    refine hp.trans ?_
    rw [ih (by omega) l, ih (by omega) ⟨k, by omega⟩, hr, E_step]
    rfl
end

/-- Loop 5's load starts at the counter's row of block 4. -/
theorem off5_at : ∀ k : Fin k1_t5_loop.trips, k1_off5 k = ![512 + k.val, 0] := by decide +kernel

/-- One trip of loop 5 at a lane. -/
theorem pay5_at (k : Fin 128) (acc : FVec Ideal S1x128 .f32) (row : Vec Ideal S1x1024 .f32) (l : Fin 128) :
    k1_pay22 (F := Ideal) (iota .tc S1x128 32 [1] iota_S1x128_d1_w32) k acc row (ix2 0 l) = (acc (ix2 0 l) * (1 - acc (ix2 0 k) * row (ix2 0 ⟨512 + l.val, by omega⟩)) : EReal) := by
  pointwise [k1_pay22]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v75 : FVec Ideal S1x1024 .f32) (v78 : FVec Ideal S1x128 .f32)

/-- What a trip of loop 5 computes from the stored matrix. -/
theorem trip5_eq (M : Vec Ideal S1024x1024 .f32) (k : Fin k1_t5_loop.trips) (acc : FVec Ideal S1x128 .f32) :
    tripR_k1_t5 (F := Ideal) Variants.none c none i a1 h1 a2 h2 a3 h3 a4 h4 a5 h5 a6 h6 scM1_0 (Memref.isWhole_whole _) (iota .tc S1x128 32 [1] iota_S1x128_d1_w32) v75 v78 (stored M) k acc
      = k1_pay22 (iota .tc S1x128 32 [1] iota_S1x128_d1_w32) k acc (View.ld M (Rect.unit (k1_off5 k) ![1, 1024] (k1_off5_inb k))) := by
  unfold tripR_k1_t5 trip_k1_t5
  frame_open
  simp (disch := decide) only [↓ View.readCov_skip, ↓ View.readCov_cons_toLoadRect, ↓ View.readCov_fill]
  frame_out

/-- Loop 5 runs the greedy suppression through block 4: before trip `k` lane `l` is the indicator of
    element `512 + l` being kept after `512 + k` steps. -/
theorem loop5_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 512 (512 + l.val))) (k : ℕ) (hk : k ≤ 128) (l : Fin 128) :
    st_k1_t5 (F := Ideal) Variants.none c none i a1 h1 a2 h2 a3 h3 a4 h4 a5 h5 a6 h6 scM1_0 (Memref.isWhole_whole _) (iota .tc S1x128 32 [1] iota_S1x128_d1_w32) v75 v78 (stored M) init k (ix2 0 l)
      = E (Keep S (512 + k) (512 + l.val)) := by
  induction k generalizing l with
  | zero => exact hi l
  | succ k ih =>
    have hk' : k < k1_t5_loop.trips := by
      have : k1_t5_loop.trips = 128 := by decide +kernel
      omega
    have hs := st_k1_t5_succ (F := Ideal) Variants.none c none i a1 h1 a2 h2 a3 h3 a4 h4 a5 h5 a6 h6 scM1_0 (Memref.isWhole_whole _) (iota .tc S1x128 32 [1] iota_S1x128_d1_w32) v75 v78 (stored M) init ⟨k, hk'⟩
    have hp := pay5_at ⟨k, by omega⟩ (st_k1_t5 (F := Ideal) Variants.none c none i a1 h1 a2 h2 a3 h3 a4 h4 a5 h5 a6 h6 scM1_0 (Memref.isWhole_whole _) (iota .tc S1x128 32 [1] iota_S1x128_d1_w32) v75 v78 (stored M) init k) (View.ld M (Rect.unit (k1_off5 ⟨k, hk'⟩) ![1, 1024] (k1_off5_inb ⟨k, hk'⟩))) l
    have hr : View.ld M (Rect.unit (k1_off5 ⟨k, hk'⟩) ![1, 1024] (k1_off5_inb ⟨k, hk'⟩)) (ix2 0 ⟨512 + l.val, by omega⟩)
        = E (S (512 + k) (512 + l.val)) := by
      rw [← hM ⟨512 + k, by omega⟩ ⟨512 + l.val, by omega⟩]
      have ho := off5_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip5_eq] at hs
    rw [hs]
    refine hp.trans ?_
    rw [ih (by omega) l, ih (by omega) ⟨k, by omega⟩, hr, E_step]
    rfl
end

/-- Loop 6's load starts at the counter's row of block 5. -/
theorem off6_at : ∀ k : Fin k1_t6_loop.trips, k1_off6 k = ![640 + k.val, 0] := by decide +kernel

/-- One trip of loop 6 at a lane. -/
theorem pay6_at (k : Fin 128) (acc : FVec Ideal S1x128 .f32) (row : Vec Ideal S1x1024 .f32) (l : Fin 128) :
    k1_pay25 (F := Ideal) (iota .tc S1x128 32 [1] iota_S1x128_d1_w32) k acc row (ix2 0 l) = (acc (ix2 0 l) * (1 - acc (ix2 0 k) * row (ix2 0 ⟨640 + l.val, by omega⟩)) : EReal) := by
  pointwise [k1_pay25]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v75 : FVec Ideal S1x1024 .f32) (v78 : FVec Ideal S1x128 .f32)

/-- What a trip of loop 6 computes from the stored matrix. -/
theorem trip6_eq (M : Vec Ideal S1024x1024 .f32) (k : Fin k1_t6_loop.trips) (acc : FVec Ideal S1x128 .f32) :
    tripR_k1_t6 (F := Ideal) Variants.none c none i a1 h1 a2 h2 a3 h3 a4 h4 a5 h5 a6 h6 scM1_0 (Memref.isWhole_whole _) (iota .tc S1x128 32 [1] iota_S1x128_d1_w32) v75 v78 (stored M) k acc
      = k1_pay25 (iota .tc S1x128 32 [1] iota_S1x128_d1_w32) k acc (View.ld M (Rect.unit (k1_off6 k) ![1, 1024] (k1_off6_inb k))) := by
  unfold tripR_k1_t6 trip_k1_t6
  frame_open
  simp (disch := decide) only [↓ View.readCov_skip, ↓ View.readCov_cons_toLoadRect, ↓ View.readCov_fill]
  frame_out

/-- Loop 6 runs the greedy suppression through block 5: before trip `k` lane `l` is the indicator of
    element `640 + l` being kept after `640 + k` steps. -/
theorem loop6_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 640 (640 + l.val))) (k : ℕ) (hk : k ≤ 128) (l : Fin 128) :
    st_k1_t6 (F := Ideal) Variants.none c none i a1 h1 a2 h2 a3 h3 a4 h4 a5 h5 a6 h6 scM1_0 (Memref.isWhole_whole _) (iota .tc S1x128 32 [1] iota_S1x128_d1_w32) v75 v78 (stored M) init k (ix2 0 l)
      = E (Keep S (640 + k) (640 + l.val)) := by
  induction k generalizing l with
  | zero => exact hi l
  | succ k ih =>
    have hk' : k < k1_t6_loop.trips := by
      have : k1_t6_loop.trips = 128 := by decide +kernel
      omega
    have hs := st_k1_t6_succ (F := Ideal) Variants.none c none i a1 h1 a2 h2 a3 h3 a4 h4 a5 h5 a6 h6 scM1_0 (Memref.isWhole_whole _) (iota .tc S1x128 32 [1] iota_S1x128_d1_w32) v75 v78 (stored M) init ⟨k, hk'⟩
    have hp := pay6_at ⟨k, by omega⟩ (st_k1_t6 (F := Ideal) Variants.none c none i a1 h1 a2 h2 a3 h3 a4 h4 a5 h5 a6 h6 scM1_0 (Memref.isWhole_whole _) (iota .tc S1x128 32 [1] iota_S1x128_d1_w32) v75 v78 (stored M) init k) (View.ld M (Rect.unit (k1_off6 ⟨k, hk'⟩) ![1, 1024] (k1_off6_inb ⟨k, hk'⟩))) l
    have hr : View.ld M (Rect.unit (k1_off6 ⟨k, hk'⟩) ![1, 1024] (k1_off6_inb ⟨k, hk'⟩)) (ix2 0 ⟨640 + l.val, by omega⟩)
        = E (S (640 + k) (640 + l.val)) := by
      rw [← hM ⟨640 + k, by omega⟩ ⟨640 + l.val, by omega⟩]
      have ho := off6_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip6_eq] at hs
    rw [hs]
    refine hp.trans ?_
    rw [ih (by omega) l, ih (by omega) ⟨k, by omega⟩, hr, E_step]
    rfl
end

/-- Loop 7's load starts at the counter's row of block 6. -/
theorem off7_at : ∀ k : Fin k1_t7_loop.trips, k1_off7 k = ![768 + k.val, 0] := by decide +kernel

/-- One trip of loop 7 at a lane. -/
theorem pay7_at (k : Fin 128) (acc : FVec Ideal S1x128 .f32) (row : Vec Ideal S1x1024 .f32) (l : Fin 128) :
    k1_pay29 (F := Ideal) (iota .tc S1x128 32 [1] iota_S1x128_d1_w32) k acc row (ix2 0 l) = (acc (ix2 0 l) * (1 - acc (ix2 0 k) * row (ix2 0 ⟨768 + l.val, by omega⟩)) : EReal) := by
  pointwise [k1_pay29]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v44 v45 : IVec S1024x1024 32) (v102 : FVec Ideal S1x1024 .f32) (v109 : IVec S1x1024 1)

/-- What a trip of loop 7 computes from the stored matrix. -/
theorem trip7_eq (M : Vec Ideal S1024x1024 .f32) (k : Fin k1_t7_loop.trips) (acc : FVec Ideal S1x128 .f32) :
    tripR_k1_t7 (F := Ideal) Variants.none c none i a1 h1 a2 h2 a3 h3 a4 h4 a5 h5 a6 h6 scM1_0 (Memref.isWhole_whole _) v44 v45 (iota .tc S1x128 32 [1] iota_S1x128_d1_w32) v102 v109 (stored M) k acc
      = k1_pay29 (iota .tc S1x128 32 [1] iota_S1x128_d1_w32) k acc (View.ld M (Rect.unit (k1_off7 k) ![1, 1024] (k1_off7_inb k))) := by
  unfold tripR_k1_t7 trip_k1_t7
  frame_open
  simp (disch := decide) only [↓ View.readCov_skip, ↓ View.readCov_cons_toLoadRect, ↓ View.readCov_fill]
  frame_out

/-- Loop 7 runs the greedy suppression through block 6: before trip `k` lane `l` is the indicator of
    element `768 + l` being kept after `768 + k` steps. -/
theorem loop7_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 768 (768 + l.val))) (k : ℕ) (hk : k ≤ 128) (l : Fin 128) :
    st_k1_t7 (F := Ideal) Variants.none c none i a1 h1 a2 h2 a3 h3 a4 h4 a5 h5 a6 h6 scM1_0 (Memref.isWhole_whole _) v44 v45 (iota .tc S1x128 32 [1] iota_S1x128_d1_w32) v102 v109 (stored M) init k (ix2 0 l)
      = E (Keep S (768 + k) (768 + l.val)) := by
  induction k generalizing l with
  | zero => exact hi l
  | succ k ih =>
    have hk' : k < k1_t7_loop.trips := by
      have : k1_t7_loop.trips = 128 := by decide +kernel
      omega
    have hs := st_k1_t7_succ (F := Ideal) Variants.none c none i a1 h1 a2 h2 a3 h3 a4 h4 a5 h5 a6 h6 scM1_0 (Memref.isWhole_whole _) v44 v45 (iota .tc S1x128 32 [1] iota_S1x128_d1_w32) v102 v109 (stored M) init ⟨k, hk'⟩
    have hp := pay7_at ⟨k, by omega⟩ (st_k1_t7 (F := Ideal) Variants.none c none i a1 h1 a2 h2 a3 h3 a4 h4 a5 h5 a6 h6 scM1_0 (Memref.isWhole_whole _) v44 v45 (iota .tc S1x128 32 [1] iota_S1x128_d1_w32) v102 v109 (stored M) init k) (View.ld M (Rect.unit (k1_off7 ⟨k, hk'⟩) ![1, 1024] (k1_off7_inb ⟨k, hk'⟩))) l
    have hr : View.ld M (Rect.unit (k1_off7 ⟨k, hk'⟩) ![1, 1024] (k1_off7_inb ⟨k, hk'⟩)) (ix2 0 ⟨768 + l.val, by omega⟩)
        = E (S (768 + k) (768 + l.val)) := by
      rw [← hM ⟨768 + k, by omega⟩ ⟨768 + l.val, by omega⟩]
      have ho := off7_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip7_eq] at hs
    rw [hs]
    refine hp.trans ?_
    rw [ih (by omega) l, ih (by omega) ⟨k, by omega⟩, hr, E_step]
    rfl
end

/-- Loop 8's load starts at the counter's row of block 7. -/
theorem off8_at : ∀ k : Fin k1_t8_loop.trips, k1_off8 k = ![896 + k.val, 0] := by decide +kernel

/-- One trip of loop 8 at a lane. -/
theorem pay8_at (k : Fin 128) (acc : FVec Ideal S1x128 .f32) (row : Vec Ideal S1x1024 .f32) (l : Fin 128) :
    k1_pay32 (F := Ideal) (iota .tc S1x128 32 [1] iota_S1x128_d1_w32) k acc row (ix2 0 l) = (acc (ix2 0 l) * (1 - acc (ix2 0 k) * row (ix2 0 ⟨896 + l.val, by omega⟩)) : EReal) := by
  pointwise [k1_pay32]
  rw [Fin.sum_univ_one, sum_onehot (fun x => acc (ix2 0 x)) k]

section
variable (c : Dev nD) (i : grid1.Coords) (a1 : Memref sig .tc .vmem S1x1024x4 .f32) (h1 : a1.IsWhole) (a2 : Memref sig .tc .vmem S1x4x1024 .f32) (h2 : a2.IsWhole) (a3 : Memref sig .tc .vmem S1x1024x1 .f32) (h3 : a3.IsWhole) (a4 : Memref sig .tc .vmem S1x1x1024 .f32) (h4 : a4.IsWhole) (a5 : Memref sig .tc .vmem S1x304x4 .f32) (h5 : a5.IsWhole) (a6 : Memref sig .tc .vmem S1x304x1 .f32) (h6 : a6.IsWhole) (v44 v45 : IVec S1024x1024 32) (v102 : FVec Ideal S1x1024 .f32) (v109 : IVec S1x1024 1)

/-- What a trip of loop 8 computes from the stored matrix. -/
theorem trip8_eq (M : Vec Ideal S1024x1024 .f32) (k : Fin k1_t8_loop.trips) (acc : FVec Ideal S1x128 .f32) :
    tripR_k1_t8 (F := Ideal) Variants.none c none i a1 h1 a2 h2 a3 h3 a4 h4 a5 h5 a6 h6 scM1_0 (Memref.isWhole_whole _) v44 v45 (iota .tc S1x128 32 [1] iota_S1x128_d1_w32) v102 v109 (stored M) k acc
      = k1_pay32 (iota .tc S1x128 32 [1] iota_S1x128_d1_w32) k acc (View.ld M (Rect.unit (k1_off8 k) ![1, 1024] (k1_off8_inb k))) := by
  unfold tripR_k1_t8 trip_k1_t8
  frame_open
  simp (disch := decide) only [↓ View.readCov_skip, ↓ View.readCov_cons_toLoadRect, ↓ View.readCov_fill]
  frame_out

/-- Loop 8 runs the greedy suppression through block 7: before trip `k` lane `l` is the indicator of
    element `896 + l` being kept after `896 + k` steps. -/
theorem loop8_at (M : Vec Ideal S1024x1024 .f32) (S : ℕ → ℕ → Prop)
    (hM : ∀ x y : Fin 1024, M (ix2 x y) = E (S x.val y.val)) (init : FVec Ideal S1x128 .f32)
    (hi : ∀ l : Fin 128, init (ix2 0 l) = E (Keep S 896 (896 + l.val))) (k : ℕ) (hk : k ≤ 128) (l : Fin 128) :
    st_k1_t8 (F := Ideal) Variants.none c none i a1 h1 a2 h2 a3 h3 a4 h4 a5 h5 a6 h6 scM1_0 (Memref.isWhole_whole _) v44 v45 (iota .tc S1x128 32 [1] iota_S1x128_d1_w32) v102 v109 (stored M) init k (ix2 0 l)
      = E (Keep S (896 + k) (896 + l.val)) := by
  induction k generalizing l with
  | zero => exact hi l
  | succ k ih =>
    have hk' : k < k1_t8_loop.trips := by
      have : k1_t8_loop.trips = 128 := by decide +kernel
      omega
    have hs := st_k1_t8_succ (F := Ideal) Variants.none c none i a1 h1 a2 h2 a3 h3 a4 h4 a5 h5 a6 h6 scM1_0 (Memref.isWhole_whole _) v44 v45 (iota .tc S1x128 32 [1] iota_S1x128_d1_w32) v102 v109 (stored M) init ⟨k, hk'⟩
    have hp := pay8_at ⟨k, by omega⟩ (st_k1_t8 (F := Ideal) Variants.none c none i a1 h1 a2 h2 a3 h3 a4 h4 a5 h5 a6 h6 scM1_0 (Memref.isWhole_whole _) v44 v45 (iota .tc S1x128 32 [1] iota_S1x128_d1_w32) v102 v109 (stored M) init k) (View.ld M (Rect.unit (k1_off8 ⟨k, hk'⟩) ![1, 1024] (k1_off8_inb ⟨k, hk'⟩))) l
    have hr : View.ld M (Rect.unit (k1_off8 ⟨k, hk'⟩) ![1, 1024] (k1_off8_inb ⟨k, hk'⟩)) (ix2 0 ⟨896 + l.val, by omega⟩)
        = E (S (896 + k) (896 + l.val)) := by
      rw [← hM ⟨896 + k, by omega⟩ ⟨896 + l.val, by omega⟩]
      have ho := off8_at ⟨k, hk'⟩
      refine View.ld_unit_apply_of M _ _ _ _ _ fun a => ?_
      refine Eq.trans ?_ (congrArg (fun z : ℕ => z + _) (congrFun ho a)).symm
      match a with
      | ⟨0, _⟩ => rfl
      | ⟨1, _⟩ => exact (Nat.zero_add _).symm
    rw [trip8_eq] at hs
    rw [hs]
    refine hp.trans ?_
    rw [ih (by omega) l, ih (by omega) ⟨k, by omega⟩, hr, E_step]
    rfl
end

end Cert.KernelIdeal.Val
-- ==== Proof.KNms.lean ====
module

public import proofs.«01_k».proof.Proof.KLoop

/-! The suppression call at one grid point, read at an index: the eight blocks in sequence leave the
greedy suppression's indicators, and the two outputs are its counted selections of the boxes and of
the scores. -/

@[expose] public section
set_option maxRecDepth 16384
noncomputable section
namespace Cert.KernelIdeal.Val
open Cert.KernelIdeal Cert.KernelIdeal.Gen Cert.KernelIdeal.Whole
open Idealize.ShloMosaic Idealize.ShloMosaic.TcCoe Idealize.ShloMosaic.StableHlo
open Idealize.SL.Sem Cert.HostLine Cert.Greedy

variable (V : (c : Dev nD) → (b : Ref sig .tc) → Buf (Elt Ideal) ((c : Thread nD τ).loc b)) (c : Dev nD) (t : Fin cfg1.N)

/-- The matrix of suppressions that the point stores in its scratch. -/
def mat : FVec Ideal S1024x1024 .f32 := k1_pay7 (k1_pay5 (iblk1 V c 0 t) (iblk1 V c 1 t)) k1_pay6
/-- Rows 0 to 127 of the matrix. -/
def row0 : FVec Ideal S128x1024 .f32 := View.ld (Val := Elt Ideal) (e' := .f32) (mat V c t) (Rect.unit ![0, 0] ![128, 1024] inb_S1024x1024_S128x1024_0_0)
/-- Rows 128 to 255 of the matrix. -/
def row1 : FVec Ideal S128x1024 .f32 := View.ld (Val := Elt Ideal) (e' := .f32) (mat V c t) (Rect.unit ![128, 0] ![128, 1024] inb_S1024x1024_S128x1024_128_0)
/-- Rows 256 to 383 of the matrix. -/
def row2 : FVec Ideal S128x1024 .f32 := View.ld (Val := Elt Ideal) (e' := .f32) (mat V c t) (Rect.unit ![256, 0] ![128, 1024] inb_S1024x1024_S128x1024_256_0)
/-- Rows 384 to 511 of the matrix. -/
def row3 : FVec Ideal S128x1024 .f32 := View.ld (Val := Elt Ideal) (e' := .f32) (mat V c t) (Rect.unit ![384, 0] ![128, 1024] inb_S1024x1024_S128x1024_384_0)
/-- Rows 512 to 639 of the matrix. -/
def row4 : FVec Ideal S128x1024 .f32 := View.ld (Val := Elt Ideal) (e' := .f32) (mat V c t) (Rect.unit ![512, 0] ![128, 1024] inb_S1024x1024_S128x1024_512_0)
/-- Rows 640 to 767 of the matrix. -/
def row5 : FVec Ideal S128x1024 .f32 := View.ld (Val := Elt Ideal) (e' := .f32) (mat V c t) (Rect.unit ![640, 0] ![128, 1024] inb_S1024x1024_S128x1024_640_0)
/-- Rows 768 to 895 of the matrix. -/
def row6 : FVec Ideal S128x1024 .f32 := View.ld (Val := Elt Ideal) (e' := .f32) (mat V c t) (Rect.unit ![768, 0] ![128, 1024] inb_S1024x1024_S128x1024_768_0)
/-- Rows 896 to 1023 of the matrix. -/
def row7 : FVec Ideal S128x1024 .f32 := View.ld (Val := Elt Ideal) (e' := .f32) (mat V c t) (Rect.unit ![896, 0] ![128, 1024] inb_S1024x1024_S128x1024_896_0)
/-- Block 0 at its end. -/
def T1 : FVec Ideal S1x128 .f32 :=
  st_k1_t1 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (k1_pay5 (iblk1 V c 0 t) (iblk1 V c 1 t)) k1_pay6 (stored (mat V c t)) k1_pay9 (Scf.trips 0#32 (Scalar.addi 0#32 128#32) 1#32)
/-- Block 1 at its end. -/
def T2 : FVec Ideal S1x128 .f32 :=
  st_k1_t2 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (k1_pay5 (iblk1 V c 0 t) (iblk1 V c 1 t)) k1_pay6 (stored (mat V c t)) (k1_pay12 (T1 V c t) (row0 V c t)) (Scf.trips 0#32 (Scalar.addi 0#32 128#32) 1#32)
/-- Block 2 at its end. -/
def T3 : FVec Ideal S1x128 .f32 :=
  st_k1_t3 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (k1_pay5 (iblk1 V c 0 t) (iblk1 V c 1 t)) k1_pay6 (stored (mat V c t)) (k1_pay15 (T1 V c t) (row0 V c t) (T2 V c t) (row1 V c t)) (Scf.trips 0#32 (Scalar.addi 0#32 128#32) 1#32)
/-- All the elements after two blocks. -/
def K2 : FVec Ideal S1x1024 .f32 :=
  k1_pay14 (T1 V c t) (row0 V c t) (T2 V c t) (row1 V c t)
/-- Block 3 at its end. -/
def T4 : FVec Ideal S1x128 .f32 :=
  st_k1_t4 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iota .tc S1x128 32 [1] iota_S1x128_d1_w32) (K2 V c t) (T3 V c t) (stored (mat V c t)) (k1_pay18 (K2 V c t) (T3 V c t) (row2 V c t)) (Scf.trips 0#32 (Scalar.addi 0#32 128#32) 1#32)
/-- Block 4 at its end. -/
def T5 : FVec Ideal S1x128 .f32 :=
  st_k1_t5 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iota .tc S1x128 32 [1] iota_S1x128_d1_w32) (K2 V c t) (T3 V c t) (stored (mat V c t)) (k1_pay21 (K2 V c t) (T3 V c t) (row2 V c t) (T4 V c t) (row3 V c t)) (Scf.trips 0#32 (Scalar.addi 0#32 128#32) 1#32)
/-- Block 5 at its end. -/
def T6 : FVec Ideal S1x128 .f32 :=
  st_k1_t6 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iota .tc S1x128 32 [1] iota_S1x128_d1_w32) (K2 V c t) (T3 V c t) (stored (mat V c t)) (k1_pay24 (K2 V c t) (T3 V c t) (row2 V c t) (T4 V c t) (row3 V c t) (T5 V c t) (row4 V c t)) (Scf.trips 0#32 (Scalar.addi 0#32 128#32) 1#32)
/-- All the elements after five blocks. -/
def K5 : FVec Ideal S1x1024 .f32 :=
  k1_pay23 (K2 V c t) (T3 V c t) (row2 V c t) (T4 V c t) (row3 V c t) (T5 V c t) (row4 V c t)
/-- Block 6 at its end. -/
def T7 : FVec Ideal S1x128 .f32 :=
  st_k1_t7 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iota .tc S1024x1024 32 [0] iota_S1024x1024_d0_w32) (iota .tc S1024x1024 32 [1] iota_S1024x1024_d1_w32) (iota .tc S1x128 32 [1] iota_S1x128_d1_w32) (K5 V c t) (k1_pay26 (T6 V c t) (row5 V c t)) (stored (mat V c t)) (k1_pay28 (K5 V c t) (k1_pay26 (T6 V c t) (row5 V c t))) (Scf.trips 0#32 (Scalar.addi 0#32 128#32) 1#32)
/-- Block 7 at its end. -/
def T8 : FVec Ideal S1x128 .f32 :=
  st_k1_t8 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iota .tc S1024x1024 32 [0] iota_S1024x1024_d0_w32) (iota .tc S1024x1024 32 [1] iota_S1024x1024_d1_w32) (iota .tc S1x128 32 [1] iota_S1x128_d1_w32) (K5 V c t) (k1_pay26 (T6 V c t) (row5 V c t)) (stored (mat V c t)) (k1_pay31 (K5 V c t) (k1_pay26 (T6 V c t) (row5 V c t)) (T7 V c t) (row6 V c t)) (Scf.trips 0#32 (Scalar.addi 0#32 128#32) 1#32)
/-- The elements kept at the end: the suppression and the score mask. -/
def keepAll : FVec Ideal S1x1024 .f32 :=
  k1_pay33 (K5 V c t) (k1_pay26 (T6 V c t) (row5 V c t)) (T7 V c t) (row6 V c t) (T8 V c t) (row7 V c t) (iblk1 V c 3 t)

/-- What the point leaves in its two output blocks. -/
theorem outs_eq : outsAt1 V c t = (k1_pay2 (k1_pay4 (iblk1 V c 0 t)) (keepAll V c t) (k1_pay34 (iota .tc S1024x1024 32 [0] iota_S1024x1024_d0_w32) (iota .tc S1024x1024 32 [1] iota_S1024x1024_d1_w32)) (constant S1x1024 .f32 0x00000000#32),
    k1_pay3 (keepAll V c t) (k1_pay34 (iota .tc S1024x1024 32 [0] iota_S1024x1024_d0_w32) (iota .tc S1024x1024 32 [1] iota_S1024x1024_d1_w32)) (constant S1x1024 .f32 0x00000000#32) (iblk1 V c 2 t)) := by
  unfold outsAt1
  refine Prod.ext ?_ ?_
  · dsimp only
    unfold out1_A_4
    frame_open
    simp (disch := decide) only [↓ View.readCov_skip, ↓ View.readCov_cons_toLoadRect, ↓ View.readCov_fill]
    frame_out
    rfl
  · dsimp only
    unfold out1_A_5
    frame_open
    simp (disch := decide) only [↓ View.readCov_skip, ↓ View.readCov_cons_toLoadRect, ↓ View.readCov_fill]
    frame_out
    rfl

/-- Block 0's rows at an index. -/
theorem row0_at (x : Fin 128) (l : Fin 1024) : row0 V c t (ix2 x l) = mat V c t (ix2 ⟨0 + x.val, by omega⟩ l) := by
  unfold row0
  refine View.ld_unit_apply_of _ _ _ _ _ _ fun a => ?_
  match a with
  | ⟨0, _⟩ => rfl
  | ⟨1, _⟩ => exact (Nat.zero_add _).symm

/-- Block 1's rows at an index. -/
theorem row1_at (x : Fin 128) (l : Fin 1024) : row1 V c t (ix2 x l) = mat V c t (ix2 ⟨128 + x.val, by omega⟩ l) := by
  unfold row1
  refine View.ld_unit_apply_of _ _ _ _ _ _ fun a => ?_
  match a with
  | ⟨0, _⟩ => rfl
  | ⟨1, _⟩ => exact (Nat.zero_add _).symm

/-- Block 2's rows at an index. -/
theorem row2_at (x : Fin 128) (l : Fin 1024) : row2 V c t (ix2 x l) = mat V c t (ix2 ⟨256 + x.val, by omega⟩ l) := by
  unfold row2
  refine View.ld_unit_apply_of _ _ _ _ _ _ fun a => ?_
  match a with
  | ⟨0, _⟩ => rfl
  | ⟨1, _⟩ => exact (Nat.zero_add _).symm

/-- Block 3's rows at an index. -/
theorem row3_at (x : Fin 128) (l : Fin 1024) : row3 V c t (ix2 x l) = mat V c t (ix2 ⟨384 + x.val, by omega⟩ l) := by
  unfold row3
  refine View.ld_unit_apply_of _ _ _ _ _ _ fun a => ?_
  match a with
  | ⟨0, _⟩ => rfl
  | ⟨1, _⟩ => exact (Nat.zero_add _).symm

/-- Block 4's rows at an index. -/
theorem row4_at (x : Fin 128) (l : Fin 1024) : row4 V c t (ix2 x l) = mat V c t (ix2 ⟨512 + x.val, by omega⟩ l) := by
  unfold row4
  refine View.ld_unit_apply_of _ _ _ _ _ _ fun a => ?_
  match a with
  | ⟨0, _⟩ => rfl
  | ⟨1, _⟩ => exact (Nat.zero_add _).symm

/-- Block 5's rows at an index. -/
theorem row5_at (x : Fin 128) (l : Fin 1024) : row5 V c t (ix2 x l) = mat V c t (ix2 ⟨640 + x.val, by omega⟩ l) := by
  unfold row5
  refine View.ld_unit_apply_of _ _ _ _ _ _ fun a => ?_
  match a with
  | ⟨0, _⟩ => rfl
  | ⟨1, _⟩ => exact (Nat.zero_add _).symm

/-- Block 6's rows at an index. -/
theorem row6_at (x : Fin 128) (l : Fin 1024) : row6 V c t (ix2 x l) = mat V c t (ix2 ⟨768 + x.val, by omega⟩ l) := by
  unfold row6
  refine View.ld_unit_apply_of _ _ _ _ _ _ fun a => ?_
  match a with
  | ⟨0, _⟩ => rfl
  | ⟨1, _⟩ => exact (Nat.zero_add _).symm

/-- Block 7's rows at an index. -/
theorem row7_at (x : Fin 128) (l : Fin 1024) : row7 V c t (ix2 x l) = mat V c t (ix2 ⟨896 + x.val, by omega⟩ l) := by
  unfold row7
  refine View.ld_unit_apply_of _ _ _ _ _ _ fun a => ?_
  match a with
  | ⟨0, _⟩ => rfl
  | ⟨1, _⟩ => exact (Nat.zero_add _).symm

/-- The number of trips of a block's loop. -/
theorem trips_128 : Scf.trips 0#32 (Scalar.addi 0#32 128#32) 1#32 = 128 := by decide +kernel

/-- The stored matrix is the indicator of suppression, when the second operand is the first transposed. -/
theorem mat_at (f : Fin 1024 → Fin 4 → EReal) (h0 : ∀ (i : Fin 1024) (q : Fin 4), iblk1 V c 0 t (ix3 0 i q) = f i q)
    (h1 : ∀ (i : Fin 1024) (q : Fin 4), iblk1 V c 1 t (ix3 0 q i) = f i q) (x y : Fin 1024) :
    mat V c t (ix2 x y) = E (Sup f x.val y.val) := by
  unfold mat
  pointwise [k1_pay7, k1_pay6, k1_pay5, k1_pay4]
  rw [h0 x 0, h0 x 1, h0 x 2, h0 x 3, h1 y 0, h1 y 1, h1 y 2, h1 y 3, WordCmp.cmpi_sgt_ofNat (by omega) (by omega)]
  rw [E_congr (sup_iff f x y)]
  by_cases hlt : x.val < y.val
  · by_cases ho : Over (f x) (f y)
    · rw [E_true ⟨hlt, ho⟩]
      unfold Over at ho
      rw [decide_eq_true ho, decide_eq_true hlt]
      rfl
    · rw [E_false fun h => ho h.2]
      unfold Over at ho
      rw [decide_eq_false ho, decide_eq_true hlt]
      rfl
  · rw [E_false fun h => hlt h.1, decide_eq_false hlt]
    have h2 : ∀ w : BitVec 1, Scalar.select (IntOp.andi w (BitVec.ofBool false)) (1 : EReal) 0 = 0 := by
      intro w
      have h3 : IntOp.andi w (BitVec.ofBool false) = 0#1 := by revert w; decide
      rw [h3]; rfl
    exact h2 _

section
variable (S : ℕ → ℕ → Prop) (hS : ∀ i j, S i j → i < j)
  (hM : ∀ x y : Fin 1024, mat V c t (ix2 x y) = E (S x.val y.val))
include hM

theorem row0_E (x : Fin 128) (l : Fin 1024) : row0 V c t (ix2 x l) = E (S (0 + x.val) l.val) := by
  rw [row0_at]; exact hM _ _

theorem row1_E (x : Fin 128) (l : Fin 1024) : row1 V c t (ix2 x l) = E (S (128 + x.val) l.val) := by
  rw [row1_at]; exact hM _ _

theorem row2_E (x : Fin 128) (l : Fin 1024) : row2 V c t (ix2 x l) = E (S (256 + x.val) l.val) := by
  rw [row2_at]; exact hM _ _

theorem row3_E (x : Fin 128) (l : Fin 1024) : row3 V c t (ix2 x l) = E (S (384 + x.val) l.val) := by
  rw [row3_at]; exact hM _ _

theorem row4_E (x : Fin 128) (l : Fin 1024) : row4 V c t (ix2 x l) = E (S (512 + x.val) l.val) := by
  rw [row4_at]; exact hM _ _

theorem row5_E (x : Fin 128) (l : Fin 1024) : row5 V c t (ix2 x l) = E (S (640 + x.val) l.val) := by
  rw [row5_at]; exact hM _ _

theorem row6_E (x : Fin 128) (l : Fin 1024) : row6 V c t (ix2 x l) = E (S (768 + x.val) l.val) := by
  rw [row6_at]; exact hM _ _

theorem row7_E (x : Fin 128) (l : Fin 1024) : row7 V c t (ix2 x l) = E (S (896 + x.val) l.val) := by
  rw [row7_at]; exact hM _ _

omit hM in
/-- At the start every element is kept. -/
theorem after0_at (l : Fin 1024) : k1_pay8 (F := Ideal) (ix2 0 l) = E (Keep S 0 l.val) := by
  refine Eq.trans ?_ (E_true (p := Keep S 0 l.val) trivial).symm
  pointwise [k1_pay8]

/-- Block 0 at its end holds the state after 128 steps. -/
theorem T1_at (l : Fin 128) : T1 V c t (ix2 0 l) = E (Keep S (0 + 128) (0 + l.val)) := by
  unfold T1
  rw [trips_128]
  exact loop1_at c (grid1.coords t) (ms1_0 t) (hs1_0 t) (ms1_1 t) (hs1_1 t) (ms1_2 t) (hs1_2 t) (ms1_3 t) (hs1_3 t) (ms1_4 t) (hs1_4 t) (ms1_5 t) (hs1_5 t) (k1_pay5 (iblk1 V c 0 t) (iblk1 V c 1 t)) k1_pay6 (mat V c t) S hM _ (fun l => by
    have h := after0_at S ⟨0 + l.val, by omega⟩
    refine Eq.trans ?_ h
    pointwise [k1_pay9]) 128 le_rfl l

include hS in
/-- The states after 1 block. -/
theorem after1_at (l : Fin 1024) : (k1_pay11 (T1 V c t) (row0 V c t)) (ix2 0 l) = E (Keep S 128 l.val) := by
  have h := block_end hS 0 l.val _ half_pos half_le (fun x => T1 V c t (ix2 0 x)) (fun x => row0 V c t (ix2 x l)) _
    (fun x => T1_at V c t S hM x) (fun x => row0_E V c t S hM x l) (after0_at S l)
  refine Eq.trans ?_ h
  pointwise [k1_pay11]

include hS in
/-- Block 1 at its end holds the state after 256 steps. -/
theorem T2_at (l : Fin 128) : T2 V c t (ix2 0 l) = E (Keep S (128 + 128) (128 + l.val)) := by
  unfold T2
  rw [trips_128]
  exact loop2_at c (grid1.coords t) (ms1_0 t) (hs1_0 t) (ms1_1 t) (hs1_1 t) (ms1_2 t) (hs1_2 t) (ms1_3 t) (hs1_3 t) (ms1_4 t) (hs1_4 t) (ms1_5 t) (hs1_5 t) (k1_pay5 (iblk1 V c 0 t) (iblk1 V c 1 t)) k1_pay6 (mat V c t) S hM _ (fun l => by
    have h := after1_at V c t S hS hM ⟨128 + l.val, by omega⟩
    refine Eq.trans ?_ h
    pointwise [k1_pay12]) 128 le_rfl l

include hS in
/-- The states after 2 blocks. -/
theorem after2_at (l : Fin 1024) : (k1_pay14 (T1 V c t) (row0 V c t) (T2 V c t) (row1 V c t)) (ix2 0 l) = E (Keep S 256 l.val) := by
  have h := block_end hS 128 l.val _ half_pos half_le (fun x => T2 V c t (ix2 0 x)) (fun x => row1 V c t (ix2 x l)) _
    (fun x => T2_at V c t S hS hM x) (fun x => row1_E V c t S hM x l) (after1_at V c t S hS hM l)
  refine Eq.trans ?_ h
  pointwise [k1_pay14]

include hS in
/-- Block 2 at its end holds the state after 384 steps. -/
theorem T3_at (l : Fin 128) : T3 V c t (ix2 0 l) = E (Keep S (256 + 128) (256 + l.val)) := by
  unfold T3
  rw [trips_128]
  exact loop3_at c (grid1.coords t) (ms1_0 t) (hs1_0 t) (ms1_1 t) (hs1_1 t) (ms1_2 t) (hs1_2 t) (ms1_3 t) (hs1_3 t) (ms1_4 t) (hs1_4 t) (ms1_5 t) (hs1_5 t) (k1_pay5 (iblk1 V c 0 t) (iblk1 V c 1 t)) k1_pay6 (mat V c t) S hM _ (fun l => by
    have h := after2_at V c t S hS hM ⟨256 + l.val, by omega⟩
    refine Eq.trans ?_ h
    pointwise [k1_pay15]) 128 le_rfl l

include hS in
/-- The states after 3 blocks. -/
theorem after3_at (l : Fin 1024) : (k1_pay17 (K2 V c t) (T3 V c t) (row2 V c t)) (ix2 0 l) = E (Keep S 384 l.val) := by
  have h := block_end hS 256 l.val _ half_pos half_le (fun x => T3 V c t (ix2 0 x)) (fun x => row2 V c t (ix2 x l)) _
    (fun x => T3_at V c t S hS hM x) (fun x => row2_E V c t S hM x l) (after2_at V c t S hS hM l)
  refine Eq.trans ?_ h
  pointwise [k1_pay17]
  rfl

include hS in
/-- Block 3 at its end holds the state after 512 steps. -/
theorem T4_at (l : Fin 128) : T4 V c t (ix2 0 l) = E (Keep S (384 + 128) (384 + l.val)) := by
  unfold T4
  rw [trips_128]
  exact loop4_at c (grid1.coords t) (ms1_0 t) (hs1_0 t) (ms1_1 t) (hs1_1 t) (ms1_2 t) (hs1_2 t) (ms1_3 t) (hs1_3 t) (ms1_4 t) (hs1_4 t) (ms1_5 t) (hs1_5 t) (K2 V c t) (T3 V c t) (mat V c t) S hM _ (fun l => by
    have h := after3_at V c t S hS hM ⟨384 + l.val, by omega⟩
    refine Eq.trans ?_ h
    pointwise [k1_pay18]) 128 le_rfl l

include hS in
/-- The states after 4 blocks. -/
theorem after4_at (l : Fin 1024) : (k1_pay20 (K2 V c t) (T3 V c t) (row2 V c t) (T4 V c t) (row3 V c t)) (ix2 0 l) = E (Keep S 512 l.val) := by
  have h := block_end hS 384 l.val _ half_pos half_le (fun x => T4 V c t (ix2 0 x)) (fun x => row3 V c t (ix2 x l)) _
    (fun x => T4_at V c t S hS hM x) (fun x => row3_E V c t S hM x l) (after3_at V c t S hS hM l)
  refine Eq.trans ?_ h
  pointwise [k1_pay20]

include hS in
/-- Block 4 at its end holds the state after 640 steps. -/
theorem T5_at (l : Fin 128) : T5 V c t (ix2 0 l) = E (Keep S (512 + 128) (512 + l.val)) := by
  unfold T5
  rw [trips_128]
  exact loop5_at c (grid1.coords t) (ms1_0 t) (hs1_0 t) (ms1_1 t) (hs1_1 t) (ms1_2 t) (hs1_2 t) (ms1_3 t) (hs1_3 t) (ms1_4 t) (hs1_4 t) (ms1_5 t) (hs1_5 t) (K2 V c t) (T3 V c t) (mat V c t) S hM _ (fun l => by
    have h := after4_at V c t S hS hM ⟨512 + l.val, by omega⟩
    refine Eq.trans ?_ h
    pointwise [k1_pay21]) 128 le_rfl l

include hS in
/-- The states after 5 blocks. -/
theorem after5_at (l : Fin 1024) : (k1_pay23 (K2 V c t) (T3 V c t) (row2 V c t) (T4 V c t) (row3 V c t) (T5 V c t) (row4 V c t)) (ix2 0 l) = E (Keep S 640 l.val) := by
  have h := block_end hS 512 l.val _ half_pos half_le (fun x => T5 V c t (ix2 0 x)) (fun x => row4 V c t (ix2 x l)) _
    (fun x => T5_at V c t S hS hM x) (fun x => row4_E V c t S hM x l) (after4_at V c t S hS hM l)
  refine Eq.trans ?_ h
  pointwise [k1_pay23]

include hS in
/-- Block 5 at its end holds the state after 768 steps. -/
theorem T6_at (l : Fin 128) : T6 V c t (ix2 0 l) = E (Keep S (640 + 128) (640 + l.val)) := by
  unfold T6
  rw [trips_128]
  exact loop6_at c (grid1.coords t) (ms1_0 t) (hs1_0 t) (ms1_1 t) (hs1_1 t) (ms1_2 t) (hs1_2 t) (ms1_3 t) (hs1_3 t) (ms1_4 t) (hs1_4 t) (ms1_5 t) (hs1_5 t) (K2 V c t) (T3 V c t) (mat V c t) S hM _ (fun l => by
    have h := after5_at V c t S hS hM ⟨640 + l.val, by omega⟩
    refine Eq.trans ?_ h
    pointwise [k1_pay24]) 128 le_rfl l

include hS in
/-- The states after 6 blocks. -/
theorem after6_at (l : Fin 1024) : (k1_pay27 (K5 V c t) (k1_pay26 (T6 V c t) (row5 V c t))) (ix2 0 l) = E (Keep S 768 l.val) := by
  have h := block_end hS 640 l.val _ half_pos half_le (fun x => T6 V c t (ix2 0 x)) (fun x => row5 V c t (ix2 x l)) _
    (fun x => T6_at V c t S hS hM x) (fun x => row5_E V c t S hM x l) (after5_at V c t S hS hM l)
  refine Eq.trans ?_ h
  pointwise [k1_pay27, k1_pay26]
  rfl

include hS in
/-- Block 6 at its end holds the state after 896 steps. -/
theorem T7_at (l : Fin 128) : T7 V c t (ix2 0 l) = E (Keep S (768 + 128) (768 + l.val)) := by
  unfold T7
  rw [trips_128]
  exact loop7_at c (grid1.coords t) (ms1_0 t) (hs1_0 t) (ms1_1 t) (hs1_1 t) (ms1_2 t) (hs1_2 t) (ms1_3 t) (hs1_3 t) (ms1_4 t) (hs1_4 t) (ms1_5 t) (hs1_5 t) (iota .tc S1024x1024 32 [0] iota_S1024x1024_d0_w32) (iota .tc S1024x1024 32 [1] iota_S1024x1024_d1_w32) (K5 V c t) (k1_pay26 (T6 V c t) (row5 V c t)) (mat V c t) S hM _ (fun l => by
    have h := after6_at V c t S hS hM ⟨768 + l.val, by omega⟩
    refine Eq.trans ?_ h
    pointwise [k1_pay28]) 128 le_rfl l

include hS in
/-- The states after 7 blocks. -/
theorem after7_at (l : Fin 1024) : (k1_pay30 (K5 V c t) (k1_pay26 (T6 V c t) (row5 V c t)) (T7 V c t) (row6 V c t)) (ix2 0 l) = E (Keep S 896 l.val) := by
  have h := block_end hS 768 l.val _ half_pos half_le (fun x => T7 V c t (ix2 0 x)) (fun x => row6 V c t (ix2 x l)) _
    (fun x => T7_at V c t S hS hM x) (fun x => row6_E V c t S hM x l) (after6_at V c t S hS hM l)
  refine Eq.trans ?_ h
  pointwise [k1_pay30]

include hS in
/-- Block 7 at its end holds the state after 1024 steps. -/
theorem T8_at (l : Fin 128) : T8 V c t (ix2 0 l) = E (Keep S (896 + 128) (896 + l.val)) := by
  unfold T8
  rw [trips_128]
  exact loop8_at c (grid1.coords t) (ms1_0 t) (hs1_0 t) (ms1_1 t) (hs1_1 t) (ms1_2 t) (hs1_2 t) (ms1_3 t) (hs1_3 t) (ms1_4 t) (hs1_4 t) (ms1_5 t) (hs1_5 t) (iota .tc S1024x1024 32 [0] iota_S1024x1024_d0_w32) (iota .tc S1024x1024 32 [1] iota_S1024x1024_d1_w32) (K5 V c t) (k1_pay26 (T6 V c t) (row5 V c t)) (mat V c t) S hM _ (fun l => by
    have h := after7_at V c t S hS hM ⟨896 + l.val, by omega⟩
    refine Eq.trans ?_ h
    pointwise [k1_pay31]) 128 le_rfl l

include hS in
/-- The elements kept at the end: the greedy suppression has kept them and their scores pass the mask. -/
theorem keepAll_at (l : Fin 1024) : keepAll V c t (ix2 0 l)
    = E (Keep S 1024 l.val ∧ Ideal.ofBits FTy.f32 3435052064#32 < iblk1 V c 3 t (ix3 0 0 l)) := by
  have h := block_end hS 896 l.val _ half_pos half_le (fun x => T8 V c t (ix2 0 x)) (fun x => row7 V c t (ix2 x l)) _
    (fun x => T8_at V c t S hS hM x) (fun x => row7_E V c t S hM x l) (after7_at V c t S hS hM l)
  rw [← E_mul]
  refine Eq.trans ?_ (congrArg (· * _) h)
  unfold keepAll
  pointwise [k1_pay33]
  exact congrArg₂ (· * ·) rfl (E_ite _)
end

/-- The selection matrix at an index, for the kept elements `P`: row `k` marks the kept element that is
    preceded by exactly `k` kept ones. -/
theorem pick_at (P : Fin 1024 → Prop) (kp : FVec Ideal S1x1024 .f32) (hk : ∀ l : Fin 1024, kp (ix2 0 l) = E (P l))
    (k : Fin 304) (l : Fin 1024) :
    k1_pay1 kp (k1_pay34 (iota .tc S1024x1024 32 [0] iota_S1024x1024_d0_w32) (iota .tc S1024x1024 32 [1] iota_S1024x1024_d1_w32))
      (constant S1x1024 .f32 0x00000000#32) (ix2 k l)
    = E (P l ∧ cnt P l = k.val + 1) := by
  pointwise [k1_pay1, k1_pay34]
  have hs : ∀ y : Fin 1024, (Scalar.select (IntOp.cmpi .sle (BitVec.ofNat 32 y.val) (BitVec.ofNat 32 l.val)) (kp (ix2 0 y)) 0 : EReal)
      = E (P y ∧ y ≤ l) := by
    intro y
    rw [hk, WordCmp.cmpi_sle_ofNat (by omega) (by omega)]
    by_cases h : y.val ≤ l.val
    · rw [decide_eq_true h, E_congr (p := P y ∧ y ≤ l) (q := P y) ⟨fun h => h.1, fun h2 => ⟨h2, h⟩⟩]; rfl
    · rw [decide_eq_false h, E_false (p := P y ∧ y ≤ l) fun h2 => h h2.2]; rfl
  have hf : (FloatOps.sitofp (F := Ideal) .f32 (BitVec.ofNat 32 k.val) : EReal) + 1 = ((k.val + 1 : ℕ) : EReal) := by
    have h2 : (BitVec.ofNat 32 k.val).toInt = (k.val : ℤ) := by
      have := k.isLt
      rw [BitVec.toInt_ofNat']
      exact Int.bmod_eq_of_le (by omega) (by omega)
    have h3 : (FloatOps.sitofp (F := Ideal) .f32 (BitVec.ofNat 32 k.val) : EReal) = (((BitVec.ofNat 32 k.val).toInt : ℝ) : EReal) := rfl
    rw [h3, h2]
    push_cast
    rfl
  rw [Finset.sum_congr rfl fun y _ => hs y, sum_cnt, hf, hk, E_ite, E_mul]
  refine E_congr ⟨fun h => ⟨h.2, ?_⟩, fun h => ⟨?_, h.1⟩⟩
  · exact_mod_cast h.1
  · rw [h.2]

/-- The boxes' output block at an index: the counted selection of the boxes. -/
theorem outBoxes_at (P : Fin 1024 → Prop) (kp : FVec Ideal S1x1024 .f32) (hk : ∀ l : Fin 1024, kp (ix2 0 l) = E (P l))
    (x0 : Vec Ideal S1x1024x4 .f32) (k : Fin 304) (q : Fin 4) :
    k1_pay2 (k1_pay4 x0) kp (k1_pay34 (iota .tc S1024x1024 32 [0] iota_S1024x1024_d0_w32) (iota .tc S1024x1024 32 [1] iota_S1024x1024_d1_w32))
      (constant S1x1024 .f32 0x00000000#32) (ix3 0 k q)
    = (∑ l : Fin 1024, E (P l ∧ cnt P l = k.val + 1) * x0 (ix3 0 l q) : EReal) := by
  pointwise [k1_pay2, k1_pay4]
  exact Finset.sum_congr rfl fun l _ => congrArg (· * _) (pick_at P kp hk k l)

/-- The scores' output block at an index: the counted selection of the scores. -/
theorem outScores_at (P : Fin 1024 → Prop) (kp : FVec Ideal S1x1024 .f32) (hk : ∀ l : Fin 1024, kp (ix2 0 l) = E (P l))
    (x2 : Vec Ideal S1x1024x1 .f32) (k : Fin 304) :
    k1_pay3 kp (k1_pay34 (iota .tc S1024x1024 32 [0] iota_S1024x1024_d0_w32) (iota .tc S1024x1024 32 [1] iota_S1024x1024_d1_w32))
      (constant S1x1024 .f32 0x00000000#32) x2 (ix3 0 k 0)
    = (∑ l : Fin 1024, E (P l ∧ cnt P l = k.val + 1) * x2 (ix3 0 l 0) : EReal) := by
  pointwise [k1_pay3]
  exact Finset.sum_congr rfl fun l _ => congrArg (· * _) (pick_at P kp hk k l)
end Cert.KernelIdeal.Val
-- ==== Proof.KOut.lean ====
module

public import proofs.«01_k».proof.Proof.KNms
public import proofs.«01_k».proof.Proof.KEq

/-! The kernel program's result array in terms of the 1000 candidates' boxes and scores. -/

@[expose] public section
set_option maxRecDepth 16384
noncomputable section
namespace Cert.KernelIdeal.Val
open Cert.KernelIdeal Cert.KernelIdeal.Gen Cert.KernelIdeal.Whole
open Idealize.ShloMosaic Idealize.ShloMosaic.TcCoe Idealize.ShloMosaic.StableHlo
open Idealize.SL.Sem Cert.HostLine Cert.Greedy

variable (m : (ℓ : Loc nD τ sig) → Buf (Elt Ideal) ℓ) (ρ : Dev nD → PrngReg) (c : Dev nD)

/-- The padded candidates' boxes of one image. -/
def boxK (n : Fin 2) : Fin 1024 → Fin 4 → EReal := fun i q => v58 m ρ c (ix3 n i q)
/-- The padded candidates' scores of one image. -/
def scoreK (n : Fin 2) : Fin 1024 → EReal := fun i => v59 m ρ c (ix2 n i)

/-- Which padded candidates survive. -/
def surv (n : Fin 2) (l : Fin 1024) : Prop :=
  Keep (Sup (boxK m ρ c n)) 1024 l.val ∧ Ideal.ofBits FTy.f32 3435052064#32 < scoreK m ρ c n l

theorem in1_0 : V21 m ρ c (Pipeline.arrRef spec1 0) = v58 m ρ c := (last21 m ρ c main_v58 (by decide +kernel)).symm
theorem in1_1 : V21 m ρ c (Pipeline.arrRef spec1 1) = v60 m ρ c := (last21 m ρ c main_v60 (by decide +kernel)).symm
theorem in1_2 : V21 m ρ c (Pipeline.arrRef spec1 2) = v61 m ρ c := (last21 m ρ c main_v61 (by decide +kernel)).symm
theorem in1_3 : V21 m ρ c (Pipeline.arrRef spec1 3) = v62 m ρ c := (last21 m ρ c main_v62 (by decide +kernel)).symm

/-- Every window's block index is the image's number. -/
theorem idx1 : ∀ t : Fin cfg1.N, win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![t.val, 0, 0] := by
  decide +kernel

/-- The image of a grid point. -/
def img (t : Fin cfg1.N) : Fin 2 := ⟨t.val, t.isLt⟩

theorem blk1_0 (t : Fin cfg1.N) (i : Fin 1024) (q : Fin 4) : iblk1 (V21 m ρ) c 0 t (ix3 0 i q) = v58 m ρ c (ix3 (img t) i q) := by
  rw [← in1_0]
  unfold iblk1
  blk_ext [idx1 t, img]

theorem blk1_1 (t : Fin cfg1.N) (i : Fin 1024) (q : Fin 4) : iblk1 (V21 m ρ) c 1 t (ix3 0 q i) = v60 m ρ c (ix3 (img t) q i) := by
  rw [← in1_1]
  unfold iblk1
  blk_ext [idx1 t, img]

theorem blk1_2 (t : Fin cfg1.N) (i : Fin 1024) : iblk1 (V21 m ρ) c 2 t (ix3 0 i 0) = v61 m ρ c (ix3 (img t) i 0) := by
  rw [← in1_2]
  unfold iblk1
  blk_ext [idx1 t, img]

theorem blk1_3 (t : Fin cfg1.N) (i : Fin 1024) : iblk1 (V21 m ρ) c 3 t (ix3 0 0 i) = v62 m ρ c (ix3 (img t) 0 i) := by
  rw [← in1_3]
  unfold iblk1
  blk_ext [idx1 t, img]

theorem v60_at (n : Fin 2) (q : Fin 4) (i : Fin 1024) : v60 m ρ c (ix3 n q i) = boxK m ρ c n i q := by
  rw [v60_eq]; pointwise; rfl

theorem v61_at (n : Fin 2) (i : Fin 1024) : v61 m ρ c (ix3 n i 0) = scoreK m ρ c n i := by
  rw [v61_eq]; pointwise; rfl

theorem v62_at (n : Fin 2) (i : Fin 1024) : v62 m ρ c (ix3 n 0 i) = scoreK m ρ c n i := by
  rw [v62_eq]; pointwise; rfl

theorem keep1 (t : Fin cfg1.N) (l : Fin 1024) : keepAll (V21 m ρ) c t (ix2 0 l) = E (surv m ρ c (img t) l) := by
  rw [keepAll_at (V21 m ρ) c t (Sup (boxK m ρ c (img t))) (sup_lt _)
    (mat_at (V21 m ρ) c t (boxK m ρ c (img t)) (blk1_0 m ρ c t) (fun i q => (blk1_1 m ρ c t i q).trans (v60_at m ρ c (img t) q i))) l,
    blk1_3, v62_at]
  rfl

/-- The second region's boxes: the selection of the surviving candidates by their counts. -/
def boxSel : FVec Ideal S2x304x4 .f32 := fun y =>
  ∑ l : Fin 1024, E (surv m ρ c (y 0) l ∧ cnt (surv m ρ c (y 0)) l = (y 1).val + 1) * boxK m ρ c (y 0) l (y 2)

/-- The second region's scores: the same selection. -/
def scoreSel : FVec Ideal S2x304x1 .f32 := fun y =>
  ∑ l : Fin 1024, E (surv m ρ c (y 0) l ∧ cnt (surv m ρ c (y 0)) l = (y 1).val + 1) * scoreK m ρ c (y 0) l

theorem v63_0_eq : v63_0 m ρ c = boxSel m ρ c := by
  refine (last22 m ρ c main_v63_0 (by decide +kernel)).trans ?_
  refine (W22_arr m ρ c 4).trans ?_
  refine (dat1 (V21 m ρ) c).arrAt_eq_of_covers 4 _ (by decide +kernel) fun t hf y => ?_
  blk_simp
  rw [after1_4, outs_eq]
  idx_vars y
  have he : ((View.whole main_v63_0).slice (win1_4.rect t)).emb (ix3 y0 y1 y2) = ix3 (img t) y1 y2 := by
    blk_ext [idx1 t, img]
  rw [he]
  obtain rfl : y0 = 0 := Subsingleton.elim _ _
  refine (outBoxes_at (surv m ρ c (img t)) _ (keep1 m ρ c t) _ y1 y2).trans ?_
  refine Finset.sum_congr rfl fun l _ => ?_
  rw [blk1_0]
  rfl

theorem v63_1_eq : v63_1 m ρ c = scoreSel m ρ c := by
  refine (last22 m ρ c main_v63_1 (by decide +kernel)).trans ?_
  refine (W22_arr m ρ c 5).trans ?_
  refine (dat1 (V21 m ρ) c).arrAt_eq_of_covers 5 _ (by decide +kernel) fun t hf y => ?_
  blk_simp
  rw [after1_5, outs_eq]
  idx_vars y
  have he : ((View.whole main_v63_1).slice (win1_5.rect t)).emb (ix3 y0 y1 y2) = ix3 (img t) y1 y2 := by
    blk_ext [idx1 t, img]
  rw [he]
  obtain rfl : y0 = 0 := Subsingleton.elim _ _
  obtain rfl : y2 = 0 := Subsingleton.elim _ _
  refine (outScores_at (surv m ρ c (img t)) _ (keep1 m ρ c t) _ y1).trans ?_
  refine Finset.sum_congr rfl fun l _ => ?_
  rw [blk1_2, v61_at]
  rfl

theorem v58_at (n : Fin 2) (i : Fin 1000) (q : Fin 4) : boxK m ρ c n (Fin.castAdd 24 i) q = v57 m ρ c (ix3 n i q) := by
  unfold boxK
  rw [v58_eq]; pointwise
  exact dif_pos i.isLt

theorem v59_at (n : Fin 2) (i : Fin 1000) : scoreK m ρ c n (Fin.castAdd 24 i) = values m ρ c (ix2 n i) := by
  unfold scoreK
  rw [v59_eq]; pointwise
  exact dif_pos i.isLt

theorem v59_pad (n : Fin 2) (i : Fin 24) : scoreK m ρ c n (Fin.natAdd 1000 i) = Ideal.ofBits FTy.f32 3463342888#32 := by
  unfold scoreK
  rw [v59_eq]; pointwise
  rw [dif_neg (by simp), call8_v0_eq, cst_6_eq]
  rfl

/-- The kernel's result at an index. -/
theorem v66_at (n : Fin 2) (k : Fin 300) (q : Fin 5) :
    v66 m ρ c (ix3 n k q) = proposal (fun i q => v57 m ρ c (ix3 n i q)) (fun i => values m ρ c (ix2 n i)) (Fin.castLE (by decide) k) q := by
  rw [v66_eq, v64_eq, v65_eq]; pointwise
  rw [v63_0_eq, v63_1_eq]
  unfold proposal
  have hs := sum_proposal (fun i q => v57 m ρ c (ix3 n i q)) (fun i => values m ρ c (ix2 n i)) (boxK m ρ c n) (scoreK m ρ c n)
    (v58_at m ρ c n) (v59_at m ρ c n) (v59_pad m ρ c n) (Fin.castLE (by decide) k)
  by_cases h : q.val < 4
  · simp only [dif_pos h]
    refine (hs fun l => boxK m ρ c n l ⟨q.val, h⟩).trans ?_
    rw [v58_at]
  · simp only [dif_neg h]
    refine (hs fun l => scoreK m ρ c n l).trans ?_
    rw [v59_at]

end Cert.KernelIdeal.Val
-- ==== Proof.KHead2.lean ====
module

public import proofs.«01_k».proof.Proof.KHead
public import proofs.«01_k».proof.Proof.KOut

/-! The first region's output arrays: each image's rows are the head's function of that image's inputs. -/

@[expose] public section
set_option maxRecDepth 16384
noncomputable section
namespace Cert.KernelIdeal.HeadVal
open Cert.KernelIdeal Cert.KernelIdeal.Gen Cert.KernelIdeal.Whole Cert.KernelIdeal.Val
open Idealize.ShloMosaic Idealize.ShloMosaic.TcCoe Idealize.ShloMosaic.StableHlo
open Idealize.SL.Sem Cert.HostLine

variable (m : (ℓ : Loc nD τ sig) → Buf (Elt Ideal) ℓ) (ρ : Dev nD → PrngReg) (c : Dev nD)

theorem in0_0 : V3 m ρ c (Pipeline.arrRef spec0 0) = v2 m ρ c := (last3 m ρ c main_v2 (by decide +kernel)).symm
theorem in0_1 : V3 m ρ c (Pipeline.arrRef spec0 1) = v4 m ρ c := (last3 m ρ c main_v4 (by decide +kernel)).symm
theorem in0_2 : V3 m ρ c (Pipeline.arrRef spec0 2) = v28 m ρ c := (last3 m ρ c main_v28 (by decide +kernel)).symm
theorem in0_3 : V3 m ρ c (Pipeline.arrRef spec0 3) = v6 m ρ c := (last3 m ρ c main_v6 (by decide +kernel)).symm
theorem in0_4 : V3 m ρ c (Pipeline.arrRef spec0 4) = v29 m ρ c := (last3 m ρ c main_v29 (by decide +kernel)).symm
theorem in0_5 : V3 m ρ c (Pipeline.arrRef spec0 5) = v17 m ρ c := (last3 m ρ c main_v17 (by decide +kernel)).symm
theorem in0_6 : V3 m ρ c (Pipeline.arrRef spec0 6) = v27 m ρ c := (last3 m ρ c main_v27 (by decide +kernel)).symm
theorem in0_7 : V3 m ρ c (Pipeline.arrRef spec0 7) = cst m ρ c := (last3 m ρ c main_cst (by decide +kernel)).symm

/-- Every window's block index: the image's number, or nothing where the whole array is one block. -/
theorem idx0 : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0, 0] ∧ win0_8.index t = ![t.val, 0, 0] ∧ win0_9.index t = ![t.val, 0, 0]
    ∧ win0_10.index t = ![t.val, 0, 0] ∧ win0_11.index t = ![t.val, 0, 0] ∧ win0_12.index t = ![t.val, 0, 0] := by
  decide +kernel

/-- The image of a grid point. -/
def img0 (t : Fin cfg0.N) : Fin 2 := ⟨t.val, t.isLt⟩

/-- One image's padded features. -/
def feat (n : Fin 2) : FVec Ideal S1x2704x256 .f32 := fun y => v2 m ρ c (ix3 n (y 1) (y 2))

theorem blk0_0 (t : Fin cfg0.N) : iblk0 (V3 m ρ) c 0 t = feat m ρ c (img0 t) := by
  unfold feat
  rw [← in0_0]
  funext y
  idx_vars y
  obtain rfl : y0 = 0 := Subsingleton.elim _ _
  unfold iblk0
  blk_ext [idx0 t, img0]

theorem blk0_1 (t : Fin cfg0.N) : iblk0 (V3 m ρ) c 1 t = v4 m ρ c := by
  rw [← in0_1]
  funext y
  idx_vars y
  unfold iblk0
  blk_ext [idx0 t]

theorem blk0_2 (t : Fin cfg0.N) : iblk0 (V3 m ρ) c 2 t = v28 m ρ c := by
  rw [← in0_2]
  funext y
  idx_vars y
  unfold iblk0
  blk_ext [idx0 t]

theorem blk0_3 (t : Fin cfg0.N) : iblk0 (V3 m ρ) c 3 t = v6 m ρ c := by
  rw [← in0_3]
  funext y
  idx_vars y
  unfold iblk0
  blk_ext [idx0 t]

theorem blk0_4 (t : Fin cfg0.N) : iblk0 (V3 m ρ) c 4 t = v29 m ρ c := by
  rw [← in0_4]
  funext y
  idx_vars y
  unfold iblk0
  blk_ext [idx0 t]

theorem blk0_5 (t : Fin cfg0.N) : iblk0 (V3 m ρ) c 5 t = v17 m ρ c := by
  rw [← in0_5]
  funext y
  idx_vars y
  unfold iblk0
  blk_ext [idx0 t]

theorem blk0_6 (t : Fin cfg0.N) : iblk0 (V3 m ρ) c 6 t = v27 m ρ c := by
  rw [← in0_6]
  funext y
  idx_vars y
  unfold iblk0
  blk_ext [idx0 t]

theorem blk0_7 (t : Fin cfg0.N) : iblk0 (V3 m ρ) c 7 t = cst m ρ c := by
  rw [← in0_7]
  funext y
  idx_vars y
  unfold iblk0
  blk_ext [idx0 t]

/-- Output 0 at a row of an image. -/
theorem v30_0_at (n : Fin 2) (r : Fin 2598) (a : Fin 9) : v30_0 m ρ c (ix3 n r a)
    = out0_8 (F := Ideal) (feat m ρ c n) (v4 m ρ c) (v28 m ρ c) (v6 m ρ c) (v29 m ρ c) (v17 m ρ c) (v27 m ρ c) (cst m ρ c) (ix3 0 r a) := by
  suffices h : v30_0 m ρ c = fun y : S2x2598x9.Idx =>
      out0_8 (F := Ideal) (feat m ρ c (y 0)) (v4 m ρ c) (v28 m ρ c) (v6 m ρ c) (v29 m ρ c) (v17 m ρ c) (v27 m ρ c) (cst m ρ c) (ix3 0 (y 1) (y 2)) by
    rw [h]
    rfl
  refine (last4 m ρ c main_v30_0 (by decide +kernel)).trans ?_
  refine (W4_arr m ρ c 8).trans ?_
  refine (dat0 (V3 m ρ) c).arrAt_eq_of_covers 8 _ (by decide +kernel) fun t hf y => ?_
  blk_simp
  rw [after0_8, blk0_0, blk0_1, blk0_2, blk0_3, blk0_4, blk0_5, blk0_6, blk0_7]
  idx_vars y
  have he : ((View.whole main_v30_0).slice (win0_8.rect t)).emb (ix3 y0 y1 y2) = ix3 (img0 t) y1 y2 := by
    blk_ext [idx0 t, img0]
  rw [he]
  obtain rfl : y0 = 0 := Subsingleton.elim _ _
  rfl

/-- Output 1 at a row of an image. -/
theorem v30_1_at (n : Fin 2) (r : Fin 2598) (a : Fin 9) : v30_1 m ρ c (ix3 n r a)
    = out0_9 (F := Ideal) (feat m ρ c n) (v4 m ρ c) (v28 m ρ c) (v6 m ρ c) (v29 m ρ c) (v17 m ρ c) (v27 m ρ c) (cst m ρ c) (ix3 0 r a) := by
  suffices h : v30_1 m ρ c = fun y : S2x2598x9.Idx =>
      out0_9 (F := Ideal) (feat m ρ c (y 0)) (v4 m ρ c) (v28 m ρ c) (v6 m ρ c) (v29 m ρ c) (v17 m ρ c) (v27 m ρ c) (cst m ρ c) (ix3 0 (y 1) (y 2)) by
    rw [h]
    rfl
  refine (last4 m ρ c main_v30_1 (by decide +kernel)).trans ?_
  refine (W4_arr m ρ c 9).trans ?_
  refine (dat0 (V3 m ρ) c).arrAt_eq_of_covers 9 _ (by decide +kernel) fun t hf y => ?_
  blk_simp
  rw [after0_9, blk0_0, blk0_1, blk0_2, blk0_3, blk0_4, blk0_5, blk0_6, blk0_7]
  idx_vars y
  have he : ((View.whole main_v30_1).slice (win0_9.rect t)).emb (ix3 y0 y1 y2) = ix3 (img0 t) y1 y2 := by
    blk_ext [idx0 t, img0]
  rw [he]
  obtain rfl : y0 = 0 := Subsingleton.elim _ _
  rfl

/-- Output 2 at a row of an image. -/
theorem v30_2_at (n : Fin 2) (r : Fin 2598) (a : Fin 9) : v30_2 m ρ c (ix3 n r a)
    = out0_10 (F := Ideal) (feat m ρ c n) (v4 m ρ c) (v28 m ρ c) (v6 m ρ c) (v29 m ρ c) (v17 m ρ c) (v27 m ρ c) (cst m ρ c) (ix3 0 r a) := by
  suffices h : v30_2 m ρ c = fun y : S2x2598x9.Idx =>
      out0_10 (F := Ideal) (feat m ρ c (y 0)) (v4 m ρ c) (v28 m ρ c) (v6 m ρ c) (v29 m ρ c) (v17 m ρ c) (v27 m ρ c) (cst m ρ c) (ix3 0 (y 1) (y 2)) by
    rw [h]
    rfl
  refine (last4 m ρ c main_v30_2 (by decide +kernel)).trans ?_
  refine (W4_arr m ρ c 10).trans ?_
  refine (dat0 (V3 m ρ) c).arrAt_eq_of_covers 10 _ (by decide +kernel) fun t hf y => ?_
  blk_simp
  rw [after0_10, blk0_0, blk0_1, blk0_2, blk0_3, blk0_4, blk0_5, blk0_6, blk0_7]
  idx_vars y
  have he : ((View.whole main_v30_2).slice (win0_10.rect t)).emb (ix3 y0 y1 y2) = ix3 (img0 t) y1 y2 := by
    blk_ext [idx0 t, img0]
  rw [he]
  obtain rfl : y0 = 0 := Subsingleton.elim _ _
  rfl

/-- Output 3 at a row of an image. -/
theorem v30_3_at (n : Fin 2) (r : Fin 2598) (a : Fin 9) : v30_3 m ρ c (ix3 n r a)
    = out0_11 (F := Ideal) (feat m ρ c n) (v4 m ρ c) (v28 m ρ c) (v6 m ρ c) (v29 m ρ c) (v17 m ρ c) (v27 m ρ c) (cst m ρ c) (ix3 0 r a) := by
  suffices h : v30_3 m ρ c = fun y : S2x2598x9.Idx =>
      out0_11 (F := Ideal) (feat m ρ c (y 0)) (v4 m ρ c) (v28 m ρ c) (v6 m ρ c) (v29 m ρ c) (v17 m ρ c) (v27 m ρ c) (cst m ρ c) (ix3 0 (y 1) (y 2)) by
    rw [h]
    rfl
  refine (last4 m ρ c main_v30_3 (by decide +kernel)).trans ?_
  refine (W4_arr m ρ c 11).trans ?_
  refine (dat0 (V3 m ρ) c).arrAt_eq_of_covers 11 _ (by decide +kernel) fun t hf y => ?_
  blk_simp
  rw [after0_11, blk0_0, blk0_1, blk0_2, blk0_3, blk0_4, blk0_5, blk0_6, blk0_7]
  idx_vars y
  have he : ((View.whole main_v30_3).slice (win0_11.rect t)).emb (ix3 y0 y1 y2) = ix3 (img0 t) y1 y2 := by
    blk_ext [idx0 t, img0]
  rw [he]
  obtain rfl : y0 = 0 := Subsingleton.elim _ _
  rfl

/-- Output 4 at a row of an image. -/
theorem v30_4_at (n : Fin 2) (r : Fin 2598) (a : Fin 9) : v30_4 m ρ c (ix3 n r a)
    = out0_12 (F := Ideal) (feat m ρ c n) (v4 m ρ c) (v28 m ρ c) (v6 m ρ c) (v29 m ρ c) (v17 m ρ c) (v27 m ρ c) (cst m ρ c) (ix3 0 r a) := by
  suffices h : v30_4 m ρ c = fun y : S2x2598x9.Idx =>
      out0_12 (F := Ideal) (feat m ρ c (y 0)) (v4 m ρ c) (v28 m ρ c) (v6 m ρ c) (v29 m ρ c) (v17 m ρ c) (v27 m ρ c) (cst m ρ c) (ix3 0 (y 1) (y 2)) by
    rw [h]
    rfl
  refine (last4 m ρ c main_v30_4 (by decide +kernel)).trans ?_
  refine (W4_arr m ρ c 12).trans ?_
  refine (dat0 (V3 m ρ) c).arrAt_eq_of_covers 12 _ (by decide +kernel) fun t hf y => ?_
  blk_simp
  rw [after0_12, blk0_0, blk0_1, blk0_2, blk0_3, blk0_4, blk0_5, blk0_6, blk0_7]
  idx_vars y
  have he : ((View.whole main_v30_4).slice (win0_12.rect t)).emb (ix3 y0 y1 y2) = ix3 (img0 t) y1 y2 := by
    blk_ext [idx0 t, img0]
  rw [he]
  obtain rfl : y0 = 0 := Subsingleton.elim _ _
  rfl

end Cert.KernelIdeal.HeadVal
-- ==== Proof.Enc.lean ====
module

public import proofs.«01_k».proof.Proof.Head

/-! The cells' centres: their bit patterns read as the numbers they are. -/

@[expose] public section
noncomputable section
namespace Cert.Head
open Idealize.ShloMosaic Cert.Anchor

/-- A bit pattern of a cell's centre is that centre. -/
theorem enc_at (x : Nat) (hx : x < 50) : Ideal.ofBits .f32 (BitVec.ofNat 32 (enc (16 * x + 8))) = ctr x := by
  unfold ctr
  interval_cases x
  · rw [show enc (16 * 0 + 8) = 1090519040 from by decide +kernel, show (16 * ((0 : ℕ) : ℝ) + 8 : ℝ) = 8 from by norm_num]
    simp [Ideal.ofBits, Ideal.ieee, -EReal.coe_mul, -EReal.coe_neg]; norm_num
  · rw [show enc (16 * 1 + 8) = 1103101952 from by decide +kernel, show (16 * ((1 : ℕ) : ℝ) + 8 : ℝ) = 24 from by norm_num]
    simp [Ideal.ofBits, Ideal.ieee, -EReal.coe_mul, -EReal.coe_neg]; norm_num
  · rw [show enc (16 * 2 + 8) = 1109393408 from by decide +kernel, show (16 * ((2 : ℕ) : ℝ) + 8 : ℝ) = 40 from by norm_num]
    simp [Ideal.ofBits, Ideal.ieee, -EReal.coe_mul, -EReal.coe_neg]; norm_num
  · rw [show enc (16 * 3 + 8) = 1113587712 from by decide +kernel, show (16 * ((3 : ℕ) : ℝ) + 8 : ℝ) = 56 from by norm_num]
    simp [Ideal.ofBits, Ideal.ieee, -EReal.coe_mul, -EReal.coe_neg]; norm_num
  · rw [show enc (16 * 4 + 8) = 1116733440 from by decide +kernel, show (16 * ((4 : ℕ) : ℝ) + 8 : ℝ) = 72 from by norm_num]
    simp [Ideal.ofBits, Ideal.ieee, -EReal.coe_mul, -EReal.coe_neg]; norm_num
  · rw [show enc (16 * 5 + 8) = 1118830592 from by decide +kernel, show (16 * ((5 : ℕ) : ℝ) + 8 : ℝ) = 88 from by norm_num]
    simp [Ideal.ofBits, Ideal.ieee, -EReal.coe_mul, -EReal.coe_neg]; norm_num
  · rw [show enc (16 * 6 + 8) = 1120927744 from by decide +kernel, show (16 * ((6 : ℕ) : ℝ) + 8 : ℝ) = 104 from by norm_num]
    simp [Ideal.ofBits, Ideal.ieee, -EReal.coe_mul, -EReal.coe_neg]; norm_num
  · rw [show enc (16 * 7 + 8) = 1123024896 from by decide +kernel, show (16 * ((7 : ℕ) : ℝ) + 8 : ℝ) = 120 from by norm_num]
    simp [Ideal.ofBits, Ideal.ieee, -EReal.coe_mul, -EReal.coe_neg]; norm_num
  · rw [show enc (16 * 8 + 8) = 1124597760 from by decide +kernel, show (16 * ((8 : ℕ) : ℝ) + 8 : ℝ) = 136 from by norm_num]
    simp [Ideal.ofBits, Ideal.ieee, -EReal.coe_mul, -EReal.coe_neg]; norm_num
  · rw [show enc (16 * 9 + 8) = 1125646336 from by decide +kernel, show (16 * ((9 : ℕ) : ℝ) + 8 : ℝ) = 152 from by norm_num]
    simp [Ideal.ofBits, Ideal.ieee, -EReal.coe_mul, -EReal.coe_neg]; norm_num
  · rw [show enc (16 * 10 + 8) = 1126694912 from by decide +kernel, show (16 * ((10 : ℕ) : ℝ) + 8 : ℝ) = 168 from by norm_num]
    simp [Ideal.ofBits, Ideal.ieee, -EReal.coe_mul, -EReal.coe_neg]; norm_num
  · rw [show enc (16 * 11 + 8) = 1127743488 from by decide +kernel, show (16 * ((11 : ℕ) : ℝ) + 8 : ℝ) = 184 from by norm_num]
    simp [Ideal.ofBits, Ideal.ieee, -EReal.coe_mul, -EReal.coe_neg]; norm_num
  · rw [show enc (16 * 12 + 8) = 1128792064 from by decide +kernel, show (16 * ((12 : ℕ) : ℝ) + 8 : ℝ) = 200 from by norm_num]
    simp [Ideal.ofBits, Ideal.ieee, -EReal.coe_mul, -EReal.coe_neg]; norm_num
  · rw [show enc (16 * 13 + 8) = 1129840640 from by decide +kernel, show (16 * ((13 : ℕ) : ℝ) + 8 : ℝ) = 216 from by norm_num]
    simp [Ideal.ofBits, Ideal.ieee, -EReal.coe_mul, -EReal.coe_neg]; norm_num
  · rw [show enc (16 * 14 + 8) = 1130889216 from by decide +kernel, show (16 * ((14 : ℕ) : ℝ) + 8 : ℝ) = 232 from by norm_num]
    simp [Ideal.ofBits, Ideal.ieee, -EReal.coe_mul, -EReal.coe_neg]; norm_num
  · rw [show enc (16 * 15 + 8) = 1131937792 from by decide +kernel, show (16 * ((15 : ℕ) : ℝ) + 8 : ℝ) = 248 from by norm_num]
    simp [Ideal.ofBits, Ideal.ieee, -EReal.coe_mul, -EReal.coe_neg]; norm_num
  · rw [show enc (16 * 16 + 8) = 1132724224 from by decide +kernel, show (16 * ((16 : ℕ) : ℝ) + 8 : ℝ) = 264 from by norm_num]
    simp [Ideal.ofBits, Ideal.ieee, -EReal.coe_mul, -EReal.coe_neg]; norm_num
  · rw [show enc (16 * 17 + 8) = 1133248512 from by decide +kernel, show (16 * ((17 : ℕ) : ℝ) + 8 : ℝ) = 280 from by norm_num]
    simp [Ideal.ofBits, Ideal.ieee, -EReal.coe_mul, -EReal.coe_neg]; norm_num
  · rw [show enc (16 * 18 + 8) = 1133772800 from by decide +kernel, show (16 * ((18 : ℕ) : ℝ) + 8 : ℝ) = 296 from by norm_num]
    simp [Ideal.ofBits, Ideal.ieee, -EReal.coe_mul, -EReal.coe_neg]; norm_num
  · rw [show enc (16 * 19 + 8) = 1134297088 from by decide +kernel, show (16 * ((19 : ℕ) : ℝ) + 8 : ℝ) = 312 from by norm_num]
    simp [Ideal.ofBits, Ideal.ieee, -EReal.coe_mul, -EReal.coe_neg]; norm_num
  · rw [show enc (16 * 20 + 8) = 1134821376 from by decide +kernel, show (16 * ((20 : ℕ) : ℝ) + 8 : ℝ) = 328 from by norm_num]
    simp [Ideal.ofBits, Ideal.ieee, -EReal.coe_mul, -EReal.coe_neg]; norm_num
  · rw [show enc (16 * 21 + 8) = 1135345664 from by decide +kernel, show (16 * ((21 : ℕ) : ℝ) + 8 : ℝ) = 344 from by norm_num]
    simp [Ideal.ofBits, Ideal.ieee, -EReal.coe_mul, -EReal.coe_neg]; norm_num
  · rw [show enc (16 * 22 + 8) = 1135869952 from by decide +kernel, show (16 * ((22 : ℕ) : ℝ) + 8 : ℝ) = 360 from by norm_num]
    simp [Ideal.ofBits, Ideal.ieee, -EReal.coe_mul, -EReal.coe_neg]; norm_num
  · rw [show enc (16 * 23 + 8) = 1136394240 from by decide +kernel, show (16 * ((23 : ℕ) : ℝ) + 8 : ℝ) = 376 from by norm_num]
    simp [Ideal.ofBits, Ideal.ieee, -EReal.coe_mul, -EReal.coe_neg]; norm_num
  · rw [show enc (16 * 24 + 8) = 1136918528 from by decide +kernel, show (16 * ((24 : ℕ) : ℝ) + 8 : ℝ) = 392 from by norm_num]
    simp [Ideal.ofBits, Ideal.ieee, -EReal.coe_mul, -EReal.coe_neg]; norm_num
  · rw [show enc (16 * 25 + 8) = 1137442816 from by decide +kernel, show (16 * ((25 : ℕ) : ℝ) + 8 : ℝ) = 408 from by norm_num]
    simp [Ideal.ofBits, Ideal.ieee, -EReal.coe_mul, -EReal.coe_neg]; norm_num
  · rw [show enc (16 * 26 + 8) = 1137967104 from by decide +kernel, show (16 * ((26 : ℕ) : ℝ) + 8 : ℝ) = 424 from by norm_num]
    simp [Ideal.ofBits, Ideal.ieee, -EReal.coe_mul, -EReal.coe_neg]; norm_num
  · rw [show enc (16 * 27 + 8) = 1138491392 from by decide +kernel, show (16 * ((27 : ℕ) : ℝ) + 8 : ℝ) = 440 from by norm_num]
    simp [Ideal.ofBits, Ideal.ieee, -EReal.coe_mul, -EReal.coe_neg]; norm_num
  · rw [show enc (16 * 28 + 8) = 1139015680 from by decide +kernel, show (16 * ((28 : ℕ) : ℝ) + 8 : ℝ) = 456 from by norm_num]
    simp [Ideal.ofBits, Ideal.ieee, -EReal.coe_mul, -EReal.coe_neg]; norm_num
  · rw [show enc (16 * 29 + 8) = 1139539968 from by decide +kernel, show (16 * ((29 : ℕ) : ℝ) + 8 : ℝ) = 472 from by norm_num]
    simp [Ideal.ofBits, Ideal.ieee, -EReal.coe_mul, -EReal.coe_neg]; norm_num
  · rw [show enc (16 * 30 + 8) = 1140064256 from by decide +kernel, show (16 * ((30 : ℕ) : ℝ) + 8 : ℝ) = 488 from by norm_num]
    simp [Ideal.ofBits, Ideal.ieee, -EReal.coe_mul, -EReal.coe_neg]; norm_num
  · rw [show enc (16 * 31 + 8) = 1140588544 from by decide +kernel, show (16 * ((31 : ℕ) : ℝ) + 8 : ℝ) = 504 from by norm_num]
    simp [Ideal.ofBits, Ideal.ieee, -EReal.coe_mul, -EReal.coe_neg]; norm_num
  · rw [show enc (16 * 32 + 8) = 1140981760 from by decide +kernel, show (16 * ((32 : ℕ) : ℝ) + 8 : ℝ) = 520 from by norm_num]
    simp [Ideal.ofBits, Ideal.ieee, -EReal.coe_mul, -EReal.coe_neg]; norm_num
  · rw [show enc (16 * 33 + 8) = 1141243904 from by decide +kernel, show (16 * ((33 : ℕ) : ℝ) + 8 : ℝ) = 536 from by norm_num]
    simp [Ideal.ofBits, Ideal.ieee, -EReal.coe_mul, -EReal.coe_neg]; norm_num
  · rw [show enc (16 * 34 + 8) = 1141506048 from by decide +kernel, show (16 * ((34 : ℕ) : ℝ) + 8 : ℝ) = 552 from by norm_num]
    simp [Ideal.ofBits, Ideal.ieee, -EReal.coe_mul, -EReal.coe_neg]; norm_num
  · rw [show enc (16 * 35 + 8) = 1141768192 from by decide +kernel, show (16 * ((35 : ℕ) : ℝ) + 8 : ℝ) = 568 from by norm_num]
    simp [Ideal.ofBits, Ideal.ieee, -EReal.coe_mul, -EReal.coe_neg]; norm_num
  · rw [show enc (16 * 36 + 8) = 1142030336 from by decide +kernel, show (16 * ((36 : ℕ) : ℝ) + 8 : ℝ) = 584 from by norm_num]
    simp [Ideal.ofBits, Ideal.ieee, -EReal.coe_mul, -EReal.coe_neg]; norm_num
  · rw [show enc (16 * 37 + 8) = 1142292480 from by decide +kernel, show (16 * ((37 : ℕ) : ℝ) + 8 : ℝ) = 600 from by norm_num]
    simp [Ideal.ofBits, Ideal.ieee, -EReal.coe_mul, -EReal.coe_neg]; norm_num
  · rw [show enc (16 * 38 + 8) = 1142554624 from by decide +kernel, show (16 * ((38 : ℕ) : ℝ) + 8 : ℝ) = 616 from by norm_num]
    simp [Ideal.ofBits, Ideal.ieee, -EReal.coe_mul, -EReal.coe_neg]; norm_num
  · rw [show enc (16 * 39 + 8) = 1142816768 from by decide +kernel, show (16 * ((39 : ℕ) : ℝ) + 8 : ℝ) = 632 from by norm_num]
    simp [Ideal.ofBits, Ideal.ieee, -EReal.coe_mul, -EReal.coe_neg]; norm_num
  · rw [show enc (16 * 40 + 8) = 1143078912 from by decide +kernel, show (16 * ((40 : ℕ) : ℝ) + 8 : ℝ) = 648 from by norm_num]
    simp [Ideal.ofBits, Ideal.ieee, -EReal.coe_mul, -EReal.coe_neg]; norm_num
  · rw [show enc (16 * 41 + 8) = 1143341056 from by decide +kernel, show (16 * ((41 : ℕ) : ℝ) + 8 : ℝ) = 664 from by norm_num]
    simp [Ideal.ofBits, Ideal.ieee, -EReal.coe_mul, -EReal.coe_neg]; norm_num
  · rw [show enc (16 * 42 + 8) = 1143603200 from by decide +kernel, show (16 * ((42 : ℕ) : ℝ) + 8 : ℝ) = 680 from by norm_num]
    simp [Ideal.ofBits, Ideal.ieee, -EReal.coe_mul, -EReal.coe_neg]; norm_num
  · rw [show enc (16 * 43 + 8) = 1143865344 from by decide +kernel, show (16 * ((43 : ℕ) : ℝ) + 8 : ℝ) = 696 from by norm_num]
    simp [Ideal.ofBits, Ideal.ieee, -EReal.coe_mul, -EReal.coe_neg]; norm_num
  · rw [show enc (16 * 44 + 8) = 1144127488 from by decide +kernel, show (16 * ((44 : ℕ) : ℝ) + 8 : ℝ) = 712 from by norm_num]
    simp [Ideal.ofBits, Ideal.ieee, -EReal.coe_mul, -EReal.coe_neg]; norm_num
  · rw [show enc (16 * 45 + 8) = 1144389632 from by decide +kernel, show (16 * ((45 : ℕ) : ℝ) + 8 : ℝ) = 728 from by norm_num]
    simp [Ideal.ofBits, Ideal.ieee, -EReal.coe_mul, -EReal.coe_neg]; norm_num
  · rw [show enc (16 * 46 + 8) = 1144651776 from by decide +kernel, show (16 * ((46 : ℕ) : ℝ) + 8 : ℝ) = 744 from by norm_num]
    simp [Ideal.ofBits, Ideal.ieee, -EReal.coe_mul, -EReal.coe_neg]; norm_num
  · rw [show enc (16 * 47 + 8) = 1144913920 from by decide +kernel, show (16 * ((47 : ℕ) : ℝ) + 8 : ℝ) = 760 from by norm_num]
    simp [Ideal.ofBits, Ideal.ieee, -EReal.coe_mul, -EReal.coe_neg]; norm_num
  · rw [show enc (16 * 48 + 8) = 1145176064 from by decide +kernel, show (16 * ((48 : ℕ) : ℝ) + 8 : ℝ) = 776 from by norm_num]
    simp [Ideal.ofBits, Ideal.ieee, -EReal.coe_mul, -EReal.coe_neg]; norm_num
  · rw [show enc (16 * 49 + 8) = 1145438208 from by decide +kernel, show (16 * ((49 : ℕ) : ℝ) + 8 : ℝ) = 792 from by norm_num]
    simp [Ideal.ofBits, Ideal.ieee, -EReal.coe_mul, -EReal.coe_neg]; norm_num

end Cert.Head
-- ==== Proof.AnchorX.lean ====
/-
  The table of the anchors' centres across, entry by entry.
-/
module

public import proofs.«01_k».proof.Proof.Anchor

@[expose] public section

set_option maxRecDepth 16384

noncomputable section

namespace Cert.Anchor
open Cert.KernelIdeal

/-- Ten rows of cells: the table's entries for the anchors' centres across. -/
theorem cx0 : ∀ y : Fin 10, ∀ x : Fin 50, ∀ a : Fin 9,
    Nat.beq (look ((((y.val) * 52 + x.val) * 9 + a.val))) (enc (16 * x.val + 8)) = true := by
  decide +kernel

/-- Ten rows of cells: the table's entries for the anchors' centres across. -/
theorem cx1 : ∀ y : Fin 10, ∀ x : Fin 50, ∀ a : Fin 9,
    Nat.beq (look ((((y.val + 10) * 52 + x.val) * 9 + a.val))) (enc (16 * x.val + 8)) = true := by
  decide +kernel

/-- Ten rows of cells: the table's entries for the anchors' centres across. -/
theorem cx2 : ∀ y : Fin 10, ∀ x : Fin 50, ∀ a : Fin 9,
    Nat.beq (look ((((y.val + 20) * 52 + x.val) * 9 + a.val))) (enc (16 * x.val + 8)) = true := by
  decide +kernel

/-- Ten rows of cells: the table's entries for the anchors' centres across. -/
theorem cx3 : ∀ y : Fin 10, ∀ x : Fin 50, ∀ a : Fin 9,
    Nat.beq (look ((((y.val + 30) * 52 + x.val) * 9 + a.val))) (enc (16 * x.val + 8)) = true := by
  decide +kernel

/-- Ten rows of cells: the table's entries for the anchors' centres across. -/
theorem cx4 : ∀ y : Fin 10, ∀ x : Fin 50, ∀ a : Fin 9,
    Nat.beq (look ((((y.val + 40) * 52 + x.val) * 9 + a.val))) (enc (16 * x.val + 8)) = true := by
  decide +kernel

/-- Every cell: the table's entry for the anchors' centres across. -/
theorem cx_bits (y x a : Nat) (hy : y < 50) (hx : x < 50) (ha : a < 9) :
    look (((y * 52 + x) * 9 + a)) = enc (16 * x + 8) := by
  have hc : y / 10 < 5 := by omega
  have he : y = y % 10 + 10 * (y / 10) := by omega
  have hm : y % 10 < 10 := by omega
  generalize y / 10 = k at hc he
  generalize y % 10 = r at hm he
  interval_cases k
  · have e : y = r := by omega
    rw [e]
    exact Nat.eq_of_beq_eq_true (cx0 ⟨r, hm⟩ ⟨x, hx⟩ ⟨a, ha⟩)
  · have e : y = r + 10 := by omega
    rw [e]
    exact Nat.eq_of_beq_eq_true (cx1 ⟨r, hm⟩ ⟨x, hx⟩ ⟨a, ha⟩)
  · have e : y = r + 20 := by omega
    rw [e]
    exact Nat.eq_of_beq_eq_true (cx2 ⟨r, hm⟩ ⟨x, hx⟩ ⟨a, ha⟩)
  · have e : y = r + 30 := by omega
    rw [e]
    exact Nat.eq_of_beq_eq_true (cx3 ⟨r, hm⟩ ⟨x, hx⟩ ⟨a, ha⟩)
  · have e : y = r + 40 := by omega
    rw [e]
    exact Nat.eq_of_beq_eq_true (cx4 ⟨r, hm⟩ ⟨x, hx⟩ ⟨a, ha⟩)

end Cert.Anchor
-- ==== Proof.AnchorY.lean ====
/-
  The table of the anchors' centres down, entry by entry.
-/
module

public import proofs.«01_k».proof.Proof.Anchor

@[expose] public section

set_option maxRecDepth 16384

noncomputable section

namespace Cert.Anchor
open Cert.KernelIdeal

/-- Ten rows of cells: the table's entries for the anchors' centres down. -/
theorem cy0 : ∀ y : Fin 10, ∀ x : Fin 50, ∀ a : Fin 9,
    Nat.beq (look (23382 + (((y.val) * 52 + x.val) * 9 + a.val))) (enc (16 * (y.val) + 8)) = true := by
  decide +kernel

/-- Ten rows of cells: the table's entries for the anchors' centres down. -/
theorem cy1 : ∀ y : Fin 10, ∀ x : Fin 50, ∀ a : Fin 9,
    Nat.beq (look (23382 + (((y.val + 10) * 52 + x.val) * 9 + a.val))) (enc (16 * (y.val + 10) + 8)) = true := by
  decide +kernel

/-- Ten rows of cells: the table's entries for the anchors' centres down. -/
theorem cy2 : ∀ y : Fin 10, ∀ x : Fin 50, ∀ a : Fin 9,
    Nat.beq (look (23382 + (((y.val + 20) * 52 + x.val) * 9 + a.val))) (enc (16 * (y.val + 20) + 8)) = true := by
  decide +kernel

/-- Ten rows of cells: the table's entries for the anchors' centres down. -/
theorem cy3 : ∀ y : Fin 10, ∀ x : Fin 50, ∀ a : Fin 9,
    Nat.beq (look (23382 + (((y.val + 30) * 52 + x.val) * 9 + a.val))) (enc (16 * (y.val + 30) + 8)) = true := by
  decide +kernel

/-- Ten rows of cells: the table's entries for the anchors' centres down. -/
theorem cy4 : ∀ y : Fin 10, ∀ x : Fin 50, ∀ a : Fin 9,
    Nat.beq (look (23382 + (((y.val + 40) * 52 + x.val) * 9 + a.val))) (enc (16 * (y.val + 40) + 8)) = true := by
  decide +kernel

/-- Every cell: the table's entry for the anchors' centres down. -/
theorem cy_bits (y x a : Nat) (hy : y < 50) (hx : x < 50) (ha : a < 9) :
    look (23382 + ((y * 52 + x) * 9 + a)) = enc (16 * (y) + 8) := by
  have hc : y / 10 < 5 := by omega
  have he : y = y % 10 + 10 * (y / 10) := by omega
  have hm : y % 10 < 10 := by omega
  generalize y / 10 = k at hc he
  generalize y % 10 = r at hm he
  interval_cases k
  · have e : y = r := by omega
    rw [e]
    exact Nat.eq_of_beq_eq_true (cy0 ⟨r, hm⟩ ⟨x, hx⟩ ⟨a, ha⟩)
  · have e : y = r + 10 := by omega
    rw [e]
    exact Nat.eq_of_beq_eq_true (cy1 ⟨r, hm⟩ ⟨x, hx⟩ ⟨a, ha⟩)
  · have e : y = r + 20 := by omega
    rw [e]
    exact Nat.eq_of_beq_eq_true (cy2 ⟨r, hm⟩ ⟨x, hx⟩ ⟨a, ha⟩)
  · have e : y = r + 30 := by omega
    rw [e]
    exact Nat.eq_of_beq_eq_true (cy3 ⟨r, hm⟩ ⟨x, hx⟩ ⟨a, ha⟩)
  · have e : y = r + 40 := by omega
    rw [e]
    exact Nat.eq_of_beq_eq_true (cy4 ⟨r, hm⟩ ⟨x, hx⟩ ⟨a, ha⟩)

end Cert.Anchor
-- ==== Proof.AnchorW.lean ====
/-
  The table of the anchors' widths, entry by entry.
-/
module

public import proofs.«01_k».proof.Proof.Anchor

@[expose] public section

set_option maxRecDepth 16384

noncomputable section

namespace Cert.Anchor
open Cert.KernelIdeal

/-- Ten rows of cells: the table's entries for the anchors' widths. -/
theorem w0 : ∀ y : Fin 10, ∀ x : Fin 50, ∀ a : Fin 9,
    Nat.beq (look (46764 + (((y.val) * 52 + x.val) * 9 + a.val))) (wBits a.val) = true := by
  decide +kernel

/-- Ten rows of cells: the table's entries for the anchors' widths. -/
theorem w1 : ∀ y : Fin 10, ∀ x : Fin 50, ∀ a : Fin 9,
    Nat.beq (look (46764 + (((y.val + 10) * 52 + x.val) * 9 + a.val))) (wBits a.val) = true := by
  decide +kernel

/-- Ten rows of cells: the table's entries for the anchors' widths. -/
theorem w2 : ∀ y : Fin 10, ∀ x : Fin 50, ∀ a : Fin 9,
    Nat.beq (look (46764 + (((y.val + 20) * 52 + x.val) * 9 + a.val))) (wBits a.val) = true := by
  decide +kernel

/-- Ten rows of cells: the table's entries for the anchors' widths. -/
theorem w3 : ∀ y : Fin 10, ∀ x : Fin 50, ∀ a : Fin 9,
    Nat.beq (look (46764 + (((y.val + 30) * 52 + x.val) * 9 + a.val))) (wBits a.val) = true := by
  decide +kernel

/-- Ten rows of cells: the table's entries for the anchors' widths. -/
theorem w4 : ∀ y : Fin 10, ∀ x : Fin 50, ∀ a : Fin 9,
    Nat.beq (look (46764 + (((y.val + 40) * 52 + x.val) * 9 + a.val))) (wBits a.val) = true := by
  decide +kernel

/-- Every cell: the table's entry for the anchors' widths. -/
theorem w_bits (y x a : Nat) (hy : y < 50) (hx : x < 50) (ha : a < 9) :
    look (46764 + ((y * 52 + x) * 9 + a)) = wBits a := by
  have hc : y / 10 < 5 := by omega
  have he : y = y % 10 + 10 * (y / 10) := by omega
  have hm : y % 10 < 10 := by omega
  generalize y / 10 = k at hc he
  generalize y % 10 = r at hm he
  interval_cases k
  · have e : y = r := by omega
    rw [e]
    exact Nat.eq_of_beq_eq_true (w0 ⟨r, hm⟩ ⟨x, hx⟩ ⟨a, ha⟩)
  · have e : y = r + 10 := by omega
    rw [e]
    exact Nat.eq_of_beq_eq_true (w1 ⟨r, hm⟩ ⟨x, hx⟩ ⟨a, ha⟩)
  · have e : y = r + 20 := by omega
    rw [e]
    exact Nat.eq_of_beq_eq_true (w2 ⟨r, hm⟩ ⟨x, hx⟩ ⟨a, ha⟩)
  · have e : y = r + 30 := by omega
    rw [e]
    exact Nat.eq_of_beq_eq_true (w3 ⟨r, hm⟩ ⟨x, hx⟩ ⟨a, ha⟩)
  · have e : y = r + 40 := by omega
    rw [e]
    exact Nat.eq_of_beq_eq_true (w4 ⟨r, hm⟩ ⟨x, hx⟩ ⟨a, ha⟩)

end Cert.Anchor
-- ==== Proof.AnchorH.lean ====
/-
  The table of the anchors' heights, entry by entry.
-/
module

public import proofs.«01_k».proof.Proof.Anchor

@[expose] public section

set_option maxRecDepth 16384

noncomputable section

namespace Cert.Anchor
open Cert.KernelIdeal

/-- Ten rows of cells: the table's entries for the anchors' heights. -/
theorem h0 : ∀ y : Fin 10, ∀ x : Fin 50, ∀ a : Fin 9,
    Nat.beq (look (70146 + (((y.val) * 52 + x.val) * 9 + a.val))) (hBits a.val) = true := by
  decide +kernel

/-- Ten rows of cells: the table's entries for the anchors' heights. -/
theorem h1 : ∀ y : Fin 10, ∀ x : Fin 50, ∀ a : Fin 9,
    Nat.beq (look (70146 + (((y.val + 10) * 52 + x.val) * 9 + a.val))) (hBits a.val) = true := by
  decide +kernel

/-- Ten rows of cells: the table's entries for the anchors' heights. -/
theorem h2 : ∀ y : Fin 10, ∀ x : Fin 50, ∀ a : Fin 9,
    Nat.beq (look (70146 + (((y.val + 20) * 52 + x.val) * 9 + a.val))) (hBits a.val) = true := by
  decide +kernel

/-- Ten rows of cells: the table's entries for the anchors' heights. -/
theorem h3 : ∀ y : Fin 10, ∀ x : Fin 50, ∀ a : Fin 9,
    Nat.beq (look (70146 + (((y.val + 30) * 52 + x.val) * 9 + a.val))) (hBits a.val) = true := by
  decide +kernel

/-- Ten rows of cells: the table's entries for the anchors' heights. -/
theorem h4 : ∀ y : Fin 10, ∀ x : Fin 50, ∀ a : Fin 9,
    Nat.beq (look (70146 + (((y.val + 40) * 52 + x.val) * 9 + a.val))) (hBits a.val) = true := by
  decide +kernel

/-- Every cell: the table's entry for the anchors' heights. -/
theorem h_bits (y x a : Nat) (hy : y < 50) (hx : x < 50) (ha : a < 9) :
    look (70146 + ((y * 52 + x) * 9 + a)) = hBits a := by
  have hc : y / 10 < 5 := by omega
  have he : y = y % 10 + 10 * (y / 10) := by omega
  have hm : y % 10 < 10 := by omega
  generalize y / 10 = k at hc he
  generalize y % 10 = r at hm he
  interval_cases k
  · have e : y = r := by omega
    rw [e]
    exact Nat.eq_of_beq_eq_true (h0 ⟨r, hm⟩ ⟨x, hx⟩ ⟨a, ha⟩)
  · have e : y = r + 10 := by omega
    rw [e]
    exact Nat.eq_of_beq_eq_true (h1 ⟨r, hm⟩ ⟨x, hx⟩ ⟨a, ha⟩)
  · have e : y = r + 20 := by omega
    rw [e]
    exact Nat.eq_of_beq_eq_true (h2 ⟨r, hm⟩ ⟨x, hx⟩ ⟨a, ha⟩)
  · have e : y = r + 30 := by omega
    rw [e]
    exact Nat.eq_of_beq_eq_true (h3 ⟨r, hm⟩ ⟨x, hx⟩ ⟨a, ha⟩)
  · have e : y = r + 40 := by omega
    rw [e]
    exact Nat.eq_of_beq_eq_true (h4 ⟨r, hm⟩ ⟨x, hx⟩ ⟨a, ha⟩)

end Cert.Anchor
-- ==== Proof.KHead3.lean ====
module

public import proofs.«01_k».proof.Proof.KHead2
public import proofs.«01_k».proof.Proof.Enc
public import proofs.«01_k».proof.Proof.AnchorX
public import proofs.«01_k».proof.Proof.AnchorY
public import proofs.«01_k».proof.Proof.AnchorW
public import proofs.«01_k».proof.Proof.AnchorH

/-! The kernel program's boxes and masked scores before the selection, as the head's mathematics over its arguments. -/

@[expose] public section
set_option maxRecDepth 16384
noncomputable section
namespace Cert.KernelIdeal.HeadVal
open Cert.KernelIdeal Cert.KernelIdeal.Gen Cert.KernelIdeal.Whole Cert.KernelIdeal.Val
open Idealize.ShloMosaic Idealize.ShloMosaic.TcCoe Idealize.ShloMosaic.StableHlo
open Idealize.SL.Sem Cert.HostLine Cert.Anchor

variable (m : (ℓ : Loc nD τ sig) → Buf (Elt Ideal) ℓ) (ρ : Dev nD → PrngReg) (c : Dev nD)

/-- The kernel program's arguments by their coordinates. -/
def args : Head.Args := Head.Args.of (arg1 m ρ c) (arg2 m ρ c) (arg3 m ρ c) (arg4 m ρ c) (arg5 m ρ c) (arg6 m ρ c) (arg7 m ρ c)

theorem args_X (n : Fin 2) (ch : Fin 256) (y x : Fin 50) : (args m ρ c).X n ch y x = arg1 m ρ c (ix4 n ch y x) := by
  unfold args; rw [Head.of_X]
theorem args_W (o ch : Fin 256) (i j : Fin 3) : (args m ρ c).W o ch i j = arg2 m ρ c (ix4 o ch i j) := by
  unfold args; rw [Head.of_W]
theorem args_b (o : Fin 256) : (args m ρ c).b o = arg3 m ρ c (ix1 o) := by
  unfold args; rw [Head.of_b]
theorem args_U (a : Fin 9) (o : Fin 256) : (args m ρ c).U a o = arg4 m ρ c (ix4 a o 0 0) := by
  unfold args; rw [Head.of_U]
theorem args_u (a : Fin 9) : (args m ρ c).u a = arg5 m ρ c (ix1 a) := by
  unfold args; rw [Head.of_u]
theorem args_V (j : Fin 36) (o : Fin 256) : (args m ρ c).V j o = arg6 m ρ c (ix4 j o 0 0) := by
  unfold args; rw [Head.of_V]
theorem args_v (j : Fin 36) : (args m ρ c).v j = arg7 m ρ c (ix1 j) := by
  unfold args; rw [Head.of_v]

theorem feat_v2 (n : Fin 2) (r : Fin 2704) (ch : Fin 256) : feat m ρ c n (ix3 0 r ch) = v2 m ρ c (ix3 n r ch) := by
  unfold feat
  exact congrArg (v2 m ρ c) (show ix3 n ((ix3 (0 : Fin 1) r ch) 1) ((ix3 (0 : Fin 1) r ch) 2) = ix3 n r ch from rfl)

theorem v2_at (n : Fin 2) (r : Fin 2704) (ch : Fin 256) :
    v2 m ρ c (ix3 n r ch) = Head.padded (args m ρ c) n ch (r.val / 52) (r.val % 52) := by
  simp only [v2_eq, v1_eq, v0_eq, call0_v0_eq, c0_eq]
  pointwise
  unfold Head.padded
  simp only [args_X]
  have h0 : FloatOps.sitofp (F := Ideal) FTy.f32 0#32 = 0 := by
    change (((0#32 : BitVec 32).toInt : ℝ) : EReal) = 0
    simp
  simp only [h0]

/-- The padded features of an image, by a row's number. -/
theorem feat_at (n : Fin 2) (r : Fin 2704) (ch : Fin 256) (y x : Nat) (hx : x < 52) (hr : r.val = y * 52 + x) :
    feat m ρ c n (ix3 0 r ch) = Head.padded (args m ρ c) n ch y x := by
  have h1 : r.val / 52 = y := by omega
  have h2 : r.val % 52 = x := by omega
  refine (feat_v2 m ρ c n r ch).trans ((v2_at m ρ c n r ch).trans ?_)
  rw [h1, h2]

/-- The nine convolution matrices. -/
theorem w9_at (k : Fin 9) (ch o : Fin 256) (i j : Fin 3) (hk : k.val = i.val * 3 + j.val) :
    v4 m ρ c (ix3 k ch o) = (args m ρ c).W o ch i j := by
  have h1 : ∀ h, (⟨k.val / 3, h⟩ : Fin 3) = i := fun h => Fin.ext (by simp only []; omega)
  have h2 : ∀ h, (⟨k.val % 3, h⟩ : Fin 3) = j := fun h => Fin.ext (by simp only []; omega)
  simp only [v4_eq, v3_eq]
  pointwise
  rw [h1, h2, args_W]

/-- A tap of the kernel is a tap of the convolution. -/
theorem tap_at (n : Fin 2) (r : Fin 2598) (o : Fin 256) (y x : Nat) (hx : x < 50) (hr : r.val = y * 52 + x)
    (s : Nat) (hs : s ≤ 106) (k : Fin 9) (i j : Fin 3) (hk : k.val = i.val * 3 + j.val) (hsij : s = i.val * 52 + j.val) :
    tapB (feat m ρ c n) (v4 m ρ c) r s hs k o = Head.tap (args m ρ c) n o y x i j := by
  unfold tapB Head.tap
  refine Finset.sum_congr rfl fun ch _ => ?_
  rw [w9_at m ρ c k ch o i j hk, feat_at m ρ c n _ ch (i.val + y) (j.val + x) (by omega) (by simp only []; omega)]

/-- The hidden layer. -/
theorem hid_eq (n : Fin 2) (r : Fin 2598) (o : Fin 256) (y x : Nat) (hx : x < 50) (hr : r.val = y * 52 + x) :
    hidB (feat m ρ c n) (v4 m ρ c) (v28 m ρ c) r o = Head.hid (args m ρ c) n o y x := by
  have hb : v28 m ρ c (ix2 0 o) = (args m ρ c).b o := by
    simp only [v28_eq, args_b]
    pointwise
  unfold hidB Head.hid convB Head.conv
  rw [hb,
    tap_at m ρ c n r o y x hx hr 0 (by decide) 0 0 0 rfl rfl,
    tap_at m ρ c n r o y x hx hr 1 (by decide) 1 0 1 rfl rfl,
    tap_at m ρ c n r o y x hx hr 2 (by decide) 2 0 2 rfl rfl,
    tap_at m ρ c n r o y x hx hr 52 (by decide) 3 1 0 rfl rfl,
    tap_at m ρ c n r o y x hx hr 53 (by decide) 4 1 1 rfl rfl,
    tap_at m ρ c n r o y x hx hr 54 (by decide) 5 1 2 rfl rfl,
    tap_at m ρ c n r o y x hx hr 104 (by decide) 6 2 0 rfl rfl,
    tap_at m ρ c n r o y x hx hr 105 (by decide) 7 2 1 rfl rfl,
    tap_at m ρ c n r o y x hx hr 106 (by decide) 8 2 2 rfl rfl]

/-- The score. -/
theorem score_eq (n : Fin 2) (r : Fin 2598) (a : Fin 9) (y x : Nat) (hx : x < 50) (hr : r.val = y * 52 + x) :
    scoreB (feat m ρ c n) (v4 m ρ c) (v28 m ρ c) (v6 m ρ c) (v29 m ρ c) r a = Head.score (args m ρ c) n y x a := by
  have hu : v29 m ρ c (ix2 0 a) = (args m ρ c).u a := by
    simp only [v29_eq, args_u]
    pointwise
  have hU : ∀ o, v6 m ρ c (ix2 o a) = (args m ρ c).U a o := fun o => by
    simp only [v6_eq, v5_eq, args_U]
    pointwise
  unfold scoreB Head.score
  simp only [hid_eq m ρ c n r _ y x hx hr, hu, hU]

/-- The four regression matrices. -/
theorem wd_at (q : Fin 4) (o : Fin 256) (a : Fin 9) :
    v17 m ρ c (ix3 q o a) = (args m ρ c).V ⟨a.val * 4 + q.val, by omega⟩ o := by
  simp only [v7_eq,v8_eq,v9_eq,v10_eq,v11_eq,v12_eq,v13_eq,v14_eq,v15_eq,v16_eq,v17_eq]
  pointwise
  rw [args_V]
  have hq : q = 0 ∨ q = 1 ∨ q = 2 ∨ q = 3 := by omega
  rcases hq with rfl | rfl | rfl | rfl
  · rw [dif_pos (by decide)]
    refine congrArg (fun j => arg6 m ρ c (ix4 j o 0 0)) (Fin.ext ?_)
    change 4 * a.val = a.val * 4 + 0
    omega
  · rw [dif_neg (by decide), dif_pos (by decide)]
    refine congrArg (fun j => arg6 m ρ c (ix4 j o 0 0)) (Fin.ext ?_)
    change 1 + 4 * a.val = a.val * 4 + 1
    omega
  · rw [dif_neg (by decide), dif_neg (by decide), dif_pos (by decide)]
    refine congrArg (fun j => arg6 m ρ c (ix4 j o 0 0)) (Fin.ext ?_)
    change 2 + 4 * a.val = a.val * 4 + 2
    omega
  · rw [dif_neg (by decide), dif_neg (by decide), dif_neg (by decide)]
    refine congrArg (fun j => arg6 m ρ c (ix4 j o 0 0)) (Fin.ext ?_)
    change 3 + 4 * a.val = a.val * 4 + 3
    omega

/-- The four regression biases. -/
theorem bd_at (q : Fin 4) (a : Fin 9) :
    v27 m ρ c (ix3 q 0 a) = (args m ρ c).v ⟨a.val * 4 + q.val, by omega⟩ := by
  have hs : v18 m ρ c (ix1 a) = arg7 m ρ c (ix1 ⟨4 * a.val, by omega⟩)
      ∧ v19 m ρ c (ix1 a) = arg7 m ρ c (ix1 ⟨1 + 4 * a.val, by omega⟩)
      ∧ v20 m ρ c (ix1 a) = arg7 m ρ c (ix1 ⟨2 + 4 * a.val, by omega⟩)
      ∧ v21 m ρ c (ix1 a) = arg7 m ρ c (ix1 ⟨3 + 4 * a.val, by omega⟩) := by
    refine ⟨?_, ?_, ?_, ?_⟩
    · simp only [v18_eq]; pointwise
    · simp only [v19_eq]; pointwise
    · simp only [v20_eq]; pointwise
    · simp only [v21_eq]; pointwise
  have hb : (∀ z, v22 m ρ c (ix2 z a) = v18 m ρ c (ix1 a)) ∧ (∀ z, v23 m ρ c (ix2 z a) = v19 m ρ c (ix1 a))
      ∧ (∀ z, v24 m ρ c (ix2 z a) = v20 m ρ c (ix1 a)) ∧ (∀ z, v25 m ρ c (ix2 z a) = v21 m ρ c (ix1 a)) := by
    refine ⟨fun z => ?_, fun z => ?_, fun z => ?_, fun z => ?_⟩
    · simp only [v22_eq]; pointwise
    · simp only [v23_eq]; pointwise
    · simp only [v24_eq]; pointwise
    · simp only [v25_eq]; pointwise
  simp only [v27_eq, v26_eq]
  pointwise
  rw [args_v]
  have hq : q = 0 ∨ q = 1 ∨ q = 2 ∨ q = 3 := by omega
  rcases hq with rfl | rfl | rfl | rfl
  · rw [dif_pos (by decide), hb.1, hs.1]
    refine congrArg (fun j => arg7 m ρ c (ix1 j)) (Fin.ext ?_)
    change 4 * a.val = a.val * 4 + 0
    omega
  · rw [dif_neg (by decide), dif_pos (by decide), hb.2.1, hs.2.1]
    refine congrArg (fun j => arg7 m ρ c (ix1 j)) (Fin.ext ?_)
    change 1 + 4 * a.val = a.val * 4 + 1
    omega
  · rw [dif_neg (by decide), dif_neg (by decide), dif_pos (by decide), hb.2.2.1, hs.2.2.1]
    refine congrArg (fun j => arg7 m ρ c (ix1 j)) (Fin.ext ?_)
    change 2 + 4 * a.val = a.val * 4 + 2
    omega
  · rw [dif_neg (by decide), dif_neg (by decide), dif_neg (by decide), hb.2.2.2, hs.2.2.2]
    refine congrArg (fun j => arg7 m ρ c (ix1 j)) (Fin.ext ?_)
    change 3 + 4 * a.val = a.val * 4 + 3
    omega

/-- The regression outputs. -/
theorem loc_eq (n : Fin 2) (r : Fin 2598) (a : Fin 9) (q : Fin 4) (y x : Nat) (hx : x < 50) (hr : r.val = y * 52 + x) :
    locB (feat m ρ c n) (v4 m ρ c) (v28 m ρ c) (v17 m ρ c) (v27 m ρ c) r a q = Head.loc (args m ρ c) n y x a q := by
  unfold locB Head.loc
  simp only [hid_eq m ρ c n r _ y x hx hr, wd_at, bd_at]

theorem cst_look (q : Fin 4) (r : Fin 2598) (a : Fin 9) :
    cst m ρ c (ix3 q r a) = Ideal.ofBits .f32 (BitVec.ofNat 32 (look (q.val * 23382 + (r.val * 9 + a.val)))) := by
  simp only [cst_eq]
  unfold look
  rw [BitVec.ofNat_toNat, BitVec.setWidth_eq]
  change Ideal.ofBits FTy.f32 (lit0t (S4x2598x9.rowMajor (ix3 q r a)).val) = _
  rw [Shape.rowMajor_val_three]
  congr 2
  change (q.val * 2598 + r.val) * 9 + a.val = _
  omega

section cell
variable (n : Fin 2) (r : Fin 2598) (a : Fin 9) (y x : Nat) (hy : y < 50) (hx : x < 50) (hr : r.val = y * 52 + x)
include hy hx hr

theorem cx_at : cst m ρ c (ix3 0 r a) = Head.ctr x := by
  rw [cst_look, ← Head.enc_at x hx, ← cx_bits y x a.val hy hx a.isLt, hr]
  simp

theorem cy_at : cst m ρ c (ix3 1 r a) = Head.ctr y := by
  rw [cst_look, ← Head.enc_at y hy, ← cy_bits y x a.val hy hx a.isLt, hr]
  simp

theorem w_at : cst m ρ c (ix3 2 r a) = Head.wid a := by
  rw [cst_look]
  unfold Head.wid
  rw [← w_bits y x a.val hy hx a.isLt, hr]
  simp

theorem h_at : cst m ρ c (ix3 3 r a) = Head.hgt a := by
  rw [cst_look]
  unfold Head.hgt
  rw [← h_bits y x a.val hy hx a.isLt, hr]
  simp

theorem mx_eq : mxB (feat m ρ c n) (v4 m ρ c) (v28 m ρ c) (v17 m ρ c) (v27 m ρ c) (cst m ρ c) r a = Head.mx (args m ρ c) n y x a := by
  unfold mxB Head.mx
  rw [loc_eq m ρ c n r a 0 y x hx hr, cx_at m ρ c r a y x hy hx hr, w_at m ρ c r a y x hy hx hr]

theorem my_eq : myB (feat m ρ c n) (v4 m ρ c) (v28 m ρ c) (v17 m ρ c) (v27 m ρ c) (cst m ρ c) r a = Head.my (args m ρ c) n y x a := by
  unfold myB Head.my
  rw [loc_eq m ρ c n r a 1 y x hx hr, cy_at m ρ c r a y x hy hx hr, h_at m ρ c r a y x hy hx hr]

theorem ex_eq : exB (feat m ρ c n) (v4 m ρ c) (v28 m ρ c) (v17 m ρ c) (v27 m ρ c) (cst m ρ c) r a = Head.ex (args m ρ c) n y x a := by
  unfold exB Head.ex
  rw [loc_eq m ρ c n r a 2 y x hx hr, w_at m ρ c r a y x hy hx hr]

theorem ey_eq : eyB (feat m ρ c n) (v4 m ρ c) (v28 m ρ c) (v17 m ρ c) (v27 m ρ c) (cst m ρ c) r a = Head.ey (args m ρ c) n y x a := by
  unfold eyB Head.ey
  rw [loc_eq m ρ c n r a 3 y x hx hr, h_at m ρ c r a y x hy hx hr]

theorem v30_0_cell : v30_0 m ρ c (ix3 n r a) = Head.mscore (args m ρ c) n y x a := by
  rw [v30_0_at, out8_at, score_eq m ρ c n r a y x hx hr, mx_eq m ρ c n r a y x hy hx hr, my_eq m ρ c n r a y x hy hx hr,
    ex_eq m ρ c n r a y x hy hx hr, ey_eq m ρ c n r a y x hy hx hr]
  rfl

theorem v30_1_cell : v30_1 m ρ c (ix3 n r a) = Head.x0 (args m ρ c) n y x a := by
  rw [v30_1_at, out9_at, mx_eq m ρ c n r a y x hy hx hr, ex_eq m ρ c n r a y x hy hx hr]
  rfl

theorem v30_2_cell : v30_2 m ρ c (ix3 n r a) = Head.y0 (args m ρ c) n y x a := by
  rw [v30_2_at, out10_at, my_eq m ρ c n r a y x hy hx hr, ey_eq m ρ c n r a y x hy hx hr]
  rfl

theorem v30_3_cell : v30_3 m ρ c (ix3 n r a) = Head.x1 (args m ρ c) n y x a := by
  rw [v30_3_at, out11_at, mx_eq m ρ c n r a y x hy hx hr, ex_eq m ρ c n r a y x hy hx hr]
  rfl

theorem v30_4_cell : v30_4 m ρ c (ix3 n r a) = Head.y1 (args m ρ c) n y x a := by
  rw [v30_4_at, out12_at, my_eq m ρ c n r a y x hy hx hr, ey_eq m ρ c n r a y x hy hx hr]
  rfl
end cell

/-- Every anchor's masked score, by the anchor's number. -/
theorem v34_at (n : Fin 2) (i : Fin 22500) :
    v34 m ρ c (ix2 n i) = Head.mscore (args m ρ c) n (Head.row i) (Head.col i) (Head.shp i) := by
  simp only [v34_eq, v33_eq, v32_eq, v31_eq]
  pointwise
  rw [dif_pos (by omega)]
  exact v30_0_cell m ρ c n _ _ (Head.row i) (Head.col i) (by unfold Head.row; omega) (by unfold Head.col; omega)
    (by unfold Head.row Head.col; simp only []; omega)

/-- Every anchor's low side across, by the anchor's number. -/
theorem v38_at (n : Fin 2) (i : Fin 22500) :
    v38 m ρ c (ix2 n i) = Head.x0 (args m ρ c) n (Head.row i) (Head.col i) (Head.shp i) := by
  simp only [v38_eq, v37_eq, v36_eq, v35_eq]
  pointwise
  rw [dif_pos (by omega)]
  exact v30_1_cell m ρ c n _ _ (Head.row i) (Head.col i) (by unfold Head.row; omega) (by unfold Head.col; omega)
    (by unfold Head.row Head.col; simp only []; omega)

/-- Every anchor's low side down, by the anchor's number. -/
theorem v42_at (n : Fin 2) (i : Fin 22500) :
    v42 m ρ c (ix2 n i) = Head.y0 (args m ρ c) n (Head.row i) (Head.col i) (Head.shp i) := by
  simp only [v42_eq, v41_eq, v40_eq, v39_eq]
  pointwise
  rw [dif_pos (by omega)]
  exact v30_2_cell m ρ c n _ _ (Head.row i) (Head.col i) (by unfold Head.row; omega) (by unfold Head.col; omega)
    (by unfold Head.row Head.col; simp only []; omega)

/-- Every anchor's high side across, by the anchor's number. -/
theorem v46_at (n : Fin 2) (i : Fin 22500) :
    v46 m ρ c (ix2 n i) = Head.x1 (args m ρ c) n (Head.row i) (Head.col i) (Head.shp i) := by
  simp only [v46_eq, v45_eq, v44_eq, v43_eq]
  pointwise
  rw [dif_pos (by omega)]
  exact v30_3_cell m ρ c n _ _ (Head.row i) (Head.col i) (by unfold Head.row; omega) (by unfold Head.col; omega)
    (by unfold Head.row Head.col; simp only []; omega)

/-- Every anchor's high side down, by the anchor's number. -/
theorem v50_at (n : Fin 2) (i : Fin 22500) :
    v50 m ρ c (ix2 n i) = Head.y1 (args m ρ c) n (Head.row i) (Head.col i) (Head.shp i) := by
  simp only [v50_eq, v49_eq, v48_eq, v47_eq]
  pointwise
  rw [dif_pos (by omega)]
  exact v30_4_cell m ρ c n _ _ (Head.row i) (Head.col i) (by unfold Head.row; omega) (by unfold Head.col; omega)
    (by unfold Head.row Head.col; simp only []; omega)

/-- Every anchor's box, by the anchor's number. -/
theorem v55_at (n : Fin 2) (i : Fin 22500) (q : Fin 4) : v55 m ρ c (ix3 n i q) = Head.boxF (args m ρ c) n i q := by
  simp only [v55_eq, v54_eq, v53_eq, v52_eq, v51_eq]
  pointwise
  simp only [v38_at, v42_at, v46_at, v50_at]
  rfl

end Cert.KernelIdeal.HeadVal
-- ==== Proof.RHead.lean ====
module

public import proofs.«01_k».proof.Proof.REq1
public import proofs.«01_k».proof.Proof.REq2
public import proofs.«01_k».proof.Proof.Enc

/-! The reference program's boxes and masked scores before the selection, as the head's mathematics over its arguments. -/

@[expose] public section
set_option maxRecDepth 16384
noncomputable section
namespace Cert.ReferenceIdeal.Val
open Cert.ReferenceIdeal Cert.ReferenceIdeal.Gen Cert.ReferenceIdeal.Value Cert.ReferenceIdeal.Whole
open Idealize.ShloMosaic Idealize.ShloMosaic.TcCoe Idealize.ShloMosaic.StableHlo
open Idealize.SL.Sem Cert.HostLine Cert.Anchor

variable (m : (ℓ : Loc nD τ sig) → Buf (Elt Ideal) ℓ) (c : Dev nD)

/-- The reference program's arguments by their coordinates. -/
def args : Head.Args := Head.Args.of (arg1 m c) (arg2 m c) (arg3 m c) (arg4 m c) (arg5 m c) (arg6 m c) (arg7 m c)

theorem args_X (n : Fin 2) (ch : Fin 256) (y x : Fin 50) : (args m c).X n ch y x = arg1 m c (ix4 n ch y x) := by
  unfold args; rw [Head.of_X]
theorem args_W (o ch : Fin 256) (i j : Fin 3) : (args m c).W o ch i j = arg2 m c (ix4 o ch i j) := by
  unfold args; rw [Head.of_W]
theorem args_b (o : Fin 256) : (args m c).b o = arg3 m c (ix1 o) := by
  unfold args; rw [Head.of_b]
theorem args_U (a : Fin 9) (o : Fin 256) : (args m c).U a o = arg4 m c (ix4 a o 0 0) := by
  unfold args; rw [Head.of_U]
theorem args_u (a : Fin 9) : (args m c).u a = arg5 m c (ix1 a) := by
  unfold args; rw [Head.of_u]
theorem args_V (j : Fin 36) (o : Fin 256) : (args m c).V j o = arg6 m c (ix4 j o 0 0) := by
  unfold args; rw [Head.of_V]
theorem args_v (j : Fin 36) : (args m c).v j = arg7 m c (ix1 j) := by
  unfold args; rw [Head.of_v]

/-- The padded features. -/
theorem v0_at (n : Fin 2) (ch : Fin 256) (y x : Fin 52) : v0 m c (ix4 n ch y x) = Head.padded (args m c) n ch y x := by
  simp only [v0_eq, call0_v0_eq, c0_eq]
  pointwise
  unfold Head.padded
  simp only [args_X]
  have h0 : FloatOps.sitofp (F := Ideal) FTy.f32 0#32 = 0 := by
    change (((0#32 : BitVec 32).toInt : ℝ) : EReal) = 0
    simp
  rw [h0]

/-- The convolution. -/
theorem v55_at (n : Fin 2) (o : Fin 256) (y x : Fin 50) : v55 m c (ix4 n o y x) = Head.conv (args m c) n o y x := by
  simp only [cst_1_eq, v1_eq, v2_eq, v3_eq, v4_eq, v5_eq, v6_eq, v7_eq, v8_eq, v9_eq, v10_eq, v11_eq, v12_eq, v13_eq,
    v14_eq, v15_eq, v16_eq, v17_eq, v18_eq, v19_eq, v20_eq, v21_eq, v22_eq, v23_eq, v24_eq, v25_eq, v26_eq, v27_eq,
    v28_eq, v29_eq, v30_eq, v31_eq, v32_eq, v33_eq, v34_eq, v35_eq, v36_eq, v37_eq, v38_eq, v39_eq, v40_eq, v41_eq,
    v42_eq, v43_eq, v44_eq, v45_eq, v46_eq, v47_eq, v48_eq, v49_eq, v50_eq, v51_eq, v52_eq, v53_eq, v54_eq, v55_eq]
  pointwise
  simp only [v0_at, mul_comm (arg2 m c _)]
  unfold Head.conv Head.tap
  have e0 : ∀ y : Nat, ((0 : Fin 3) : Nat) + y = y := fun y => Nat.zero_add y
  have e1 : ((1 : Fin 3) : Nat) = 1 := rfl
  have e2 : ((2 : Fin 3) : Nat) = 2 := rfl
  simp only [e0, e1, e2, args_W]

/-- The hidden layer. -/
theorem v59_at (n : Fin 2) (o : Fin 256) (y x : Fin 50) : v59 m c (ix4 n o y x) = Head.hid (args m c) n o y x := by
  simp only [v56_eq, v57_eq, v58_eq, call1_cst_eq, call1_v0_eq, v59_eq]
  pointwise
  rw [v55_at]
  unfold Head.hid
  rw [args_b]

/-- The scores. -/
theorem v123_at (n : Fin 2) (i : Fin 22500) :
    v123 m c (ix2 n i) = Head.score (args m c) n (Head.row i) (Head.col i) (Head.shp i) := by
  simp only [v60_eq, v61_eq, v62_eq, v63_eq, v64_eq, v65_eq, v72_eq, v73_eq, v74_eq, v117_eq, v118_eq, v119_eq, v120_eq,
    v121_eq, v122_eq, v123_eq, cst_10_eq, cst_11_eq]
  pointwise
  simp only [v59_at, mul_comm (arg4 m c _)]
  unfold Head.score Head.sigm Head.row Head.col Head.shp
  simp only [args_U, args_u]

/-- The regression outputs. -/
theorem v77_at (n : Fin 2) (i : Fin 22500) (q : Fin 4) :
    v77 m c (ix3 n i q) = Head.loc (args m c) n (Head.row i) (Head.col i) (Head.shp i) q := by
  simp only [v66_eq, v67_eq, v68_eq, v69_eq, v70_eq, v71_eq, v75_eq, v76_eq, v77_eq]
  pointwise
  simp only [v59_at, mul_comm (arg6 m c _)]
  unfold Head.loc Head.row Head.col Head.shp
  simp only [args_V, args_v]

/-- A cell's centre, computed from its number. -/
theorem centre (x : Fin 50) :
    (FloatOps.sitofp (F := Ideal) FTy.f32 (BitVec.ofNat 32 x.val) + Ideal.ofBits FTy.f32 1056964608#32) * Ideal.ofBits FTy.f32 1098907648#32
      = Head.ctr x.val := by
  have h1 : Ideal.ofBits FTy.f32 1056964608#32 = ((1 / 2 : ℝ) : EReal) := by
    simp [Ideal.ofBits, Ideal.ieee, -EReal.coe_mul, -EReal.coe_neg]; norm_num
  have h2 : Ideal.ofBits FTy.f32 1098907648#32 = ((16 : ℝ) : EReal) := by
    simp [Ideal.ofBits, Ideal.ieee, -EReal.coe_mul, -EReal.coe_neg]; norm_num
  have h3 : FloatOps.sitofp (F := Ideal) FTy.f32 (BitVec.ofNat 32 x.val) = ((x.val : ℝ) : EReal) := by
    change (((BitVec.ofNat 32 x.val).toInt : ℝ) : EReal) = _
    rw [BitVec.toInt_eq_toNat_of_lt (by simp; omega), BitVec.toNat_ofNat, Nat.mod_eq_of_lt (by omega)]
    simp
  rw [h1, h2, h3, ← EReal.coe_add, ← EReal.coe_mul]
  unfold Head.ctr
  congr 1
  ring

/-- The anchors' centres by the cell, twice over. -/
theorem v109_at (y x : Fin 50) (q : Fin 4) :
    v109 m c (ix3 y x q) = if q.val % 2 = 0 then Head.ctr x.val else Head.ctr y.val := by
  simp only [v93_eq, v94_eq, v95_eq, v96_eq, v97_eq, v98_eq, v99_eq, v100_eq, v101_eq, v102_eq, v103_eq, v104_eq, v105_eq,
    v106_eq, v107_eq, v108_eq, v109_eq, cst_6_eq, cst_7_eq, cst_8_eq, cst_9_eq]
  pointwise
  simp only [centre]
  have hq : q = 0 ∨ q = 1 ∨ q = 2 ∨ q = 3 := by omega
  rcases hq with rfl | rfl | rfl | rfl <;> simp

/-- Half of a number that is a real. -/
theorem halves (w : EReal) (r : ℝ) (h : w = (r : EReal)) :
    Ideal.div (-w) (Ideal.ofBits FTy.f32 1073741824#32) = ((-(r / 2) : ℝ) : EReal)
      ∧ Ideal.div w (Ideal.ofBits FTy.f32 1073741824#32) = ((r / 2 : ℝ) : EReal) := by
  have h2 : Ideal.ofBits FTy.f32 1073741824#32 = ((2 : ℝ) : EReal) := by
    simp [Ideal.ofBits, Ideal.ieee, -EReal.coe_mul, -EReal.coe_neg]; norm_num
  rw [h2, h, Ideal.div_coe (by norm_num), Ideal.div_coe (by norm_num), ← EReal.coe_neg, ← EReal.coe_mul, ← EReal.coe_mul]
  constructor <;> congr 1 <;> ring

/-- The base boxes of the nine shapes, from the shapes' widths and heights. -/
theorem v92_at (a : Fin 9) (q : Fin 4) : v92 m c (ix2 a q) =
    if q.val = 0 then Ideal.div (-Head.wid a) (Ideal.ofBits FTy.f32 1073741824#32)
    else if q.val = 1 then Ideal.div (-Head.hgt a) (Ideal.ofBits FTy.f32 1073741824#32)
    else if q.val = 2 then Ideal.div (Head.wid a) (Ideal.ofBits FTy.f32 1073741824#32)
    else Ideal.div (Head.hgt a) (Ideal.ofBits FTy.f32 1073741824#32) := by
  have hl : ∀ a : Fin 9, lit0 a = BitVec.ofNat 32 (wBits a.val) ∧ lit1 a = BitVec.ofNat 32 (hBits a.val) := by decide +kernel
  have hr : S9.rowMajor (ix1 a) = a := Fin.ext (Shape.rowMajor_val_one (ix1 a))
  simp only [cst_eq, cst_0_eq, v78_eq, v79_eq, v80_eq, v81_eq, v82_eq, v83_eq, v84_eq, v85_eq, v86_eq, v87_eq, v88_eq,
    v89_eq, v90_eq, v91_eq, v92_eq, cst_2_eq, cst_3_eq, cst_4_eq, cst_5_eq]
  pointwise
  rw [hr, (hl a).1, (hl a).2]
  unfold Head.wid Head.hgt
  have hq : q = 0 ∨ q = 1 ∨ q = 2 ∨ q = 3 := by omega
  rcases hq with rfl | rfl | rfl | rfl <;> simp

/-- The widths and heights are real numbers. -/
theorem wid_real (a : Fin 9) : (∃ r : ℝ, Head.wid a = (r : EReal)) ∧ ∃ r : ℝ, Head.hgt a = (r : EReal) := by
  unfold Head.wid Head.hgt
  constructor <;> fin_cases a <;> exact ⟨_, rfl⟩

/-- An anchor's extents and centre, from its corners. -/
theorem anchor_at (i : Fin 22500) :
    v116 m c (ix2 i 2) - v116 m c (ix2 i 0) = Head.wid (Head.shp i)
    ∧ v116 m c (ix2 i 3) - v116 m c (ix2 i 1) = Head.hgt (Head.shp i)
    ∧ v116 m c (ix2 i 0) + Ideal.ofBits FTy.f32 1056964608#32 * Head.wid (Head.shp i) = Head.ctr (Head.col i)
    ∧ v116 m c (ix2 i 1) + Ideal.ofBits FTy.f32 1056964608#32 * Head.hgt (Head.shp i) = Head.ctr (Head.row i) := by
  have h1 : Ideal.ofBits FTy.f32 1056964608#32 = ((1 / 2 : ℝ) : EReal) := by
    simp [Ideal.ofBits, Ideal.ieee, -EReal.coe_mul, -EReal.coe_neg]; norm_num
  have hv : ∀ q : Fin 4, v116 m c (ix2 i q)
      = v109 m c (ix3 ⟨i.val / 9 / 50, by omega⟩ ⟨i.val / 9 % 50, by omega⟩ q) + v92 m c (ix2 (Head.shp i) q) := fun q => by
    simp only [v110_eq, v111_eq, v112_eq, v113_eq, v114_eq, v115_eq, v116_eq]
    pointwise
  have hy : i.val / 9 / 50 = i.val / 450 := by omega
  obtain ⟨⟨w, hw⟩, h, hh⟩ := wid_real (Head.shp i)
  simp only [hv, v109_at, v92_at, h1, hw, hh, (halves _ w rfl).1, (halves _ w rfl).2, (halves _ h rfl).1, (halves _ h rfl).2, hy]
  unfold Head.ctr Head.row Head.col
  have e0 : ((0 : Fin 4) : Nat) = 0 := rfl
  have e1 : ((1 : Fin 4) : Nat) = 1 := rfl
  have e2 : ((2 : Fin 4) : Nat) = 2 := rfl
  have e3 : ((3 : Fin 4) : Nat) = 3 := rfl
  simp only [e0, e1, e2, e3, Nat.zero_mod, Nat.reduceMod, if_true, one_ne_zero, if_false, OfNat.ofNat_ne_zero, reduceCtorEq,
    OfNat.ofNat_ne_one, Nat.reduceEqDiff, ← EReal.coe_add, ← EReal.coe_mul, ← EReal.coe_sub]
  refine ⟨?_, ?_, ?_, ?_⟩ <;> congr 1 <;> ring

/-- The boxes' centres and extents. -/
theorem mids_at (n : Fin 2) (i : Fin 22500) :
    v161 m c (ix2 n i) = Head.mx (args m c) n (Head.row i) (Head.col i) (Head.shp i)
    ∧ v167 m c (ix2 n i) = Head.my (args m c) n (Head.row i) (Head.col i) (Head.shp i)
    ∧ v171 m c (ix2 n i) = Head.ex (args m c) n (Head.row i) (Head.col i) (Head.shp i)
    ∧ v175 m c (ix2 n i) = Head.ey (args m c) n (Head.row i) (Head.col i) (Head.shp i) := by
  obtain ⟨hw, hh, hx, hy⟩ := anchor_at m c i
  unfold Head.mx Head.my Head.ex Head.ey Head.mid Head.ext
  refine ⟨?_, ?_, ?_, ?_⟩
  · simp only [v124_eq, v125_eq, v126_eq, v127_eq, v128_eq, v134_eq, v135_eq, v136_eq, v137_eq, v138_eq, v144_eq, v145_eq,
      v156_eq, v157_eq, v158_eq, v159_eq, v160_eq, v161_eq, cst_12_eq]
    pointwise
    rw [hw, hx, v77_at]
  · simp only [v129_eq, v130_eq, v131_eq, v132_eq, v133_eq, v139_eq, v140_eq, v141_eq, v142_eq, v143_eq, v146_eq, v147_eq,
      v162_eq, v163_eq, v164_eq, v165_eq, v166_eq, v167_eq, cst_13_eq]
    pointwise
    rw [hh, hy, v77_at]
  · simp only [v124_eq, v125_eq, v126_eq, v127_eq, v128_eq, v148_eq, v149_eq, v152_eq, v153_eq, v168_eq, v169_eq, v170_eq,
      v171_eq, cst_14_eq]
    pointwise
    rw [hw, v77_at]
  · simp only [v129_eq, v130_eq, v131_eq, v132_eq, v133_eq, v150_eq, v151_eq, v154_eq, v155_eq, v172_eq, v173_eq, v174_eq,
      v175_eq, cst_15_eq]
    pointwise
    rw [hh, v77_at]

/-- The boxes' four sides. -/
theorem sides_at (n : Fin 2) (i : Fin 22500) :
    v188 m c (ix2 n i) = Head.x0 (args m c) n (Head.row i) (Head.col i) (Head.shp i)
    ∧ v189 m c (ix2 n i) = Head.y0 (args m c) n (Head.row i) (Head.col i) (Head.shp i)
    ∧ v190 m c (ix2 n i) = Head.x1 (args m c) n (Head.row i) (Head.col i) (Head.shp i)
    ∧ v191 m c (ix2 n i) = Head.y1 (args m c) n (Head.row i) (Head.col i) (Head.shp i) := by
  obtain ⟨h1, h2, h3, h4⟩ := mids_at m c n i
  unfold Head.x0 Head.y0 Head.x1 Head.y1 Head.low Head.high
  refine ⟨?_, ?_, ?_, ?_⟩
  · simp only [v176_eq, v177_eq, v178_eq, cst_16_eq, cst_20_eq, cst_21_eq, call2_v0_eq, call2_v1_eq, call2_v2_eq, call2_v3_eq,
      call2_v4_eq, v188_eq, id]
    pointwise
    rw [h1, h3]
  · simp only [v179_eq, v180_eq, v181_eq, cst_17_eq, cst_22_eq, cst_23_eq, call3_v0_eq, call3_v1_eq, call3_v2_eq, call3_v3_eq,
      call3_v4_eq, v189_eq, id]
    pointwise
    rw [h2, h4]
  · simp only [v182_eq, v183_eq, v184_eq, cst_18_eq, cst_24_eq, cst_25_eq, call4_v0_eq, call4_v1_eq, call4_v2_eq, call4_v3_eq,
      call4_v4_eq, v190_eq, id]
    pointwise
    rw [h1, h3]
  · simp only [v185_eq, v186_eq, v187_eq, cst_19_eq, cst_26_eq, cst_27_eq, call5_v0_eq, call5_v1_eq, call5_v2_eq, call5_v3_eq,
      call5_v4_eq, v191_eq, id]
    pointwise
    rw [h2, h4]

/-- Every anchor's box, by the anchor's number. -/
theorem v198_at (n : Fin 2) (i : Fin 22500) (q : Fin 4) : v198 m c (ix3 n i q) = Head.boxF (args m c) n i q := by
  obtain ⟨h1, h2, h3, h4⟩ := sides_at m c n i
  simp only [v194_eq, v195_eq, v196_eq, v197_eq, v198_eq]
  pointwise
  rw [h1, h2, h3, h4]
  rfl

/-- Every anchor's masked score, by the anchor's number. -/
theorem v207_at (n : Fin 2) (i : Fin 22500) : v207 m c (ix2 n i) = Head.mscoreF (args m c) n i := by
  obtain ⟨h1, h2, h3, h4⟩ := sides_at m c n i
  simp only [v192_eq, v193_eq, v199_eq, v200_eq, v201_eq, v202_eq, v203_eq, v204_eq, v205_eq, v206_eq, v207_eq, cst_28_eq,
    cst_29_eq, cst_30_eq, cst_31_eq, call6_v0_eq, call6_v1_eq, id]
  pointwise
  rw [h1, h2, h3, h4, v123_at]
  unfold Head.mscoreF Head.mscore Head.masked
  congr!

end Cert.ReferenceIdeal.Val
-- ==== Proof.RLoop.lean ====
module

public import proofs.«01_k».proof.Proof.Greedy
public import proofs.«01_k».proof.Proof.REq2
public import Idealize.ShloMosaic.Lib.WordCmp
public import Idealize.ShloMosaic.Lib.DynamicIndex

/-! The reference program's result array in terms of the 1000 candidates' boxes and scores. -/

@[expose] public section
set_option maxRecDepth 16384
noncomputable section
namespace Cert.ReferenceIdeal.Val
open Cert.ReferenceIdeal Cert.ReferenceIdeal.Gen Cert.ReferenceIdeal.Value Cert.ReferenceIdeal.Whole
open Idealize.ShloMosaic Idealize.ShloMosaic.TcCoe Idealize.ShloMosaic.StableHlo
open scoped Classical
open Idealize.SL.Sem Cert.HostLine Cert.Greedy

variable (m : (ℓ : Loc nD τ sig) → Buf (Elt Ideal) ℓ) (c : Dev nD)

/-- The candidates' boxes of one image. -/
def boxR (n : Fin 2) : Fin 1000 → Fin 4 → EReal := fun i q => v209 m c (ix3 n i q)

/-- The line before the loop, read as it stands there. -/
theorem line16' : Line hostOps0_16 (U16 m c) (U17 m c) hostOps0_16_W [] := ⟨rfl, fun _ _ => rfl⟩

theorem u17_ctr : U17 m c (Proc.devRef .tc main_v274_2) = (fun _ => (0#32 : BitVec 32)) := by
  have h := (line16' m c).unary (x := main_c_36) (y := main_v274_2) 72 rfl (by decide +kernel) (by decide +kernel)
  have h' := (line16' m c).nullary (y := main_c_36) 68 rfl (by decide +kernel)
  rw [h']  at h
  exact h

theorem u17_keep : U17 m c (Proc.devRef .tc main_v274_3) = (fun _ => (1#1 : BitVec 1)) := by
  have h := (line16' m c).unary (x := main_v273) (y := main_v274_3) 73 rfl (by decide +kernel) (by decide +kernel)
  have h' : U17 m c (Proc.devRef .tc main_v273) = v273 m c := (last17 m c main_v273 (by decide +kernel)).symm
  rw [h', v273_eq, c_35_eq]  at h
  exact h

theorem v253_at (n : Fin 2) (i j : Fin 1000) : v253 m c (ix3 n i j) =
   max (min (boxR m c n i 2) (boxR m c n j 2) - max (boxR m c n i 0) (boxR m c n j 0)) 0 *
   max (min (boxR m c n i 3) (boxR m c n j 3) - max (boxR m c n i 1) (boxR m c n j 1)) 0 := by
  simp only [v253_eq, v252_eq, v251_eq, v250_eq, v249_eq, v248_eq, v247_eq, cst_32_eq, v246_eq, v245_eq, v244_eq, v243_eq, v242_eq, v241_eq,
    v240_eq, v239_eq, v238_eq, v237_eq, v236_eq, v235_eq, v234_eq, v233_eq, v232_eq]
  pointwise
  rfl

/-- The conjunction of two decided bits decides the conjunction. -/
theorem andi_ofBool (p q : Prop) [Decidable p] [Decidable q] : IntOp.andi (BitVec.ofBool (decide p)) (BitVec.ofBool (decide q)) = BitVec.ofBool (decide (p ∧ q)) := by
  by_cases p <;> by_cases q <;> simp [*, IntOp.andi]

theorem v272_at (n : Fin 2) (i j : Fin 1000) : v272 m c (ix3 n i j) = BitVec.ofBool (decide (Sup (boxR m c n) i.val j.val)) := by
  simp only [v272_eq, v271_eq, v270_eq, v269_eq, v268_eq, v267_eq, v266_eq, v265_eq, v264_eq, v263_eq, cst_34_eq,
    v262_eq, v261_eq, v260_eq, cst_33_eq, v259_eq, v258_eq, v257_eq, v256_eq, v255_eq, v254_eq,
    v231_eq, v230_eq, v229_eq, v228_eq, v227_eq, v226_eq, v225_eq, v224_eq, v223_eq, v222_eq, v221_eq,
    v220_eq, v219_eq, v218_eq, v217_eq, v216_eq, v215_eq, v214_eq, v213_eq, v212_eq, v211_eq, v210_eq]
  pointwise
  rw [WordCmp.cmpi_sgt_ofNat (by omega) (by omega), andi_ofBool]
  refine congrArg BitVec.ofBool (decide_eq_decide.mpr ?_)
  rw [sup_iff, v253_at, and_comm]
  rfl

theorem atK_ctr2 : ∀ k, atK m k c (Proc.devRef .tc main_v274_2) = fun _ => Scf.iv 0#32 1#32 k
  | 0 => by rw [show atK m 0 c = U17 m c from rfl, u17_ctr, Scf.iv_zero]
  | k + 1 => by
    rw [show atK m (k + 1) c = afterL bodyI (after condOps (atK m k c)) from rfl, trip_main_v274_2,
      after_of_writes_sub condOps _ condOps_writes (by decide +kernel), atK_ctr2 k, Scf.iv_succ]
    rfl

theorem u17_sup : U17 m c (Proc.devRef .tc main_v274_0) = v272 m c := by
  have h : U17 m c (Proc.devRef .tc main_v274_0) = id (U17 m c (Proc.devRef .tc main_v272)) :=
    (line16' m c).unary (x := main_v272) (y := main_v274_0) 70 rfl (by decide +kernel) (by decide +kernel)
  have h' : U17 m c (Proc.devRef .tc main_v272) = v272 m c := (last17 m c main_v272 (by decide +kernel)).symm
  rw [id] at h
  exact h.trans h'

theorem atK_sup (k : ℕ) : atK m k c (Proc.devRef .tc main_v274_0) = v272 m c := by
  rw [atK_of m c main_v274_0 (by decide +kernel) k, u17_sup]

/-- The survivors' bits before trip `k`. -/
def bits (k : ℕ) : IVec S2x1000 1 := atK m k c (Proc.devRef .tc main_v274_3)

/-- One trip of the loop on the survivors' bits. -/
def trip (B : IVec S2x1000 1) (w : IVec S_ 32) (S : IVec S2x1000x1000 1) : IVec S2x1000 1 :=
  id (andi B (noti (select (broadcastInDim S2x1000 ![0, 1] bcast_S2x1_S2x1000_0_1 (Host.dynamicSlice S2x1 B (fun k => (((![constantI S_ 32 0#32, w] : Fin 2 → (⟨S_, .i32⟩ : BufTy).Contents (Elt Ideal))) k (Shape.Idx.first h_S_)).toInt) sliceFits_S2x1000_S2x1)) (shapeCast S2x1000 (Host.dynamicSlice S2x1x1000 S (fun k => (((![constantI S_ 32 0#32, w, constantI S_ 32 0#32] : Fin 3 → (⟨S_, .i32⟩ : BufTy).Contents (Elt Ideal))) k (Shape.Idx.first h_S_)).toInt) sliceFits_S2x1000x1000_S2x1x1000) shapeCasts_S2x1x1000_S2x1000) (broadcastInDim S2x1000 ![] bcast_S_S2x1000 (constantI S_ 1 0#1)))))

theorem bits_succ (k : ℕ) : bits m c (k + 1) = trip (bits m c k) (fun _ => Scf.iv 0#32 1#32 k) (v272 m c) := by
  have h := trip_main_v274_3 (after condOps (atK m k c))
  rw [after_of_writes_sub condOps _ condOps_writes (by decide +kernel), after_of_writes_sub condOps _ condOps_writes (by decide +kernel),
    after_of_writes_sub condOps _ condOps_writes (by decide +kernel), atK_ctr2, atK_sup] at h
  exact h

theorem trip_at (B : IVec S2x1000 1) (S : IVec S2x1000x1000 1) (k : ℕ) (hk : k < 1000) (n : Fin 2) (j : Fin 1000) :
    trip B (fun _ => Scf.iv 0#32 1#32 k) S (ix2 n j)
      = IntOp.andi (B (ix2 n j)) ((~~~ (Scalar.select (B (ix2 n ⟨k, hk⟩)) (S (ix3 n ⟨k, hk⟩ j)) 0#1))) := by
  have hw : (Scf.iv 0#32 1#32 k).toInt = (k : ℤ) := by
    unfold Scf.iv
    rw [BitVec.zero_add, BitVec.mul_one, BitVec.toInt_eq_toNat_of_lt (by simp; omega), BitVec.toNat_ofNat]
    omega
  have s1 : S2x1000.Slices ![0, k] S2x1 := ⟨rfl, fun a => by
    match a with
    | ⟨0, _⟩ => exact (by decide : 0 + 2 ≤ 2)
    | ⟨1, _⟩ => exact (by omega : k + 1 ≤ 1000)⟩
  have s2 : S2x1000x1000.Slices ![0, k, 0] S2x1x1000 := ⟨rfl, fun a => by
    match a with
    | ⟨0, _⟩ => exact (by decide : 0 + 2 ≤ 2)
    | ⟨1, _⟩ => exact (by omega : k + 1 ≤ 1000)
    | ⟨2, _⟩ => exact (by decide : 0 + 1000 ≤ 1000)⟩
  unfold trip
  rw [Host.dynamicSlice_eq_extractStridedSlice S2x1 B _ ![0, k] _ s1 (fun a => by
    match a with
    | ⟨0, _⟩ => rfl
    | ⟨1, _⟩ => exact hw), Host.dynamicSlice_eq_extractStridedSlice S2x1x1000 S _ ![0, k, 0] _ s2 (fun a => by
    match a with
    | ⟨0, _⟩ => rfl
    | ⟨1, _⟩ => exact hw
    | ⟨2, _⟩ => rfl)]
  simp only [id]
  pointwise

theorem bits_at : ∀ k (hk : k ≤ 1000) (n : Fin 2) (j : Fin 1000),
    bits m c k (ix2 n j) = BitVec.ofBool (decide (Keep (Sup (boxR m c n)) k j.val))
  | 0, _, n, j => by
    unfold bits
    rw [show atK m 0 c = U17 m c from rfl, u17_keep, decide_eq_true (show Keep _ 0 _ from trivial)]
    rfl
  | k + 1, hk, n, j => by
    have e := v272_at m c n ⟨k, hk⟩ j
    rw [bits_succ, trip_at _ _ k hk, bits_at k (by omega), bits_at k (by omega), e]
    have hK : Keep (Sup (boxR m c n)) (k + 1) j.val ↔ (Keep (Sup (boxR m c n)) k j.val ∧ ¬(Keep (Sup (boxR m c n)) k k ∧ Sup (boxR m c n) k j.val)) := Iff.rfl
    rw [show decide (Keep (Sup (boxR m c n)) (k + 1) j.val) = decide _ from decide_eq_decide.mpr hK]
    by_cases h1 : Keep (Sup (boxR m c n)) k j.val <;> by_cases h2 : Keep (Sup (boxR m c n)) k k <;> by_cases h3 : Sup (boxR m c n) k j.val <;>
      simp only [h1, h2, h3] <;> decide

theorem v274_3_eq : v274_3 m c = bits m c 1000 := by
  have h : UC m c (Proc.devRef .tc main_v274_3) = bits m c 1000 := UC_of m c main_v274_3 (by decide +kernel)
  exact (last18 m c main_v274_3 (by decide +kernel)).trans h

end Cert.ReferenceIdeal.Val
-- ==== Proof.RTail.lean ====
module

public import proofs.«01_k».proof.Proof.REq2
public import proofs.«01_k».proof.Proof.RLoop
public import Idealize.ShloMosaic.Lib.WordCmp
public import Idealize.ShloMosaic.Lib.DynamicIndex

/-! The reference program's result array in terms of the 1000 candidates' boxes and scores. -/

@[expose] public section
set_option maxRecDepth 16384
noncomputable section
namespace Cert.ReferenceIdeal.Val
open Cert.ReferenceIdeal Cert.ReferenceIdeal.Gen Cert.ReferenceIdeal.Value Cert.ReferenceIdeal.Whole
open Idealize.ShloMosaic Idealize.ShloMosaic.TcCoe Idealize.ShloMosaic.StableHlo
open scoped Classical
open Idealize.SL.Sem Cert.HostLine Cert.Greedy

variable (m : (ℓ : Loc nD τ sig) → Buf (Elt Ideal) ℓ) (c : Dev nD)

/-- Keys zero for a set bit and one for a clear one are in strict order when the first bit is set and the second clear. -/
theorem key_order (u v : BitVec 32) (a b : Bool) (hu : u = if a then 0#32 else 1#32) (hv : v = if b then 0#32 else 1#32) :
    (IntOp.cmpi .slt u v == 1#1) = (a && !b) := by
  subst hu hv
  cases a <;> cases b <;> decide

/-- The places of the stable sort by those keys. -/
theorem sort_at (x : IVec S2x1000 32) (b : Fin 2 → Fin 1000 → Bool) (hx : ∀ n k, x (ix2 n k) = if b n k then 0#32 else 1#32) (n : Fin 2) (k : Fin 1000) :
    (Host.sort2 S2x1000 1 comparator_i32_i32_d1 x (iotaInDim S2x1000 32 1)).2 (ix2 n k)
      = BitVec.ofNat 32 (sortedFrom (fun p q => b n p && !b n q) k).val := by
  have ha : ∀ (h : 1 < S2x1000.rank) (p : Fin 1000), Shape.Idx.along (ix2 n k : S2x1000.Idx) ⟨1, h⟩ p = ix2 n p := by
    intro h p
    funext a
    match a with
    | ⟨0, _⟩ => rfl
    | ⟨1, _⟩ => rfl
  unfold Host.sort2
  rw [dif_pos (by decide : 1 < S2x1000.rank)]
  show iotaInDim S2x1000 32 1 (Shape.Idx.along (ix2 n k : S2x1000.Idx) ⟨1, _⟩ _) = _
  refine (congrArg (iotaInDim S2x1000 32 1) (ha _ _)).trans ?_
  refine congrArg (fun p : Fin 1000 => BitVec.ofNat 32 p.val) (congrArg (fun f => sortedFrom f k) (funext fun p => funext fun q => ?_))
  refine (congrArg₂ (fun u v : S2x1000.Idx => comparator_i32_i32_d1 (x u, iotaInDim S2x1000 32 1 u) (x v, iotaInDim S2x1000 32 1 v) == 1#1)
    (ha _ p) (ha _ q)).trans ?_
  exact key_order _ _ _ _ (hx n p) (hx n q)

/-- The row gather at an index in range. -/
theorem gather_at (x : FVec Ideal S2x1000x5 .f32) (idx : IVec S2x300x1 32) (n : Fin 2) (k : Fin 300) (q : Fin 5) :
    Host.gather gather_S2x1000x5_S2x300x1_S2x300x5_2_1_0_0_1_2_115 x idx (ix3 n k q)
      = x (ix3 n (⟨min (idx (ix3 n k 0)).toInt.toNat 999, by omega⟩ : Fin 1000) q) := by
  unfold Host.gather
  congr 1
  funext a
  refine Fin.ext ?_
  show GatherDims.start _ (ix3 n k q) idx a + GatherDims.batchCoord _ (ix3 n k q) a + GatherDims.offCoord _ (ix3 n k q) a = _
  unfold GatherDims.start GatherDims.batchCoord GatherDims.offCoord
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [dif_neg (by decide), dif_pos (by decide), dif_neg (by decide)]
    exact Nat.zero_add _
  · rw [dif_pos (by decide), dif_neg (by decide), dif_neg (by decide)]
    have hsi : gather_S2x1000x5_S2x300x1_S2x300x5_2_1_0_0_1_2_115.siIdx (ix3 n k q) ⟨List.idxOf (1 : Fin 3) [1], by decide⟩ = ix3 n k 0 := by
      funext b; refine Fin.ext ?_
      match b with
      | ⟨0, _⟩ => rfl
      | ⟨1, _⟩ => rfl
      | ⟨2, _⟩ => rfl
    exact congrArg (fun z : S2x300x1.Idx => min (idx z).toInt.toNat 999) hsi
  · rw [dif_neg (by decide), dif_neg (by decide), dif_pos (by decide)]
    exact Nat.zero_add _

/-- The candidates' scores of one image. -/
def scoreR (n : Fin 2) : Fin 1000 → EReal := fun i => values m c (ix2 n i)

theorem v277_at (n : Fin 2) (j : Fin 1000) : v277 m c (ix2 n j) = BitVec.ofBool (kept (boxR m c n) (scoreR m c n) j) := by
  simp only [v277_eq, v276_eq, v275_eq, cst_38_eq]
  pointwise
  rw [v274_3_eq, bits_at m c 1000 le_rfl]
  exact andi_ofBool _ _

theorem v279_at (n : Fin 2) (j : Fin 1000) : v279 m c (ix2 n j) = if kept (boxR m c n) (scoreR m c n) j then 0#32 else 1#32 := by
  rw [v279_eq, id]
  simp only [v278_eq, call9_v0_eq, call9_v1_eq, c_39_eq, c_40_eq]
  pointwise
  rw [v277_at]
  cases kept (boxR m c n) (scoreR m c n) j <;> rfl

/-- The candidate at place `k` of the stable partition. -/
def place (n : Fin 2) (k : Fin 1000) : Fin 1000 :=
  sortedFrom (fun x y => kept (boxR m c n) (scoreR m c n) x && !kept (boxR m c n) (scoreR m c n) y) k

theorem v280_at (n : Fin 2) (k : Fin 1000) : v280 m c (ix2 n k) = BitVec.ofNat 32 (place m c n k).val := by
  rw [v280_eq, call10_v0_eq]
  exact sort_at (v279 m c) (fun n j => kept (boxR m c n) (scoreR m c n) j) (v279_at m c) n k

theorem v286_at (n : Fin 2) (k : Fin 300) : v286 m c (ix3 n k 0) = BitVec.ofNat 32 (place m c n (Fin.castLE (by decide) k)).val := by
  simp only [v286_eq, v281_eq]
  pointwise
  exact v280_at m c n (Fin.castLE (by decide) k)

theorem v282_at (n : Fin 2) (p : Fin 1000) (z : Fin 1) : v282 m c (ix3 n p z) = scoreR m c n p := by
  rw [v282_eq]
  pointwise
  rfl

theorem v285_at (n : Fin 2) (p : Fin 1000) (q : Fin 5) : v285 m c (ix3 n p q)
    = if kept (boxR m c n) (scoreR m c n) p then (if h : q.val < 4 then boxR m c n p ⟨q.val, h⟩ else scoreR m c n p) else 0 := by
  simp only [v285_eq, call11_v1_eq, call11_v2_eq, call11_v0_eq, cst_41_eq, v284_eq, v283_eq, id_eq]
  pointwise
  rw [v277_at]
  cases kept (boxR m c n) (scoreR m c n) p
  · simp [Scalar.select]
  · simp only [Scalar.select, v282_at]
    rfl

theorem idx_at (n : Fin 2) (k : Fin 300) : call12_v4 m c (ix3 n k 0) = BitVec.ofNat 32 (place m c n (Fin.castLE (by decide) k)).val := by
  simp only [call12_v4_eq, call12_v1_eq, call12_v0_eq, call12_c_eq]
  pointwise
  rw [v286_at, WordCmp.cmpi_slt_ofNat (by omega) (by omega)]
  simp [Scalar.select]

theorem both_at (n : Fin 2) (k : Fin 300) (z : Fin 1) : call12_v10 m c (ix3 n k z) = 1#1 := by
  obtain rfl : z = 0 := Subsingleton.elim _ _
  simp only [call12_v10_eq, call12_v9_eq, call12_v8_eq, call12_v7_eq, call12_v6_eq, call12_v5_eq, call12_c_1_eq, call12_c_2_eq]
  pointwise
  rw [idx_at, WordCmp.cmpi_sge_ofNat (by omega) (by omega), WordCmp.cmpi_sle_ofNat (by omega) (by omega),
    decide_eq_true (by omega), decide_eq_true (by omega)]
  rfl

theorem inb_at (n : Fin 2) (k : Fin 300) : call12_v11 m c (ix2 n k) = 1#1 := by
  simp only [call12_v11_eq, call12_c_3_eq]
  pointwise
  simp only [both_at]
  decide

/-- The reference's result at an index. -/
theorem v287_at (n : Fin 2) (k : Fin 300) (q : Fin 5) :
    v287 m c (ix3 n k q) = proposal (boxR m c n) (scoreR m c n) (Fin.castLE (by decide) k) q := by
  simp only [v287_eq, call12_v13_eq, call12_v12_eq]
  pointwise
  rw [inb_at, show ∀ a b : EReal, Scalar.select 1#1 a b = a from fun a b => if_pos rfl]
  refine (gather_at _ _ n k q).trans ?_
  have hp : (⟨min (call12_v4 m c (ix3 n k 0)).toInt.toNat 999, by omega⟩ : Fin 1000) = place m c n (Fin.castLE (by decide) k) := by
    refine Fin.ext ?_
    have hl := (place m c n (Fin.castLE (by decide) k)).isLt
    show min (call12_v4 m c (ix3 n k 0)).toInt.toNat 999 = _
    rw [idx_at, BitVec.toInt_eq_toNat_of_lt (by simp; omega), BitVec.toNat_ofNat]
    omega
  rw [hp, v285_at]
  rfl

end Cert.ReferenceIdeal.Val
-- ==== Proof.Same.lean ====
module

public import proofs.«01_k».proof.Proof.KSel
public import proofs.«01_k».proof.Proof.RSel
public import proofs.«01_k».proof.Proof.KHead3
public import proofs.«01_k».proof.Proof.KOut
public import proofs.«01_k».proof.Proof.RHead
public import proofs.«01_k».proof.Proof.RTail

/-! The two programs' result arrays are equal when their arguments are. -/

@[expose] public section
set_option maxRecDepth 16384
noncomputable section
namespace Cert.Same
open Idealize.ShloMosaic Idealize.ShloMosaic.TcCoe Idealize.ShloMosaic.StableHlo
open Idealize.SL.Sem Cert.Greedy

/-- The two programs choose the same boxes of the same positions and boxes. -/
theorem pick_same (p : IVec ⟨2, ![2, 1000]⟩ 32) (B : FVec Ideal ⟨3, ![2, 22500, 4]⟩ .f32) :
    Cert.KernelIdeal.Val.pick p B = Cert.ReferenceIdeal.Val.pick p B := rfl

/-- The two programs keep the same scores. -/
theorem top_same (s : FVec Ideal ⟨2, ![2, 22500]⟩ .f32) : Cert.KernelIdeal.Val.top s = Cert.ReferenceIdeal.Val.top s := rfl

/-- The two programs keep the same positions. -/
theorem pos_same (s : FVec Ideal ⟨2, ![2, 22500]⟩ .f32) : Cert.KernelIdeal.Val.pos s = Cert.ReferenceIdeal.Val.pos s := rfl

section
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)
  (c' : Dev Cert.ReferenceIdeal.nD)
  (h : Cert.KernelIdeal.HeadVal.args m ρ c = Cert.ReferenceIdeal.Val.args m' c')
include h

/-- The masked scores of all anchors are equal. -/
theorem score_same : Cert.KernelIdeal.Val.v34 m ρ c = Cert.ReferenceIdeal.Val.v207 m' c' := by
  funext j
  obtain ⟨n, i, rfl⟩ : ∃ (n : Fin 2) (i : Fin 22500), j = ix2 n i := ⟨j 0, j 1, by funext d; fin_cases d <;> rfl⟩
  exact (Cert.KernelIdeal.HeadVal.v34_at m ρ c n i).trans ((by simp only [h]; rfl :
    Head.mscore (Cert.KernelIdeal.HeadVal.args m ρ c) n (Head.row i) (Head.col i) (Head.shp i) = Head.mscoreF (Cert.ReferenceIdeal.Val.args m' c') n i).trans
    (Cert.ReferenceIdeal.Val.v207_at m' c' n i).symm)

/-- The boxes of all anchors are equal. -/
theorem box_same : Cert.KernelIdeal.Val.v55 m ρ c = Cert.ReferenceIdeal.Val.v198 m' c' := by
  funext j
  obtain ⟨n, i, q, rfl⟩ : ∃ (n : Fin 2) (i : Fin 22500) (q : Fin 4), j = ix3 n i q := ⟨j 0, j 1, j 2, by funext d; fin_cases d <;> rfl⟩
  exact (Cert.KernelIdeal.HeadVal.v55_at m ρ c n i q).trans ((by simp only [h] :
    Head.boxF (Cert.KernelIdeal.HeadVal.args m ρ c) n i q = Head.boxF (Cert.ReferenceIdeal.Val.args m' c') n i q).trans
    (Cert.ReferenceIdeal.Val.v198_at m' c' n i q).symm)

/-- The selected scores are equal. -/
theorem values_same : Cert.KernelIdeal.Val.values m ρ c = Cert.ReferenceIdeal.Val.values m' c' := by
  refine (Cert.KernelIdeal.Val.values_top m ρ c).trans (.trans ?_ (Cert.ReferenceIdeal.Val.values_top m' c').symm)
  simp only [score_same m ρ c m' c' h]
  exact top_same _

/-- The selected boxes are equal. -/
theorem chosen_same : Cert.KernelIdeal.Val.v57 m ρ c = Cert.ReferenceIdeal.Val.v209 m' c' := by
  refine (Cert.KernelIdeal.Val.v57_pick m ρ c).trans (.trans ?_ (Cert.ReferenceIdeal.Val.v209_pick m' c').symm)
  simp only [score_same m ρ c m' c' h, box_same m ρ c m' c' h]
  exact (pick_same _ _).trans (congrArg (fun p => Cert.ReferenceIdeal.Val.pick p _) (pos_same _))

/-- The results are equal. -/
theorem result_same : Cert.KernelIdeal.Val.v66 m ρ c = Cert.ReferenceIdeal.Val.v287 m' c' := by
  funext j
  obtain ⟨n, k, q, rfl⟩ : ∃ (n : Fin 2) (k : Fin 300) (q : Fin 5), j = ix3 n k q := ⟨j 0, j 1, j 2, by funext d; fin_cases d <;> rfl⟩
  refine (Cert.KernelIdeal.Val.v66_at m ρ c n k q).trans (.trans ?_ (Cert.ReferenceIdeal.Val.v287_at m' c' n k q).symm)
  simp only [chosen_same m ρ c m' c' h, values_same m ρ c m' c' h]
  unfold Cert.ReferenceIdeal.Val.boxR Cert.ReferenceIdeal.Val.scoreR
  with_reducible rfl
end

end Cert.Same

end
-- ==== Proof.Claims.lean ====
module

public import proofs.«01_k».proof.Defs
public import proofs.«01_k».proof.Proof.KRun
public import proofs.«01_k».proof.Proof.RRun
public import proofs.«01_k».proof.Proof.Same

/-! The kernel and the reference end with equal results over the extended reals. -/

@[expose] public section
set_option maxRecDepth 16384
noncomputable section
namespace Cert.Same
open Idealize.ShloMosaic Idealize.ShloMosaic.TcCoe Idealize.ShloMosaic.StableHlo
open Idealize.SL.Sem

/-- Launches whose argument arrays agree give the two programs the same arguments by their coordinates. -/
theorem args_same (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (m' : (ℓ : Loc Cert.ReferenceIdeal.nD Cert.ReferenceIdeal.τ Cert.ReferenceIdeal.sig) → Buf (Elt Ideal) ℓ)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.HeadVal.args m ρ c = Cert.ReferenceIdeal.Val.args m' c := by
  have e1 : Cert.KernelIdeal.Val.arg1 m ρ c = Cert.ReferenceIdeal.Val.arg1 m' c :=
    (Cert.KernelIdeal.Gen.W23_main_arg1 m ρ c).trans (h1.symm.trans (Cert.ReferenceIdeal.Whole.U25_arg m' c _ (by decide)).symm)
  have e2 : Cert.KernelIdeal.Val.arg2 m ρ c = Cert.ReferenceIdeal.Val.arg2 m' c :=
    (Cert.KernelIdeal.Gen.W23_main_arg2 m ρ c).trans (h2.symm.trans (Cert.ReferenceIdeal.Whole.U25_arg m' c _ (by decide)).symm)
  have e3 : Cert.KernelIdeal.Val.arg3 m ρ c = Cert.ReferenceIdeal.Val.arg3 m' c :=
    (Cert.KernelIdeal.Gen.W23_main_arg3 m ρ c).trans (h3.symm.trans (Cert.ReferenceIdeal.Whole.U25_arg m' c _ (by decide)).symm)
  have e4 : Cert.KernelIdeal.Val.arg4 m ρ c = Cert.ReferenceIdeal.Val.arg4 m' c :=
    (Cert.KernelIdeal.Gen.W23_main_arg4 m ρ c).trans (h4.symm.trans (Cert.ReferenceIdeal.Whole.U25_arg m' c _ (by decide)).symm)
  have e5 : Cert.KernelIdeal.Val.arg5 m ρ c = Cert.ReferenceIdeal.Val.arg5 m' c :=
    (Cert.KernelIdeal.Gen.W23_main_arg5 m ρ c).trans (h5.symm.trans (Cert.ReferenceIdeal.Whole.U25_arg m' c _ (by decide)).symm)
  have e6 : Cert.KernelIdeal.Val.arg6 m ρ c = Cert.ReferenceIdeal.Val.arg6 m' c :=
    (Cert.KernelIdeal.Gen.W23_main_arg6 m ρ c).trans (h6.symm.trans (Cert.ReferenceIdeal.Whole.U25_arg m' c _ (by decide)).symm)
  have e7 : Cert.KernelIdeal.Val.arg7 m ρ c = Cert.ReferenceIdeal.Val.arg7 m' c :=
    (Cert.KernelIdeal.Gen.W23_main_arg7 m ρ c).trans (h7.symm.trans (Cert.ReferenceIdeal.Whole.U25_arg m' c _ (by decide)).symm)
  unfold Cert.KernelIdeal.HeadVal.args Cert.ReferenceIdeal.Val.args
  simp only [e1, e2, e3, e4, e5, e6, e7]

/-- From launches agreeing on the arguments both programs run, end with equal result arrays, and leave their arguments as launched. -/
theorem algebraic : Cert.algebraic_KernelIdeal_ReferenceIdeal
    (hKernelIdeal := Cert.KernelIdeal.Gen.facts) (hReferenceIdeal := Cert.ReferenceIdeal.Gen.facts) := by
  intro m ρ m' ρ' _ hagree
  refine ⟨fun c => Cert.KernelIdeal.Gen.W23 m ρ c (Proc.devRef .tc Cert.KernelIdeal.main_v66), Cert.KernelIdeal.Whole.run m ρ, ?_⟩
  refine (θ_run _ _ _).mono (fun r hr c => ⟨(hr c).1.trans ?_, (hr c).2⟩) (Cert.ReferenceIdeal.Whole.run m' ρ')
  obtain ⟨_, h1, h2, h3, h4, h5, h6, h7⟩ := hagree c
  exact (result_same m ρ c m' c (args_same m ρ c m' h1 h2 h3 h4 h5 h6 h7)).symm

end Cert.Same

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RRun
public import proofs.«01_k».proof.Proof.KRun
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The claim: the three frames, the preservation, which rewrites nothing, and the equality of the two programs' results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Whole.frame m ρ, trivial, Cert.Same.algebraic⟩

end Cert.Proof

end
